-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_finite_pool [hPre_finite_pool : Cert.Pre_finite_pool.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_finite_pool.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5))) = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_finite_pool [hPre_finite_pool : Cert.Pre_finite_pool.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_finite_pool.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5))) = (fun _ => 1#1)

def Pre_PeerOut (m : (ℓ : Loc Cert.PeerOut.nD Cert.PeerOut.τ Cert.PeerOut.sig) → Buf (Elt Bits) ℓ) : Prop :=
  True

def Pre_PeerOutIdeal (m : (ℓ : Loc Cert.PeerOutIdeal.nD Cert.PeerOutIdeal.τ Cert.PeerOutIdeal.sig) → Buf (Elt Ideal) ℓ) : Prop :=
  True

def Pre_PeerOutIdeal_finite_experts [hPre_finite_experts : Cert.Pre_finite_experts.Facts] (m : (ℓ : Loc Cert.PeerOutIdeal.nD Cert.PeerOutIdeal.τ Cert.PeerOutIdeal.sig) → Buf (Elt Ideal) ℓ) : Prop :=
  ∀ c : Dev Cert.PeerOutIdeal.nD,
    (Cert.Pre_finite_experts.fn (F := Ideal) (m ((c.tc : Thread Cert.PeerOutIdeal.nD Cert.PeerOutIdeal.τ).loc Cert.PeerOutIdeal.main_arg0)) (m ((c.tc : Thread Cert.PeerOutIdeal.nD Cert.PeerOutIdeal.τ).loc Cert.PeerOutIdeal.main_arg1)) (m ((c.tc : Thread Cert.PeerOutIdeal.nD Cert.PeerOutIdeal.τ).loc Cert.PeerOutIdeal.main_arg2)) (m ((c.tc : Thread Cert.PeerOutIdeal.nD Cert.PeerOutIdeal.τ).loc Cert.PeerOutIdeal.main_arg3)) (m ((c.tc : Thread Cert.PeerOutIdeal.nD Cert.PeerOutIdeal.τ).loc Cert.PeerOutIdeal.main_arg4)) (m ((c.tc : Thread Cert.PeerOutIdeal.nD Cert.PeerOutIdeal.τ).loc Cert.PeerOutIdeal.main_arg5)) (m ((c.tc : Thread Cert.PeerOutIdeal.nD Cert.PeerOutIdeal.τ).loc Cert.PeerOutIdeal.main_arg6))) = (fun _ => 1#1)

def Pre_PeerOutRefIdeal (m : (ℓ : Loc Cert.PeerOutRefIdeal.nD Cert.PeerOutRefIdeal.τ Cert.PeerOutRefIdeal.sig) → Buf (Elt Ideal) ℓ) : Prop :=
  True

def Pre_PeerOutRefIdeal_finite_experts [hPre_finite_experts : Cert.Pre_finite_experts.Facts] (m : (ℓ : Loc Cert.PeerOutRefIdeal.nD Cert.PeerOutRefIdeal.τ Cert.PeerOutRefIdeal.sig) → Buf (Elt Ideal) ℓ) : Prop :=
  ∀ c : Dev Cert.PeerOutRefIdeal.nD,
    (Cert.Pre_finite_experts.fn (F := Ideal) (m ((c.tc : Thread Cert.PeerOutRefIdeal.nD Cert.PeerOutRefIdeal.τ).loc Cert.PeerOutRefIdeal.main_arg0)) (m ((c.tc : Thread Cert.PeerOutRefIdeal.nD Cert.PeerOutRefIdeal.τ).loc Cert.PeerOutRefIdeal.main_arg1)) (m ((c.tc : Thread Cert.PeerOutRefIdeal.nD Cert.PeerOutRefIdeal.τ).loc Cert.PeerOutRefIdeal.main_arg2)) (m ((c.tc : Thread Cert.PeerOutRefIdeal.nD Cert.PeerOutRefIdeal.τ).loc Cert.PeerOutRefIdeal.main_arg3)) (m ((c.tc : Thread Cert.PeerOutRefIdeal.nD Cert.PeerOutRefIdeal.τ).loc Cert.PeerOutRefIdeal.main_arg4)) (m ((c.tc : Thread Cert.PeerOutRefIdeal.nD Cert.PeerOutRefIdeal.τ).loc Cert.PeerOutRefIdeal.main_arg5)) (m ((c.tc : Thread Cert.PeerOutRefIdeal.nD Cert.PeerOutRefIdeal.τ).loc Cert.PeerOutRefIdeal.main_arg6))) = (fun _ => 1#1)

def Pre_PeerAct (m : (ℓ : Loc Cert.PeerAct.nD Cert.PeerAct.τ Cert.PeerAct.sig) → Buf (Elt Bits) ℓ) : Prop :=
  True

def Pre_PeerActIdeal (m : (ℓ : Loc Cert.PeerActIdeal.nD Cert.PeerActIdeal.τ Cert.PeerActIdeal.sig) → Buf (Elt Ideal) ℓ) : Prop :=
  True

def Pre_PeerActIdeal_expert_range [hPre_expert_range : Cert.Pre_expert_range.Facts] (m : (ℓ : Loc Cert.PeerActIdeal.nD Cert.PeerActIdeal.τ Cert.PeerActIdeal.sig) → Buf (Elt Ideal) ℓ) : Prop :=
  ∀ c : Dev Cert.PeerActIdeal.nD,
    (Cert.Pre_expert_range.fn (F := Ideal) (m ((c.tc : Thread Cert.PeerActIdeal.nD Cert.PeerActIdeal.τ).loc Cert.PeerActIdeal.main_arg0)) (m ((c.tc : Thread Cert.PeerActIdeal.nD Cert.PeerActIdeal.τ).loc Cert.PeerActIdeal.main_arg1)) (m ((c.tc : Thread Cert.PeerActIdeal.nD Cert.PeerActIdeal.τ).loc Cert.PeerActIdeal.main_arg2)) (m ((c.tc : Thread Cert.PeerActIdeal.nD Cert.PeerActIdeal.τ).loc Cert.PeerActIdeal.main_arg3))) = (fun _ => 1#1)

def Pre_PeerActRefIdeal (m : (ℓ : Loc Cert.PeerActRefIdeal.nD Cert.PeerActRefIdeal.τ Cert.PeerActRefIdeal.sig) → Buf (Elt Ideal) ℓ) : Prop :=
  True

def Pre_PeerActRefIdeal_expert_range [hPre_expert_range : Cert.Pre_expert_range.Facts] (m : (ℓ : Loc Cert.PeerActRefIdeal.nD Cert.PeerActRefIdeal.τ Cert.PeerActRefIdeal.sig) → Buf (Elt Ideal) ℓ) : Prop :=
  ∀ c : Dev Cert.PeerActRefIdeal.nD,
    (Cert.Pre_expert_range.fn (F := Ideal) (m ((c.tc : Thread Cert.PeerActRefIdeal.nD Cert.PeerActRefIdeal.τ).loc Cert.PeerActRefIdeal.main_arg0)) (m ((c.tc : Thread Cert.PeerActRefIdeal.nD Cert.PeerActRefIdeal.τ).loc Cert.PeerActRefIdeal.main_arg1)) (m ((c.tc : Thread Cert.PeerActRefIdeal.nD Cert.PeerActRefIdeal.τ).loc Cert.PeerActRefIdeal.main_arg2)) (m ((c.tc : Thread Cert.PeerActRefIdeal.nD Cert.PeerActRefIdeal.τ).loc Cert.PeerActRefIdeal.main_arg3))) = (fun _ => 1#1)

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayRefIdeal (m : (ℓ : Loc Cert.DecayRefIdeal.nD Cert.DecayRefIdeal.τ Cert.DecayRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3)
      ∧ r.2.mem ((c.tc : Thread Cert.Memory.nD Cert.Memory.τ).loc Cert.Memory.main_arg4) = m ((c.tc : Thread Cert.Memory.nD Cert.Memory.τ).loc Cert.Memory.main_arg4)
      ∧ r.2.mem ((c.tc : Thread Cert.Memory.nD Cert.Memory.τ).loc Cert.Memory.main_arg5) = m ((c.tc : Thread Cert.Memory.nD Cert.Memory.τ).loc Cert.Memory.main_arg5)
      ∧ r.2.mem ((c.tc : Thread Cert.Memory.nD Cert.Memory.τ).loc Cert.Memory.main_arg6) = m ((c.tc : Thread Cert.Memory.nD Cert.Memory.τ).loc Cert.Memory.main_arg6)
      ∧ r.2.mem ((c.tc : Thread Cert.Memory.nD Cert.Memory.τ).loc Cert.Memory.main_arg7) = m ((c.tc : Thread Cert.Memory.nD Cert.Memory.τ).loc Cert.Memory.main_arg7))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
      ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
      ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6)
      ∧ r.2.mem ((c.tc : Thread Cert.MemoryIdeal.nD Cert.MemoryIdeal.τ).loc Cert.MemoryIdeal.main_arg7) = m ((c.tc : Thread Cert.MemoryIdeal.nD Cert.MemoryIdeal.τ).loc Cert.MemoryIdeal.main_arg7))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4)
      ∧ r.2.mem ((c.tc : Thread Cert.MemoryRefIdeal.nD Cert.MemoryRefIdeal.τ).loc Cert.MemoryRefIdeal.main_arg5) = m ((c.tc : Thread Cert.MemoryRefIdeal.nD Cert.MemoryRefIdeal.τ).loc Cert.MemoryRefIdeal.main_arg5)
      ∧ r.2.mem ((c.tc : Thread Cert.MemoryRefIdeal.nD Cert.MemoryRefIdeal.τ).loc Cert.MemoryRefIdeal.main_arg6) = m ((c.tc : Thread Cert.MemoryRefIdeal.nD Cert.MemoryRefIdeal.τ).loc Cert.MemoryRefIdeal.main_arg6)
      ∧ r.2.mem ((c.tc : Thread Cert.MemoryRefIdeal.nD Cert.MemoryRefIdeal.τ).loc Cert.MemoryRefIdeal.main_arg7) = m ((c.tc : Thread Cert.MemoryRefIdeal.nD Cert.MemoryRefIdeal.τ).loc Cert.MemoryRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutIdeal_pre_finite_pool [hMixOutIdeal : Cert.MixOutIdeal.Facts] [hPre_finite_pool : Cert.Pre_finite_pool.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_finite_pool m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_MixOutRefIdeal_pre_finite_pool [hMixOutRefIdeal : Cert.MixOutRefIdeal.Facts] [hPre_finite_pool : Cert.Pre_finite_pool.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_finite_pool m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_PeerOut [hPeerOut : Cert.PeerOut.Facts] : Prop :=
  ∀ (m : (ℓ : Loc Cert.PeerOut.nD Cert.PeerOut.τ Cert.PeerOut.sig) → Buf (Elt Bits) ℓ) (g : Dev Cert.PeerOut.nD → PrngReg), Pre_PeerOut m →
    θ_run (Cert.PeerOut.defs (F := Bits)) (onTc (τ := Cert.PeerOut.τ) (Cert.PeerOut.main (F := Bits))) ⟨m, fun _ => 0, g⟩ (fun r => (∀ c : Dev Cert.PeerOut.nD,
      r.2.mem ((c.tc : Thread Cert.PeerOut.nD Cert.PeerOut.τ).loc Cert.PeerOut.main_arg0) = m ((c.tc : Thread Cert.PeerOut.nD Cert.PeerOut.τ).loc Cert.PeerOut.main_arg0)
      ∧ r.2.mem ((c.tc : Thread Cert.PeerOut.nD Cert.PeerOut.τ).loc Cert.PeerOut.main_arg1) = m ((c.tc : Thread Cert.PeerOut.nD Cert.PeerOut.τ).loc Cert.PeerOut.main_arg1)
      ∧ r.2.mem ((c.tc : Thread Cert.PeerOut.nD Cert.PeerOut.τ).loc Cert.PeerOut.main_arg2) = m ((c.tc : Thread Cert.PeerOut.nD Cert.PeerOut.τ).loc Cert.PeerOut.main_arg2)
      ∧ r.2.mem ((c.tc : Thread Cert.PeerOut.nD Cert.PeerOut.τ).loc Cert.PeerOut.main_arg3) = m ((c.tc : Thread Cert.PeerOut.nD Cert.PeerOut.τ).loc Cert.PeerOut.main_arg3)
      ∧ r.2.mem ((c.tc : Thread Cert.PeerOut.nD Cert.PeerOut.τ).loc Cert.PeerOut.main_arg4) = m ((c.tc : Thread Cert.PeerOut.nD Cert.PeerOut.τ).loc Cert.PeerOut.main_arg4)
      ∧ r.2.mem ((c.tc : Thread Cert.PeerOut.nD Cert.PeerOut.τ).loc Cert.PeerOut.main_arg5) = m ((c.tc : Thread Cert.PeerOut.nD Cert.PeerOut.τ).loc Cert.PeerOut.main_arg5)
      ∧ r.2.mem ((c.tc : Thread Cert.PeerOut.nD Cert.PeerOut.τ).loc Cert.PeerOut.main_arg6) = m ((c.tc : Thread Cert.PeerOut.nD Cert.PeerOut.τ).loc Cert.PeerOut.main_arg6))
      ∧ r.2.sem = fun _ => 0)

def quiescent_PeerOutIdeal [hPeerOutIdeal : Cert.PeerOutIdeal.Facts] : Prop :=
  ∀ (m : (ℓ : Loc Cert.PeerOutIdeal.nD Cert.PeerOutIdeal.τ Cert.PeerOutIdeal.sig) → Buf (Elt Ideal) ℓ) (g : Dev Cert.PeerOutIdeal.nD → PrngReg), Pre_PeerOutIdeal m →
    θ_run (Cert.PeerOutIdeal.defs (F := Ideal)) (onTc (τ := Cert.PeerOutIdeal.τ) (Cert.PeerOutIdeal.main (F := Ideal))) ⟨m, fun _ => 0, g⟩ (fun r => (∀ c : Dev Cert.PeerOutIdeal.nD,
      r.2.mem ((c.tc : Thread Cert.PeerOutIdeal.nD Cert.PeerOutIdeal.τ).loc Cert.PeerOutIdeal.main_arg0) = m ((c.tc : Thread Cert.PeerOutIdeal.nD Cert.PeerOutIdeal.τ).loc Cert.PeerOutIdeal.main_arg0)
      ∧ r.2.mem ((c.tc : Thread Cert.PeerOutIdeal.nD Cert.PeerOutIdeal.τ).loc Cert.PeerOutIdeal.main_arg1) = m ((c.tc : Thread Cert.PeerOutIdeal.nD Cert.PeerOutIdeal.τ).loc Cert.PeerOutIdeal.main_arg1)
      ∧ r.2.mem ((c.tc : Thread Cert.PeerOutIdeal.nD Cert.PeerOutIdeal.τ).loc Cert.PeerOutIdeal.main_arg2) = m ((c.tc : Thread Cert.PeerOutIdeal.nD Cert.PeerOutIdeal.τ).loc Cert.PeerOutIdeal.main_arg2)
      ∧ r.2.mem ((c.tc : Thread Cert.PeerOutIdeal.nD Cert.PeerOutIdeal.τ).loc Cert.PeerOutIdeal.main_arg3) = m ((c.tc : Thread Cert.PeerOutIdeal.nD Cert.PeerOutIdeal.τ).loc Cert.PeerOutIdeal.main_arg3)
      ∧ r.2.mem ((c.tc : Thread Cert.PeerOutIdeal.nD Cert.PeerOutIdeal.τ).loc Cert.PeerOutIdeal.main_arg4) = m ((c.tc : Thread Cert.PeerOutIdeal.nD Cert.PeerOutIdeal.τ).loc Cert.PeerOutIdeal.main_arg4)
      ∧ r.2.mem ((c.tc : Thread Cert.PeerOutIdeal.nD Cert.PeerOutIdeal.τ).loc Cert.PeerOutIdeal.main_arg5) = m ((c.tc : Thread Cert.PeerOutIdeal.nD Cert.PeerOutIdeal.τ).loc Cert.PeerOutIdeal.main_arg5)
      ∧ r.2.mem ((c.tc : Thread Cert.PeerOutIdeal.nD Cert.PeerOutIdeal.τ).loc Cert.PeerOutIdeal.main_arg6) = m ((c.tc : Thread Cert.PeerOutIdeal.nD Cert.PeerOutIdeal.τ).loc Cert.PeerOutIdeal.main_arg6))
      ∧ r.2.sem = fun _ => 0)

def quiescent_PeerOutIdeal_pre_finite_experts [hPeerOutIdeal : Cert.PeerOutIdeal.Facts] [hPre_finite_experts : Cert.Pre_finite_experts.Facts] : Prop :=
  ∀ (m : (ℓ : Loc Cert.PeerOutIdeal.nD Cert.PeerOutIdeal.τ Cert.PeerOutIdeal.sig) → Buf (Elt Ideal) ℓ) (g : Dev Cert.PeerOutIdeal.nD → PrngReg), Pre_PeerOutIdeal_finite_experts m →
    θ_run (Cert.PeerOutIdeal.defs (F := Ideal)) (onTc (τ := Cert.PeerOutIdeal.τ) (Cert.PeerOutIdeal.main (F := Ideal))) ⟨m, fun _ => 0, g⟩ (fun r => (∀ c : Dev Cert.PeerOutIdeal.nD,
      r.2.mem ((c.tc : Thread Cert.PeerOutIdeal.nD Cert.PeerOutIdeal.τ).loc Cert.PeerOutIdeal.main_arg0) = m ((c.tc : Thread Cert.PeerOutIdeal.nD Cert.PeerOutIdeal.τ).loc Cert.PeerOutIdeal.main_arg0)
      ∧ r.2.mem ((c.tc : Thread Cert.PeerOutIdeal.nD Cert.PeerOutIdeal.τ).loc Cert.PeerOutIdeal.main_arg1) = m ((c.tc : Thread Cert.PeerOutIdeal.nD Cert.PeerOutIdeal.τ).loc Cert.PeerOutIdeal.main_arg1)
      ∧ r.2.mem ((c.tc : Thread Cert.PeerOutIdeal.nD Cert.PeerOutIdeal.τ).loc Cert.PeerOutIdeal.main_arg2) = m ((c.tc : Thread Cert.PeerOutIdeal.nD Cert.PeerOutIdeal.τ).loc Cert.PeerOutIdeal.main_arg2)
      ∧ r.2.mem ((c.tc : Thread Cert.PeerOutIdeal.nD Cert.PeerOutIdeal.τ).loc Cert.PeerOutIdeal.main_arg3) = m ((c.tc : Thread Cert.PeerOutIdeal.nD Cert.PeerOutIdeal.τ).loc Cert.PeerOutIdeal.main_arg3)
      ∧ r.2.mem ((c.tc : Thread Cert.PeerOutIdeal.nD Cert.PeerOutIdeal.τ).loc Cert.PeerOutIdeal.main_arg4) = m ((c.tc : Thread Cert.PeerOutIdeal.nD Cert.PeerOutIdeal.τ).loc Cert.PeerOutIdeal.main_arg4)
      ∧ r.2.mem ((c.tc : Thread Cert.PeerOutIdeal.nD Cert.PeerOutIdeal.τ).loc Cert.PeerOutIdeal.main_arg5) = m ((c.tc : Thread Cert.PeerOutIdeal.nD Cert.PeerOutIdeal.τ).loc Cert.PeerOutIdeal.main_arg5)
      ∧ r.2.mem ((c.tc : Thread Cert.PeerOutIdeal.nD Cert.PeerOutIdeal.τ).loc Cert.PeerOutIdeal.main_arg6) = m ((c.tc : Thread Cert.PeerOutIdeal.nD Cert.PeerOutIdeal.τ).loc Cert.PeerOutIdeal.main_arg6))
      ∧ r.2.sem = fun _ => 0)

def quiescent_PeerOutRefIdeal [hPeerOutRefIdeal : Cert.PeerOutRefIdeal.Facts] : Prop :=
  ∀ (m : (ℓ : Loc Cert.PeerOutRefIdeal.nD Cert.PeerOutRefIdeal.τ Cert.PeerOutRefIdeal.sig) → Buf (Elt Ideal) ℓ) (g : Dev Cert.PeerOutRefIdeal.nD → PrngReg), Pre_PeerOutRefIdeal m →
    θ_run (Cert.PeerOutRefIdeal.defs (F := Ideal)) (onTc (τ := Cert.PeerOutRefIdeal.τ) (Cert.PeerOutRefIdeal.main (F := Ideal))) ⟨m, fun _ => 0, g⟩ (fun r => (∀ c : Dev Cert.PeerOutRefIdeal.nD,
      r.2.mem ((c.tc : Thread Cert.PeerOutRefIdeal.nD Cert.PeerOutRefIdeal.τ).loc Cert.PeerOutRefIdeal.main_arg0) = m ((c.tc : Thread Cert.PeerOutRefIdeal.nD Cert.PeerOutRefIdeal.τ).loc Cert.PeerOutRefIdeal.main_arg0)
      ∧ r.2.mem ((c.tc : Thread Cert.PeerOutRefIdeal.nD Cert.PeerOutRefIdeal.τ).loc Cert.PeerOutRefIdeal.main_arg1) = m ((c.tc : Thread Cert.PeerOutRefIdeal.nD Cert.PeerOutRefIdeal.τ).loc Cert.PeerOutRefIdeal.main_arg1)
      ∧ r.2.mem ((c.tc : Thread Cert.PeerOutRefIdeal.nD Cert.PeerOutRefIdeal.τ).loc Cert.PeerOutRefIdeal.main_arg2) = m ((c.tc : Thread Cert.PeerOutRefIdeal.nD Cert.PeerOutRefIdeal.τ).loc Cert.PeerOutRefIdeal.main_arg2)
      ∧ r.2.mem ((c.tc : Thread Cert.PeerOutRefIdeal.nD Cert.PeerOutRefIdeal.τ).loc Cert.PeerOutRefIdeal.main_arg3) = m ((c.tc : Thread Cert.PeerOutRefIdeal.nD Cert.PeerOutRefIdeal.τ).loc Cert.PeerOutRefIdeal.main_arg3)
      ∧ r.2.mem ((c.tc : Thread Cert.PeerOutRefIdeal.nD Cert.PeerOutRefIdeal.τ).loc Cert.PeerOutRefIdeal.main_arg4) = m ((c.tc : Thread Cert.PeerOutRefIdeal.nD Cert.PeerOutRefIdeal.τ).loc Cert.PeerOutRefIdeal.main_arg4)
      ∧ r.2.mem ((c.tc : Thread Cert.PeerOutRefIdeal.nD Cert.PeerOutRefIdeal.τ).loc Cert.PeerOutRefIdeal.main_arg5) = m ((c.tc : Thread Cert.PeerOutRefIdeal.nD Cert.PeerOutRefIdeal.τ).loc Cert.PeerOutRefIdeal.main_arg5)
      ∧ r.2.mem ((c.tc : Thread Cert.PeerOutRefIdeal.nD Cert.PeerOutRefIdeal.τ).loc Cert.PeerOutRefIdeal.main_arg6) = m ((c.tc : Thread Cert.PeerOutRefIdeal.nD Cert.PeerOutRefIdeal.τ).loc Cert.PeerOutRefIdeal.main_arg6))
      ∧ r.2.sem = fun _ => 0)

def quiescent_PeerOutRefIdeal_pre_finite_experts [hPeerOutRefIdeal : Cert.PeerOutRefIdeal.Facts] [hPre_finite_experts : Cert.Pre_finite_experts.Facts] : Prop :=
  ∀ (m : (ℓ : Loc Cert.PeerOutRefIdeal.nD Cert.PeerOutRefIdeal.τ Cert.PeerOutRefIdeal.sig) → Buf (Elt Ideal) ℓ) (g : Dev Cert.PeerOutRefIdeal.nD → PrngReg), Pre_PeerOutRefIdeal_finite_experts m →
    θ_run (Cert.PeerOutRefIdeal.defs (F := Ideal)) (onTc (τ := Cert.PeerOutRefIdeal.τ) (Cert.PeerOutRefIdeal.main (F := Ideal))) ⟨m, fun _ => 0, g⟩ (fun r => (∀ c : Dev Cert.PeerOutRefIdeal.nD,
      r.2.mem ((c.tc : Thread Cert.PeerOutRefIdeal.nD Cert.PeerOutRefIdeal.τ).loc Cert.PeerOutRefIdeal.main_arg0) = m ((c.tc : Thread Cert.PeerOutRefIdeal.nD Cert.PeerOutRefIdeal.τ).loc Cert.PeerOutRefIdeal.main_arg0)
      ∧ r.2.mem ((c.tc : Thread Cert.PeerOutRefIdeal.nD Cert.PeerOutRefIdeal.τ).loc Cert.PeerOutRefIdeal.main_arg1) = m ((c.tc : Thread Cert.PeerOutRefIdeal.nD Cert.PeerOutRefIdeal.τ).loc Cert.PeerOutRefIdeal.main_arg1)
      ∧ r.2.mem ((c.tc : Thread Cert.PeerOutRefIdeal.nD Cert.PeerOutRefIdeal.τ).loc Cert.PeerOutRefIdeal.main_arg2) = m ((c.tc : Thread Cert.PeerOutRefIdeal.nD Cert.PeerOutRefIdeal.τ).loc Cert.PeerOutRefIdeal.main_arg2)
      ∧ r.2.mem ((c.tc : Thread Cert.PeerOutRefIdeal.nD Cert.PeerOutRefIdeal.τ).loc Cert.PeerOutRefIdeal.main_arg3) = m ((c.tc : Thread Cert.PeerOutRefIdeal.nD Cert.PeerOutRefIdeal.τ).loc Cert.PeerOutRefIdeal.main_arg3)
      ∧ r.2.mem ((c.tc : Thread Cert.PeerOutRefIdeal.nD Cert.PeerOutRefIdeal.τ).loc Cert.PeerOutRefIdeal.main_arg4) = m ((c.tc : Thread Cert.PeerOutRefIdeal.nD Cert.PeerOutRefIdeal.τ).loc Cert.PeerOutRefIdeal.main_arg4)
      ∧ r.2.mem ((c.tc : Thread Cert.PeerOutRefIdeal.nD Cert.PeerOutRefIdeal.τ).loc Cert.PeerOutRefIdeal.main_arg5) = m ((c.tc : Thread Cert.PeerOutRefIdeal.nD Cert.PeerOutRefIdeal.τ).loc Cert.PeerOutRefIdeal.main_arg5)
      ∧ r.2.mem ((c.tc : Thread Cert.PeerOutRefIdeal.nD Cert.PeerOutRefIdeal.τ).loc Cert.PeerOutRefIdeal.main_arg6) = m ((c.tc : Thread Cert.PeerOutRefIdeal.nD Cert.PeerOutRefIdeal.τ).loc Cert.PeerOutRefIdeal.main_arg6))
      ∧ r.2.sem = fun _ => 0)

def quiescent_PeerAct [hPeerAct : Cert.PeerAct.Facts] : Prop :=
  ∀ (m : (ℓ : Loc Cert.PeerAct.nD Cert.PeerAct.τ Cert.PeerAct.sig) → Buf (Elt Bits) ℓ) (g : Dev Cert.PeerAct.nD → PrngReg), Pre_PeerAct m →
    θ_run (Cert.PeerAct.defs (F := Bits)) (onTc (τ := Cert.PeerAct.τ) (Cert.PeerAct.main (F := Bits))) ⟨m, fun _ => 0, g⟩ (fun r => (∀ c : Dev Cert.PeerAct.nD,
      r.2.mem ((c.tc : Thread Cert.PeerAct.nD Cert.PeerAct.τ).loc Cert.PeerAct.main_arg0) = m ((c.tc : Thread Cert.PeerAct.nD Cert.PeerAct.τ).loc Cert.PeerAct.main_arg0)
      ∧ r.2.mem ((c.tc : Thread Cert.PeerAct.nD Cert.PeerAct.τ).loc Cert.PeerAct.main_arg1) = m ((c.tc : Thread Cert.PeerAct.nD Cert.PeerAct.τ).loc Cert.PeerAct.main_arg1)
      ∧ r.2.mem ((c.tc : Thread Cert.PeerAct.nD Cert.PeerAct.τ).loc Cert.PeerAct.main_arg2) = m ((c.tc : Thread Cert.PeerAct.nD Cert.PeerAct.τ).loc Cert.PeerAct.main_arg2)
      ∧ r.2.mem ((c.tc : Thread Cert.PeerAct.nD Cert.PeerAct.τ).loc Cert.PeerAct.main_arg3) = m ((c.tc : Thread Cert.PeerAct.nD Cert.PeerAct.τ).loc Cert.PeerAct.main_arg3))
      ∧ r.2.sem = fun _ => 0)

def quiescent_PeerActIdeal [hPeerActIdeal : Cert.PeerActIdeal.Facts] : Prop :=
  ∀ (m : (ℓ : Loc Cert.PeerActIdeal.nD Cert.PeerActIdeal.τ Cert.PeerActIdeal.sig) → Buf (Elt Ideal) ℓ) (g : Dev Cert.PeerActIdeal.nD → PrngReg), Pre_PeerActIdeal m →
    θ_run (Cert.PeerActIdeal.defs (F := Ideal)) (onTc (τ := Cert.PeerActIdeal.τ) (Cert.PeerActIdeal.main (F := Ideal))) ⟨m, fun _ => 0, g⟩ (fun r => (∀ c : Dev Cert.PeerActIdeal.nD,
      r.2.mem ((c.tc : Thread Cert.PeerActIdeal.nD Cert.PeerActIdeal.τ).loc Cert.PeerActIdeal.main_arg0) = m ((c.tc : Thread Cert.PeerActIdeal.nD Cert.PeerActIdeal.τ).loc Cert.PeerActIdeal.main_arg0)
      ∧ r.2.mem ((c.tc : Thread Cert.PeerActIdeal.nD Cert.PeerActIdeal.τ).loc Cert.PeerActIdeal.main_arg1) = m ((c.tc : Thread Cert.PeerActIdeal.nD Cert.PeerActIdeal.τ).loc Cert.PeerActIdeal.main_arg1)
      ∧ r.2.mem ((c.tc : Thread Cert.PeerActIdeal.nD Cert.PeerActIdeal.τ).loc Cert.PeerActIdeal.main_arg2) = m ((c.tc : Thread Cert.PeerActIdeal.nD Cert.PeerActIdeal.τ).loc Cert.PeerActIdeal.main_arg2)
      ∧ r.2.mem ((c.tc : Thread Cert.PeerActIdeal.nD Cert.PeerActIdeal.τ).loc Cert.PeerActIdeal.main_arg3) = m ((c.tc : Thread Cert.PeerActIdeal.nD Cert.PeerActIdeal.τ).loc Cert.PeerActIdeal.main_arg3))
      ∧ r.2.sem = fun _ => 0)

def quiescent_PeerActIdeal_pre_expert_range [hPeerActIdeal : Cert.PeerActIdeal.Facts] [hPre_expert_range : Cert.Pre_expert_range.Facts] : Prop :=
  ∀ (m : (ℓ : Loc Cert.PeerActIdeal.nD Cert.PeerActIdeal.τ Cert.PeerActIdeal.sig) → Buf (Elt Ideal) ℓ) (g : Dev Cert.PeerActIdeal.nD → PrngReg), Pre_PeerActIdeal_expert_range m →
    θ_run (Cert.PeerActIdeal.defs (F := Ideal)) (onTc (τ := Cert.PeerActIdeal.τ) (Cert.PeerActIdeal.main (F := Ideal))) ⟨m, fun _ => 0, g⟩ (fun r => (∀ c : Dev Cert.PeerActIdeal.nD,
      r.2.mem ((c.tc : Thread Cert.PeerActIdeal.nD Cert.PeerActIdeal.τ).loc Cert.PeerActIdeal.main_arg0) = m ((c.tc : Thread Cert.PeerActIdeal.nD Cert.PeerActIdeal.τ).loc Cert.PeerActIdeal.main_arg0)
      ∧ r.2.mem ((c.tc : Thread Cert.PeerActIdeal.nD Cert.PeerActIdeal.τ).loc Cert.PeerActIdeal.main_arg1) = m ((c.tc : Thread Cert.PeerActIdeal.nD Cert.PeerActIdeal.τ).loc Cert.PeerActIdeal.main_arg1)
      ∧ r.2.mem ((c.tc : Thread Cert.PeerActIdeal.nD Cert.PeerActIdeal.τ).loc Cert.PeerActIdeal.main_arg2) = m ((c.tc : Thread Cert.PeerActIdeal.nD Cert.PeerActIdeal.τ).loc Cert.PeerActIdeal.main_arg2)
      ∧ r.2.mem ((c.tc : Thread Cert.PeerActIdeal.nD Cert.PeerActIdeal.τ).loc Cert.PeerActIdeal.main_arg3) = m ((c.tc : Thread Cert.PeerActIdeal.nD Cert.PeerActIdeal.τ).loc Cert.PeerActIdeal.main_arg3))
      ∧ r.2.sem = fun _ => 0)

def quiescent_PeerActRefIdeal [hPeerActRefIdeal : Cert.PeerActRefIdeal.Facts] : Prop :=
  ∀ (m : (ℓ : Loc Cert.PeerActRefIdeal.nD Cert.PeerActRefIdeal.τ Cert.PeerActRefIdeal.sig) → Buf (Elt Ideal) ℓ) (g : Dev Cert.PeerActRefIdeal.nD → PrngReg), Pre_PeerActRefIdeal m →
    θ_run (Cert.PeerActRefIdeal.defs (F := Ideal)) (onTc (τ := Cert.PeerActRefIdeal.τ) (Cert.PeerActRefIdeal.main (F := Ideal))) ⟨m, fun _ => 0, g⟩ (fun r => (∀ c : Dev Cert.PeerActRefIdeal.nD,
      r.2.mem ((c.tc : Thread Cert.PeerActRefIdeal.nD Cert.PeerActRefIdeal.τ).loc Cert.PeerActRefIdeal.main_arg0) = m ((c.tc : Thread Cert.PeerActRefIdeal.nD Cert.PeerActRefIdeal.τ).loc Cert.PeerActRefIdeal.main_arg0)
      ∧ r.2.mem ((c.tc : Thread Cert.PeerActRefIdeal.nD Cert.PeerActRefIdeal.τ).loc Cert.PeerActRefIdeal.main_arg1) = m ((c.tc : Thread Cert.PeerActRefIdeal.nD Cert.PeerActRefIdeal.τ).loc Cert.PeerActRefIdeal.main_arg1)
      ∧ r.2.mem ((c.tc : Thread Cert.PeerActRefIdeal.nD Cert.PeerActRefIdeal.τ).loc Cert.PeerActRefIdeal.main_arg2) = m ((c.tc : Thread Cert.PeerActRefIdeal.nD Cert.PeerActRefIdeal.τ).loc Cert.PeerActRefIdeal.main_arg2)
      ∧ r.2.mem ((c.tc : Thread Cert.PeerActRefIdeal.nD Cert.PeerActRefIdeal.τ).loc Cert.PeerActRefIdeal.main_arg3) = m ((c.tc : Thread Cert.PeerActRefIdeal.nD Cert.PeerActRefIdeal.τ).loc Cert.PeerActRefIdeal.main_arg3))
      ∧ r.2.sem = fun _ => 0)

def quiescent_PeerActRefIdeal_pre_expert_range [hPeerActRefIdeal : Cert.PeerActRefIdeal.Facts] [hPre_expert_range : Cert.Pre_expert_range.Facts] : Prop :=
  ∀ (m : (ℓ : Loc Cert.PeerActRefIdeal.nD Cert.PeerActRefIdeal.τ Cert.PeerActRefIdeal.sig) → Buf (Elt Ideal) ℓ) (g : Dev Cert.PeerActRefIdeal.nD → PrngReg), Pre_PeerActRefIdeal_expert_range m →
    θ_run (Cert.PeerActRefIdeal.defs (F := Ideal)) (onTc (τ := Cert.PeerActRefIdeal.τ) (Cert.PeerActRefIdeal.main (F := Ideal))) ⟨m, fun _ => 0, g⟩ (fun r => (∀ c : Dev Cert.PeerActRefIdeal.nD,
      r.2.mem ((c.tc : Thread Cert.PeerActRefIdeal.nD Cert.PeerActRefIdeal.τ).loc Cert.PeerActRefIdeal.main_arg0) = m ((c.tc : Thread Cert.PeerActRefIdeal.nD Cert.PeerActRefIdeal.τ).loc Cert.PeerActRefIdeal.main_arg0)
      ∧ r.2.mem ((c.tc : Thread Cert.PeerActRefIdeal.nD Cert.PeerActRefIdeal.τ).loc Cert.PeerActRefIdeal.main_arg1) = m ((c.tc : Thread Cert.PeerActRefIdeal.nD Cert.PeerActRefIdeal.τ).loc Cert.PeerActRefIdeal.main_arg1)
      ∧ r.2.mem ((c.tc : Thread Cert.PeerActRefIdeal.nD Cert.PeerActRefIdeal.τ).loc Cert.PeerActRefIdeal.main_arg2) = m ((c.tc : Thread Cert.PeerActRefIdeal.nD Cert.PeerActRefIdeal.τ).loc Cert.PeerActRefIdeal.main_arg2)
      ∧ r.2.mem ((c.tc : Thread Cert.PeerActRefIdeal.nD Cert.PeerActRefIdeal.τ).loc Cert.PeerActRefIdeal.main_arg3) = m ((c.tc : Thread Cert.PeerActRefIdeal.nD Cert.PeerActRefIdeal.τ).loc Cert.PeerActRefIdeal.main_arg3))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0))
      ∧ r.2.sem = fun _ => 0)

def quiescent_DecayRefIdeal [hDecayRefIdeal : Cert.DecayRefIdeal.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v46) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)
      ∧ m' ((c.tc : Thread Cert.MemoryRefIdeal.nD Cert.MemoryRefIdeal.τ).loc Cert.MemoryRefIdeal.main_arg4) = m ((c.tc : Thread Cert.MemoryIdeal.nD Cert.MemoryIdeal.τ).loc Cert.MemoryIdeal.main_arg4)
      ∧ m' ((c.tc : Thread Cert.MemoryRefIdeal.nD Cert.MemoryRefIdeal.τ).loc Cert.MemoryRefIdeal.main_arg5) = m ((c.tc : Thread Cert.MemoryIdeal.nD Cert.MemoryIdeal.τ).loc Cert.MemoryIdeal.main_arg5)
      ∧ m' ((c.tc : Thread Cert.MemoryRefIdeal.nD Cert.MemoryRefIdeal.τ).loc Cert.MemoryRefIdeal.main_arg6) = m ((c.tc : Thread Cert.MemoryIdeal.nD Cert.MemoryIdeal.τ).loc Cert.MemoryIdeal.main_arg6)
      ∧ m' ((c.tc : Thread Cert.MemoryRefIdeal.nD Cert.MemoryRefIdeal.τ).loc Cert.MemoryRefIdeal.main_arg7) = m ((c.tc : Thread Cert.MemoryIdeal.nD Cert.MemoryIdeal.τ).loc Cert.MemoryIdeal.main_arg7)) →
    ∃ (v0 : (c : Dev Cert.MemoryIdeal.nD) → Buf (Elt Ideal) ((c.tc : Thread Cert.MemoryIdeal.nD Cert.MemoryIdeal.τ).loc Cert.MemoryIdeal.main_v5)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v5) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
          ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4)
          ∧ r.2.mem ((c.tc : Thread Cert.MemoryIdeal.nD Cert.MemoryIdeal.τ).loc Cert.MemoryIdeal.main_arg5) = m ((c.tc : Thread Cert.MemoryIdeal.nD Cert.MemoryIdeal.τ).loc Cert.MemoryIdeal.main_arg5)
          ∧ r.2.mem ((c.tc : Thread Cert.MemoryIdeal.nD Cert.MemoryIdeal.τ).loc Cert.MemoryIdeal.main_arg6) = m ((c.tc : Thread Cert.MemoryIdeal.nD Cert.MemoryIdeal.τ).loc Cert.MemoryIdeal.main_arg6)
          ∧ r.2.mem ((c.tc : Thread Cert.MemoryIdeal.nD Cert.MemoryIdeal.τ).loc Cert.MemoryIdeal.main_arg7) = m ((c.tc : Thread Cert.MemoryIdeal.nD Cert.MemoryIdeal.τ).loc Cert.MemoryIdeal.main_arg7))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v53) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3)
          ∧ r.2.mem ((c.tc : Thread Cert.MemoryRefIdeal.nD Cert.MemoryRefIdeal.τ).loc Cert.MemoryRefIdeal.main_arg4) = m' ((c.tc : Thread Cert.MemoryRefIdeal.nD Cert.MemoryRefIdeal.τ).loc Cert.MemoryRefIdeal.main_arg4)
          ∧ r.2.mem ((c.tc : Thread Cert.MemoryRefIdeal.nD Cert.MemoryRefIdeal.τ).loc Cert.MemoryRefIdeal.main_arg5) = m' ((c.tc : Thread Cert.MemoryRefIdeal.nD Cert.MemoryRefIdeal.τ).loc Cert.MemoryRefIdeal.main_arg5)
          ∧ r.2.mem ((c.tc : Thread Cert.MemoryRefIdeal.nD Cert.MemoryRefIdeal.τ).loc Cert.MemoryRefIdeal.main_arg6) = m' ((c.tc : Thread Cert.MemoryRefIdeal.nD Cert.MemoryRefIdeal.τ).loc Cert.MemoryRefIdeal.main_arg6)
          ∧ r.2.mem ((c.tc : Thread Cert.MemoryRefIdeal.nD Cert.MemoryRefIdeal.τ).loc Cert.MemoryRefIdeal.main_arg7) = m' ((c.tc : Thread Cert.MemoryRefIdeal.nD Cert.MemoryRefIdeal.τ).loc Cert.MemoryRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)) (v2 : (c : Dev Cert.InProjIdeal.nD) → Buf (Elt Ideal) ((c.tc : Thread Cert.InProjIdeal.nD Cert.InProjIdeal.τ).loc Cert.InProjIdeal.main_v9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_v9) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v20) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_MixOut_MixOutIdeal : Prop :=
  True

def algebraic_MixOutIdeal_MixOutRefIdeal_pre_finite_pool [hMixOutIdeal : Cert.MixOutIdeal.Facts] [hMixOutRefIdeal : Cert.MixOutRefIdeal.Facts] [hPre_finite_pool : Cert.Pre_finite_pool.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_finite_pool m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v98) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_PeerOut_PeerOutIdeal : Prop :=
  True

def algebraic_PeerOutIdeal_PeerOutRefIdeal_pre_finite_experts [hPeerOutIdeal : Cert.PeerOutIdeal.Facts] [hPeerOutRefIdeal : Cert.PeerOutRefIdeal.Facts] [hPre_finite_experts : Cert.Pre_finite_experts.Facts] : Prop :=
  ∀ (m : (ℓ : Loc Cert.PeerOutIdeal.nD Cert.PeerOutIdeal.τ Cert.PeerOutIdeal.sig) → Buf (Elt Ideal) ℓ) (g : Dev Cert.PeerOutIdeal.nD → PrngReg)
    (m' : (ℓ : Loc Cert.PeerOutRefIdeal.nD Cert.PeerOutRefIdeal.τ Cert.PeerOutRefIdeal.sig) → Buf (Elt Ideal) ℓ) (g' : Dev Cert.PeerOutRefIdeal.nD → PrngReg), Pre_PeerOutIdeal_finite_experts m →
    (∀ c : Dev Cert.PeerOutIdeal.nD,
      m' ((c.tc : Thread Cert.PeerOutRefIdeal.nD Cert.PeerOutRefIdeal.τ).loc Cert.PeerOutRefIdeal.main_arg0) = m ((c.tc : Thread Cert.PeerOutIdeal.nD Cert.PeerOutIdeal.τ).loc Cert.PeerOutIdeal.main_arg0)
      ∧ m' ((c.tc : Thread Cert.PeerOutRefIdeal.nD Cert.PeerOutRefIdeal.τ).loc Cert.PeerOutRefIdeal.main_arg1) = m ((c.tc : Thread Cert.PeerOutIdeal.nD Cert.PeerOutIdeal.τ).loc Cert.PeerOutIdeal.main_arg1)
      ∧ m' ((c.tc : Thread Cert.PeerOutRefIdeal.nD Cert.PeerOutRefIdeal.τ).loc Cert.PeerOutRefIdeal.main_arg2) = m ((c.tc : Thread Cert.PeerOutIdeal.nD Cert.PeerOutIdeal.τ).loc Cert.PeerOutIdeal.main_arg2)
      ∧ m' ((c.tc : Thread Cert.PeerOutRefIdeal.nD Cert.PeerOutRefIdeal.τ).loc Cert.PeerOutRefIdeal.main_arg3) = m ((c.tc : Thread Cert.PeerOutIdeal.nD Cert.PeerOutIdeal.τ).loc Cert.PeerOutIdeal.main_arg3)
      ∧ m' ((c.tc : Thread Cert.PeerOutRefIdeal.nD Cert.PeerOutRefIdeal.τ).loc Cert.PeerOutRefIdeal.main_arg4) = m ((c.tc : Thread Cert.PeerOutIdeal.nD Cert.PeerOutIdeal.τ).loc Cert.PeerOutIdeal.main_arg4)
      ∧ m' ((c.tc : Thread Cert.PeerOutRefIdeal.nD Cert.PeerOutRefIdeal.τ).loc Cert.PeerOutRefIdeal.main_arg5) = m ((c.tc : Thread Cert.PeerOutIdeal.nD Cert.PeerOutIdeal.τ).loc Cert.PeerOutIdeal.main_arg5)
      ∧ m' ((c.tc : Thread Cert.PeerOutRefIdeal.nD Cert.PeerOutRefIdeal.τ).loc Cert.PeerOutRefIdeal.main_arg6) = m ((c.tc : Thread Cert.PeerOutIdeal.nD Cert.PeerOutIdeal.τ).loc Cert.PeerOutIdeal.main_arg6)) →
    ∃ (v0 : (c : Dev Cert.PeerOutIdeal.nD) → Buf (Elt Ideal) ((c.tc : Thread Cert.PeerOutIdeal.nD Cert.PeerOutIdeal.τ).loc Cert.PeerOutIdeal.main_v2)),
      θ_run (Cert.PeerOutIdeal.defs (F := Ideal)) (onTc (τ := Cert.PeerOutIdeal.τ) (Cert.PeerOutIdeal.main (F := Ideal))) ⟨m, fun _ => 0, g⟩ (fun r => ∀ c : Dev Cert.PeerOutIdeal.nD,
          r.2.mem ((c.tc : Thread Cert.PeerOutIdeal.nD Cert.PeerOutIdeal.τ).loc Cert.PeerOutIdeal.main_v2) = v0 c
          ∧ r.2.mem ((c.tc : Thread Cert.PeerOutIdeal.nD Cert.PeerOutIdeal.τ).loc Cert.PeerOutIdeal.main_arg0) = m ((c.tc : Thread Cert.PeerOutIdeal.nD Cert.PeerOutIdeal.τ).loc Cert.PeerOutIdeal.main_arg0)
          ∧ r.2.mem ((c.tc : Thread Cert.PeerOutIdeal.nD Cert.PeerOutIdeal.τ).loc Cert.PeerOutIdeal.main_arg1) = m ((c.tc : Thread Cert.PeerOutIdeal.nD Cert.PeerOutIdeal.τ).loc Cert.PeerOutIdeal.main_arg1)
          ∧ r.2.mem ((c.tc : Thread Cert.PeerOutIdeal.nD Cert.PeerOutIdeal.τ).loc Cert.PeerOutIdeal.main_arg2) = m ((c.tc : Thread Cert.PeerOutIdeal.nD Cert.PeerOutIdeal.τ).loc Cert.PeerOutIdeal.main_arg2)
          ∧ r.2.mem ((c.tc : Thread Cert.PeerOutIdeal.nD Cert.PeerOutIdeal.τ).loc Cert.PeerOutIdeal.main_arg3) = m ((c.tc : Thread Cert.PeerOutIdeal.nD Cert.PeerOutIdeal.τ).loc Cert.PeerOutIdeal.main_arg3)
          ∧ r.2.mem ((c.tc : Thread Cert.PeerOutIdeal.nD Cert.PeerOutIdeal.τ).loc Cert.PeerOutIdeal.main_arg4) = m ((c.tc : Thread Cert.PeerOutIdeal.nD Cert.PeerOutIdeal.τ).loc Cert.PeerOutIdeal.main_arg4)
          ∧ r.2.mem ((c.tc : Thread Cert.PeerOutIdeal.nD Cert.PeerOutIdeal.τ).loc Cert.PeerOutIdeal.main_arg5) = m ((c.tc : Thread Cert.PeerOutIdeal.nD Cert.PeerOutIdeal.τ).loc Cert.PeerOutIdeal.main_arg5)
          ∧ r.2.mem ((c.tc : Thread Cert.PeerOutIdeal.nD Cert.PeerOutIdeal.τ).loc Cert.PeerOutIdeal.main_arg6) = m ((c.tc : Thread Cert.PeerOutIdeal.nD Cert.PeerOutIdeal.τ).loc Cert.PeerOutIdeal.main_arg6))
      ∧ θ_run (Cert.PeerOutRefIdeal.defs (F := Ideal)) (onTc (τ := Cert.PeerOutRefIdeal.τ) (Cert.PeerOutRefIdeal.main (F := Ideal))) ⟨m', fun _ => 0, g'⟩ (fun r => ∀ c : Dev Cert.PeerOutRefIdeal.nD,
          r.2.mem ((c.tc : Thread Cert.PeerOutRefIdeal.nD Cert.PeerOutRefIdeal.τ).loc Cert.PeerOutRefIdeal.main_v26) = v0 c
          ∧ r.2.mem ((c.tc : Thread Cert.PeerOutRefIdeal.nD Cert.PeerOutRefIdeal.τ).loc Cert.PeerOutRefIdeal.main_arg0) = m' ((c.tc : Thread Cert.PeerOutRefIdeal.nD Cert.PeerOutRefIdeal.τ).loc Cert.PeerOutRefIdeal.main_arg0)
          ∧ r.2.mem ((c.tc : Thread Cert.PeerOutRefIdeal.nD Cert.PeerOutRefIdeal.τ).loc Cert.PeerOutRefIdeal.main_arg1) = m' ((c.tc : Thread Cert.PeerOutRefIdeal.nD Cert.PeerOutRefIdeal.τ).loc Cert.PeerOutRefIdeal.main_arg1)
          ∧ r.2.mem ((c.tc : Thread Cert.PeerOutRefIdeal.nD Cert.PeerOutRefIdeal.τ).loc Cert.PeerOutRefIdeal.main_arg2) = m' ((c.tc : Thread Cert.PeerOutRefIdeal.nD Cert.PeerOutRefIdeal.τ).loc Cert.PeerOutRefIdeal.main_arg2)
          ∧ r.2.mem ((c.tc : Thread Cert.PeerOutRefIdeal.nD Cert.PeerOutRefIdeal.τ).loc Cert.PeerOutRefIdeal.main_arg3) = m' ((c.tc : Thread Cert.PeerOutRefIdeal.nD Cert.PeerOutRefIdeal.τ).loc Cert.PeerOutRefIdeal.main_arg3)
          ∧ r.2.mem ((c.tc : Thread Cert.PeerOutRefIdeal.nD Cert.PeerOutRefIdeal.τ).loc Cert.PeerOutRefIdeal.main_arg4) = m' ((c.tc : Thread Cert.PeerOutRefIdeal.nD Cert.PeerOutRefIdeal.τ).loc Cert.PeerOutRefIdeal.main_arg4)
          ∧ r.2.mem ((c.tc : Thread Cert.PeerOutRefIdeal.nD Cert.PeerOutRefIdeal.τ).loc Cert.PeerOutRefIdeal.main_arg5) = m' ((c.tc : Thread Cert.PeerOutRefIdeal.nD Cert.PeerOutRefIdeal.τ).loc Cert.PeerOutRefIdeal.main_arg5)
          ∧ r.2.mem ((c.tc : Thread Cert.PeerOutRefIdeal.nD Cert.PeerOutRefIdeal.τ).loc Cert.PeerOutRefIdeal.main_arg6) = m' ((c.tc : Thread Cert.PeerOutRefIdeal.nD Cert.PeerOutRefIdeal.τ).loc Cert.PeerOutRefIdeal.main_arg6))

def preserves_PeerAct_PeerActIdeal : Prop :=
  True

def algebraic_PeerActIdeal_PeerActRefIdeal_pre_expert_range [hPeerActIdeal : Cert.PeerActIdeal.Facts] [hPeerActRefIdeal : Cert.PeerActRefIdeal.Facts] [hPre_expert_range : Cert.Pre_expert_range.Facts] : Prop :=
  ∀ (m : (ℓ : Loc Cert.PeerActIdeal.nD Cert.PeerActIdeal.τ Cert.PeerActIdeal.sig) → Buf (Elt Ideal) ℓ) (g : Dev Cert.PeerActIdeal.nD → PrngReg)
    (m' : (ℓ : Loc Cert.PeerActRefIdeal.nD Cert.PeerActRefIdeal.τ Cert.PeerActRefIdeal.sig) → Buf (Elt Ideal) ℓ) (g' : Dev Cert.PeerActRefIdeal.nD → PrngReg), Pre_PeerActIdeal_expert_range m →
    (∀ c : Dev Cert.PeerActIdeal.nD,
      m' ((c.tc : Thread Cert.PeerActRefIdeal.nD Cert.PeerActRefIdeal.τ).loc Cert.PeerActRefIdeal.main_arg0) = m ((c.tc : Thread Cert.PeerActIdeal.nD Cert.PeerActIdeal.τ).loc Cert.PeerActIdeal.main_arg0)
      ∧ m' ((c.tc : Thread Cert.PeerActRefIdeal.nD Cert.PeerActRefIdeal.τ).loc Cert.PeerActRefIdeal.main_arg1) = m ((c.tc : Thread Cert.PeerActIdeal.nD Cert.PeerActIdeal.τ).loc Cert.PeerActIdeal.main_arg1)
      ∧ m' ((c.tc : Thread Cert.PeerActRefIdeal.nD Cert.PeerActRefIdeal.τ).loc Cert.PeerActRefIdeal.main_arg2) = m ((c.tc : Thread Cert.PeerActIdeal.nD Cert.PeerActIdeal.τ).loc Cert.PeerActIdeal.main_arg2)
      ∧ m' ((c.tc : Thread Cert.PeerActRefIdeal.nD Cert.PeerActRefIdeal.τ).loc Cert.PeerActRefIdeal.main_arg3) = m ((c.tc : Thread Cert.PeerActIdeal.nD Cert.PeerActIdeal.τ).loc Cert.PeerActIdeal.main_arg3)) →
    ∃ (v0 : (c : Dev Cert.PeerActIdeal.nD) → Buf (Elt Ideal) ((c.tc : Thread Cert.PeerActIdeal.nD Cert.PeerActIdeal.τ).loc Cert.PeerActIdeal.main_v1)),
      θ_run (Cert.PeerActIdeal.defs (F := Ideal)) (onTc (τ := Cert.PeerActIdeal.τ) (Cert.PeerActIdeal.main (F := Ideal))) ⟨m, fun _ => 0, g⟩ (fun r => ∀ c : Dev Cert.PeerActIdeal.nD,
          r.2.mem ((c.tc : Thread Cert.PeerActIdeal.nD Cert.PeerActIdeal.τ).loc Cert.PeerActIdeal.main_v1) = v0 c
          ∧ r.2.mem ((c.tc : Thread Cert.PeerActIdeal.nD Cert.PeerActIdeal.τ).loc Cert.PeerActIdeal.main_arg0) = m ((c.tc : Thread Cert.PeerActIdeal.nD Cert.PeerActIdeal.τ).loc Cert.PeerActIdeal.main_arg0)
          ∧ r.2.mem ((c.tc : Thread Cert.PeerActIdeal.nD Cert.PeerActIdeal.τ).loc Cert.PeerActIdeal.main_arg1) = m ((c.tc : Thread Cert.PeerActIdeal.nD Cert.PeerActIdeal.τ).loc Cert.PeerActIdeal.main_arg1)
          ∧ r.2.mem ((c.tc : Thread Cert.PeerActIdeal.nD Cert.PeerActIdeal.τ).loc Cert.PeerActIdeal.main_arg2) = m ((c.tc : Thread Cert.PeerActIdeal.nD Cert.PeerActIdeal.τ).loc Cert.PeerActIdeal.main_arg2)
          ∧ r.2.mem ((c.tc : Thread Cert.PeerActIdeal.nD Cert.PeerActIdeal.τ).loc Cert.PeerActIdeal.main_arg3) = m ((c.tc : Thread Cert.PeerActIdeal.nD Cert.PeerActIdeal.τ).loc Cert.PeerActIdeal.main_arg3))
      ∧ θ_run (Cert.PeerActRefIdeal.defs (F := Ideal)) (onTc (τ := Cert.PeerActRefIdeal.τ) (Cert.PeerActRefIdeal.main (F := Ideal))) ⟨m', fun _ => 0, g'⟩ (fun r => ∀ c : Dev Cert.PeerActRefIdeal.nD,
          r.2.mem ((c.tc : Thread Cert.PeerActRefIdeal.nD Cert.PeerActRefIdeal.τ).loc Cert.PeerActRefIdeal.main_v5) = v0 c
          ∧ r.2.mem ((c.tc : Thread Cert.PeerActRefIdeal.nD Cert.PeerActRefIdeal.τ).loc Cert.PeerActRefIdeal.main_arg0) = m' ((c.tc : Thread Cert.PeerActRefIdeal.nD Cert.PeerActRefIdeal.τ).loc Cert.PeerActRefIdeal.main_arg0)
          ∧ r.2.mem ((c.tc : Thread Cert.PeerActRefIdeal.nD Cert.PeerActRefIdeal.τ).loc Cert.PeerActRefIdeal.main_arg1) = m' ((c.tc : Thread Cert.PeerActRefIdeal.nD Cert.PeerActRefIdeal.τ).loc Cert.PeerActRefIdeal.main_arg1)
          ∧ r.2.mem ((c.tc : Thread Cert.PeerActRefIdeal.nD Cert.PeerActRefIdeal.τ).loc Cert.PeerActRefIdeal.main_arg2) = m' ((c.tc : Thread Cert.PeerActRefIdeal.nD Cert.PeerActRefIdeal.τ).loc Cert.PeerActRefIdeal.main_arg2)
          ∧ r.2.mem ((c.tc : Thread Cert.PeerActRefIdeal.nD Cert.PeerActRefIdeal.τ).loc Cert.PeerActRefIdeal.main_arg3) = m' ((c.tc : Thread Cert.PeerActRefIdeal.nD Cert.PeerActRefIdeal.τ).loc Cert.PeerActRefIdeal.main_arg3))

def preserves_Decay_DecayIdeal : Prop :=
  True

def algebraic_DecayIdeal_DecayRefIdeal [hDecayIdeal : Cert.DecayIdeal.Facts] [hDecayRefIdeal : Cert.DecayRefIdeal.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayRefIdeal.nD Cert.DecayRefIdeal.τ Cert.DecayRefIdeal.sig) → Buf (Elt Ideal) ℓ) (g' : Dev Cert.DecayRefIdeal.nD → PrngReg), Pre_DecayIdeal m →
    (∀ c : Dev Cert.DecayIdeal.nD,
      m' ((c.tc : Thread Cert.DecayRefIdeal.nD Cert.DecayRefIdeal.τ).loc Cert.DecayRefIdeal.main_arg0) = m ((c.tc : Thread Cert.DecayIdeal.nD Cert.DecayIdeal.τ).loc Cert.DecayIdeal.main_arg0)) →
    ∃ (v0 : (c : Dev Cert.DecayIdeal.nD) → Buf (Elt Ideal) ((c.tc : Thread Cert.DecayIdeal.nD Cert.DecayIdeal.τ).loc Cert.DecayIdeal.main_v0_0)) (v1 : (c : Dev Cert.DecayIdeal.nD) → Buf (Elt Ideal) ((c.tc : Thread Cert.DecayIdeal.nD Cert.DecayIdeal.τ).loc Cert.DecayIdeal.main_v0_1)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v0_0) = v0 c
          ∧ r.2.mem ((c.tc : Thread Cert.DecayIdeal.nD Cert.DecayIdeal.τ).loc Cert.DecayIdeal.main_v0_1) = v1 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0))
      ∧ θ_run (Cert.DecayRefIdeal.defs (F := Ideal)) (onTc (τ := Cert.DecayRefIdeal.τ) (Cert.DecayRefIdeal.main (F := Ideal))) ⟨m', fun _ => 0, g'⟩ (fun r => ∀ c : Dev Cert.DecayRefIdeal.nD,
          r.2.mem ((c.tc : Thread Cert.DecayRefIdeal.nD Cert.DecayRefIdeal.τ).loc Cert.DecayRefIdeal.main_v3) = v0 c
          ∧ r.2.mem ((c.tc : Thread Cert.DecayRefIdeal.nD Cert.DecayRefIdeal.τ).loc Cert.DecayRefIdeal.main_v4) = v1 c
          ∧ r.2.mem ((c.tc : Thread Cert.DecayRefIdeal.nD Cert.DecayRefIdeal.τ).loc Cert.DecayRefIdeal.main_arg0) = m' ((c.tc : Thread Cert.DecayRefIdeal.nD Cert.DecayRefIdeal.τ).loc Cert.DecayRefIdeal.main_arg0))

def Claim : Prop :=
  ∃ (hFox : Cert.Fox.Facts) (hFoxIdeal : Cert.FoxIdeal.Facts) (hFoxRefIdeal : Cert.FoxRefIdeal.Facts) (hMemory : Cert.Memory.Facts) (hMemoryIdeal : Cert.MemoryIdeal.Facts) (hMemoryRefIdeal : Cert.MemoryRefIdeal.Facts) (hInProj : Cert.InProj.Facts) (hInProjIdeal : Cert.InProjIdeal.Facts) (hInProjRefIdeal : Cert.InProjRefIdeal.Facts) (hMixOut : Cert.MixOut.Facts) (hMixOutIdeal : Cert.MixOutIdeal.Facts) (hMixOutRefIdeal : Cert.MixOutRefIdeal.Facts) (hPeerOut : Cert.PeerOut.Facts) (hPeerOutIdeal : Cert.PeerOutIdeal.Facts) (hPeerOutRefIdeal : Cert.PeerOutRefIdeal.Facts) (hPeerAct : Cert.PeerAct.Facts) (hPeerActIdeal : Cert.PeerActIdeal.Facts) (hPeerActRefIdeal : Cert.PeerActRefIdeal.Facts) (hDecay : Cert.Decay.Facts) (hDecayIdeal : Cert.DecayIdeal.Facts) (hDecayRefIdeal : Cert.DecayRefIdeal.Facts) (hPre_finite : Cert.Pre_finite.Facts) (hPre_finite_pool : Cert.Pre_finite_pool.Facts) (hPre_finite_experts : Cert.Pre_finite_experts.Facts) (hPre_expert_range : Cert.Pre_expert_range.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Memory (hMemory := hMemory)
    ∧ quiescent_MemoryIdeal (hMemoryIdeal := hMemoryIdeal)
    ∧ quiescent_MemoryRefIdeal (hMemoryRefIdeal := hMemoryRefIdeal)
    ∧ quiescent_InProj (hInProj := hInProj)
    ∧ quiescent_InProjIdeal (hInProjIdeal := hInProjIdeal)
    ∧ quiescent_InProjRefIdeal (hInProjRefIdeal := hInProjRefIdeal)
    ∧ quiescent_MixOut (hMixOut := hMixOut)
    ∧ quiescent_MixOutIdeal (hMixOutIdeal := hMixOutIdeal)
    ∧ quiescent_MixOutIdeal_pre_finite_pool (hMixOutIdeal := hMixOutIdeal) (hPre_finite_pool := hPre_finite_pool)
    ∧ quiescent_MixOutRefIdeal (hMixOutRefIdeal := hMixOutRefIdeal)
    ∧ quiescent_MixOutRefIdeal_pre_finite_pool (hMixOutRefIdeal := hMixOutRefIdeal) (hPre_finite_pool := hPre_finite_pool)
    ∧ quiescent_PeerOut (hPeerOut := hPeerOut)
    ∧ quiescent_PeerOutIdeal (hPeerOutIdeal := hPeerOutIdeal)
    ∧ quiescent_PeerOutIdeal_pre_finite_experts (hPeerOutIdeal := hPeerOutIdeal) (hPre_finite_experts := hPre_finite_experts)
    ∧ quiescent_PeerOutRefIdeal (hPeerOutRefIdeal := hPeerOutRefIdeal)
    ∧ quiescent_PeerOutRefIdeal_pre_finite_experts (hPeerOutRefIdeal := hPeerOutRefIdeal) (hPre_finite_experts := hPre_finite_experts)
    ∧ quiescent_PeerAct (hPeerAct := hPeerAct)
    ∧ quiescent_PeerActIdeal (hPeerActIdeal := hPeerActIdeal)
    ∧ quiescent_PeerActIdeal_pre_expert_range (hPeerActIdeal := hPeerActIdeal) (hPre_expert_range := hPre_expert_range)
    ∧ quiescent_PeerActRefIdeal (hPeerActRefIdeal := hPeerActRefIdeal)
    ∧ quiescent_PeerActRefIdeal_pre_expert_range (hPeerActRefIdeal := hPeerActRefIdeal) (hPre_expert_range := hPre_expert_range)
    ∧ quiescent_Decay (hDecay := hDecay)
    ∧ quiescent_DecayIdeal (hDecayIdeal := hDecayIdeal)
    ∧ quiescent_DecayRefIdeal (hDecayRefIdeal := hDecayRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Memory_MemoryIdeal
    ∧ algebraic_MemoryIdeal_MemoryRefIdeal (hMemoryIdeal := hMemoryIdeal) (hMemoryRefIdeal := hMemoryRefIdeal)
    ∧ preserves_InProj_InProjIdeal
    ∧ algebraic_InProjIdeal_InProjRefIdeal (hInProjIdeal := hInProjIdeal) (hInProjRefIdeal := hInProjRefIdeal)
    ∧ preserves_MixOut_MixOutIdeal
    ∧ algebraic_MixOutIdeal_MixOutRefIdeal_pre_finite_pool (hMixOutIdeal := hMixOutIdeal) (hMixOutRefIdeal := hMixOutRefIdeal) (hPre_finite_pool := hPre_finite_pool)
    ∧ preserves_PeerOut_PeerOutIdeal
    ∧ algebraic_PeerOutIdeal_PeerOutRefIdeal_pre_finite_experts (hPeerOutIdeal := hPeerOutIdeal) (hPeerOutRefIdeal := hPeerOutRefIdeal) (hPre_finite_experts := hPre_finite_experts)
    ∧ preserves_PeerAct_PeerActIdeal
    ∧ algebraic_PeerActIdeal_PeerActRefIdeal_pre_expert_range (hPeerActIdeal := hPeerActIdeal) (hPeerActRefIdeal := hPeerActRefIdeal) (hPre_expert_range := hPre_expert_range)
    ∧ preserves_Decay_DecayIdeal
    ∧ algebraic_DecayIdeal_DecayRefIdeal (hDecayIdeal := hDecayIdeal) (hDecayRefIdeal := hDecayRefIdeal)
-- ==== Pre_expert_range.lean ====
abbrev S8192x2048 : Shape := ⟨2, ![8192, 2048]⟩
abbrev S16384x2048 : Shape := ⟨2, ![16384, 2048]⟩
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x2048 .bf16) (main_arg1 : FVec F S16384x2048 .f32) (main_arg2 : IVec S8192x128 32) (main_arg3 : IVec S8192x128 32) : IVec S_ 1 :=
  let main_c : IVec S_ 32 := constantI S_ 32 0#32
  let main_v0 : IVec S8192x128 32 := broadcastInDim S8192x128 ![] bcast_S_S8192x128 main_c
  let main_v1 : IVec S8192x128 1 := cmpi .sge main_arg2 main_v0
  let main_c_0 : IVec S_ 1 := constantI S_ 1 1#1
  let main_v2 : IVec S_ 1 := (fun x v => Host.reduce IntOp.andi x v reducesTo_S8192x128_S_d0_1 h_S_) main_v1 main_c_0
  let main_c_1 : IVec S_ 32 := constantI S_ 32 128#32
  let main_v3 : IVec S8192x128 32 := broadcastInDim S8192x128 ![] bcast_S_S8192x128 main_c_1
  let main_v4 : IVec S8192x128 1 := cmpi .slt main_arg2 main_v3
  let main_c_2 : IVec S_ 1 := constantI S_ 1 1#1
  let main_v5 : IVec S_ 1 := (fun x v => Host.reduce IntOp.andi x v reducesTo_S8192x128_S_d0_1 h_S_) main_v4 main_c_2
  let main_v6 : IVec S_ 1 := andi main_v2 main_v5
  let main_c_3 : IVec S_ 32 := constantI S_ 32 0#32
  let main_v7 : IVec S8192x128 32 := broadcastInDim S8192x128 ![] bcast_S_S8192x128 main_c_3
  let main_v8 : IVec S8192x128 1 := cmpi .sge main_arg3 main_v7
  let main_c_4 : IVec S_ 1 := constantI S_ 1 1#1
  let main_v9 : IVec S_ 1 := (fun x v => Host.reduce IntOp.andi x v reducesTo_S8192x128_S_d0_1 h_S_) main_v8 main_c_4
  let main_v10 : IVec S_ 1 := andi main_v6 main_v9
  let main_c_5 : IVec S_ 32 := constantI S_ 32 128#32
  let main_v11 : IVec S8192x128 32 := broadcastInDim S8192x128 ![] bcast_S_S8192x128 main_c_5
  let main_v12 : IVec S8192x128 1 := cmpi .slt main_arg3 main_v11
  let main_c_6 : IVec S_ 1 := constantI S_ 1 1#1
  let main_v13 : IVec S_ 1 := (fun x v => Host.reduce IntOp.andi x v reducesTo_S8192x128_S_d0_1 h_S_) main_v12 main_c_6
  let main_v14 : IVec S_ 1 := andi main_v10 main_v13
  main_v14
-- ==== Pre_finite.lean ====
abbrev S8192x3072 : Shape := ⟨2, ![8192, 3072]⟩
abbrev S8192x128 : Shape := ⟨2, ![8192, 128]⟩
abbrev S2x128x1x4096 : Shape := ⟨4, ![2, 128, 1, 4096]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S2x128x1x4096 : S_.BroadcastsInDim S2x128x1x4096 (![] : Fin 0 → Fin S2x128x1x4096.rank)
  reducesTo_S2x128x1x4096_S_d0_1_2_3 : S2x128x1x4096.ReducesTo [0, 1, 2, 3] S_

variable [Facts]

def fn {F : FTy → Type} [FloatOps F] (main_arg0 : FVec F S8192x3072 .bf16) (main_arg1 : FVec F S8192x128 .f32) (main_arg2 : FVec F S2x128x1x4096 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x128 .f32 := Host.absf main_arg1
  let main_cst_0 : FVec F S_ .f32 := constant S_ .f32 0x7F800000#32
  let main_v6 : FVec F S8192x128 .f32 := broadcastInDim S8192x128 ![] bcast_S_S8192x128 main_cst_0
  let main_v7 : IVec S8192x128 1 := cmpf .olt main_v5 main_v6
  let main_c_1 : IVec S_ 1 := constantI S_ 1 1#1
  let main_v8 : IVec S_ 1 := (fun x v => Host.reduce IntOp.andi x v reducesTo_S8192x128_S_d0_1 h_S_) main_v7 main_c_1
  let main_v9 : IVec S_ 1 := andi main_v4 main_v8
  let main_v10 : FVec F S2x128x1x4096 .f32 := Host.absf main_arg2
  let main_cst_2 : FVec F S_ .f32 := constant S_ .f32 0x7F800000#32
  let main_v11 : FVec F S2x128x1x4096 .f32 := broadcastInDim S2x128x1x4096 ![] bcast_S_S2x128x1x4096 main_cst_2
  let main_v12 : IVec S2x128x1x4096 1 := cmpf .olt main_v10 main_v11
  let main_c_3 : IVec S_ 1 := constantI S_ 1 1#1
  let main_v13 : IVec S_ 1 := (fun x v => Host.reduce IntOp.andi x v reducesTo_S2x128x1x4096_S_d0_1_2_3 h_S_) main_v12 main_c_3
  let main_v14 : IVec S_ 1 := andi main_v9 main_v13
  main_v14
-- ==== Pre_finite_experts.lean ====
abbrev S8192x2048 : Shape := ⟨2, ![8192, 2048]⟩
abbrev S8192x128 : Shape := ⟨2, ![8192, 128]⟩
abbrev S16384x2048 : Shape := ⟨2, ![16384, 2048]⟩
abbrev S2048 : Shape := ⟨1, ![2048]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_arg3 : IVec S8192x128 32) (main_arg4 : IVec S8192x128 32) (main_v13 : IVec S_ 1) (main_v15 : IVec S8192x128 1) (main_c_5 : IVec S_ 1) : IVec S_ 1 :=
  let main_v16 : IVec S_ 1 := (fun x v => Host.reduce IntOp.andi x v reducesTo_S8192x128_S_d0_1 h_S_) main_v15 main_c_5
  let main_v17 : IVec S_ 1 := andi main_v13 main_v16
  let main_c_6 : IVec S_ 32 := constantI S_ 32 128#32
  let main_v18 : IVec S8192x128 32 := broadcastInDim S8192x128 ![] bcast_S_S8192x128 main_c_6
  let main_v19 : IVec S8192x128 1 := cmpi .slt main_arg3 main_v18
  let main_c_7 : IVec S_ 1 := constantI S_ 1 1#1
  let main_v20 : IVec S_ 1 := (fun x v => Host.reduce IntOp.andi x v reducesTo_S8192x128_S_d0_1 h_S_) main_v19 main_c_7
  let main_v21 : IVec S_ 1 := andi main_v17 main_v20
  let main_c_8 : IVec S_ 32 := constantI S_ 32 0#32
  let main_v22 : IVec S8192x128 32 := broadcastInDim S8192x128 ![] bcast_S_S8192x128 main_c_8
  let main_v23 : IVec S8192x128 1 := cmpi .sge main_arg4 main_v22
  let main_c_9 : IVec S_ 1 := constantI S_ 1 1#1
  let main_v24 : IVec S_ 1 := (fun x v => Host.reduce IntOp.andi x v reducesTo_S8192x128_S_d0_1 h_S_) main_v23 main_c_9
  let main_v25 : IVec S_ 1 := andi main_v21 main_v24
  let main_c_10 : IVec S_ 32 := constantI S_ 32 128#32
  let main_v26 : IVec S8192x128 32 := broadcastInDim S8192x128 ![] bcast_S_S8192x128 main_c_10
  let main_v27 : IVec S8192x128 1 := cmpi .slt main_arg4 main_v26
  let main_c_11 : IVec S_ 1 := constantI S_ 1 1#1
  let main_v28 : IVec S_ 1 := (fun x v => Host.reduce IntOp.andi x v reducesTo_S8192x128_S_d0_1 h_S_) main_v27 main_c_11
  let main_v29 : IVec S_ 1 := andi main_v25 main_v28
  main_v29

def fn {F : FTy → Type} [FloatOps F] (main_arg0 : FVec F S8192x2048 .f32) (main_arg1 : FVec F S8192x128 .f32) (main_arg2 : FVec F S8192x128 .f32) (main_arg3 : IVec S8192x128 32) (main_arg4 : IVec S8192x128 32) (main_arg5 : FVec F S16384x2048 .f32) (main_arg6 : FVec F S2048 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S16384x2048 .f32 := Host.absf main_arg5
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_c_4 : IVec S_ 32 := constantI S_ 32 0#32
  let main_v14 : IVec S8192x128 32 := broadcastInDim S8192x128 ![] bcast_S_S8192x128 main_c_4
  let main_v15 : IVec S8192x128 1 := cmpi .sge main_arg3 main_v14
  let main_c_5 : IVec S_ 1 := constantI S_ 1 1#1
  fn_part1 (F := F) main_arg3 main_arg4 main_v13 main_v15 main_c_5
-- ==== Pre_finite_pool.lean ====
abbrev S8192x1024 : Shape := ⟨2, ![8192, 1024]⟩
abbrev S8192x2048 : Shape := ⟨2, ![8192, 2048]⟩
abbrev S4x256x256 : Shape := ⟨3, ![4, 256, 256]⟩
abbrev S1024 : Shape := ⟨1, ![1024]⟩
abbrev S2048x2048 : Shape := ⟨2, ![2048, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .bf16) (main_arg2 : FVec F S8192x2048 .f32) (main_arg3 : FVec F S4x256x256 .f32) (main_arg4 : FVec F S1024 .f32) (main_arg5 : FVec F S2048x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Fox.lean ====
abbrev S8192x3072 : Shape := ⟨2, ![8192, 3072]⟩
abbrev S8192x128 : Shape := ⟨2, ![8192, 128]⟩
abbrev S2x128x1x4096 : Shape := ⟨4, ![2, 128, 1, 4096]⟩
abbrev S8192x1024 : Shape := ⟨2, ![8192, 1024]⟩
abbrev S512x128 : Shape := ⟨2, ![512, 128]⟩
abbrev S1x1x1x512 : Shape := ⟨4, ![1, 1, 1, 512]⟩
abbrev S512x1 : Shape := ⟨2, ![512, 1]⟩
abbrev S512 : Shape := ⟨1, ![512]⟩
abbrev S512x512 : Shape := ⟨2, ![512, 512]⟩
abbrev S1x512 : Shape := ⟨2, ![1, 512]⟩

abbrev nBuf : Space → Nat
  | .hbm => 4
  | .vmem => 16
  | .smem => 0
  | _ => 0

abbrev bufTy : (tb : Table) → Fin (tcTables nBuf tb) → BufTy
  | .hbm, ⟨0, _⟩ => ⟨S8192x3072, .bf16⟩
  | .hbm, ⟨1, _⟩ => ⟨S8192x128, .f32⟩
  | .hbm, ⟨2, _⟩ => ⟨S2x128x1x4096, .f32⟩
  | .hbm, ⟨3, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S1x1x1x512, .f32⟩
  | .local _ .vmem, ⟨9, _⟩ => ⟨S1x1x1x512, .f32⟩
  | .local _ .vmem, ⟨10, _⟩ => ⟨S512x128, .bf16⟩
  | .local _ .vmem, ⟨11, _⟩ => ⟨S512x128, .bf16⟩
  | .local _ .vmem, ⟨12, _⟩ => ⟨S512x1, .f32⟩
  | .local _ .vmem, ⟨13, _⟩ => ⟨S512x1, .f32⟩
  | .local _ .vmem, ⟨14, _⟩ => ⟨S512x128, .f32⟩
  | .local _ .vmem, ⟨15, _⟩ => ⟨S512x1, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![2, 8, 8, 8], ![false, false, false, false]⟩

def k0_cond3 (i : grid0.Coords) : BitVec 1 :=
  let arg3 : BitVec 32 := BitVec.ofNat 32 (i 3).val
  let c7_i32 : BitVec 32 := 7#32
  let v6 : BitVec 1 := Scalar.cmpi .eq arg3 c7_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c8_i32_0 : BitVec 32 := 8#32
  let v3 : BitVec 32 := Scalar.addi c8_i32_0 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.minsi arg3 arg2
  let v2 : BitVec 32 := Scalar.addi v0 v1
  let c16_i32 : BitVec 32 := 16#32
  let v3 : BitVec 32 := Scalar.addi c16_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  let c0_i32_0 : BitVec 32 := 0#32
  ![arg0.toNat, arg1.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== FoxIdeal.lean ====
variable {F : FTy → Type} [FloatOps F] [Named F]
def κ : String → Option EReal := fun
  | "mask" => some ⊥
  | _ => none
-- ==== FoxRefIdeal.lean ====
abbrev S8192x3072 : Shape := ⟨2, ![8192, 3072]⟩
abbrev S8192x128 : Shape := ⟨2, ![8192, 128]⟩
abbrev S2x128x1x4096 : Shape := ⟨4, ![2, 128, 1, 4096]⟩
abbrev S8192x1024 : Shape := ⟨2, ![8192, 1024]⟩
abbrev S2x4096x8x128 : Shape := ⟨4, ![2, 4096, 8, 128]⟩
abbrev S2x8x4096x128 : Shape := ⟨4, ![2, 8, 4096, 128]⟩
abbrev S_ : Shape := ⟨0, ![]⟩
abbrev S2x4096x128 : Shape := ⟨3, ![2, 4096, 128]⟩
abbrev S2x4096x8 : Shape := ⟨3, ![2, 4096, 8]⟩
abbrev S2x8x4096 : Shape := ⟨3, ![2, 8, 4096]⟩
abbrev S2x8x1x4096 : Shape := ⟨4, ![2, 8, 1, 4096]⟩
abbrev S2x8x4096x4096 : Shape := ⟨4, ![2, 8, 4096, 4096]⟩
abbrev S2x8x4096x1 : Shape := ⟨4, ![2, 8, 4096, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x128, .f32⟩
  | .hbm, ⟨2, _⟩ => ⟨S2x128x1x4096, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S2x4096x8x128, .f32⟩
  | .hbm, ⟨8, _⟩ => ⟨S2x8x4096x128, .f32⟩
  | .hbm, ⟨9, _⟩ => ⟨S_, .f32⟩
  | .hbm, ⟨10, _⟩ => ⟨S2x8x4096x128, .f32⟩
  | .hbm, ⟨11, _⟩ => ⟨S2x8x4096x128, .f32⟩
  | .hbm, ⟨12, _⟩ => ⟨S2x4096x8x128, .f32⟩
  | .hbm, ⟨13, _⟩ => ⟨S2x8x4096x128, .f32⟩
  | .hbm, ⟨14, _⟩ => ⟨S2x4096x8x128, .f32⟩
  | .hbm, ⟨15, _⟩ => ⟨S2x8x4096x128, .f32⟩
  | .hbm, ⟨16, _⟩ => ⟨S2x4096x128, .f32⟩
  | .hbm, ⟨17, _⟩ => ⟨S2x4096x8, .f32⟩
  | .hbm, ⟨18, _⟩ => ⟨S2x8x4096, .f32⟩
  | .hbm, ⟨19, _⟩ => ⟨S2x8x1x4096, .f32⟩
  | .hbm, ⟨20, _⟩ => ⟨S2x8x4096, .f32⟩
  | .hbm, ⟨21, _⟩ => ⟨S2x8x4096x4096, .f32⟩
  | .hbm, ⟨22, _⟩ => ⟨S2x8x4096x1, .f32⟩
  | .hbm, ⟨23, _⟩ => ⟨S2x8x4096x4096, .f32⟩
  | .hbm, ⟨24, _⟩ => ⟨S2x8x4096x4096, .f32⟩
  | .hbm, ⟨25, _⟩ => ⟨S2x8x1x4096, .f32⟩
  | .hbm, ⟨26, _⟩ => ⟨S2x8x4096x4096, .f32⟩
  | .hbm, ⟨27, _⟩ => ⟨S2x8x4096x4096, .f32⟩
  | .hbm, ⟨28, _⟩ => ⟨S4096, .i32⟩
  | .hbm, ⟨29, _⟩ => ⟨S1x4096, .i32⟩
  | .hbm, ⟨30, _⟩ => ⟨S4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S2x8x4096x4096, .i1⟩
  | .hbm, ⟨38, _⟩ => ⟨S2x8x4096x4096, .f32⟩
  | .hbm, ⟨39, _⟩ => ⟨S2x8x4096x4096, .f32⟩
  | .hbm, ⟨40, _⟩ => ⟨S_, .f32⟩
  | .hbm, ⟨41, _⟩ => ⟨S2x8x4096, .f32⟩
  | .hbm, ⟨42, _⟩ => ⟨S_, .f32⟩
  | .hbm, ⟨43, _⟩ => ⟨S2x8x4096, .f32⟩
  | .hbm, ⟨44, _⟩ => ⟨S2x8x4096, .f32⟩
  | .hbm, ⟨45, _⟩ => ⟨S2x8x4096x1, .f32⟩
  | .hbm, ⟨46, _⟩ => ⟨S2x8x4096x4096, .f32⟩
  | .hbm, ⟨47, _⟩ => ⟨S2x8x4096x4096, .f32⟩
  | .hbm, ⟨48, _⟩ => ⟨S2x8x4096x4096, .f32⟩
  | .hbm, ⟨49, _⟩ => ⟨S_, .f32⟩
  | .hbm, ⟨50, _⟩ => ⟨S2x8x4096, .f32⟩
  | .hbm, ⟨51, _⟩ => ⟨S2x8x4096x1, .f32⟩
  | .hbm, ⟨52, _⟩ => ⟨S2x8x4096x4096, .f32⟩
  | .hbm, ⟨53, _⟩ => ⟨S2x8x4096x4096, .f32⟩
  | .hbm, ⟨54, _⟩ => ⟨S2x8x4096x128, .f32⟩
  | .hbm, ⟨55, _⟩ => ⟨S2x4096x8x128, .f32⟩
  | .hbm, ⟨56, _⟩ => ⟨S8192x1024, .f32⟩
  | .hbm, ⟨57, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Memory.lean ====
abbrev S8192x2048 : Shape := ⟨2, ![8192, 2048]⟩
abbrev S512x2048 : Shape := ⟨2, ![512, 2048]⟩
abbrev S2048 : Shape := ⟨1, ![2048]⟩
abbrev S2048x2048 : Shape := ⟨2, ![2048, 2048]⟩
abbrev S1x2048 : Shape := ⟨2, ![1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 15
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048, .f32⟩
  | .hbm, ⟨9, _⟩ => ⟨S512x2048, .bf16⟩
  | .hbm, ⟨10, _⟩ => ⟨S512x2048, .bf16⟩
  | .hbm, ⟨11, _⟩ => ⟨S1x2048, .f32⟩
  | .hbm, ⟨12, _⟩ => ⟨S2048x2048, .bf16⟩
  | .hbm, ⟨13, _⟩ => ⟨S2048x2048, .bf16⟩
  | .hbm, ⟨14, _⟩ => ⟨S8192x2048, .f32⟩
  | .local _ .vmem, ⟨0, _⟩ => ⟨S512x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S2048x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S2048x2048, .bf16⟩
  | .local _ .vmem, ⟨19, _⟩ => ⟨S256x2048, .f32⟩
  | .local _ .vmem, ⟨20, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc1_transform_4 (i : grid1.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== MemoryRefIdeal.lean ====
abbrev S8192x2048 : Shape := ⟨2, ![8192, 2048]⟩
abbrev S512x2048 : Shape := ⟨2, ![512, 2048]⟩
abbrev S2048 : Shape := ⟨1, ![2048]⟩
abbrev S2048x2048 : Shape := ⟨2, ![2048, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x256x2048 : Shape := ⟨3, ![2, 256, 2048]⟩
abbrev S2x256 : Shape := ⟨2, ![2, 256]⟩
abbrev S2x256x1 : Shape := ⟨3, ![2, 256, 1]⟩
abbrev S2x4096x4x512 : Shape := ⟨4, ![2, 4096, 4, 512]⟩
abbrev S2x256x4x512 : Shape := ⟨4, ![2, 256, 4, 512]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x512x4096 : Shape := ⟨4, ![2, 4, 512, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x2048, .f32⟩
  | .hbm, ⟨21, _⟩ => ⟨S2x4096x2048, .f32⟩
  | .hbm, ⟨22, _⟩ => ⟨S1x1x2048, .f32⟩
  | .hbm, ⟨23, _⟩ => ⟨S2x4096x2048, .f32⟩
  | .hbm, ⟨24, _⟩ => ⟨S2x4096x2048, .f32⟩
  | .hbm, ⟨25, _⟩ => ⟨S2x256x2048, .f32⟩
  | .hbm, ⟨26, _⟩ => ⟨S2x256x2048, .f32⟩
  | .hbm, ⟨27, _⟩ => ⟨S_, .f32⟩
  | .hbm, ⟨28, _⟩ => ⟨S2x256, .f32⟩
  | .hbm, ⟨29, _⟩ => ⟨S2x256x1, .f32⟩
  | .hbm, ⟨30, _⟩ => ⟨S_, .f32⟩
  | .hbm, ⟨31, _⟩ => ⟨S2x256x1, .f32⟩
  | .hbm, ⟨32, _⟩ => ⟨S2x256x1, .f32⟩
  | .hbm, ⟨33, _⟩ => ⟨S_, .f32⟩
  | .hbm, ⟨34, _⟩ => ⟨S2x256x1, .f32⟩
  | .hbm, ⟨35, _⟩ => ⟨S2x256x1, .f32⟩
  | .hbm, ⟨36, _⟩ => ⟨S2x256x1, .f32⟩
  | .hbm, ⟨37, _⟩ => ⟨S2x256x2048, .f32⟩
  | .hbm, ⟨38, _⟩ => ⟨S2x256x2048, .f32⟩
  | .hbm, ⟨39, _⟩ => ⟨S1x1x2048, .f32⟩
  | .hbm, ⟨40, _⟩ => ⟨S2x256x2048, .f32⟩
  | .hbm, ⟨41, _⟩ => ⟨S2x256x2048, .f32⟩
  | .hbm, ⟨42, _⟩ => ⟨S2x4096x2048, .f32⟩
  | .hbm, ⟨43, _⟩ => ⟨S2x4096x4x512, .f32⟩
  | .hbm, ⟨44, _⟩ => ⟨S2x256x2048, .f32⟩
  | .hbm, ⟨45, _⟩ => ⟨S2x256x4x512, .f32⟩
  | .hbm, ⟨46, _⟩ => ⟨S2x256x2048, .f32⟩
  | .hbm, ⟨47, _⟩ => ⟨S2x256x4x512, .f32⟩
  | .hbm, ⟨48, _⟩ => ⟨S2x4x4096x256, .f32⟩
  | .hbm, ⟨49, _⟩ => ⟨S_, .f32⟩
  | .hbm, ⟨50, _⟩ => ⟨S2x4x4096x256, .f32⟩
  | .hbm, ⟨51, _⟩ => ⟨S2x4x4096x256, .f32⟩
  | .hbm, ⟨52, _⟩ => ⟨S_, .f32⟩
  | .hbm, ⟨53, _⟩ => ⟨S2x4x4096, .f32⟩
  | .hbm, ⟨54, _⟩ => ⟨S_, .f32⟩
  | .hbm, ⟨55, _⟩ => ⟨S2x4x4096, .f32⟩
  | .hbm, ⟨56, _⟩ => ⟨S2x4x4096, .f32⟩
  | .hbm, ⟨57, _⟩ => ⟨S2x4x4096x1, .f32⟩
  | .hbm, ⟨58, _⟩ => ⟨S2x4x4096x256, .f32⟩
  | .hbm, ⟨59, _⟩ => ⟨S2x4x4096x256, .f32⟩
  | .hbm, ⟨60, _⟩ => ⟨S2x4x4096x256, .f32⟩
  | .hbm, ⟨61, _⟩ => ⟨S_, .f32⟩
  | .hbm, ⟨62, _⟩ => ⟨S2x4x4096, .f32⟩
  | .hbm, ⟨63, _⟩ => ⟨S2x4x4096x1, .f32⟩
  | .hbm, ⟨64, _⟩ => ⟨S2x4x4096x256, .f32⟩
  | .hbm, ⟨65, _⟩ => ⟨S2x4x4096x256, .f32⟩
  | .hbm, ⟨66, _⟩ => ⟨S2x4x512x4096, .f32⟩
  | .hbm, ⟨67, _⟩ => ⟨S2x4096x4x512, .f32⟩
  | .hbm, ⟨68, _⟩ => ⟨S2x4096x2048, .f32⟩
  | .hbm, ⟨69, _⟩ => ⟨S2x4096x2048, .f32⟩
  | .hbm, ⟨70, _⟩ => ⟨S8192x2048, .f32⟩
  | .hbm, ⟨71, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== InProj.lean ====
abbrev S8192x2048 : Shape := ⟨2, ![8192, 2048]⟩
abbrev S2048 : Shape := ⟨1, ![2048]⟩
abbrev S2048x4104 : Shape := ⟨2, ![2048, 4104]⟩
abbrev S8 : Shape := ⟨1, ![8]⟩
abbrev S2048x4096 : Shape := ⟨2, ![2048, 4096]⟩
abbrev S2048x8 : Shape := ⟨2, ![2048, 8]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x2048 : Shape := ⟨2, ![1, 2048]⟩
abbrev S8192x1024 : Shape := ⟨2, ![8192, 1024]⟩
abbrev S8192x3072 : Shape := ⟨2, ![8192, 3072]⟩
abbrev S8192x128 : Shape := ⟨2, ![8192, 128]⟩
abbrev S512x2048 : Shape := ⟨2, ![512, 2048]⟩
abbrev S2048x1024 : Shape := ⟨2, ![2048, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S8192x8 : Shape := ⟨2, ![8192, 8]⟩

abbrev nBuf : Space → Nat
  | .hbm => 20
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4104, .f32⟩
  | .hbm, ⟨3, _⟩ => ⟨S8, .f32⟩
  | .hbm, ⟨4, _⟩ => ⟨S2048x4096, .f32⟩
  | .hbm, ⟨5, _⟩ => ⟨S2048x4096, .bf16⟩
  | .hbm, ⟨6, _⟩ => ⟨S2048x8, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1x2048, .f32⟩
  | .hbm, ⟨16, _⟩ => ⟨S8192x1024, .f32⟩
  | .hbm, ⟨17, _⟩ => ⟨S8192x3072, .bf16⟩
  | .hbm, ⟨18, _⟩ => ⟨S8192x128, .f32⟩
  | .hbm, ⟨19, _⟩ => ⟨S8192x8, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x128, .f32⟩
  | .local _ .vmem, ⟨12, _⟩ => ⟨S512x128, .f32⟩
  | .local _ .vmem, ⟨13, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InProjRefIdeal.lean ====
abbrev S8192x2048 : Shape := ⟨2, ![8192, 2048]⟩
abbrev S2048 : Shape := ⟨1, ![2048]⟩
abbrev S2048x4104 : Shape := ⟨2, ![2048, 4104]⟩
abbrev S8 : Shape := ⟨1, ![8]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4104 : Shape := ⟨2, ![8192, 4104]⟩
abbrev S8192x1024 : Shape := ⟨2, ![8192, 1024]⟩
abbrev S8192x3072 : Shape := ⟨2, ![8192, 3072]⟩
abbrev S8192x8 : Shape := ⟨2, ![8192, 8]⟩
abbrev S1x8 : Shape := ⟨2, ![1, 8]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4104, .f32⟩
  | .hbm, ⟨3, _⟩ => ⟨S8, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x4104, .f32⟩
  | .hbm, ⟨21, _⟩ => ⟨S8192x1024, .f32⟩
  | .hbm, ⟨22, _⟩ => ⟨S8192x3072, .f32⟩
  | .hbm, ⟨23, _⟩ => ⟨S8192x3072, .bf16⟩
  | .hbm, ⟨24, _⟩ => ⟨S8192x8, .f32⟩
  | .hbm, ⟨25, _⟩ => ⟨S1x8, .f32⟩
  | .hbm, ⟨26, _⟩ => ⟨S8192x8, .f32⟩
  | .hbm, ⟨27, _⟩ => ⟨S8192x8, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MixOut.lean ====
abbrev S8192x1024 : Shape := ⟨2, ![8192, 1024]⟩
abbrev S8192x2048 : Shape := ⟨2, ![8192, 2048]⟩
abbrev S4x256x256 : Shape := ⟨3, ![4, 256, 256]⟩
abbrev S1024 : Shape := ⟨1, ![1024]⟩
abbrev S2048x2048 : Shape := ⟨2, ![2048, 2048]⟩
abbrev S1x1024 : Shape := ⟨2, ![1, 1024]⟩
abbrev S256x1024 : Shape := ⟨2, ![256, 1024]⟩
abbrev S16x1024 : Shape := ⟨2, ![16, 1024]⟩
abbrev S256x2048 : Shape := ⟨2, ![256, 2048]⟩
abbrev S272x1024 : Shape := ⟨2, ![272, 1024]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x2048, .f32⟩
  | .hbm, ⟨3, _⟩ => ⟨S4x256x256, .f32⟩
  | .hbm, ⟨4, _⟩ => ⟨S1024, .f32⟩
  | .hbm, ⟨5, _⟩ => ⟨S2048x2048, .f32⟩
  | .hbm, ⟨6, _⟩ => ⟨S4x256x256, .bf16⟩
  | .hbm, ⟨7, _⟩ => ⟨S1x1024, .f32⟩
  | .hbm, ⟨8, _⟩ => ⟨S2048x2048, .bf16⟩
  | .hbm, ⟨9, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S4x256x256, .bf16⟩
  | .local _ .vmem, ⟨9, _⟩ => ⟨S1x1024, .f32⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | .local _ .vmem, ⟨13, _⟩ => ⟨S272x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixOutRefIdeal.lean ====
abbrev S8192x1024 : Shape := ⟨2, ![8192, 1024]⟩
abbrev S8192x2048 : Shape := ⟨2, ![8192, 2048]⟩
abbrev S4x256x256 : Shape := ⟨3, ![4, 256, 256]⟩
abbrev S1024 : Shape := ⟨1, ![1024]⟩
abbrev S2048x2048 : Shape := ⟨2, ![2048, 2048]⟩
abbrev S2x4096x4x256 : Shape := ⟨4, ![2, 4096, 4, 256]⟩
abbrev S2x4096x1x256 : Shape := ⟨4, ![2, 4096, 1, 256]⟩
abbrev S2x4096x256 : Shape := ⟨3, ![2, 4096, 256]⟩
abbrev S_ : Shape := ⟨0, ![]⟩
abbrev S2x4097x256 : Shape := ⟨3, ![2, 4097, 256]⟩
abbrev S2x4098x256 : Shape := ⟨3, ![2, 4098, 256]⟩
abbrev S4096 : Shape := ⟨1, ![4096]⟩
abbrev S1x4096x1 : Shape := ⟨3, ![1, 4096, 1]⟩
abbrev S2x4100x256 : Shape := ⟨3, ![2, 4100, 256]⟩
abbrev S2x4104x256 : Shape := ⟨3, ![2, 4104, 256]⟩
abbrev S2x4112x256 : Shape := ⟨3, ![2, 4112, 256]⟩
abbrev S4x256x2x4096 : Shape := ⟨4, ![4, 256, 2, 4096]⟩
abbrev S2x4096x1024 : Shape := ⟨3, ![2, 4096, 1024]⟩
abbrev S1x1x1024 : Shape := ⟨3, ![1, 1, 1024]⟩
abbrev S2x4096x2048 : Shape := ⟨3, ![2, 4096, 2048]⟩

abbrev nBuf : Space → Nat
  | .hbm => 137
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x2048, .f32⟩
  | 3 => ⟨S4x256x256, .f32⟩
  | 4 => ⟨S1024, .f32⟩
  | 5 => ⟨S2048x2048, .f32⟩
  | 6 => ⟨S2x4096x4x256, .f32⟩
  | 7 => ⟨S2x4096x1x256, .f32⟩
  | 8 => ⟨S2x4096x256, .f32⟩
  | 9 => ⟨S_, .f32⟩
  | 10 => ⟨S_, .f32⟩
  | 11 => ⟨S2x4096x256, .f32⟩
  | 12 => ⟨S_, .i32⟩
  | 13 => ⟨S_, .f32⟩
  | 14 => ⟨S2x4097x256, .f32⟩
  | 15 => ⟨S2x4096x256, .f32⟩
  | 16 => ⟨S_, .i32⟩
  | 17 => ⟨S_, .f32⟩
  | 18 => ⟨S2x4098x256, .f32⟩
  | 19 => ⟨S2x4096x256, .f32⟩
  | 20 => ⟨S4096, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .f32⟩
  | 28 => ⟨S1x4096x1, .f32⟩
  | 29 => ⟨S2x4096x256, .f32⟩
  | 30 => ⟨S2x4096x256, .f32⟩
  | 31 => ⟨S2x4096x256, .f32⟩
  | 32 => ⟨S2x4096x1x256, .f32⟩
  | 33 => ⟨S2x4096x256, .f32⟩
  | 34 => ⟨S2x4096x256, .f32⟩
  | 35 => ⟨S2x4096x1x256, .f32⟩
  | 36 => ⟨S2x4096x256, .f32⟩
  | 37 => ⟨S_, .f32⟩
  | 38 => ⟨S_, .f32⟩
  | 39 => ⟨S2x4096x256, .f32⟩
  | 40 => ⟨S_, .i32⟩
  | 41 => ⟨S_, .f32⟩
  | 42 => ⟨S2x4097x256, .f32⟩
  | 43 => ⟨S2x4096x256, .f32⟩
  | 44 => ⟨S_, .i32⟩
  | 45 => ⟨S_, .f32⟩
  | 46 => ⟨S2x4100x256, .f32⟩
  | 47 => ⟨S2x4096x256, .f32⟩
  | 48 => ⟨S4096, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .f32⟩
  | 56 => ⟨S1x4096x1, .f32⟩
  | 57 => ⟨S2x4096x256, .f32⟩
  | 58 => ⟨S2x4096x256, .f32⟩
  | 59 => ⟨S2x4096x256, .f32⟩
  | 60 => ⟨S2x4096x1x256, .f32⟩
  | 61 => ⟨S2x4096x256, .f32⟩
  | 62 => ⟨S2x4096x256, .f32⟩
  | 63 => ⟨S2x4096x1x256, .f32⟩
  | 64 => ⟨S2x4096x256, .f32⟩
  | 65 => ⟨S_, .f32⟩
  | 66 => ⟨S_, .f32⟩
  | 67 => ⟨S2x4096x256, .f32⟩
  | 68 => ⟨S_, .i32⟩
  | 69 => ⟨S_, .f32⟩
  | 70 => ⟨S2x4097x256, .f32⟩
  | 71 => ⟨S2x4096x256, .f32⟩
  | 72 => ⟨S_, .i32⟩
  | 73 => ⟨S_, .f32⟩
  | 74 => ⟨S2x4104x256, .f32⟩
  | 75 => ⟨S2x4096x256, .f32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i32⟩
  | 83 => ⟨S4096, .f32⟩
  | 84 => ⟨S1x4096x1, .f32⟩
  | 85 => ⟨S2x4096x256, .f32⟩
  | 86 => ⟨S2x4096x256, .f32⟩
  | 87 => ⟨S2x4096x256, .f32⟩
  | 88 => ⟨S2x4096x1x256, .f32⟩
  | 89 => ⟨S2x4096x256, .f32⟩
  | 90 => ⟨S2x4096x256, .f32⟩
  | 91 => ⟨S2x4096x1x256, .f32⟩
  | 92 => ⟨S2x4096x256, .f32⟩
  | 93 => ⟨S_, .f32⟩
  | 94 => ⟨S_, .f32⟩
  | 95 => ⟨S2x4096x256, .f32⟩
  | 96 => ⟨S_, .i32⟩
  | 97 => ⟨S_, .f32⟩
  | 98 => ⟨S2x4097x256, .f32⟩
  | 99 => ⟨S2x4096x256, .f32⟩
  | 100 => ⟨S_, .i32⟩
  | 101 => ⟨S_, .f32⟩
  | 102 => ⟨S2x4112x256, .f32⟩
  | 103 => ⟨S2x4096x256, .f32⟩
  | 104 => ⟨S4096, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S4096, .f32⟩
  | 112 => ⟨S1x4096x1, .f32⟩
  | 113 => ⟨S2x4096x256, .f32⟩
  | 114 => ⟨S2x4096x256, .f32⟩
  | 115 => ⟨S2x4096x256, .f32⟩
  | 116 => ⟨S2x4096x1x256, .f32⟩
  | 117 => ⟨S2x4096x256, .f32⟩
  | 118 => ⟨S2x4096x256, .f32⟩
  | 119 => ⟨S2x4096x1x256, .f32⟩
  | 120 => ⟨S2x4096x1x256, .f32⟩
  | 121 => ⟨S2x4096x1x256, .f32⟩
  | 122 => ⟨S2x4096x1x256, .f32⟩
  | 123 => ⟨S2x4096x4x256, .f32⟩
  | 124 => ⟨S4x256x2x4096, .f32⟩
  | 125 => ⟨S2x4096x4x256, .f32⟩
  | 126 => ⟨S2x4096x1024, .f32⟩
  | 127 => ⟨S1x1x1024, .f32⟩
  | _ => ⟨S8192x1024, .f32⟩

abbrev hbmTy0_1 (i : Nat) : BufTy := match i % 128 with
  | 0 => ⟨S2x4096x1024, .f32⟩
  | 1 => ⟨S2x4096x1024, .f32⟩
  | 2 => ⟨S2x4096x2048, .f32⟩
  | 3 => ⟨S8192x1024, .f32⟩
  | 4 => ⟨S2x4096x1024, .f32⟩
  | 5 => ⟨S2x4096x2048, .f32⟩
  | 6 => ⟨S2x4096x2048, .f32⟩
  | 7 => ⟨S2x4096x2048, .f32⟩
  | 8 => ⟨S8192x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_cst : Ref sig .tc := ⟨.hbm, 9, rfl⟩
abbrev main_call0_call0_v0 : Ref sig .tc := ⟨.hbm, 10, rfl⟩
abbrev main_v3 : Ref sig .tc := ⟨.hbm, 11, rfl⟩
abbrev main_c : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call3_call0_cst : Ref sig .tc := ⟨.hbm, 37, rfl⟩
abbrev main_call3_call0_v0 : Ref sig .tc := ⟨.hbm, 38, rfl⟩
abbrev main_v23 : Ref sig .tc := ⟨.hbm, 39, rfl⟩
abbrev main_c_3 : Ref sig .tc := ⟨.hbm, 40, rfl⟩
abbrev main_call4_v0 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_call5_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call6_call0_cst : Ref sig .tc := ⟨.hbm, 65, rfl⟩
abbrev main_call6_call0_v0 : Ref sig .tc := ⟨.hbm, 66, rfl⟩
abbrev main_v43 : Ref sig .tc := ⟨.hbm, 67, rfl⟩
abbrev main_c_7 : Ref sig .tc := ⟨.hbm, 68, rfl⟩
abbrev main_call7_v0 : Ref sig .tc := ⟨.hbm, 69, rfl⟩
abbrev main_v44 : Ref sig .tc := ⟨.hbm, 70, rfl⟩
abbrev main_v45 : Ref sig .tc := ⟨.hbm, 71, rfl⟩
abbrev main_c_8 : Ref sig .tc := ⟨.hbm, 72, rfl⟩
abbrev main_call8_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call9_call0_cst : Ref sig .tc := ⟨.hbm, 93, rfl⟩
abbrev main_call9_call0_v0 : Ref sig .tc := ⟨.hbm, 94, rfl⟩
abbrev main_v63 : Ref sig .tc := ⟨.hbm, 95, rfl⟩
abbrev main_c_11 : Ref sig .tc := ⟨.hbm, 96, rfl⟩
abbrev main_call10_v0 : Ref sig .tc := ⟨.hbm, 97, rfl⟩
abbrev main_v64 : Ref sig .tc := ⟨.hbm, 98, rfl⟩
abbrev main_v65 : Ref sig .tc := ⟨.hbm, 99, rfl⟩
abbrev main_c_12 : Ref sig .tc := ⟨.hbm, 100, rfl⟩
abbrev main_call11_v0 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_c_14 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]
-- ==== PeerOut.lean ====
abbrev S8192x2048 : Shape := ⟨2, ![8192, 2048]⟩
abbrev S8192x128 : Shape := ⟨2, ![8192, 128]⟩
abbrev S16384x2048 : Shape := ⟨2, ![16384, 2048]⟩
abbrev S2048 : Shape := ⟨1, ![2048]⟩
abbrev S1x2048 : Shape := ⟨2, ![1, 2048]⟩
abbrev S256x2048 : Shape := ⟨2, ![256, 2048]⟩
abbrev S256x128 : Shape := ⟨2, ![256, 128]⟩
abbrev S1024x2048 : Shape := ⟨2, ![1024, 2048]⟩
abbrev S33792x128 : Shape := ⟨2, ![33792, 128]⟩
abbrev S128x128 : Shape := ⟨2, ![128, 128]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S8192x128, .f32⟩
  | .hbm, ⟨3, _⟩ => ⟨S8192x128, .i32⟩
  | .hbm, ⟨4, _⟩ => ⟨S8192x128, .i32⟩
  | .hbm, ⟨5, _⟩ => ⟨S16384x2048, .f32⟩
  | .hbm, ⟨6, _⟩ => ⟨S2048, .f32⟩
  | .hbm, ⟨7, _⟩ => ⟨S16384x2048, .bf16⟩
  | .hbm, ⟨8, _⟩ => ⟨S1x2048, .f32⟩
  | .hbm, ⟨9, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .i32⟩
  | .local _ .vmem, ⟨7, _⟩ => ⟨S256x128, .i32⟩
  | .local _ .vmem, ⟨8, _⟩ => ⟨S256x128, .i32⟩
  | .local _ .vmem, ⟨9, _⟩ => ⟨S256x128, .i32⟩
  | .local _ .vmem, ⟨10, _⟩ => ⟨S1024x2048, .bf16⟩
  | .local _ .vmem, ⟨11, _⟩ => ⟨S1024x2048, .bf16⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S256x128, .f32⟩
  | .local _ .vmem, ⟨16, _⟩ => ⟨S33792x128, .f32⟩
  | .local _ .vmem, ⟨17, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_42 : BitVec 32 := 0#32
  let c256_i32 : BitVec 32 := 256#32
  let v90 : BitVec 32 := Scalar.addi c0_i32_42 c256_i32
  let c1_i32_43 : BitVec 32 := 1#32
  ⟨c0_i32_42, v90, c1_i32_43⟩
def k0_off1 (k0_t1 : Fin k0_t1_loop.trips) : Fin 2 → Nat :=
  let c0_i32_42 : BitVec 32 := 0#32
  let c1_i32_43 : BitVec 32 := 1#32
  let arg13 : BitVec 32 := Scf.iv c0_i32_42 c1_i32_43 k0_t1
  let v91 : Index := Scalar.indexCast arg13
  let c0_45 : Index := 0#32
  ![v91.toNat, 0]
def k0_off2 (k0_t1 : Fin k0_t1_loop.trips) : Fin 2 → Nat :=
  let c0_i32_42 : BitVec 32 := 0#32
  let c1_i32_43 : BitVec 32 := 1#32
  let arg13 : BitVec 32 := Scf.iv c0_i32_42 c1_i32_43 k0_t1
  let v113 : Index := Scalar.indexCast arg13
  let c0_52 : Index := 0#32
  ![v113.toNat, 0]
def k0_mult1 (i : grid0.Coords) : BitVec 32 :=
  let arg1 : BitVec 32 := BitVec.ofNat 32 (i 1).val
  let c8_i32 : BitVec 32 := 8#32
  let v3 : BitVec 32 := Scalar.muli arg1 c8_i32
  let c0_i32_1 : BitVec 32 := 0#32
  let v4 : BitVec 32 := Scalar.addi v3 c0_i32_1
  let c264_i32 : BitVec 32 := 264#32
  let v5 : BitVec 32 := Scalar.muli v4 c264_i32
  v5
def k0_off3 (i : grid0.Coords) (c0_i32_1 : BitVec 32) : Fin 2 → Nat :=
  let arg1 : BitVec 32 := BitVec.ofNat 32 (i 1).val
  let c8_i32 : BitVec 32 := 8#32
  let v3 : BitVec 32 := Scalar.muli arg1 c8_i32
  let v4 : BitVec 32 := Scalar.addi v3 c0_i32_1
  let c264_i32 : BitVec 32 := 264#32
  let v5 : BitVec 32 := Scalar.muli v4 c264_i32
  let v6 : BitVec 32 := v5
  let v7 : Index := Scalar.indexCast v6
  let c0 : Index := 0#32
  ![v7.toNat, 0]
def k0_mult2 (i : grid0.Coords) : BitVec 32 :=
  let arg1 : BitVec 32 := BitVec.ofNat 32 (i 1).val
  let c8_i32_2 : BitVec 32 := 8#32
  let v10 : BitVec 32 := Scalar.muli arg1 c8_i32_2
  let c1_i32 : BitVec 32 := 1#32
  let v11 : BitVec 32 := Scalar.addi v10 c1_i32
  let c264_i32_3 : BitVec 32 := 264#32
  let v12 : BitVec 32 := Scalar.muli v11 c264_i32_3
  v12
def k0_mult3 (i : grid0.Coords) : BitVec 32 :=
  let arg1 : BitVec 32 := BitVec.ofNat 32 (i 1).val
  let c8_i32_5 : BitVec 32 := 8#32
  let v17 : BitVec 32 := Scalar.muli arg1 c8_i32_5
  let c2_i32 : BitVec 32 := 2#32
  let v18 : BitVec 32 := Scalar.addi v17 c2_i32
  let c264_i32_6 : BitVec 32 := 264#32
  let v19 : BitVec 32 := Scalar.muli v18 c264_i32_6
  v19
def k0_mult4 (i : grid0.Coords) : BitVec 32 :=
  let arg1 : BitVec 32 := BitVec.ofNat 32 (i 1).val
  let c8_i32_8 : BitVec 32 := 8#32
  let v24 : BitVec 32 := Scalar.muli arg1 c8_i32_8
  let c3_i32 : BitVec 32 := 3#32
  let v25 : BitVec 32 := Scalar.addi v24 c3_i32
  let c264_i32_9 : BitVec 32 := 264#32
  let v26 : BitVec 32 := Scalar.muli v25 c264_i32_9
  v26
def k0_mult5 (i : grid0.Coords) : BitVec 32 :=
  let arg1 : BitVec 32 := BitVec.ofNat 32 (i 1).val
  let c8_i32_11 : BitVec 32 := 8#32
  let v31 : BitVec 32 := Scalar.muli arg1 c8_i32_11
  let c4_i32 : BitVec 32 := 4#32
  let v32 : BitVec 32 := Scalar.addi v31 c4_i32
  let c264_i32_12 : BitVec 32 := 264#32
  let v33 : BitVec 32 := Scalar.muli v32 c264_i32_12
  v33
def k0_mult6 (i : grid0.Coords) : BitVec 32 :=
  let arg1 : BitVec 32 := BitVec.ofNat 32 (i 1).val
  let c8_i32_14 : BitVec 32 := 8#32
  let v38 : BitVec 32 := Scalar.muli arg1 c8_i32_14
  let c5_i32 : BitVec 32 := 5#32
  let v39 : BitVec 32 := Scalar.addi v38 c5_i32
  let c264_i32_15 : BitVec 32 := 264#32
  let v40 : BitVec 32 := Scalar.muli v39 c264_i32_15
  v40
def k0_mult7 (i : grid0.Coords) : BitVec 32 :=
  let arg1 : BitVec 32 := BitVec.ofNat 32 (i 1).val
  let c8_i32_17 : BitVec 32 := 8#32
  let v45 : BitVec 32 := Scalar.muli arg1 c8_i32_17
  let c6_i32 : BitVec 32 := 6#32
  let v46 : BitVec 32 := Scalar.addi v45 c6_i32
  let c264_i32_18 : BitVec 32 := 264#32
  let v47 : BitVec 32 := Scalar.muli v46 c264_i32_18
  v47
def k0_mult8 (i : grid0.Coords) : BitVec 32 :=
  let arg1 : BitVec 32 := BitVec.ofNat 32 (i 1).val
  let c8_i32_20 : BitVec 32 := 8#32
  let v52 : BitVec 32 := Scalar.muli arg1 c8_i32_20
  let c7_i32 : BitVec 32 := 7#32
  let v53 : BitVec 32 := Scalar.addi v52 c7_i32
  let c264_i32_21 : BitVec 32 := 264#32
  let v54 : BitVec 32 := Scalar.muli v53 c264_i32_21
  v54
def k0_cond2 (i : grid0.Coords) : BitVec 1 :=
  let arg1 : BitVec 32 := BitVec.ofNat 32 (i 1).val
  let c15_i32 : BitVec 32 := 15#32
  let v68 : BitVec 1 := Scalar.cmpi .eq arg1 c15_i32
  let v69 : BitVec 32 := Scalar.extui v68
  let c0_i32_29 : BitVec 32 := 0#32
  let v70 : BitVec 1 := Scalar.cmpi .ne v69 c0_i32_29
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== PeerOutRefIdeal.lean ====
abbrev S8192x2048 : Shape := ⟨2, ![8192, 2048]⟩
abbrev S8192x128 : Shape := ⟨2, ![8192, 128]⟩
abbrev S16384x2048 : Shape := ⟨2, ![16384, 2048]⟩
abbrev S2048 : Shape := ⟨1, ![2048]⟩
abbrev S_ : Shape := ⟨0, ![]⟩
abbrev S8192x128x1 : Shape := ⟨3, ![8192, 128, 1]⟩
abbrev S1 : Shape := ⟨1, ![1]⟩
abbrev S1x1x1 : Shape := ⟨3, ![1, 1, 1]⟩
abbrev S8192x128x2048 : Shape := ⟨3, ![8192, 128, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S8192x128, .f32⟩
  | .hbm, ⟨3, _⟩ => ⟨S8192x128, .i32⟩
  | .hbm, ⟨4, _⟩ => ⟨S8192x128, .i32⟩
  | .hbm, ⟨5, _⟩ => ⟨S16384x2048, .f32⟩
  | .hbm, ⟨6, _⟩ => ⟨S2048, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S_, .i32⟩
  | .hbm, ⟨17, _⟩ => ⟨S8192x128, .i32⟩
  | .hbm, ⟨18, _⟩ => ⟨S8192x128, .i32⟩
  | .hbm, ⟨19, _⟩ => ⟨S8192x128, .i32⟩
  | .hbm, ⟨20, _⟩ => ⟨S_, .i32⟩
  | .hbm, ⟨21, _⟩ => ⟨S8192x128, .i32⟩
  | .hbm, ⟨22, _⟩ => ⟨S8192x128, .i1⟩
  | .hbm, ⟨23, _⟩ => ⟨S_, .i32⟩
  | .hbm, ⟨24, _⟩ => ⟨S8192x128, .i32⟩
  | .hbm, ⟨25, _⟩ => ⟨S8192x128, .i32⟩
  | .hbm, ⟨26, _⟩ => ⟨S8192x128, .i32⟩
  | .hbm, ⟨27, _⟩ => ⟨S8192x128x1, .i32⟩
  | .hbm, ⟨28, _⟩ => ⟨S1, .i32⟩
  | .hbm, ⟨29, _⟩ => ⟨S_, .i32⟩
  | .hbm, ⟨30, _⟩ => ⟨S8192x128x1, .i32⟩
  | .hbm, ⟨31, _⟩ => ⟨S8192x128x1, .i1⟩
  | .hbm, ⟨32, _⟩ => ⟨S1x1x1, .i32⟩
  | .hbm, ⟨33, _⟩ => ⟨S8192x128x1, .i32⟩
  | .hbm, ⟨34, _⟩ => ⟨S8192x128x1, .i1⟩
  | .hbm, ⟨35, _⟩ => ⟨S8192x128x1, .i1⟩
  | .hbm, ⟨36, _⟩ => ⟨S_, .i1⟩
  | .hbm, ⟨37, _⟩ => ⟨S8192x128, .i1⟩
  | .hbm, ⟨38, _⟩ => ⟨S8192x128x2048, .f32⟩
  | .hbm, ⟨39, _⟩ => ⟨S8192x128x2048, .i1⟩
  | .hbm, ⟨40, _⟩ => ⟨S_, .f32⟩
  | .hbm, ⟨41, _⟩ => ⟨S8192x128x2048, .f32⟩
  | .hbm, ⟨42, _⟩ => ⟨S8192x128x2048, .f32⟩
  | .hbm, ⟨43, _⟩ => ⟨S8192x128, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S1x2048, .f32⟩
  | .hbm, ⟨60, _⟩ => ⟨S8192x2048, .f32⟩
  | .hbm, ⟨61, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_1 : Ref sig .tc := ⟨.hbm, 47, rfl⟩
abbrev main_v15 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_v18 : Ref sig .tc := ⟨.hbm, 52, rfl⟩
abbrev main_cst_3 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩

abbrev nD : Nat := 1
abbrev τ : Topo := Topo.v7x

variable {F : FTy → Type} [FloatOps F]
-- ==== PeerAct.lean ====
abbrev S8192x2048 : Shape := ⟨2, ![8192, 2048]⟩
abbrev S16384x2048 : Shape := ⟨2, ![16384, 2048]⟩
abbrev S8192x128 : Shape := ⟨2, ![8192, 128]⟩
abbrev S1024x2048 : Shape := ⟨2, ![1024, 2048]⟩
abbrev S512x2048 : Shape := ⟨2, ![512, 2048]⟩
abbrev S1024x128 : Shape := ⟨2, ![1024, 128]⟩
abbrev S1024x512 : Shape := ⟨2, ![1024, 512]⟩
abbrev S1024x128x1 : Shape := ⟨3, ![1024, 128, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S16384x2048, .f32⟩
  | .hbm, ⟨2, _⟩ => ⟨S8192x128, .i32⟩
  | .hbm, ⟨3, _⟩ => ⟨S8192x128, .i32⟩
  | .hbm, ⟨4, _⟩ => ⟨S16384x2048, .bf16⟩
  | .hbm, ⟨5, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x128, .i32⟩
  | .local _ .vmem, ⟨5, _⟩ => ⟨S1024x128, .i32⟩
  | .local _ .vmem, ⟨6, _⟩ => ⟨S1024x128, .i32⟩
  | .local _ .vmem, ⟨7, _⟩ => ⟨S1024x128, .i32⟩
  | .local _ .vmem, ⟨8, _⟩ => ⟨S1024x128, .f32⟩
  | .local _ .vmem, ⟨9, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PeerActRefIdeal.lean ====
abbrev S8192x2048 : Shape := ⟨2, ![8192, 2048]⟩
abbrev S16384x2048 : Shape := ⟨2, ![16384, 2048]⟩
abbrev S8192x128 : Shape := ⟨2, ![8192, 128]⟩
abbrev S_ : Shape := ⟨0, ![]⟩
abbrev S8192x128x1 : Shape := ⟨3, ![8192, 128, 1]⟩
abbrev S1 : Shape := ⟨1, ![1]⟩
abbrev S1x1x1 : Shape := ⟨3, ![1, 1, 1]⟩
abbrev S8192x128x2048 : Shape := ⟨3, ![8192, 128, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S16384x2048, .f32⟩
  | .hbm, ⟨2, _⟩ => ⟨S8192x128, .i32⟩
  | .hbm, ⟨3, _⟩ => ⟨S8192x128, .i32⟩
  | .hbm, ⟨4, _⟩ => ⟨S_, .i32⟩
  | .hbm, ⟨5, _⟩ => ⟨S8192x128, .i32⟩
  | .hbm, ⟨6, _⟩ => ⟨S8192x128, .i32⟩
  | .hbm, ⟨7, _⟩ => ⟨S8192x128, .i32⟩
  | .hbm, ⟨8, _⟩ => ⟨S_, .i32⟩
  | .hbm, ⟨9, _⟩ => ⟨S8192x128, .i32⟩
  | .hbm, ⟨10, _⟩ => ⟨S8192x128, .i1⟩
  | .hbm, ⟨11, _⟩ => ⟨S_, .i32⟩
  | .hbm, ⟨12, _⟩ => ⟨S8192x128, .i32⟩
  | .hbm, ⟨13, _⟩ => ⟨S8192x128, .i32⟩
  | .hbm, ⟨14, _⟩ => ⟨S8192x128, .i32⟩
  | .hbm, ⟨15, _⟩ => ⟨S8192x128x1, .i32⟩
  | .hbm, ⟨16, _⟩ => ⟨S1, .i32⟩
  | .hbm, ⟨17, _⟩ => ⟨S_, .i32⟩
  | .hbm, ⟨18, _⟩ => ⟨S8192x128x1, .i32⟩
  | .hbm, ⟨19, _⟩ => ⟨S8192x128x1, .i1⟩
  | .hbm, ⟨20, _⟩ => ⟨S1x1x1, .i32⟩
  | .hbm, ⟨21, _⟩ => ⟨S8192x128x1, .i32⟩
  | .hbm, ⟨22, _⟩ => ⟨S8192x128x1, .i1⟩
  | .hbm, ⟨23, _⟩ => ⟨S8192x128x1, .i1⟩
  | .hbm, ⟨24, _⟩ => ⟨S_, .i1⟩
  | .hbm, ⟨25, _⟩ => ⟨S8192x128, .i1⟩
  | .hbm, ⟨26, _⟩ => ⟨S8192x128x2048, .f32⟩
  | .hbm, ⟨27, _⟩ => ⟨S8192x128x2048, .i1⟩
  | .hbm, ⟨28, _⟩ => ⟨S_, .f32⟩
  | .hbm, ⟨29, _⟩ => ⟨S8192x128x2048, .f32⟩
  | .hbm, ⟨30, _⟩ => ⟨S8192x128x2048, .f32⟩
  | .hbm, ⟨31, _⟩ => ⟨S8192x2048, .f32⟩
  | .hbm, ⟨32, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩

abbrev nD : Nat := 1
abbrev τ : Topo := Topo.v7x

variable {F : FTy → Type} [FloatOps F]
-- ==== Decay.lean ====
abbrev S8192x128 : Shape := ⟨2, ![8192, 128]⟩
abbrev S2x128x4096 : Shape := ⟨3, ![2, 128, 4096]⟩
abbrev S256x128 : Shape := ⟨2, ![256, 128]⟩
abbrev S1x128x256 : Shape := ⟨3, ![1, 128, 256]⟩
abbrev S1x128 : Shape := ⟨2, ![1, 128]⟩
abbrev S256x256 : Shape := ⟨2, ![256, 256]⟩
abbrev S128x256 : Shape := ⟨2, ![128, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S2x128x4096, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128x256, .f32⟩
  | .local _ .vmem, ⟨5, _⟩ => ⟨S1x128x256, .f32⟩
  | .local _ .vmem, ⟨6, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DecayRefIdeal.lean ====
abbrev S8192x128 : Shape := ⟨2, ![8192, 128]⟩
abbrev S2x4096x128 : Shape := ⟨3, ![2, 4096, 128]⟩
abbrev S_ : Shape := ⟨0, ![]⟩
abbrev S2x128x4096 : Shape := ⟨3, ![2, 128, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x4096x128, .f32⟩
  | .hbm, ⟨2, _⟩ => ⟨S2x4096x128, .f32⟩
  | .hbm, ⟨3, _⟩ => ⟨S_, .f32⟩
  | .hbm, ⟨4, _⟩ => ⟨S2x4096x128, .f32⟩
  | .hbm, ⟨5, _⟩ => ⟨S2x4096x128, .f32⟩
  | .hbm, ⟨6, _⟩ => ⟨S2x4096x128, .f32⟩
  | .hbm, ⟨7, _⟩ => ⟨S2x4096x128, .f32⟩
  | .hbm, ⟨8, _⟩ => ⟨S2x4096x128, .i1⟩
  | .hbm, ⟨9, _⟩ => ⟨S2x4096x128, .f32⟩
  | .hbm, ⟨10, _⟩ => ⟨S2x4096x128, .f32⟩
  | .hbm, ⟨11, _⟩ => ⟨S2x4096x128, .f32⟩
  | .hbm, ⟨12, _⟩ => ⟨S2x4096x128, .f32⟩
  | .hbm, ⟨13, _⟩ => ⟨S2x4096x128, .f32⟩
  | .hbm, ⟨14, _⟩ => ⟨S2x4096x128, .f32⟩
  | .hbm, ⟨15, _⟩ => ⟨S2x4096x128, .f32⟩
  | .hbm, ⟨16, _⟩ => ⟨S2x4096x128, .f32⟩
  | .hbm, ⟨17, _⟩ => ⟨S2x4096x128, .f32⟩
  | .hbm, ⟨18, _⟩ => ⟨S_, .f32⟩
  | .hbm, ⟨19, _⟩ => ⟨S_, .f32⟩
  | .hbm, ⟨20, _⟩ => ⟨S2x4096x128, .f32⟩
  | .hbm, ⟨21, _⟩ => ⟨S8192x128, .f32⟩
  | .hbm, ⟨22, _⟩ => ⟨S2x128x4096, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_v8 : Ref sig .tc := ⟨.hbm, 12, rfl⟩
abbrev main_call0_call0_v9 : Ref sig .tc := ⟨.hbm, 13, rfl⟩
abbrev main_call0_call0_v10 : Ref sig .tc := ⟨.hbm, 14, rfl⟩
abbrev main_call0_call0_v11 : Ref sig .tc := ⟨.hbm, 15, rfl⟩
abbrev main_call0_v1 : Ref sig .tc := ⟨.hbm, 16, rfl⟩
abbrev main_v1 : Ref sig .tc := ⟨.hbm, 17, rfl⟩
abbrev main_call1_call0_cst : Ref sig .tc := ⟨.hbm, 18, rfl⟩
abbrev main_call1_call0_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== Proof.Finite.lean ====
/- A value whose magnitude is below infinity is a real. -/
module

public import Idealize.ShloMosaic.PureOps.Ideal
public import Idealize.ShloMosaic.PureOps.Ideal.Laws
public import Idealize.ShloMosaic.Lib.ReduceAll

@[expose] public section

noncomputable section

namespace Cert.Finite

open Idealize.ShloMosaic

theorem inf_eq : Ideal.ofBits .f32 0x7F800000#32 = ⊤ := by simp [Ideal.ofBits, Ideal.ieee]

/-- The comparison `|x| < ∞` holds only of a real. -/
theorem of_cmp (x : EReal) (h : Ideal.cmp .olt (max x (-x)) (Ideal.ofBits .f32 0x7F800000#32) = 1#1) : x = (x.toReal : EReal) := by
  rw [inf_eq] at h
  have hlt : max x (-x) < ⊤ := by
    by_contra hn
    simp [Ideal.cmp, hn] at h
  refine (EReal.coe_toReal ?_ ?_).symm
  · rintro rfl; simp at hlt
  · rintro rfl; simp at hlt

end Cert.Finite

end
-- ==== Proof.Fox.Cases.lean ====
/- What one grid point of the attention kernel leaves in its scratch and in its output block, as the payloads of the body:
   the generated run's pieces of each case read back as values (case A: reset and step; B: idle; C: write out; D: step;
   E: step and write out). -/
module

public import proofs.«01_k».proof.Proof.Gen.FoxIdeal.Frame
public import Idealize.ShloMosaic.Lib.Pipeline.Value
public import Idealize.ShloMosaic.Lib.Tactic

@[expose] public section

noncomputable section

namespace Cert.FoxIdeal.Value

open Cert.FoxIdeal Cert.FoxIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz4 : (![0, 0, 0, 0] : Fin 4 → Nat) = fun _ => 0 := funext fun a => by fin_cases a <;> rfl

section Pieces

variable (c : Dev nD) (i : grid0.Coords)
  (arg4 : Memref sig .tc .vmem S512x128 .bf16) (harg4 : arg4.IsWhole) (arg5 : Memref sig .tc .vmem S512x128 .bf16) (harg5 : arg5.IsWhole)
  (arg6 : Memref sig .tc .vmem S512x128 .bf16) (harg6 : arg6.IsWhole) (arg7 : Memref sig .tc .vmem S512x128 .f32) (harg7 : arg7.IsWhole)
  (arg8 : Memref sig .tc .vmem S1x1x1x512 .f32) (harg8 : arg8.IsWhole) (arg9 : Memref sig .tc .vmem S512x128 .bf16) (harg9 : arg9.IsWhole)
  (arg10 : Memref sig .tc .vmem S512x1 .f32) (harg10 : arg10.IsWhole) (arg11 : Memref sig .tc .vmem S512x1 .f32) (harg11 : arg11.IsWhole)
  (arg12 : Memref sig .tc .vmem S512x128 .f32) (harg12 : arg12.IsWhole) (arg13 : Memref sig .tc .vmem S512x1 .f32) (harg13 : arg13.IsWhole)
  (x0 x1 x2 : Vec F S512x128 .bf16) (x3 : Vec F S512x128 .f32) (x4 : Vec F S1x1x1x512 .f32)
  (xs0 xs1 : Vec F S512x1 .f32) (xs2 : Vec F S512x128 .f32) (xs3 : Vec F S512x1 .f32)

/-- The two grid coordinates the masking reads, as words. -/
abbrev qw (i : grid0.Coords) : BitVec 32 := BitVec.ofNat 32 (i 2).val
abbrev kw (i : grid0.Coords) : BitVec 32 := BitVec.ofNat 32 (i 3).val

theorem sout0_A_0_val (hc0 : cond0_0 i) (hc1 : cond0_1 i) (hc2 : ¬cond0_2 i) :
    sout0_A_0 c i arg4 harg4 arg5 harg5 arg6 harg6 arg7 harg7 arg8 harg8 arg9 harg9 arg10 harg10 arg11 harg11 arg12 harg12 arg13 harg13 hc0 hc1 hc2 x0 x1 x2 x3 x4 = k0_pay6 (k0_pay9 (qw i) (kw i) x0 x1 (k0_pay4 i x3) x4 (k0_pay1 (F := F))) := by
  unfold sout0_A_0
  rw [View.read_writes_eq_canon _ _ _ (scover0_A_0 c i arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.canon_unit_zero (S := S512x1) hz2, View.canon_cons_unit_zero (S := S512x1) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem sout0_A_1_val (hc0 : cond0_0 i) (hc1 : cond0_1 i) (hc2 : ¬cond0_2 i) :
    sout0_A_1 c i arg4 harg4 arg5 harg5 arg6 harg6 arg7 harg7 arg8 harg8 arg9 harg9 arg10 harg10 arg11 harg11 arg12 harg12 arg13 harg13 hc0 hc1 hc2 x0 x1 x2 x3 x4 = k0_pay12 (qw i) (kw i) x0 x1 (k0_pay4 i x3) x4 (k0_pay1 (F := F)) (k0_pay2 (F := F)) := by
  unfold sout0_A_1
  rw [View.read_writes_eq_canon _ _ _ (scover0_A_1 c i arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.canon_unit_zero (S := S512x1) hz2, View.canon_cons_unit_zero (S := S512x1) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem sout0_A_2_val (hc0 : cond0_0 i) (hc1 : cond0_1 i) (hc2 : ¬cond0_2 i) :
    sout0_A_2 c i arg4 harg4 arg5 harg5 arg6 harg6 arg7 harg7 arg8 harg8 arg9 harg9 arg10 harg10 arg11 harg11 arg12 harg12 arg13 harg13 hc0 hc1 hc2 x0 x1 x2 x3 x4 = k0_pay5 (k0_pay10 (qw i) (kw i) x0 x1 (k0_pay4 i x3) x4 (k0_pay1 (F := F))) (k0_pay11 (qw i) (kw i) x0 x1 (k0_pay4 i x3) x4 (k0_pay1 (F := F))) (k0_pay3 (F := F)) x2 := by
  unfold sout0_A_2
  rw [View.read_writes_eq_canon _ _ _ (scover0_A_2 c i arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.canon_unit_zero (S := S512x128) hz2, View.canon_cons_unit_zero (S := S512x128) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem sout0_A_3_val (hc0 : cond0_0 i) (hc1 : cond0_1 i) (hc2 : ¬cond0_2 i) :
    sout0_A_3 c i arg4 harg4 arg5 harg5 arg6 harg6 arg7 harg7 arg8 harg8 arg9 harg9 arg10 harg10 arg11 harg11 arg12 harg12 arg13 harg13 hc0 hc1 hc2 x0 x1 x2 x3 x4 = k0_pay4 i x3 := by
  unfold sout0_A_3
  rw [View.read_writes_eq_canon _ _ _ (scover0_A_3 c i arg4 harg4 arg5 harg5 arg6 harg6 arg7 harg7 arg8 harg8 arg9 harg9 arg10 harg10 arg11 harg11 arg12 harg12 arg13 harg13 hc0 hc1 hc2 x0 x1 x2 x3 x4)]
  unfold kernelRun0_A
  dsimp only
  sl_unfold_words
  simp only [View.canon_unit_zero (S := S512x1) hz2, View.canon_cons_unit_zero (S := S512x1) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem sout0_D_0_val (hc0 : ¬cond0_0 i) (hc1 : cond0_1 i) (hc2 : ¬cond0_2 i) :
    sout0_D_0 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3 = k0_pay6 (k0_pay9 (qw i) (kw i) x0 x1 xs3 x4 xs0) := by
  unfold sout0_D_0
  rw [View.read_writes_eq_canon _ _ _ (scover0_D_0 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3)]
  unfold kernelRun0_D
  dsimp only
  sl_unfold_words
  simp only [View.canon_unit_zero (S := S512x1) hz2, View.canon_cons_unit_zero (S := S512x1) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem sout0_D_1_val (hc0 : ¬cond0_0 i) (hc1 : cond0_1 i) (hc2 : ¬cond0_2 i) :
    sout0_D_1 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3 = k0_pay12 (qw i) (kw i) x0 x1 xs3 x4 xs0 xs1 := by
  unfold sout0_D_1
  rw [View.read_writes_eq_canon _ _ _ (scover0_D_1 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3)]
  unfold kernelRun0_D
  dsimp only
  sl_unfold_words
  simp only [View.canon_unit_zero (S := S512x1) hz2, View.canon_cons_unit_zero (S := S512x1) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem sout0_D_2_val (hc0 : ¬cond0_0 i) (hc1 : cond0_1 i) (hc2 : ¬cond0_2 i) :
    sout0_D_2 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3 = k0_pay5 (k0_pay10 (qw i) (kw i) x0 x1 xs3 x4 xs0) (k0_pay11 (qw i) (kw i) x0 x1 xs3 x4 xs0) xs2 x2 := by
  unfold sout0_D_2
  rw [View.read_writes_eq_canon _ _ _ (scover0_D_2 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3)]
  unfold kernelRun0_D
  dsimp only
  sl_unfold_words
  simp only [View.canon_unit_zero (S := S512x128) hz2, View.canon_cons_unit_zero (S := S512x128) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem sout0_E_0_val (hc0 : ¬cond0_0 i) (hc1 : cond0_1 i) (hc2 : cond0_2 i) :
    sout0_E_0 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3 = k0_pay6 (k0_pay9 (qw i) (kw i) x0 x1 xs3 x4 xs0) := by
  unfold sout0_E_0
  rw [View.read_writes_eq_canon _ _ _ (scover0_E_0 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3)]
  unfold kernelRun0_E
  dsimp only
  sl_unfold_words
  simp only [View.canon_unit_zero (S := S512x1) hz2, View.canon_cons_unit_zero (S := S512x1) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem sout0_E_1_val (hc0 : ¬cond0_0 i) (hc1 : cond0_1 i) (hc2 : cond0_2 i) :
    sout0_E_1 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3 = k0_pay12 (qw i) (kw i) x0 x1 xs3 x4 xs0 xs1 := by
  unfold sout0_E_1
  rw [View.read_writes_eq_canon _ _ _ (scover0_E_1 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3)]
  unfold kernelRun0_E
  dsimp only
  sl_unfold_words
  simp only [View.canon_unit_zero (S := S512x1) hz2, View.canon_cons_unit_zero (S := S512x1) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem sout0_E_2_val (hc0 : ¬cond0_0 i) (hc1 : cond0_1 i) (hc2 : cond0_2 i) :
    sout0_E_2 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3 = k0_pay5 (k0_pay10 (qw i) (kw i) x0 x1 xs3 x4 xs0) (k0_pay11 (qw i) (kw i) x0 x1 xs3 x4 xs0) xs2 x2 := by
  unfold sout0_E_2
  rw [View.read_writes_eq_canon _ _ _ (scover0_E_2 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3)]
  unfold kernelRun0_E
  dsimp only
  sl_unfold_words
  simp only [View.canon_unit_zero (S := S512x128) hz2, View.canon_cons_unit_zero (S := S512x128) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem out0_C_5_val (hc0 : ¬cond0_0 i) (hc1 : ¬cond0_1 i) (hc2 : cond0_2 i) :
    out0_C_5 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3 = k0_pay7 xs2 xs1 := by
  unfold out0_C_5
  rw [View.read_writes_eq_canon _ _ _ (cover0_C_5 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3)]
  unfold kernelRun0_C
  dsimp only
  sl_unfold_words
  simp only [View.canon_unit_zero (S := S512x128) hz2, View.canon_cons_unit_zero (S := S512x128) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

theorem out0_E_5_val (hc0 : ¬cond0_0 i) (hc1 : cond0_1 i) (hc2 : cond0_2 i) :
    out0_E_5 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3 = k0_pay7 (k0_pay5 (k0_pay10 (qw i) (kw i) x0 x1 xs3 x4 xs0) (k0_pay11 (qw i) (kw i) x0 x1 xs3 x4 xs0) xs2 x2) (k0_pay12 (qw i) (kw i) x0 x1 xs3 x4 xs0 xs1) := by
  unfold out0_E_5
  rw [View.read_writes_eq_canon _ _ _ (cover0_E_5 c i arg4 harg4 arg5 harg5 arg6 harg6 arg7 harg7 arg8 harg8 arg9 harg9 arg10 harg10 arg11 harg11 arg12 harg12 arg13 harg13 hc0 hc1 hc2 x0 x1 x2 x3 x4 xs0 xs1 xs2 xs3)]
  unfold kernelRun0_E
  dsimp only
  sl_unfold_words
  simp only [View.canon_unit_zero (S := S512x128) hz2, View.canon_cons_unit_zero (S := S512x128) hz2, View.readCov_unit_zero (S := S512x1) _ hz2,
    View.readCov_unit_zero (S := S512x128) _ hz2, View.readAt_eq_ld, harg4.read_unread, harg5.read_unread,
    harg6.read_unread, harg7.read_unread, harg8.read_unread, harg10.read_unread, harg11.read_unread, harg12.read_unread, harg13.read_unread,
    View.ld_unit_zero (S := S512x128) hz2, View.ld_unit_zero (S := S512x1) hz2, View.ld_unit_zero (S := S1x1x1x512) hz4]

end Pieces

end Cert.FoxIdeal.Value

end
-- ==== Proof.Fox.Blocks.lean ====
/- The blocks the attention kernel's windows read at a grid point, as entries of the argument arrays. The grid point `t` is
   batch `t / 512`, head `t / 64 % 8`, query block `t / 8 % 8`, key block `t % 8`; the key windows stay on the query's
   own block once the key block is past it. -/
module

public import proofs.«01_k».proof.Proof.Gen.FoxIdeal.Frame
public import Idealize.ShloMosaic.Lib.Pipeline.Value
public import Idealize.ShloMosaic.Lib.Pointwise

@[expose] public section

set_option maxRecDepth 16384

noncomputable section

namespace Cert.FoxIdeal.Value

open Cert.FoxIdeal Cert.FoxIdeal.Gen Idealize.ShloMosaic Idealize.ShloMosaic.TcCoe Idealize.SL.Sem

variable {F : FTy → Type} [FloatOps F] [Named F]
variable (m : (ℓ : Loc nD τ sig) → Buf (Elt F) ℓ)

theorem coords_val : ∀ t : Fin grid0.N, (grid0.coords t 1).val = t.val / 64 % 8 ∧ (grid0.coords t 2).val = t.val / 8 % 8
    ∧ (grid0.coords t 3).val = t.val % 8 := by decide +kernel

theorem idx0 : ∀ t : Fin grid0.N, win0_0.index t 0 = t.val / 512 * 8 + t.val / 8 % 8 ∧ win0_0.index t 1 = t.val / 64 % 8 := by
  decide +kernel
theorem idx1 : ∀ t : Fin grid0.N, win0_1.index t 0 = t.val / 512 * 8 + min (t.val % 8) (t.val / 8 % 8)
    ∧ win0_1.index t 1 = 8 + t.val / 64 % 8 := by decide +kernel
theorem idx2 : ∀ t : Fin grid0.N, win0_2.index t 0 = t.val / 512 * 8 + min (t.val % 8) (t.val / 8 % 8)
    ∧ win0_2.index t 1 = 16 + t.val / 64 % 8 := by decide +kernel
theorem idx3 : ∀ t : Fin grid0.N, win0_3.index t 0 = t.val / 512 * 8 + t.val / 8 % 8 ∧ win0_3.index t 1 = 0 := by decide +kernel
theorem idx4 : ∀ t : Fin grid0.N, win0_4.index t 0 = t.val / 512 ∧ win0_4.index t 1 = t.val / 64 % 8 ∧ win0_4.index t 2 = 0
    ∧ win0_4.index t 3 = min (t.val % 8) (t.val / 8 % 8) := by decide +kernel
theorem idx5 : ∀ t : Fin grid0.N, win0_5.index t 0 = t.val / 512 * 8 + t.val / 8 % 8 ∧ win0_5.index t 1 = t.val / 64 % 8 := by
  decide +kernel

theorem lt_N (t : Fin cfg0.N) : t.val < 1024 := lt_of_lt_of_eq t.isLt (show cfg0.N = 1024 from N_0)

/-- The query block: rows `512 qi …` of the batch, head `h`'s columns of the queries. -/
theorem iblk0 (c : Dev nD) (t : Fin cfg0.N) (r : Fin 512) (d : Fin 128) (p : Fin 8192) (q : Fin 3072)
    (hp : p.val = t.val / 512 * 4096 + (512 * (t.val / 8 % 8) + r.val)) (hq : q.val = t.val / 64 % 8 * 128 + d.val) :
    (iblk m c 0 t : Vec F S512x128 .bf16) (ix2 r d) = (m ((c : Thread nD τ).loc main_arg0) : Vec F S8192x3072 .bf16) (ix2 p q) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 512 + 1 * r.val = p.val; rw [hi.1]; omega
  | ⟨1, _⟩ => show win0_0.index t 1 * 128 + 1 * d.val = q.val; rw [hi.2]; omega

/-- The key block. -/
theorem iblk1 (c : Dev nD) (t : Fin cfg0.N) (r : Fin 512) (d : Fin 128) (p : Fin 8192) (q : Fin 3072)
    (hp : p.val = t.val / 512 * 4096 + (512 * min (t.val % 8) (t.val / 8 % 8) + r.val))
    (hq : q.val = 1024 + t.val / 64 % 8 * 128 + d.val) :
    (iblk m c 1 t : Vec F S512x128 .bf16) (ix2 r d) = (m ((c : Thread nD τ).loc main_arg0) : Vec F S8192x3072 .bf16) (ix2 p q) := by
  have hi := idx1 t
  unfold iblk
  rw [View.read_apply]
  show V m c main_arg0 _ = m (c.tc.loc main_arg0) _
  unfold V
  congr 1
  funext a
  apply Fin.ext
  match a with
  | ⟨0, _⟩ => show win0_1.index t 0 * 512 + 1 * r.val = p.val; rw [hi.1]; omega
  | ⟨1, _⟩ => show win0_1.index t 1 * 128 + 1 * d.val = q.val; rw [hi.2]; omega

/-- The value block. -/
theorem iblk2 (c : Dev nD) (t : Fin cfg0.N) (r : Fin 512) (d : Fin 128) (p : Fin 8192) (q : Fin 3072)
    (hp : p.val = t.val / 512 * 4096 + (512 * min (t.val % 8) (t.val / 8 % 8) + r.val))
    (hq : q.val = 2048 + t.val / 64 % 8 * 128 + d.val) :
    (iblk m c 2 t : Vec F S512x128 .bf16) (ix2 r d) = (m ((c : Thread nD τ).loc main_arg0) : Vec F S8192x3072 .bf16) (ix2 p q) := by
  have hi := idx2 t
  unfold iblk
  rw [View.read_apply]
  show V m c main_arg0 _ = m (c.tc.loc main_arg0) _
  unfold V
  congr 1
  funext a
  apply Fin.ext
  match a with
  | ⟨0, _⟩ => show win0_2.index t 0 * 512 + 1 * r.val = p.val; rw [hi.1]; omega
  | ⟨1, _⟩ => show win0_2.index t 1 * 128 + 1 * d.val = q.val; rw [hi.2]; omega

/-- The query rows' decay block, all heads in its lanes. -/
theorem iblk3 (c : Dev nD) (t : Fin cfg0.N) (r : Fin 512) (d : Fin 128) (p : Fin 8192)
    (hp : p.val = t.val / 512 * 4096 + (512 * (t.val / 8 % 8) + r.val)) :
    (iblk m c 3 t : Vec F S512x128 .f32) (ix2 r d) = (m ((c : Thread nD τ).loc main_arg1) : Vec F S8192x128 .f32) (ix2 p d) := by
  have hi := idx3 t
  unfold iblk
  rw [View.read_apply]
  show V m c main_arg1 _ = m (c.tc.loc main_arg1) _
  unfold V
  congr 1
  funext a
  apply Fin.ext
  match a with
  | ⟨0, _⟩ => show win0_3.index t 0 * 512 + 1 * r.val = p.val; rw [hi.1]; omega
  | ⟨1, _⟩ => show win0_3.index t 1 * 128 + 1 * d.val = d.val; rw [hi.2]; omega

/-- The key columns' decay block. -/
theorem iblk4 (c : Dev nD) (t : Fin cfg0.N) (j : Fin 512) (b : Fin 2) (h : Fin 128) (q : Fin 4096)
    (hb : b.val = t.val / 512) (hh : h.val = t.val / 64 % 8) (hq : q.val = 512 * min (t.val % 8) (t.val / 8 % 8) + j.val) :
    (iblk m c 4 t : Vec F S1x1x1x512 .f32) (ix4 0 0 0 j)
      = (m ((c : Thread nD τ).loc main_arg2) : Vec F S2x128x1x4096 .f32) (ix4 b h 0 q) := by
  have hi := idx4 t
  unfold iblk
  rw [View.read_apply]
  show V m c main_arg2 _ = m (c.tc.loc main_arg2) _
  unfold V
  congr 1
  funext a
  apply Fin.ext
  match a with
  | ⟨0, _⟩ => show win0_4.index t 0 * 1 + 1 * 0 = b.val; rw [hi.1]; omega
  | ⟨1, _⟩ => show win0_4.index t 1 * 1 + 1 * 0 = h.val; rw [hi.2.1]; omega
  | ⟨2, _⟩ => show win0_4.index t 2 * 1 + 1 * 0 = 0; rw [hi.2.2.1]
  | ⟨3, _⟩ => show win0_4.index t 3 * 512 + 1 * j.val = q.val; rw [hi.2.2.2]; omega

end Cert.FoxIdeal.Value

end
-- ==== Proof.Online.lean ====
/- The softmax-weighted mean of a masked row, taken block by block: a running maximum, a running sum of exponentials and a
   running weighted sum, each rescaled when the maximum moves. Scores and values are reals; a masked score is `⊥`. -/
module

public import Idealize.ShloMosaic.PureOps.Ideal.Laws
public import Mathlib.Algebra.BigOperators.Fin
public import Mathlib.Data.EReal.Operations

@[expose] public section

noncomputable section

namespace Cert.Online

open Idealize.ShloMosaic

/-- A finite sum of reals, read in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of `m` and finitely many extended reals, none of them `⊤` and one of them above `⊥`, is a real. -/
theorem fold_max_real {ι : Type*} (t : Finset ι) (m : EReal) (f : ι → EReal) (hm : m ≠ ⊤) (hf : ∀ i ∈ t, f i ≠ ⊤)
    (h : m ≠ ⊥ ∨ ∃ i ∈ t, f i ≠ ⊥) : ∃ M : ℝ, max m (t.fold max ⊥ f) = (M : EReal) := by
  have htop : t.fold max ⊥ f ≠ ⊤ := by
    refine ne_of_lt ((Finset.fold_max_lt (c := ⊤)).2 ⟨bot_lt_top, fun i hi => lt_top_iff_ne_top.2 (hf i hi)⟩)
  have hbot : max m (t.fold max ⊥ f) ≠ ⊥ := by
    intro e
    rw [max_eq_bot] at e
    rcases h with h | ⟨i, hi, h⟩
    · exact h e.1
    · have : f i ≤ t.fold max ⊥ f := (Finset.le_fold_max _).2 (.inr ⟨i, hi, le_rfl⟩)
      rw [e.2, le_bot_iff] at this
      exact h this
  have htop' : max m (t.fold max ⊥ f) ≠ ⊤ := by
    rcases max_choice m (t.fold max ⊥ f) with e | e <;> rw [e] <;> assumption
  exact ⟨_, (EReal.coe_toReal htop' hbot).symm⟩

section

variable (p : ℕ → Prop) [DecidablePred p] (s : ℕ → ℝ)

/-- Column `j`'s score: the real `s j` where `p j`, else `⊥`. -/
def sc (j : ℕ) : EReal := if p j then (s j : EReal) else ⊥

/-- Column `j`'s weight against the level `M`. -/
def wt (M : ℝ) (j : ℕ) : ℝ := if p j then Real.exp (s j - M) else 0

theorem sc_ne_top (j : ℕ) : sc p s j ≠ ⊤ := by unfold sc; split <;> simp

theorem exp_sc (M : ℝ) (j : ℕ) : Ideal.exp (sc p s j - (M : EReal)) = (wt p s M j : EReal) := by
  unfold sc wt
  split
  · rw [← EReal.coe_sub, Ideal.exp_coe]
  · rw [EReal.bot_sub]; rfl

/-- Moving the level rescales every weight by the same factor. -/
theorem wt_move (M M' : ℝ) (j : ℕ) : Real.exp (M - M') * wt p s M j = wt p s M' j := by
  unfold wt
  split
  · rw [← Real.exp_add]; congr 1; ring
  · rw [mul_zero]

theorem wt_nonneg (M : ℝ) (j : ℕ) : 0 ≤ wt p s M j := by
  unfold wt; split
  · exact (Real.exp_pos _).le
  · exact le_rfl

variable {D : Type} (v : D → ℕ → ℝ)

/-- After the first `n` columns: some real level `M`, the sum of the weights against it and the weighted sums. -/
def Inv (n : ℕ) (m l : EReal) (acc : D → EReal) : Prop :=
  ∃ M : ℝ, m = (M : EReal) ∧ l = ((∑ j ∈ Finset.range n, wt p s M j : ℝ) : EReal)
    ∧ ∀ d, acc d = ((∑ j ∈ Finset.range n, wt p s M j * v d j : ℝ) : EReal)

/-- Before a block: no column yet and the starting values, or `Inv`. -/
def Pre (n : ℕ) (m l : EReal) (acc : D → EReal) : Prop :=
  (n = 0 ∧ m = ⊥ ∧ l = 0 ∧ ∀ d, acc d = 0) ∨ Inv p s v n m l acc

variable {p s v}

theorem sum_block {B : ℕ} (n : ℕ) (f : ℕ → ℝ) :
    ∑ j ∈ Finset.range (n + B), f j = ∑ j ∈ Finset.range n, f j + ∑ k : Fin B, f (n + k.val) := by
  rw [Finset.sum_range_add, Finset.sum_range (fun x => f (n + x))]

/-- One block of `B` columns: the maximum raised, the sums rescaled and the block's terms added. -/
theorem step {B : ℕ} {n : ℕ} {m l : EReal} {acc : D → EReal} (h : Pre p s v n m l acc) (x : Fin B → EReal)
    (w : D → Fin B → EReal) (hx : ∀ k, x k = sc p s (n + k.val)) (hw : ∀ d k, w d k = (v d (n + k.val) : EReal))
    (hp : n = 0 → ∃ k : Fin B, p (n + k.val)) (m' : EReal) (hm' : m' = max m (Finset.univ.fold max ⊥ x)) :
    Inv p s v (n + B) m' (Ideal.exp (m - m') * l + ∑ k, Ideal.exp (x k - m'))
      (fun d => Ideal.exp (m - m') * acc d + ∑ k, Ideal.exp (x k - m') * w d k) := by
  obtain ⟨M', hM'⟩ : ∃ M' : ℝ, m' = (M' : EReal) := by
    rw [hm']
    refine fold_max_real _ _ _ ?_ (fun k _ => by rw [hx]; exact sc_ne_top p s _) ?_
    · rcases h with ⟨_, rfl, _⟩ | ⟨M, rfl, _⟩ <;> simp
    · rcases h with ⟨h0, -, -⟩ | ⟨M, rfl, _⟩
      · obtain ⟨k, hk⟩ := hp h0
        exact .inr ⟨k, Finset.mem_univ _, by rw [hx, sc, if_pos hk]; simp⟩
      · left; simp
  refine ⟨M', hM', ?_, fun d => ?_⟩
  · rw [sum_block (B := B), EReal.coe_add, coe_sum Finset.univ]
    congr 1
    · rcases h with ⟨rfl, rfl, rfl, -⟩ | ⟨M, rfl, rfl, -⟩
      · simp
      · rw [hM', ← EReal.coe_sub, Ideal.exp_coe, ← EReal.coe_mul, Finset.mul_sum]
        congr 1
        exact Finset.sum_congr rfl fun j _ => wt_move p s M M' j
    · exact Finset.sum_congr rfl fun k _ => by rw [hx, hM', exp_sc]
  · show Ideal.exp (m - m') * acc d + ∑ k, Ideal.exp (x k - m') * w d k = _
    rw [sum_block (B := B), EReal.coe_add, coe_sum Finset.univ]
    congr 1
    · rcases h with ⟨rfl, rfl, -, h⟩ | ⟨M, rfl, -, h⟩
      · simp [h]
      · rw [hM', h, ← EReal.coe_sub, Ideal.exp_coe, ← EReal.coe_mul, Finset.mul_sum]
        congr 1
        exact Finset.sum_congr rfl fun j _ => by rw [← mul_assoc, wt_move p s M M' j]
    · exact Finset.sum_congr rfl fun k _ => by rw [hx, hM', exp_sc, hw, EReal.coe_mul]

/-- The plain form of the same: the row's maximum over all `N` columns, the exponentials over their sum, and the weighted
    sum of the values, where every column from `n` on is masked. -/
theorem finish {N n : ℕ} (hn : n ≤ N) (h0 : ∃ j, j < n ∧ p j) (hmask : ∀ j, n ≤ j → ¬ p j) {m l : EReal} {acc : D → EReal}
    (h : Inv p s v n m l acc) (R : EReal) (x : Fin N → EReal) (w : D → Fin N → EReal) (hx : ∀ k, x k = sc p s k.val)
    (hw : ∀ d k, w d k = (v d k.val : EReal)) (hR : R = max ⊥ (Finset.univ.fold max ⊥ x)) (d : D) :
    Ideal.div (acc d) l = ∑ k, Ideal.div (Ideal.exp (x k - R)) (0 + ∑ k', Ideal.exp (x k' - R)) * w d k := by
  obtain ⟨M, -, hl, hacc⟩ := h
  obtain ⟨j0, hj0, hpj0⟩ := h0
  obtain ⟨R', hR'⟩ : ∃ R' : ℝ, R = (R' : EReal) := by
    rw [hR]
    refine fold_max_real _ _ _ (by simp) (fun k _ => by rw [hx]; exact sc_ne_top p s _) (.inr ⟨⟨j0, by omega⟩, Finset.mem_univ _, ?_⟩)
    rw [hx, sc, if_pos hpj0]; simp
  have pos : ∀ K : ℝ, 0 < ∑ j ∈ Finset.range n, wt p s K j := fun K => by
    refine Finset.sum_pos' (fun j _ => wt_nonneg p s K j) ⟨j0, Finset.mem_range.2 hj0, ?_⟩
    rw [wt, if_pos hpj0]; exact Real.exp_pos _
  have cut : ∀ f : ℕ → ℝ, (∀ j, n ≤ j → f j = 0) → ∑ k : Fin N, f k.val = ∑ j ∈ Finset.range n, f j := fun f hf => by
    rw [← Finset.sum_range f]
    exact (Finset.sum_subset (Finset.range_subset_range.2 hn) fun j _ hj => hf j (by simpa using hj)).symm
  have wz : ∀ (K : ℝ) j, n ≤ j → wt p s K j = 0 := fun K j hj => by rw [wt, if_neg (hmask j hj)]
  have hS : (0 + ∑ k', Ideal.exp (x k' - R) : EReal) = ((∑ j ∈ Finset.range n, wt p s R' j : ℝ) : EReal) := by
    rw [zero_add, ← cut _ (wz R'), coe_sum]
    exact Finset.sum_congr rfl fun k _ => by rw [hx, hR', exp_sc]
  have e : ∀ k, Ideal.exp (x k - R) = (wt p s R' k.val : EReal) := fun k => by rw [hx, hR', exp_sc]
  rw [hS, hl, hacc, Ideal.div_coe (pos M).ne']
  simp only [e, Ideal.div_coe (pos R').ne', hw, ← EReal.coe_mul]
  rw [← coe_sum, cut (fun j => wt p s R' j * (1 / ∑ j ∈ Finset.range n, wt p s R' j) * v d j) (fun j hj => by rw [wz _ _ hj]; ring)]
  congr 1
  have hp := pos M
  have hm : ∑ j ∈ Finset.range n, wt p s R' j = Real.exp (M - R') * ∑ j ∈ Finset.range n, wt p s M j := by
    rw [Finset.mul_sum]; exact Finset.sum_congr rfl fun j _ => (wt_move p s M R' j).symm
  have he : Real.exp (M - R') ≠ 0 := (Real.exp_pos _).ne'
  rw [hm, Finset.sum_mul]
  refine Finset.sum_congr rfl fun j _ => ?_
  rw [← wt_move p s M R' j]
  field_simp

end

end Cert.Online

end
-- ==== Proof.Fox.Payload.lean ====
/- The attention body's payloads read at an index, over the extended reals, and one key block as one step of the running
   softmax. -/
module

public import proofs.«01_k».proof.Proof.Gen.FoxIdeal.Skeleton
public import proofs.«01_k».proof.Proof.Online
public import Idealize.ShloMosaic.Lib.Pointwise
public import Idealize.ShloMosaic.Lib.WordCmp

@[expose] public section

set_option maxRecDepth 16384

noncomputable section

namespace Cert.FoxIdeal.Value

open Cert.FoxIdeal Cert.FoxIdeal.Gen Idealize.ShloMosaic Idealize.ShloMosaic.TcCoe Idealize.SL.Sem

/-- The masking constant is `⊥`. -/
theorem mask_eq : (Named.named κ "mask" 0xF149F2CA#32 : Ideal .f32) = ⊥ :=
  IdealRules.named_const.ideal_named_scalar _ _ _ _ rfl

theorem ninf_eq : Ideal.ofBits .f32 0xFF800000#32 = ⊥ := by simp [Ideal.ofBits, Ideal.ieee]

/-- The scores' mask at row `r`, column `j` of key block `ki` against query block `qi`: the column is not after the row. -/
theorem mask_word (qi ki : ℕ) (hq : qi < 8) (hk : ki ≤ qi) (r j : Fin 512) {α : Type} (a b : α) :
    Scalar.select (IntOp.ori (Scalar.cmpi .slt (BitVec.ofNat 32 ki) (BitVec.ofNat 32 qi))
        (IntOp.cmpi .sle (BitVec.ofNat 32 j.val) (BitVec.ofNat 32 r.val))) a b
      = if 512 * ki + j.val ≤ 512 * qi + r.val then a else b := by
  have h1 : Scalar.cmpi .slt (BitVec.ofNat 32 ki) (BitVec.ofNat 32 qi) = BitVec.ofBool (decide (ki < qi)) :=
    WordCmp.cmpi_slt_ofNat (by omega) (by omega)
  have h2 : IntOp.cmpi .sle (BitVec.ofNat 32 j.val) (BitVec.ofNat 32 r.val) = BitVec.ofBool (decide (j.val ≤ r.val)) :=
    WordCmp.cmpi_sle_ofNat (by omega) (by omega)
  rw [h1, h2, WordCmp.ori_ofBool, WordCmp.select_ofBool]
  congr 1
  simp only [Bool.or_eq_true, decide_eq_true_eq, eq_iff_iff]
  omega

theorem pay8_apply (a2 a3 : BitVec 32) (q k : Vec Ideal S512x128 .bf16) (cq : Vec Ideal S512x1 .f32) (ct : Vec Ideal S1x1x1x512 .f32)
    (r j : Fin 512) : k0_pay8 (F := Ideal) a2 a3 q k cq ct (ix2 r j)
      = Scalar.select (IntOp.ori (Scalar.cmpi .slt a3 a2) (IntOp.cmpi .sle (BitVec.ofNat 32 j.val) (BitVec.ofNat 32 r.val)))
          ((∑ d : Fin 128, q (ix2 r d) * k (ix2 j d)) * Ideal.ofBits .f32 0x3DB504F3#32 + cq (ix2 r 0) - ct (ix4 0 0 0 j)) ⊥ := by
  rw [← mask_eq]
  pointwise [k0_pay8]

theorem pay9_apply (a2 a3 : BitVec 32) (q k : Vec Ideal S512x128 .bf16) (cq : Vec Ideal S512x1 .f32) (ct : Vec Ideal S1x1x1x512 .f32)
    (mp : Vec Ideal S512x1 .f32) (r : Fin 512) : k0_pay9 (F := Ideal) a2 a3 q k cq ct mp (ix2 r 0)
      = max (mp (ix2 r 0)) (Finset.univ.fold max ⊥ fun j => k0_pay8 (F := Ideal) a2 a3 q k cq ct (ix2 r j)) := by
  rw [← ninf_eq]
  pointwise [k0_pay9]

theorem pay10_apply (a2 a3 : BitVec 32) (q k : Vec Ideal S512x128 .bf16) (cq : Vec Ideal S512x1 .f32) (ct : Vec Ideal S1x1x1x512 .f32)
    (mp : Vec Ideal S512x1 .f32) (r : Fin 512) : k0_pay10 (F := Ideal) a2 a3 q k cq ct mp (ix2 r 0)
      = Ideal.exp (mp (ix2 r 0) - k0_pay9 (F := Ideal) a2 a3 q k cq ct mp (ix2 r 0)) := by
  pointwise [k0_pay10]

theorem pay11_apply (a2 a3 : BitVec 32) (q k : Vec Ideal S512x128 .bf16) (cq : Vec Ideal S512x1 .f32) (ct : Vec Ideal S1x1x1x512 .f32)
    (mp : Vec Ideal S512x1 .f32) (r j : Fin 512) : k0_pay11 (F := Ideal) a2 a3 q k cq ct mp (ix2 r j)
      = Ideal.exp (k0_pay8 (F := Ideal) a2 a3 q k cq ct (ix2 r j) - k0_pay9 (F := Ideal) a2 a3 q k cq ct mp (ix2 r 0)) := by
  pointwise [k0_pay11]

theorem pay12_apply (a2 a3 : BitVec 32) (q k : Vec Ideal S512x128 .bf16) (cq : Vec Ideal S512x1 .f32) (ct : Vec Ideal S1x1x1x512 .f32)
    (mp l : Vec Ideal S512x1 .f32) (r : Fin 512) : k0_pay12 (F := Ideal) a2 a3 q k cq ct mp l (ix2 r 0)
      = k0_pay10 (F := Ideal) a2 a3 q k cq ct mp (ix2 r 0) * l (ix2 r 0)
        + ∑ j : Fin 512, k0_pay11 (F := Ideal) a2 a3 q k cq ct mp (ix2 r j) := by
  pointwise [k0_pay12]

theorem pay5_apply (al : Vec Ideal S512x1 .f32) (p : Vec Ideal S512x512 .f32) (acc : Vec Ideal S512x128 .f32) (v : Vec Ideal S512x128 .bf16)
    (r : Fin 512) (d : Fin 128) : k0_pay5 (F := Ideal) al p acc v (ix2 r d)
      = al (ix2 r 0) * acc (ix2 r d) + ∑ j : Fin 512, p (ix2 r j) * v (ix2 j d) := by
  pointwise [k0_pay5]

theorem pay7_apply (acc : Vec Ideal S512x128 .f32) (l : Vec Ideal S512x1 .f32) (r : Fin 512) (d : Fin 128) :
    k0_pay7 (F := Ideal) acc l (ix2 r d) = Ideal.div (acc (ix2 r d)) (l (ix2 r 0)) := by
  pointwise [k0_pay7]

theorem pay6_eq (x : Vec Ideal S512x1 .f32) (r : Fin 512) : k0_pay6 (F := Ideal) x (ix2 r 0) = x (ix2 r 0) := by
  pointwise [k0_pay6]

theorem pay1_apply (r : Fin 512) : k0_pay1 (F := Ideal) (ix2 r 0) = ⊥ := by
  rw [← mask_eq]
  pointwise [k0_pay1]

theorem pay2_apply (r : Fin 512) : k0_pay2 (F := Ideal) (ix2 r 0) = 0 := by
  pointwise [k0_pay2]

theorem pay3_apply (r : Fin 512) (d : Fin 128) : k0_pay3 (F := Ideal) (ix2 r d) = 0 := by
  pointwise [k0_pay3]

/-- The query rows' decay: lane `h` of the block, `h` the head the point is on. -/
theorem pay4_apply (i : grid0.Coords) (x : Vec Ideal S512x128 .f32) (h : Fin 128) (hh : (i 1).val = h.val) (r : Fin 512) :
    k0_pay4 (F := Ideal) i x (ix2 r 0) = x (ix2 r h) := by
  pointwise [k0_pay4]
  rw [Finset.sum_eq_single h]
  · rw [hh, WordCmp.cmpi_eq_ofNat (by omega) (by omega), WordCmp.select_ofBool]; simp
  · intro b _ hb
    rw [hh, WordCmp.cmpi_eq_ofNat (by omega) (by omega), WordCmp.select_ofBool, if_neg]
    simpa [Fin.ext_iff] using hb
  · intro hn; exact absurd (Finset.mem_univ _) hn

/-- One key block is one step of the running softmax of row `r`. -/
theorem block_step (qi ki : ℕ) (hq : qi < 8) (hk : ki ≤ qi) (q k v : Vec Ideal S512x128 .bf16) (cq : Vec Ideal S512x1 .f32)
    (ct : Vec Ideal S1x1x1x512 .f32) (mp l : Vec Ideal S512x1 .f32) (acc : Vec Ideal S512x128 .f32) (r : Fin 512)
    (s : ℕ → ℝ) (vv : Fin 128 → ℕ → ℝ)
    (hs : ∀ j : Fin 512, (∑ d : Fin 128, q (ix2 r d) * k (ix2 j d)) * Ideal.ofBits .f32 0x3DB504F3#32 + cq (ix2 r 0) - ct (ix4 0 0 0 j)
      = (s (512 * ki + j.val) : EReal))
    (hv : ∀ (d : Fin 128) (j : Fin 512), v (ix2 j d) = (vv d (512 * ki + j.val) : EReal))
    (h : Online.Pre (fun j => j ≤ 512 * qi + r.val) s vv (512 * ki) (mp (ix2 r 0)) (l (ix2 r 0)) (fun d => acc (ix2 r d))) :
    let A := k0_pay9 (F := Ideal) (BitVec.ofNat 32 qi) (BitVec.ofNat 32 ki) q k cq ct mp
    Online.Inv (fun j => j ≤ 512 * qi + r.val) s vv (512 * ki + 512) (k0_pay6 (F := Ideal) A (ix2 r 0))
      (k0_pay12 (F := Ideal) (BitVec.ofNat 32 qi) (BitVec.ofNat 32 ki) q k cq ct mp l (ix2 r 0))
      (fun d => k0_pay5 (F := Ideal) (k0_pay10 (F := Ideal) (BitVec.ofNat 32 qi) (BitVec.ofNat 32 ki) q k cq ct mp)
        (k0_pay11 (F := Ideal) (BitVec.ofNat 32 qi) (BitVec.ofNat 32 ki) q k cq ct mp) acc v (ix2 r d)) := by
  intro A
  have key := Online.step (B := 512) h
    (fun j => k0_pay8 (F := Ideal) (BitVec.ofNat 32 qi) (BitVec.ofNat 32 ki) q k cq ct (ix2 r j)) (fun d j => v (ix2 j d))
    (fun j => by
      rw [pay8_apply, mask_word qi ki hq hk, hs]; rfl) hv
    (fun _ => ⟨0, by show 512 * ki + 0 ≤ 512 * qi + r.val; omega⟩) (A (ix2 r 0)) (pay9_apply ..)
  rw [pay6_eq, pay12_apply, pay10_apply]
  simp only [pay11_apply, pay5_apply, pay10_apply]
  exact key

end Cert.FoxIdeal.Value

end
-- ==== Proof.Fox.State.lean ====
/- What the attention kernel's scratch holds after every grid point: row by row the running softmax over the key columns
   seen so far, and the block it writes out at the last key block. -/
module

public import proofs.«01_k».proof.Proof.Fox.Cases
public import proofs.«01_k».proof.Proof.Fox.Blocks
public import proofs.«01_k».proof.Proof.Fox.Payload

@[expose] public section

set_option maxRecDepth 16384

noncomputable section

namespace Cert.FoxIdeal.Value

open Cert.FoxIdeal Cert.FoxIdeal.Gen Idealize.ShloMosaic Idealize.ShloMosaic.TcCoe Idealize.SL.Sem

/-- Real entries of the three argument arrays, and the real the scale word stands for. -/
structure Reals (x : Vec Ideal S8192x3072 .bf16) (cw : Vec Ideal S8192x128 .f32) (ct : Vec Ideal S2x128x1x4096 .f32) where
  Q : ℕ → ℕ → ℝ
  C : ℕ → ℕ → ℝ
  T : ℕ → ℕ → ℕ → ℝ
  σ : ℝ
  hQ : ∀ (i : Fin 8192) (j : Fin 3072), x (ix2 i j) = (Q i.val j.val : EReal)
  hC : ∀ (i : Fin 8192) (j : Fin 128), cw (ix2 i j) = (C i.val j.val : EReal)
  hT : ∀ (b : Fin 2) (h : Fin 128) (j : Fin 4096), ct (ix4 b h 0 j) = (T b.val h.val j.val : EReal)
  hσ : Ideal.ofBits .f32 0x3DB504F3#32 = (σ : EReal)

variable {x : Vec Ideal S8192x3072 .bf16} {cw : Vec Ideal S8192x128 .f32} {ct : Vec Ideal S2x128x1x4096 .f32}

/-- The score of row `row` against column `j` in batch `b`, head `h`. -/
def Reals.score (R : Reals x cw ct) (b h row j : ℕ) : ℝ :=
  (∑ d : Fin 128, R.Q (b * 4096 + row) (h * 128 + d.val) * R.Q (b * 4096 + j) (1024 + h * 128 + d.val)) * R.σ
    + R.C (b * 4096 + row) h - R.T b h j

/-- Lane `d` of column `j`'s value. -/
def Reals.value (R : Reals x cw ct) (b h : ℕ) (d : Fin 128) (j : ℕ) : ℝ := R.Q (b * 4096 + j) (2048 + h * 128 + d.val)

variable (m : (ℓ : Loc nD τ sig) → Buf (Elt Ideal) ℓ) (c : Dev nD)

/-- The real entries of the launch memory's arguments. -/
abbrev RealArgs : Type := Reals (m ((c : Thread nD τ).loc main_arg0)) (m ((c : Thread nD τ).loc main_arg1)) (m ((c : Thread nD τ).loc main_arg2))

variable (R : RealArgs m c)

/-- One computing point, from any state in which the columns before its block are summed. -/
theorem point_step (t : Fin cfg0.N) (h1 : t.val % 8 ≤ t.val / 8 % 8) (r : Fin 512) (cq mp l : Vec Ideal S512x1 .f32)
    (acc : Vec Ideal S512x128 .f32)
    (hcq : cq (ix2 r 0) = (R.C (t.val / 512 * 4096 + (512 * (t.val / 8 % 8) + r.val)) (t.val / 64 % 8) : EReal))
    (h : Online.Pre (fun j => j ≤ 512 * (t.val / 8 % 8) + r.val) (R.score (t.val / 512) (t.val / 64 % 8) (512 * (t.val / 8 % 8) + r.val))
      (R.value (t.val / 512) (t.val / 64 % 8)) (512 * (t.val % 8)) (mp (ix2 r 0)) (l (ix2 r 0)) (fun d => acc (ix2 r d))) :
    Online.Inv (fun j => j ≤ 512 * (t.val / 8 % 8) + r.val) (R.score (t.val / 512) (t.val / 64 % 8) (512 * (t.val / 8 % 8) + r.val))
      (R.value (t.val / 512) (t.val / 64 % 8)) (512 * min (t.val % 8) (t.val / 8 % 8) + 512)
      (k0_pay6 (F := Ideal) (k0_pay9 (qw (grid0.coords t)) (kw (grid0.coords t)) (iblk m c 0 t) (iblk m c 1 t) cq (iblk m c 4 t) mp) (ix2 r 0))
      (k0_pay12 (F := Ideal) (qw (grid0.coords t)) (kw (grid0.coords t)) (iblk m c 0 t) (iblk m c 1 t) cq (iblk m c 4 t) mp l (ix2 r 0))
      (fun d => k0_pay5 (F := Ideal) (k0_pay10 (qw (grid0.coords t)) (kw (grid0.coords t)) (iblk m c 0 t) (iblk m c 1 t) cq (iblk m c 4 t) mp)
        (k0_pay11 (qw (grid0.coords t)) (kw (grid0.coords t)) (iblk m c 0 t) (iblk m c 1 t) cq (iblk m c 4 t) mp) acc (iblk m c 2 t) (ix2 r d)) := by
  have ht := lt_N t
  have hcd := coords_val t
  have e1 : qw (grid0.coords t) = BitVec.ofNat 32 (t.val / 8 % 8) := by unfold qw; rw [hcd.2.1]
  have e2 : kw (grid0.coords t) = BitVec.ofNat 32 (t.val % 8) := by unfold kw; rw [hcd.2.2]
  rw [e1, e2, min_eq_left h1]
  refine block_step _ _ (by omega) h1 _ _ _ _ _ _ _ _ r _ _ (fun j => ?_) (fun d j => ?_) h
  · rw [iblk4 m c t j ⟨t.val / 512, by omega⟩ ⟨t.val / 64 % 8, by omega⟩ ⟨512 * (t.val % 8) + j.val, by omega⟩ rfl rfl
      (by rw [min_eq_left h1]), R.hT, hcq, R.hσ]
    unfold Reals.score
    rw [EReal.coe_sub, EReal.coe_add, EReal.coe_mul, Online.coe_sum]
    congr 3
    refine Finset.sum_congr rfl fun d _ => ?_
    rw [iblk0 m c t r d ⟨t.val / 512 * 4096 + (512 * (t.val / 8 % 8) + r.val), by omega⟩ ⟨t.val / 64 % 8 * 128 + d.val, by omega⟩ rfl rfl,
      iblk1 m c t j d ⟨t.val / 512 * 4096 + (512 * (t.val % 8) + j.val), by omega⟩ ⟨1024 + t.val / 64 % 8 * 128 + d.val, by omega⟩
        (by rw [min_eq_left h1]) rfl, R.hQ, R.hQ, EReal.coe_mul]
  · rw [iblk2 m c t j d ⟨t.val / 512 * 4096 + (512 * (t.val % 8) + j.val), by omega⟩ ⟨2048 + t.val / 64 % 8 * 128 + d.val, by omega⟩
      (by rw [min_eq_left h1]) rfl, R.hQ]
    rfl

/-- The scratch after point `t`: each row's running softmax over the columns up to the point's key block (or to the query's
    own block, once past it), and the row's decay. -/
def Holds (t : ℕ) (mm l : Vec Ideal S512x1 .f32) (acc : Vec Ideal S512x128 .f32) (cq : Vec Ideal S512x1 .f32) : Prop :=
  ∀ r : Fin 512, Online.Inv (fun j => j ≤ 512 * (t / 8 % 8) + r.val) (R.score (t / 512) (t / 64 % 8) (512 * (t / 8 % 8) + r.val))
      (R.value (t / 512) (t / 64 % 8)) (512 * min (t % 8) (t / 8 % 8) + 512) (mm (ix2 r 0)) (l (ix2 r 0)) (fun d => acc (ix2 r d))
    ∧ cq (ix2 r 0) = (R.C (t / 512 * 4096 + (512 * (t / 8 % 8) + r.val)) (t / 64 % 8) : EReal)

theorem state (n : ℕ) (hn : n < cfg0.N) : Holds m c R n (outsAt0 m c n hn).2.1 (outsAt0 m c n hn).2.2.1
    (outsAt0 m c n hn).2.2.2.1 (outsAt0 m c n hn).2.2.2.2 := by
  induction n using Nat.strong_induction_on with
  | _ n ih =>
  have ht := lt_N ⟨n, hn⟩
  have hcd := coords_val ⟨n, hn⟩
  dsimp only at ht hcd
  by_cases h0 : n % 8 = 0
  · have e := outsAt0_A m c ⟨n, hn⟩ h0 (by dsimp only; omega) (by dsimp only; omega)
    dsimp only at e
    rw [e]
    dsimp only
    rw [sout0_A_0_val, sout0_A_1_val, sout0_A_2_val, sout0_A_3_val]
    have hcq : ∀ r : Fin 512, k0_pay4 (F := Ideal) (grid0.coords ⟨n, hn⟩) (iblk m c 3 ⟨n, hn⟩) (ix2 r 0)
        = (R.C (n / 512 * 4096 + (512 * (n / 8 % 8) + r.val)) (n / 64 % 8) : EReal) := fun r => by
      rw [pay4_apply _ _ ⟨n / 64 % 8, by omega⟩ hcd.1, iblk3 m c ⟨n, hn⟩ r _ ⟨n / 512 * 4096 + (512 * (n / 8 % 8) + r.val), by omega⟩ rfl,
        R.hC]
    exact fun r => ⟨point_step m c R ⟨n, hn⟩ (by dsimp only; omega) r _ _ _ _ (hcq r)
      (.inl ⟨by dsimp only; omega, pay1_apply r, pay2_apply r, fun d => pay3_apply r d⟩), hcq r⟩
  · have hp : n - 1 < cfg0.N := by omega
    have P := ih (n - 1) (by omega) hp
    unfold Holds at P
    rw [show (n - 1) / 512 = n / 512 by omega, show (n - 1) / 64 = n / 64 by omega, show (n - 1) / 8 = n / 8 by omega] at P
    by_cases h1 : n % 8 ≤ n / 8 % 8
    · have en : 512 * min ((n - 1) % 8) (n / 8 % 8) + 512 = 512 * (n % 8) := by omega
      rw [en] at P
      by_cases h2 : n % 8 = 7
      · have e := outsAt0_E m c ⟨n, hn⟩ h0 h1 h2
        dsimp only at e
        rw [e]
        dsimp only
        rw [sout0_E_0_val, sout0_E_1_val, sout0_E_2_val]
        exact fun r => ⟨point_step m c R ⟨n, hn⟩ h1 r _ _ _ _ (P r).2 (.inr (P r).1), (P r).2⟩
      · have e := outsAt0_D m c ⟨n, hn⟩ h0 h1 h2
        dsimp only at e
        rw [e]
        dsimp only
        rw [sout0_D_0_val, sout0_D_1_val, sout0_D_2_val]
        exact fun r => ⟨point_step m c R ⟨n, hn⟩ h1 r _ _ _ _ (P r).2 (.inr (P r).1), (P r).2⟩
    · have en : min ((n - 1) % 8) (n / 8 % 8) = min (n % 8) (n / 8 % 8) := by omega
      rw [en] at P
      by_cases h2 : n % 8 = 7
      · have e := outsAt0_C m c ⟨n, hn⟩ h0 h1 h2
        dsimp only at e
        rw [e]
        exact P
      · have e := outsAt0_B m c ⟨n, hn⟩ h0 h1 h2
        dsimp only at e
        rw [e]
        exact P

/-- At the last key block the output block is the weighted sums over the weights' sum. -/
theorem out_eq (t : Fin cfg0.N) (h2 : t.val % 8 = 7) : (outsAt0 m c t.val t.isLt).1
    = k0_pay7 (F := Ideal) (outsAt0 m c t.val t.isLt).2.2.2.1 (outsAt0 m c t.val t.isLt).2.2.1 := by
  by_cases h1 : t.val % 8 ≤ t.val / 8 % 8
  · rw [outsAt0_E m c t (by omega) h1 h2]
    dsimp only
    rw [sout0_E_1_val, sout0_E_2_val, out0_E_5_val]
  · rw [outsAt0_C m c t (by omega) h1 h2]
    dsimp only
    rw [out0_C_5_val]
    rfl

end Cert.FoxIdeal.Value

end
-- ==== Proof.Fox.Ref.lean ====
/- What the attention's reference computes at an index: the masked scores, their softmax and its product with the values. -/
module

public import proofs.«01_k».proof.Proof.Gen.FoxRefIdeal.Read
public import proofs.«01_k».proof.Proof.Fox.State
public import Idealize.ShloMosaic.Lib.KernelVsHost

@[expose] public section

set_option maxRecDepth 16384

noncomputable section

namespace Cert.FoxRefIdeal.Value

open Cert.FoxRefIdeal Cert.FoxRefIdeal.Gen Idealize.ShloMosaic Idealize.ShloMosaic.TcCoe Idealize.SL.Sem
open Cert.FoxIdeal.Value (Reals)
open Cert.FoxRefIdeal.Read

variable {x : Vec Ideal S8192x3072 .bf16} {cw : Vec Ideal S8192x128 .f32} {ct : Vec Ideal S2x128x1x4096 .f32} (R : Reals x cw ct)

include R

theorem x_at (i : S8192x3072.Idx) (p q : ℕ) (hp : (i 0).val = p) (hq : (i 1).val = q) : x i = (R.Q p q : EReal) := by
  subst hp hq
  conv_lhs => rw [eq_ix2 i]
  exact R.hQ (i 0) (i 1)

theorem cw_at (i : S8192x128.Idx) (p q : ℕ) (hp : (i 0).val = p) (hq : (i 1).val = q) : cw i = (R.C p q : EReal) := by
  subst hp hq
  conv_lhs => rw [eq_ix2 i]
  exact R.hC (i 0) (i 1)

theorem ct_at (i : S2x128x1x4096.Idx) (b h q : ℕ) (hb : (i 0).val = b) (hh : (i 1).val = h) (hq : (i 3).val = q) :
    ct i = (R.T b h q : EReal) := by
  subst hb hh hq
  have e : i = ix4 (i 0) (i 1) 0 (i 3) := by
    funext a
    match a with
    | ⟨0, _⟩ => rfl
    | ⟨1, _⟩ => rfl
    | ⟨2, _⟩ => exact Subsingleton.elim (α := Fin 1) _ _
    | ⟨3, _⟩ => rfl
  conv_lhs => rw [e]
  exact R.hT (i 0) (i 1) (i 3)

/-- The scaled query heads. -/
theorem q_at (i : S2x8x4096x128.Idx) : val_main_v7 (F := Ideal) x i
    = ((R.Q ((i 0).val * 4096 + (i 2).val) ((i 1).val * 128 + (i 3).val) * R.σ : ℝ) : EReal) := by
  have h0 : (i 0).val < 2 := (i 0).isLt
  have h1 : (i 1).val < 8 := (i 1).isLt
  have h2 : (i 2).val < 4096 := (i 2).isLt
  have h3 : (i 3).val < 128 := (i 3).isLt
  rw [val_main_v7_apply, val_main_v5_apply, val_main_v4_apply, val_main_v1_apply, val_main_v0_apply, val_main_v6_apply, val_main_cst_apply]
  show x _ * Ideal.ofBits .f32 0x3DB504F3#32 = _
  rw [x_at R _ ((i 0).val * 4096 + (i 2).val) ((i 1).val * 128 + (i 3).val), R.hσ, EReal.coe_mul]
  · show ((((i 0).val * 4096 + (i 2).val) * 8 + (i 1).val) * 128 + (i 3).val) / 1024 = _
    omega
  · show ((((i 0).val * 4096 + (i 2).val) * 8 + (i 1).val) * 128 + (i 3).val) % 1024 = _
    omega

/-- The key heads. -/
theorem k_at (i : S2x8x4096x128.Idx) : val_main_v9 (F := Ideal) x i
    = (R.Q ((i 0).val * 4096 + (i 2).val) (1024 + (i 1).val * 128 + (i 3).val) : EReal) := by
  have h0 : (i 0).val < 2 := (i 0).isLt
  have h1 : (i 1).val < 8 := (i 1).isLt
  have h2 : (i 2).val < 4096 := (i 2).isLt
  have h3 : (i 3).val < 128 := (i 3).isLt
  rw [val_main_v9_apply, val_main_v8_apply, val_main_v2_apply, val_main_v0_apply]
  show x _ = _
  apply x_at R
  · show ((((i 0).val * 4096 + (i 2).val) * 8 + (i 1).val) * 128 + (i 3).val) / 1024 = _
    omega
  · show 1024 + ((((i 0).val * 4096 + (i 2).val) * 8 + (i 1).val) * 128 + (i 3).val) % 1024 = _
    omega

/-- The value heads. -/
theorem v_at (i : S2x8x4096x128.Idx) : val_main_v11 (F := Ideal) x i
    = (R.value (i 0).val (i 1).val ⟨(i 3).val, (i 3).isLt⟩ (i 2).val : EReal) := by
  have h0 : (i 0).val < 2 := (i 0).isLt
  have h1 : (i 1).val < 8 := (i 1).isLt
  have h2 : (i 2).val < 4096 := (i 2).isLt
  have h3 : (i 3).val < 128 := (i 3).isLt
  rw [val_main_v11_apply, val_main_v10_apply, val_main_v3_apply, val_main_v0_apply]
  show x _ = _
  unfold Reals.value
  apply x_at R
  · show ((((i 0).val * 4096 + (i 2).val) * 8 + (i 1).val) * 128 + (i 3).val) / 1024 = _
    omega
  · show 2048 + ((((i 0).val * 4096 + (i 2).val) * 8 + (i 1).val) * 128 + (i 3).val) % 1024 = 2048 + (i 1).val * 128 + (i 3).val
    omega

/-- The score before the mask. -/
theorem score_at (i : S2x8x4096x4096.Idx) : val_main_v23 (F := Ideal) x cw ct i
    = (R.score (i 0).val (i 1).val (i 2).val (i 3).val : EReal) := by
  have h0 : (i 0).val < 2 := (i 0).isLt
  have h1 : (i 1).val < 8 := (i 1).isLt
  have h2 : (i 2).val < 4096 := (i 2).isLt
  have h3 : (i 3).val < 4096 := (i 3).isLt
  rw [val_main_v23_apply, val_main_v20_apply, val_main_v19_apply, val_main_v18_apply, val_main_v14_apply, val_main_v13_apply,
    val_main_v12_apply, val_main_v22_apply, val_main_v21_apply, val_main_v16_apply, val_main_v15_apply, val_main_v17_apply]
  show (∑ k : Fin 128, _) + cw _ - ct _ = _
  rw [cw_at R _ ((i 0).val * 4096 + (i 2).val) (i 1).val, ct_at R _ (i 0).val (i 1).val (i 3).val]
  · unfold Reals.score
    rw [EReal.coe_sub, EReal.coe_add, Finset.sum_mul, Online.coe_sum]
    congr 2
    refine Finset.sum_congr rfl fun d _ => ?_
    rw [q_at R, k_at R, ← EReal.coe_mul]
    congr 1
    show R.Q ((i 0).val * 4096 + (i 2).val) ((i 1).val * 128 + d.val) * R.σ * R.Q ((i 0).val * 4096 + (i 3).val) (1024 + (i 1).val * 128 + d.val) = _
    ring
  · show (((i 0).val * 8 + (i 1).val) * 4096 + (i 3).val) / 32768 = _
    omega
  · show (((i 0).val * 8 + (i 1).val) * 4096 + (i 3).val) / 4096 % 8 = _
    omega
  · show (((i 0).val * 8 + (i 1).val) * 4096 + (i 3).val) % 4096 = _
    omega
  · show (((i 0).val * 4096 + (i 2).val) * 128 + (i 1).val) / 128 = _
    omega
  · show (((i 0).val * 4096 + (i 2).val) * 128 + (i 1).val) % 128 = _
    omega

/-- The masked score. -/
theorem masked_at (i : S2x8x4096x4096.Idx) : val_main_v31 (F := Ideal) x cw ct i
    = Online.sc (fun j => j ≤ (i 2).val) (R.score (i 0).val (i 1).val (i 2).val) (i 3).val := by
  have h2 : (i 2).val < 4096 := (i 2).isLt
  have h3 : (i 3).val < 4096 := (i 3).isLt
  rw [val_main_v31_apply, score_at R, val_main_call0_v1_apply, val_main_v30_apply, val_main_v28_apply, val_main_v25_apply,
    val_main_v24_apply, val_main_v29_apply, val_main_v27_apply, val_main_v26_apply, val_main_call0_v2_apply, val_main_call0_v0_apply,
    val_main_cst_0_apply]
  show Scalar.select (IntOp.cmpi .sle (BitVec.ofNat 32 (i 3).val) (BitVec.ofNat 32 (i 2).val)) _ (Ideal.ofBits .f32 0xFF800000#32) = _
  rw [WordCmp.cmpi_sle_ofNat (by omega) (by omega), WordCmp.select_ofBool, Cert.FoxIdeal.Value.ninf_eq]
  simp only [decide_eq_true_eq]
  rfl

/-- A row's maximum. -/
theorem max_at (i : S2x8x4096.Idx) : val_main_v34 (F := Ideal) x cw ct i
    = max ⊥ (Finset.univ.fold max ⊥ fun k : Fin 4096 =>
        Online.sc (fun j => j ≤ (i 2).val) (R.score (i 0).val (i 1).val (i 2).val) k.val) := by
  rw [val_main_v34_apply, val_main_v33_apply, val_main_cst_2_apply]
  show max (Ideal.ofBits .f32 0xFF800000#32) _ = _
  rw [Cert.FoxIdeal.Value.ninf_eq]
  refine congrArg (max ⊥) ?_
  unfold val_main_v32
  have hr : S2x8x4096x4096.Reduces [3] S2x8x4096 := by decide
  show Host.reduce FloatOps.maximumf _ (constant S_ .f32 0xFF800000#32) _ _ i = _
  rw [hostReduce_maximumf_eq_multiReduction _ _ _ _ hr (by decide) (by decide), Ideal.multiReduction_maximumf_single]
  show Finset.fold max (Ideal.ofBits .f32 0xFF800000#32) _ _ = _
  rw [Cert.FoxIdeal.Value.ninf_eq]
  refine congrArg (fun f => Finset.fold max (⊥ : EReal) f (Finset.univ : Finset (Fin 4096))) (funext fun k => ?_)
  show val_main_v31 (F := Ideal) x cw ct (hr.lift i k) = _
  rw [masked_at R]
  rfl

/-- The result: the softmax of the row's masked scores times the values. -/
theorem result_at (i : S8192x1024.Idx) (b h row : ℕ) (d : Fin 128) (hb : row < 4096) (h8 : h < 8) (e0 : (i 0).val = b * 4096 + row)
    (e1 : (i 1).val = h * 128 + d.val) (X : Fin 4096 → EReal) (hX : X = fun k => Online.sc (fun j => j ≤ row) (R.score b h row) k.val)
    (M : EReal) (hM : M = max ⊥ (Finset.univ.fold max ⊥ X)) : val_main_v46 (F := Ideal) x cw ct i
    = ∑ k : Fin 4096, Ideal.div (Ideal.exp (X k - M)) (0 + ∑ k' : Fin 4096, Ideal.exp (X k' - M)) * (R.value b h d k.val : EReal) := by
  have hi : (i 0).val < 8192 := (i 0).isLt
  have hi1 : (i 1).val < 1024 := (i 1).isLt
  have hx : ∀ k : Fin 4096, ∀ q : S2x8x4096x4096.Idx, (q 0).val = b → (q 1).val = h → (q 2).val = row → (q 3).val = k.val →
      val_main_v38 (F := Ideal) x cw ct q = Ideal.exp (X k - M) := by
    intro k q q0 q1 q2 q3
    rw [val_main_v38_apply, val_main_v37_apply, masked_at R, val_main_v36_apply, val_main_v35_apply, max_at R]
    show Ideal.exp (Online.sc (fun j => j ≤ (q 2).val) (R.score (q 0).val (q 1).val (q 2).val) (q 3).val
      - max ⊥ (Finset.univ.fold max ⊥ fun k : Fin 4096 => Online.sc (fun j => j ≤ (q 2).val) (R.score (q 0).val (q 1).val (q 2).val) k.val)) = _
    rw [q0, q1, q2, q3, hM, hX]
  rw [val_main_v46_apply, val_main_v45_apply, val_main_v44_apply, val_main_v43_apply]
  show (∑ k : Fin 4096, _ : EReal) = _
  refine Finset.sum_congr rfl fun k _ => ?_
  have r0 : ((i 0).val * 1024 + (i 1).val) / 4194304 = b := by omega
  have r1 : ((i 0).val * 1024 + (i 1).val) / 128 % 8 = h := by omega
  have r2 : ((i 0).val * 1024 + (i 1).val) / 1024 % 4096 = row := by omega
  have r3 : ((i 0).val * 1024 + (i 1).val) % 128 = d.val := by omega
  rw [v_at R, val_main_v42_apply, val_main_v41_apply, val_main_v40_apply, val_main_v39_apply, val_main_cst_3_apply]
  congr 1
  · show Ideal.div _ (Ideal.ofBits .f32 0x00000000#32 + _) = _
    rw [Ideal.ofBits_zero_f32, hx k _ r0 r1 r2 rfl]
    congr 2
    refine Finset.sum_congr rfl fun k' _ => hx k' _ r0 r1 r2 rfl
  · congr 1
    have e3 : (⟨((i 0).val * 1024 + (i 1).val) % 128, by omega⟩ : Fin 128) = d := Fin.ext r3
    show R.value (((i 0).val * 1024 + (i 1).val) / 4194304) (((i 0).val * 1024 + (i 1).val) / 128 % 8)
      ⟨((i 0).val * 1024 + (i 1).val) % 128, _⟩ k.val = _
    rw [r0, r1, e3]

end Cert.FoxRefIdeal.Value

end
-- ==== Proof.Fox.Equation.lean ====
/- The attention kernel's result array is the reference's, entry by entry, from finite arguments. -/
module

public import proofs.«01_k».proof.Defs
public import proofs.«01_k».proof.Proof.Finite
public import proofs.«01_k».proof.Proof.Fox.Ref
public import proofs.«01_k».proof.Proof.Gen.FoxIdeal.Value
public import proofs.«01_k».proof.Proof.Gen.Pre_finite

@[expose] public section

set_option maxRecDepth 16384

noncomputable section

namespace Cert.FoxIdeal.Value

open Cert.FoxIdeal Cert.FoxIdeal.Gen Idealize.ShloMosaic Idealize.ShloMosaic.TcCoe Idealize.SL.Sem
open Idealize.ShloMosaic.Pipeline (Dat)

/-- The scale word is a real. -/
theorem scale_real : Ideal.ofBits .f32 0x3DB504F3#32 = ((Ideal.ofBits .f32 0x3DB504F3#32).toReal : EReal) := by
  have e : Ideal.ofBits .f32 0x3DB504F3#32 = ((11863283 * (2 ^ 27)⁻¹ : ℝ) : EReal) := by
    simp [Ideal.ofBits, Ideal.ieee]
  rw [e, EReal.toReal_coe]

/-- Every entry of the result lies in the block of a point that is a last key block. -/
theorem cover5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  obtain ⟨t, ht⟩ : ∃ t : Fin cfg0.N, t.val = (((i 0).val / 4096 * 8 + (i 1).val / 128) * 8 + (i 0).val / 512 % 8) * 8 + 7 :=
    ⟨⟨_, lt_of_lt_of_eq (by omega) (show 1024 = cfg0.N from N_0.symm)⟩, rfl⟩
  have hi := idx5 t
  refine ⟨t, (flush0_5 t).2 (by omega), ?_⟩
  show i ∈ ((View.whole main_v0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [hi.1]; omega
  | ⟨1, _⟩ => show win0_5.index t 1 * 128 ≤ (i 1).val ∧ (i 1).val < win0_5.index t 1 * 128 + 128; rw [hi.2]; omega

section Array

variable (m : (ℓ : Loc nD τ sig) → Buf (Elt Ideal) ℓ) (c : Dev nD) (R : RealArgs m c)

/-- The reference's result of the launch memory's arguments. -/
abbrev refResult : Vec Ideal S8192x1024 .bf16 :=
  Cert.FoxRefIdeal.Read.val_main_v46 (F := Ideal) (m ((c : Thread nD τ).loc main_arg0)) (m ((c : Thread nD τ).loc main_arg1))
    (m ((c : Thread nD τ).loc main_arg2))

include R in
/-- The block point `t` writes out at its last key block, row `r`, lane `d`. -/
theorem block_apply (t : Fin cfg0.N) (h2 : t.val % 8 = 7) (r : Fin 512) (d : Fin 128) (i : S8192x1024.Idx)
    (e0 : (i 0).val = t.val / 512 * 4096 + (512 * (t.val / 8 % 8) + r.val)) (e1 : (i 1).val = t.val / 64 % 8 * 128 + d.val) :
    (outsAt0 m c t.val t.isLt).1 (ix2 r d) = refResult m c i := by
  have ht := lt_N t
  rw [out_eq m c t h2, pay7_apply]
  have hinv := (state m c R t.val t.isLt r).1
  have hmin : min (t.val % 8) (t.val / 8 % 8) = t.val / 8 % 8 := by omega
  rw [hmin] at hinv
  rw [refResult, Cert.FoxRefIdeal.Value.result_at R i (t.val / 512) (t.val / 64 % 8) (512 * (t.val / 8 % 8) + r.val) d (by omega) (by omega) e0 e1
    _ rfl _ rfl]
  have hn : 512 * (t.val / 8 % 8) + 512 ≤ 4096 := by omega
  have hp : ∃ j, j < 512 * (t.val / 8 % 8) + 512 ∧ j ≤ 512 * (t.val / 8 % 8) + r.val := ⟨0, by omega, by omega⟩
  have hmask : ∀ j, 512 * (t.val / 8 % 8) + 512 ≤ j → ¬ j ≤ 512 * (t.val / 8 % 8) + r.val := fun j hj hle => by
    have hr := r.isLt
    omega
  have hfin := Online.finish hn hp hmask hinv
  exact hfin _ _ (fun d k => (R.value (t.val / 512) (t.val / 64 % 8) d k.val : EReal)) (fun _ => rfl) (fun _ _ => rfl) rfl d

include R in
/-- The array the kernel leaves is the reference's result. -/
theorem array_eq : (dats m 0 c).arrAt 5 cfg0.N = refResult m c := by
  refine Dat.arrAt_eq_of_cover (dats m 0 c) 5 (refResult m c) (fun t ht => ?_) (fun i => ?_)
  · have h2 := (flush0_5 t).1 ht
    have hi := idx5 t
    rw [flushed5]
    funext j
    rw [View.read_apply]
    have ej : (j : S512x128.Idx) = ix2 (j 0) (j 1) := eq_ix2 (j : S512x128.Idx)
    show (outsAt0 m c t.val t.isLt).1 j = refResult m c _
    rw [ej]
    refine block_apply m c R t h2 (j 0) (j 1) _ ?_ ?_
    · show win0_5.index t 0 * 512 + 1 * (j 0).val = _
      rw [hi.1]; omega
    · show win0_5.index t 1 * 128 + 1 * (j 1).val = _
      rw [hi.2]; omega
  · exact cover5 i

end Array

/-- Finite arguments have real entries. -/
def realArgs (m : (ℓ : Loc nD τ sig) → Buf (Elt Ideal) ℓ) (h : Cert.Pre_FoxIdeal_finite m) (c : Dev nD) : RealArgs m c :=
  let x : Vec Ideal S8192x3072 .bf16 := m ((c : Thread nD τ).loc main_arg0)
  let cw : Vec Ideal S8192x128 .f32 := m ((c : Thread nD τ).loc main_arg1)
  let ct : Vec Ideal S2x128x1x4096 .f32 := m ((c : Thread nD τ).loc main_arg2)
  have hc : ∀ i, Cert.Pre_finite.fn (F := Ideal) x cw ct i = 1#1 := fun i => congrFun (h c) i
  { Q := fun i j => if e : i < 8192 ∧ j < 3072 then (x (ix2 ⟨i, e.1⟩ ⟨j, e.2⟩) : EReal).toReal else 0
    C := fun i j => if e : i < 8192 ∧ j < 128 then (cw (ix2 ⟨i, e.1⟩ ⟨j, e.2⟩) : EReal).toReal else 0
    T := fun b h j => if e : b < 2 ∧ h < 128 ∧ j < 4096 then (ct (ix4 ⟨b, e.1⟩ ⟨h, e.2.1⟩ 0 ⟨j, e.2.2⟩) : EReal).toReal else 0
    σ := (Ideal.ofBits .f32 0x3DB504F3#32).toReal
    hQ := fun i j => by
      rw [dif_pos ⟨i.isLt, j.isLt⟩]
      have h1 := (IntOp.andi_eq_one.1 (IntOp.andi_eq_one.1 (hc (Shape.Idx.first Cert.Pre_finite.Gen.h_S_))).1).1
      exact Cert.Finite.of_cmp _ (Host.reduce_andi_all _ _ _ _ _ h1 (ix2 i j))
    hC := fun i j => by
      rw [dif_pos ⟨i.isLt, j.isLt⟩]
      have h1 := (IntOp.andi_eq_one.1 (IntOp.andi_eq_one.1 (hc (Shape.Idx.first Cert.Pre_finite.Gen.h_S_))).1).2
      exact Cert.Finite.of_cmp _ (Host.reduce_andi_all _ _ _ _ _ h1 (ix2 i j))
    hT := fun b h j => by
      rw [dif_pos ⟨b.isLt, h.isLt, j.isLt⟩]
      have h1 := (IntOp.andi_eq_one.1 (hc (Shape.Idx.first Cert.Pre_finite.Gen.h_S_))).2
      exact Cert.Finite.of_cmp _ (Host.reduce_andi_all _ _ _ _ _ h1 (ix4 b h 0 j))
    hσ := scale_real }

/-- From memories agreeing on finite arguments the kernel and the reference end with equal results. -/
theorem algebraic : Cert.algebraic_FoxIdeal_FoxRefIdeal_pre_finite := by
  intro m ρ m' ρ' hpre hagree
  refine ⟨fun c => refResult m c, ?_, ?_⟩
  · exact (θ_run Cert.FoxIdeal.defs _ _).mono
      (fun _ h c => ⟨(h c).1.trans (array_eq m c (realArgs m hpre c)), (h c).2⟩) (run_blocks m ρ)
  · refine (θ_run Cert.FoxRefIdeal.defs _ _).mono (fun _ h c => ⟨(h c).1.trans ?_, (h c).2⟩)
      (Cert.FoxRefIdeal.Value.run (F := Ideal) m' ρ')
    rw [Cert.FoxRefIdeal.Read.val_main_v46_eq, (hagree c).1, (hagree c).2.1, (hagree c).2.2]

end Cert.FoxIdeal.Value

end
-- ==== Proof.Memory.Run.lean ====
/- The run of the two regions: what the result array holds at the end. -/
module

public import proofs.«01_k».proof.Proof.Gen.MemoryIdeal.Frame

@[expose] public section

set_option maxRecDepth 16384

noncomputable section

namespace Cert.MemoryIdeal.Value

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array holding what the second region leaves in it, the argument arrays unchanged. -/
theorem run_blocks : θ_run defs (onTc (τ := τ) (main (F := F))) ⟨m, fun _ => 0, ρ⟩ (fun r => ∀ c : Dev nD,
      r.2.mem ((c.tc : Thread nD τ).loc main_v5) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v5 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.MemoryIdeal.Value

end
-- ==== Proof.Rows.lean ====
/- What the layer's dense blocks compute of one row, over the extended reals. -/
module

public import Idealize.ShloMosaic.Lib.Pointwise

@[expose] public section

noncomputable section

namespace Cert.Rows

open Idealize.ShloMosaic

/-- A row of 2048 entries over the root of its mean square, times a gain. -/
def rms (x g : Fin 2048 → EReal) (k : Fin 2048) : EReal :=
  x k * Ideal.rsqrt (Ideal.div (∑ j, x j * x j) (Ideal.ofBits .f32 0x45000000#32) + Ideal.ofBits .f32 0x358637BD#32) * g k

/-- The scores of one query row over the memory's keys. -/
def scores {M D : ℕ} (q : Fin D → EReal) (k : Fin M → Fin D → EReal) (m : Fin M) : EReal :=
  (∑ e, q e * k m e) * Ideal.ofBits .f32 0x3D3504F3#32

/-- The softmax of one row of scores. -/
def softmax {M : ℕ} (s : Fin M → EReal) (m : Fin M) : EReal :=
  Ideal.div (Ideal.exp (s m - Finset.univ.fold max ⊥ s)) (∑ j, Ideal.exp (s j - Finset.univ.fold max ⊥ s))

/-- The weighted values of one query row. -/
def attend {M D : ℕ} (q : Fin D → EReal) (k v : Fin M → Fin D → EReal) (d : Fin D) : EReal :=
  ∑ m, softmax (scores q k) m * v m d

/-- A normalized row times a column of a weight matrix. -/
def project {N : ℕ} (x g : Fin 2048 → EReal) (w : Fin 2048 → Fin N → EReal) (d : Fin N) : EReal :=
  ∑ k, rms x g k * w k d

/-- Column `f` of a row's four attention heads of 512 columns side by side, the row's queries being `q`. -/
def heads {M : ℕ} (q : Fin 2048 → EReal) (k v : Fin M → Fin 2048 → EReal) (f : Fin 2048) : EReal :=
  attend (fun e : Fin 512 => q ⟨f.val / 512 * 512 + e.val, by omega⟩) (fun m e => k m ⟨f.val / 512 * 512 + e.val, by omega⟩)
    (fun m e => v m ⟨f.val / 512 * 512 + e.val, by omega⟩) ⟨f.val % 512, by omega⟩

/-- A row after cross-attention to the memory and its output projection. -/
def crossed {M : ℕ} (h g : Fin 2048 → EReal) (wq : Fin 2048 → Fin 2048 → EReal) (k v : Fin M → Fin 2048 → EReal)
    (wo : Fin 2048 → Fin 2048 → EReal) (d : Fin 2048) : EReal :=
  h d + ∑ f, heads (project h g wq) k v f * wo f d

end Cert.Rows

end
-- ==== Proof.Memory.Payload.lean ====
/- The bodies of the memory's projections and of the cross-attention read at an index, over the extended reals. -/
module

public import proofs.«01_k».proof.Proof.Gen.MemoryIdeal.Skeleton
public import proofs.«01_k».proof.Proof.Rows
public import Idealize.ShloMosaic.Lib.Pointwise
public import Idealize.ShloMosaic.Lib.Pipeline.Value

@[expose] public section

set_option maxRecDepth 16384

noncomputable section

namespace Cert.MemoryIdeal.Value

open Cert.MemoryIdeal Cert.MemoryIdeal.Gen Idealize.ShloMosaic Idealize.ShloMosaic.TcCoe Idealize.SL.Sem

theorem ninf_eq : Ideal.ofBits .f32 0xFF800000#32 = ⊥ := by simp [Ideal.ofBits, Ideal.ieee]

/-- The normalized memory tokens. -/
theorem norm0_apply (x : Vec Ideal S512x2048 .f32) (g : Vec Ideal S1x2048 .f32) (r : Fin 512) (k : Fin 2048) :
    k0_pay1 (F := Ideal) x g (ix2 r k) = Rows.rms (fun j => x (ix2 r j)) (fun j => g (ix2 0 j)) k := by
  unfold Rows.rms
  pointwise [k0_pay1]

/-- A block of the keys. -/
theorem keys0_apply (x : Vec Ideal S512x2048 .f32) (g : Vec Ideal S1x2048 .f32) (w : Vec Ideal S2048x512 .f32) (r d : Fin 512) :
    k0_pay2 (F := Ideal) x g w (ix2 r d) = ∑ k : Fin 2048, k0_pay1 (F := Ideal) x g (ix2 r k) * w (ix2 k d) := by
  pointwise [k0_pay2]

/-- A block of the values. -/
theorem values0_apply (x : Vec Ideal S512x2048 .f32) (g : Vec Ideal S1x2048 .f32) (w : Vec Ideal S2048x512 .f32) (r d : Fin 512) :
    k0_pay3 (F := Ideal) x g w (ix2 r d) = ∑ k : Fin 2048, k0_pay1 (F := Ideal) x g (ix2 r k) * w (ix2 k d) := by
  pointwise [k0_pay3]

/-- The queries: the normalized rows times the query weights. -/
theorem queries_apply (x : Vec Ideal S256x2048 .f32) (g : Vec Ideal S1x2048 .f32) (w : Vec Ideal S2048x2048 .bf16) (r : Fin 256) (d : Fin 2048) :
    k1_pay2 (F := Ideal) x g w (ix2 r d) = ∑ k : Fin 2048, Rows.rms (fun j => x (ix2 r j)) (fun j => g (ix2 0 j)) k * w (ix2 k d) := by
  unfold Rows.rms
  pointwise [k1_pay2]

/-- Head 0's attention. -/
theorem head0_apply (x : Vec Ideal S256x2048 .f32) (g : Vec Ideal S1x2048 .f32) (w : Vec Ideal S2048x2048 .bf16) (k v : Vec Ideal S256x512 .bf16)
    (r : Fin 256) (d : Fin 512) : k1_pay3 (F := Ideal) x g w k v (ix2 r d)
      = Rows.attend (fun e => k1_pay2 (F := Ideal) x g w (ix2 r ⟨e.val, by omega⟩)) (fun m e => k (ix2 m e)) (fun m e => v (ix2 m e)) d := by
  unfold Rows.attend Rows.softmax Rows.scores
  rw [← ninf_eq]
  pointwise [k1_pay3]

/-- Head 1's attention. -/
theorem head1_apply (q : Vec Ideal S256x2048 .bf16) (k v : Vec Ideal S256x512 .bf16) (r : Fin 256) (d : Fin 512) :
    k1_pay4 (F := Ideal) q k v (ix2 r d)
      = Rows.attend (fun e => q (ix2 r ⟨512 + e.val, by omega⟩)) (fun m e => k (ix2 m e)) (fun m e => v (ix2 m e)) d := by
  unfold Rows.attend Rows.softmax Rows.scores
  rw [← ninf_eq]
  pointwise [k1_pay4]

/-- Head 2's attention. -/
theorem head2_apply (q : Vec Ideal S256x2048 .bf16) (k v : Vec Ideal S256x512 .bf16) (r : Fin 256) (d : Fin 512) :
    k1_pay5 (F := Ideal) q k v (ix2 r d)
      = Rows.attend (fun e => q (ix2 r ⟨1024 + e.val, by omega⟩)) (fun m e => k (ix2 m e)) (fun m e => v (ix2 m e)) d := by
  unfold Rows.attend Rows.softmax Rows.scores
  rw [← ninf_eq]
  pointwise [k1_pay5]

/-- Head 3's attention, of queries already cut out. -/
def head3 (q : FVec Ideal S256x512 .bf16) (k v : Vec Ideal S256x512 .bf16) : FVec Ideal S256x512 .bf16 :=
  let s : FVec Ideal S256x256 .f32 := mulf (matmul (φ₁ := .bf16) (φ₂ := .bf16) dot_S256x512_S256x512_S256x256_1_1_0_0_n_n none q
    (shapeCast S256x512 k shapeCasts_S256x512_S256x512) (constant S256x256 .f32 0x00000000#32))
    (broadcast S256x256 (Scalar.ofBits (F := Ideal) .f32 0x3D3504F3#32))
  let p : FVec Ideal S256x256 .f32 := exp (subf s (broadcastTo S256x256 (shapeCast S256x1
    (multiReduction .maximumf [1] S256 s 0xFF800000#32 reduces_S256x256_S256 (.inl rfl) rfl) shapeCasts_S256_S256x1) broadcasts_S256x1_S256x256))
  let n : FVec Ideal S256x256 .f32 := divf p (broadcastTo S256x256 (shapeCast S256x1
    (multiReduction .add [1] S256 p 0x00000000#32 reduces_S256x256_S256 (.inl rfl) rfl) shapeCasts_S256_S256x1) broadcasts_S256x1_S256x256)
  truncf .bf16 (matmul (φ₁ := .bf16) (φ₂ := .bf16) dot_S256x256_S256x512_S256x512_1_0_0_1_n_n none (truncf .bf16 n bitsLt_bf16_f32)
    (shapeCast S256x512 v shapeCasts_S256x512_S256x512) (constant S256x512 .f32 0x00000000#32)) bitsLt_bf16_f32

theorem head3_apply (q : FVec Ideal S256x512 .bf16) (k v : Vec Ideal S256x512 .bf16) (r : Fin 256) (d : Fin 512) :
    head3 q k v (ix2 r d) = Rows.attend (fun e => q (ix2 r e)) (fun m e => k (ix2 m e)) (fun m e => v (ix2 m e)) d := by
  unfold Rows.attend Rows.softmax Rows.scores
  rw [← ninf_eq]
  pointwise [head3]

/-- The four heads side by side. -/
def joined (a b c e : FVec Ideal S256x512 .bf16) : FVec Ideal S256x2048 .bf16 :=
  concatenate S256x2048 1 [⟨S256x512, a⟩, ⟨S256x512, b⟩, ⟨S256x512, c⟩, ⟨S256x512, e⟩]
    concatenates_S256x512_S256x512_S256x512_S256x512_S256x2048_d1

theorem joined_apply (a b c e : FVec Ideal S256x512 .bf16) (r : Fin 256) (k : Fin 2048) (f : Fin 512) (n : ℕ) (hk : k.val = n * 512 + f.val) :
    (n = 0 → joined a b c e (ix2 r k) = a (ix2 r f)) ∧ (n = 1 → joined a b c e (ix2 r k) = b (ix2 r f))
      ∧ (n = 2 → joined a b c e (ix2 r k) = c (ix2 r f)) ∧ (n = 3 → joined a b c e (ix2 r k) = e (ix2 r f)) := by
  refine ⟨fun hn => ?_, fun hn => ?_, fun hn => ?_, fun hn => ?_⟩
  all_goals unfold joined
  · refine concatenate_apply_piece (1 : Fin S256x2048.rank) _ _ _ 0 (by simp) S256x512 a rfl rfl 0 (by rfl) (ix2 r f) ?_ (by simp [ix2]; omega)
    intro b hb
    match b with
    | ⟨0, _⟩ => rfl
    | ⟨1, _⟩ => exact absurd rfl hb
  · refine concatenate_apply_piece (1 : Fin S256x2048.rank) _ _ _ 1 (by simp) S256x512 b rfl rfl 512 (by rfl) (ix2 r f) ?_ (by simp [ix2]; omega)
    intro b hb
    match b with
    | ⟨0, _⟩ => rfl
    | ⟨1, _⟩ => exact absurd rfl hb
  · refine concatenate_apply_piece (1 : Fin S256x2048.rank) _ _ _ 2 (by simp) S256x512 c rfl rfl 1024 (by rfl) (ix2 r f) ?_ (by simp [ix2]; omega)
    intro b hb
    match b with
    | ⟨0, _⟩ => rfl
    | ⟨1, _⟩ => exact absurd rfl hb
  · refine concatenate_apply_piece (1 : Fin S256x2048.rank) _ _ _ 3 (by simp) S256x512 e rfl rfl 1536 (by rfl) (ix2 r f) ?_ (by simp [ix2]; omega)
    intro b hb
    match b with
    | ⟨0, _⟩ => rfl
    | ⟨1, _⟩ => exact absurd rfl hb

/-- The residual rows and their product with the output weights. -/
def projected (x : Vec Ideal S256x2048 .f32) (o : FVec Ideal S256x2048 .bf16) (w : Vec Ideal S2048x2048 .bf16) : FVec Ideal S256x2048 .f32 :=
  addf x (matmul (φ₁ := .bf16) (φ₂ := .bf16) dot_S256x2048_S2048x2048_S256x2048_1_0_0_1_n_n none o (shapeCast S2048x2048 w shapeCasts_S2048x2048_S2048x2048)
    (constant S256x2048 .f32 0x00000000#32))

theorem projected_apply (x : Vec Ideal S256x2048 .f32) (o : FVec Ideal S256x2048 .bf16) (w : Vec Ideal S2048x2048 .bf16) (r : Fin 256) (d : Fin 2048) :
    projected x o w (ix2 r d) = x (ix2 r d) + ∑ k : Fin 2048, o (ix2 r k) * w (ix2 k d) := by
  pointwise [projected]

/-- The body's last block. -/
theorem out_eq (x : Vec Ideal S256x2048 .f32) (a b c : FVec Ideal S256x512 .bf16) (q : FVec Ideal S256x512 .bf16) (k v : Vec Ideal S256x512 .bf16)
    (w : Vec Ideal S2048x2048 .bf16) : k1_pay1 (F := Ideal) x a b c q k v w = projected x (joined a b c (head3 q k v)) w := rfl

/-- The queries of head 3. -/
theorem queries3_apply (q : FVec Ideal S256x2048 .bf16) (r : Fin 256) (d : Fin 512) :
    k1_pay6 (F := Ideal) q (ix2 r d) = q (ix2 r ⟨1536 + d.val, by omega⟩) := by
  pointwise [k1_pay6]

end Cert.MemoryIdeal.Value

end
-- ==== Proof.Memory.Keys.lean ====
/- The first region: the memory's keys and values, each the normalized memory tokens times a weight matrix. -/
module

public import proofs.«01_k».proof.Proof.Memory.Payload
public import proofs.«01_k».proof.Proof.Gen.MemoryIdeal.Frame

@[expose] public section

set_option maxRecDepth 16384

noncomputable section

namespace Cert.MemoryIdeal.Value

open Cert.MemoryIdeal Cert.MemoryIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx0_0 : ∀ t : Fin grid0.N, win0_0.index t 0 = 0 ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = 0 ∧ win0_2.index t 1 = t.val := by decide +kernel
theorem idx0_3 : ∀ t : Fin grid0.N, win0_3.index t 0 = 0 ∧ win0_3.index t 1 = t.val := by decide +kernel
theorem idx0_4 : ∀ t : Fin grid0.N, win0_4.index t 0 = 0 ∧ win0_4.index t 1 = t.val := by decide +kernel
theorem idx0_5 : ∀ t : Fin grid0.N, win0_5.index t 0 = 0 ∧ win0_5.index t 1 = t.val := by decide +kernel

theorem lt_N0 (t : Fin cfg0.N) : t.val < 4 := lt_of_lt_of_eq t.isLt (show cfg0.N = 4 from N_0)

/-- The whole block of memory tokens. -/
theorem tokens_read (t : Fin cfg0.N) (r : Fin 512) (k : Fin 2048) :
    (iblk0 V c 0 t : Vec Ideal S512x2048 .f32) (ix2 r k) = (V c main_arg1 : Vec Ideal S512x2048 .f32) (ix2 r k) := by
  have hi := idx0_0 t
  unfold iblk0
  rw [View.read_apply]
  show V c main_arg1 _ = V c main_arg1 _
  congr 1
  funext a
  apply Fin.ext
  match a with
  | ⟨0, _⟩ => show win0_0.index t 0 * 512 + 1 * r.val = r.val; rw [hi.1]; omega
  | ⟨1, _⟩ => show win0_0.index t 1 * 2048 + 1 * k.val = k.val; rw [hi.2]; omega

/-- The gain row. -/
theorem gain0_read (t : Fin cfg0.N) (k : Fin 2048) :
    (iblk0 V c 1 t : Vec Ideal S1x2048 .f32) (ix2 0 k) = (V c main_v0 : Vec Ideal S1x2048 .f32) (ix2 0 k) := by
  have hi := idx0_1 t
  unfold iblk0
  rw [View.read_apply]
  show V c main_v0 _ = V c main_v0 _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

/-- The columns of the key weights a point reads. -/
theorem wk_read (t : Fin cfg0.N) (k : Fin 2048) (d : Fin 512) (q : Fin 2048) (hq : q.val = t.val * 512 + d.val) :
    (iblk0 V c 2 t : Vec Ideal S2048x512 .f32) (ix2 k d) = (V c main_arg5 : Vec Ideal S2048x2048 .f32) (ix2 k q) := by
  have hi := idx0_2 t
  unfold iblk0
  rw [View.read_apply]
  show V c main_arg5 _ = V c main_arg5 _
  congr 1
  funext a
  apply Fin.ext
  match a with
  | ⟨0, _⟩ => show win0_2.index t 0 * 2048 + 1 * k.val = k.val; rw [hi.1]; omega
  | ⟨1, _⟩ => show win0_2.index t 1 * 512 + 1 * d.val = q.val; rw [hi.2]; omega

/-- The columns of the value weights a point reads. -/
theorem wv_read (t : Fin cfg0.N) (k : Fin 2048) (d : Fin 512) (q : Fin 2048) (hq : q.val = t.val * 512 + d.val) :
    (iblk0 V c 3 t : Vec Ideal S2048x512 .f32) (ix2 k d) = (V c main_arg6 : Vec Ideal S2048x2048 .f32) (ix2 k q) := by
  have hi := idx0_3 t
  unfold iblk0
  rw [View.read_apply]
  show V c main_arg6 _ = V c main_arg6 _
  congr 1
  funext a
  apply Fin.ext
  match a with
  | ⟨0, _⟩ => show win0_3.index t 0 * 2048 + 1 * k.val = k.val; rw [hi.1]; omega
  | ⟨1, _⟩ => show win0_3.index t 1 * 512 + 1 * d.val = q.val; rw [hi.2]; omega

/-- The normalized tokens times a weight matrix. -/
def projected0 (w : Vec Ideal S2048x2048 .f32) (p : Fin 512) (q : Fin 2048) : EReal :=
  Rows.project (fun j => (V c main_arg1 : Vec Ideal S512x2048 .f32) (ix2 p j)) (fun j => (V c main_v0 : Vec Ideal S1x2048 .f32) (ix2 0 j))
    (fun k d => w (ix2 k d)) q

theorem keys_block (t : Fin cfg0.N) (r d : Fin 512) (p : Fin 512) (q : Fin 2048) (hp : p.val = r.val) (hq : q.val = t.val * 512 + d.val) :
    out0_4 (F := Ideal) (iblk0 V c 0 t) (iblk0 V c 1 t) (iblk0 V c 2 t) (iblk0 V c 3 t) (ix2 r d) = projected0 V c (V c main_arg5) p q := by
  obtain rfl : p = r := Fin.ext hp
  have z2 : (![0, 0] : Fin 2 → ℕ) = fun _ => 0 := by funext a; match a with | ⟨0, _⟩ => rfl | ⟨1, _⟩ => rfl
  unfold out0_4
  rw [View.canon_unit_zero z2, View.ld_unit_zero z2, View.ld_unit_zero z2, View.ld_unit_zero z2, keys0_apply]
  unfold projected0 Rows.project
  refine Finset.sum_congr rfl fun k _ => ?_
  rw [norm0_apply, wk_read V c t k d q hq]
  congr 2
  · funext j; exact tokens_read V c t p j
  · funext j; exact gain0_read V c t j

theorem values_block (t : Fin cfg0.N) (r d : Fin 512) (p : Fin 512) (q : Fin 2048) (hp : p.val = r.val) (hq : q.val = t.val * 512 + d.val) :
    out0_5 (F := Ideal) (iblk0 V c 0 t) (iblk0 V c 1 t) (iblk0 V c 2 t) (iblk0 V c 3 t) (ix2 r d) = projected0 V c (V c main_arg6) p q := by
  obtain rfl : p = r := Fin.ext hp
  have z2 : (![0, 0] : Fin 2 → ℕ) = fun _ => 0 := by funext a; match a with | ⟨0, _⟩ => rfl | ⟨1, _⟩ => rfl
  unfold out0_5
  rw [View.canon_unit_zero z2, View.ld_unit_zero z2, View.ld_unit_zero z2, View.ld_unit_zero z2, values0_apply]
  unfold projected0 Rows.project
  refine Finset.sum_congr rfl fun k _ => ?_
  rw [norm0_apply, wv_read V c t k d q hq]
  congr 2
  · funext j; exact tokens_read V c t p j
  · funext j; exact gain0_read V c t j

theorem cover0_4' (i : S512x2048.Idx) : ∃ t : Fin cfg0.N, (cfg0.win 4).flush t = true ∧ i ∈ ((cfg0.win 4).blk t).view.set := by
  have h0 : (i 0).val < 512 := (i 0).isLt
  have h1 : (i 1).val < 2048 := (i 1).isLt
  obtain ⟨t, ht⟩ : ∃ t : Fin cfg0.N, t.val = (i 1).val / 512 := ⟨⟨_, lt_of_lt_of_eq (by omega) (show 4 = cfg0.N from N_0.symm)⟩, rfl⟩
  have hi := idx0_4 t
  refine ⟨t, flush0_4 t, ?_⟩
  show i ∈ ((View.whole main_v1_0).slice (win0_4.rect t)).set
  rw [View.set_slice_whole, Rect.mem_set_unit]
  intro a
  match a with
  | ⟨0, _⟩ => show win0_4.index t 0 * 512 ≤ (i 0).val ∧ (i 0).val < win0_4.index t 0 * 512 + 512; rw [hi.1]; omega
  | ⟨1, _⟩ => show win0_4.index t 1 * 512 ≤ (i 1).val ∧ (i 1).val < win0_4.index t 1 * 512 + 512; rw [hi.2]; omega

theorem cover0_5' (i : S512x2048.Idx) : ∃ t : Fin cfg0.N, (cfg0.win 5).flush t = true ∧ i ∈ ((cfg0.win 5).blk t).view.set := by
  have h0 : (i 0).val < 512 := (i 0).isLt
  have h1 : (i 1).val < 2048 := (i 1).isLt
  obtain ⟨t, ht⟩ : ∃ t : Fin cfg0.N, t.val = (i 1).val / 512 := ⟨⟨_, lt_of_lt_of_eq (by omega) (show 4 = cfg0.N from N_0.symm)⟩, rfl⟩
  have hi := idx0_5 t
  refine ⟨t, flush0_5 t, ?_⟩
  show i ∈ ((View.whole main_v1_1).slice (win0_5.rect t)).set
  rw [View.set_slice_whole, Rect.mem_set_unit]
  intro a
  match a with
  | ⟨0, _⟩ => show win0_5.index t 0 * 512 ≤ (i 0).val ∧ (i 0).val < win0_5.index t 0 * 512 + 512; rw [hi.1]; omega
  | ⟨1, _⟩ => show win0_5.index t 1 * 512 ≤ (i 1).val ∧ (i 1).val < win0_5.index t 1 * 512 + 512; rw [hi.2]; omega

/-- The array of keys the region leaves. -/
def keysArr : Vec Ideal S512x2048 .bf16 := fun i => projected0 V c (V c main_arg5) (i 0) (i 1)

/-- The array of values the region leaves. -/
def valuesArr : Vec Ideal S512x2048 .bf16 := fun i => projected0 V c (V c main_arg6) (i 0) (i 1)

theorem keys_array : (dat0 (F := Ideal) V c).arrAt 4 cfg0.N = keysArr V c := by
  refine Dat.arrAt_eq_of_cover (dat0 (F := Ideal) V c) 4 (keysArr V c) (fun t _ => ?_) (fun i => cover0_4' i)
  have hi := idx0_4 t
  show (cfg0.win 4).cut (grid0.coords t) ((dat0 (F := Ideal) V c).after 4 t) = _
  rw [after0_4]
  funext j
  rw [View.read_apply]
  have ej : (j : S512x512.Idx) = ix2 (j 0) (j 1) := eq_ix2 (j : S512x512.Idx)
  show out0_4 (F := Ideal) (iblk0 V c 0 t) (iblk0 V c 1 t) (iblk0 V c 2 t) (iblk0 V c 3 t) j = keysArr V c _
  rw [ej]
  refine keys_block V c t (j 0) (j 1) _ _ ?_ ?_
  · show win0_4.index t 0 * 512 + 1 * (j 0).val = _
    rw [hi.1]; omega
  · show win0_4.index t 1 * 512 + 1 * (j 1).val = _
    rw [hi.2]; omega

theorem values_array : (dat0 (F := Ideal) V c).arrAt 5 cfg0.N = valuesArr V c := by
  refine Dat.arrAt_eq_of_cover (dat0 (F := Ideal) V c) 5 (valuesArr V c) (fun t _ => ?_) (fun i => cover0_5' i)
  have hi := idx0_5 t
  show (cfg0.win 5).cut (grid0.coords t) ((dat0 (F := Ideal) V c).after 5 t) = _
  rw [after0_5]
  funext j
  rw [View.read_apply]
  have ej : (j : S512x512.Idx) = ix2 (j 0) (j 1) := eq_ix2 (j : S512x512.Idx)
  show out0_5 (F := Ideal) (iblk0 V c 0 t) (iblk0 V c 1 t) (iblk0 V c 2 t) (iblk0 V c 3 t) j = valuesArr V c _
  rw [ej]
  refine values_block V c t (j 0) (j 1) _ _ ?_ ?_
  · show win0_5.index t 0 * 512 + 1 * (j 0).val = _
    rw [hi.1]; omega
  · show win0_5.index t 1 * 512 + 1 * (j 1).val = _
    rw [hi.2]; omega

end Cert.MemoryIdeal.Value

end
-- ==== Proof.Memory.Cross.lean ====
/- The second region: each row after cross-attention to the memory and its output projection. -/
module

public import proofs.«01_k».proof.Proof.Memory.Payload
public import proofs.«01_k».proof.Proof.Gen.MemoryIdeal.Frame

@[expose] public section

set_option maxRecDepth 16384

noncomputable section

namespace Cert.MemoryIdeal.Value

open Cert.MemoryIdeal Cert.MemoryIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem lt_N1 (t : Fin cfg1.N) : t.val < 32 := lt_of_lt_of_eq t.isLt (show cfg1.N = 32 from N_1)

theorem idx1_0 : ∀ t : Fin grid1.N, win1_0.index t 0 = t.val ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = 0 ∧ win1_2.index t 1 = 0 := by decide +kernel
theorem idx1_3 : ∀ t : Fin grid1.N, win1_3.index t 0 = t.val / 16 ∧ win1_3.index t 1 = 0 := by decide +kernel
theorem idx1_4 : ∀ t : Fin grid1.N, win1_4.index t 0 = t.val / 16 ∧ win1_4.index t 1 = 0 := by decide +kernel
theorem idx1_5 : ∀ t : Fin grid1.N, win1_5.index t 0 = 0 ∧ win1_5.index t 1 = 0 := by decide +kernel
theorem idx1_6 : ∀ t : Fin grid1.N, win1_6.index t 0 = t.val ∧ win1_6.index t 1 = 0 := by decide +kernel

/-- The rows a point reads. -/
theorem rows_read (t : Fin cfg1.N) (r : Fin 256) (k : Fin 2048) (p : Fin 8192) (hp : p.val = t.val * 256 + r.val) :
    (iblk1 V c 0 t : Vec Ideal S256x2048 .f32) (ix2 r k) = (V c main_arg0 : Vec Ideal S8192x2048 .f32) (ix2 p k) := by
  have hi := idx1_0 t
  unfold iblk1
  rw [View.read_apply]
  show V c main_arg0 _ = V c main_arg0 _
  congr 1
  funext a
  apply Fin.ext
  match a with
  | ⟨0, _⟩ => show win1_0.index t 0 * 256 + 1 * r.val = p.val; rw [hi.1]; omega
  | ⟨1, _⟩ => show win1_0.index t 1 * 2048 + 1 * k.val = k.val; rw [hi.2]; omega

/-- The gain row. -/
theorem gain1_read (t : Fin cfg1.N) (r : Fin 1) (k : Fin 2048) (p : Fin 1) (hp : p.val = r.val) :
    (iblk1 V c 1 t : Vec Ideal S1x2048 .f32) (ix2 r k) = (V c main_v2 : Vec Ideal S1x2048 .f32) (ix2 p k) := by
  have hi := idx1_1 t
  unfold iblk1
  rw [View.read_apply]
  show V c main_v2 _ = V c main_v2 _
  congr 1
  funext a
  apply Fin.ext
  match a with
  | ⟨0, _⟩ => show win1_1.index t 0 * 1 + 1 * r.val = p.val; rw [hi.1]; omega
  | ⟨1, _⟩ => show win1_1.index t 1 * 2048 + 1 * k.val = k.val; rw [hi.2]; omega

/-- The query weights. -/
theorem wq_read (t : Fin cfg1.N) (r : Fin 2048) (k : Fin 2048) (p : Fin 2048) (hp : p.val = r.val) :
    (iblk1 V c 2 t : Vec Ideal S2048x2048 .bf16) (ix2 r k) = (V c main_v3 : Vec Ideal S2048x2048 .bf16) (ix2 p k) := by
  have hi := idx1_2 t
  unfold iblk1
  rw [View.read_apply]
  show V c main_v3 _ = V c main_v3 _
  congr 1
  funext a
  apply Fin.ext
  match a with
  | ⟨0, _⟩ => show win1_2.index t 0 * 2048 + 1 * r.val = p.val; rw [hi.1]; omega
  | ⟨1, _⟩ => show win1_2.index t 1 * 2048 + 1 * k.val = k.val; rw [hi.2]; omega

/-- The keys of the point's batch. -/
theorem keys_read (t : Fin cfg1.N) (r : Fin 256) (k : Fin 2048) (p : Fin 512) (hp : p.val = t.val / 16 * 256 + r.val) :
    (iblk1 V c 3 t : Vec Ideal S256x2048 .bf16) (ix2 r k) = (V c main_v1_0 : Vec Ideal S512x2048 .bf16) (ix2 p k) := by
  have hi := idx1_3 t
  unfold iblk1
  rw [View.read_apply]
  show V c main_v1_0 _ = V c main_v1_0 _
  congr 1
  funext a
  apply Fin.ext
  match a with
  | ⟨0, _⟩ => show win1_3.index t 0 * 256 + 1 * r.val = p.val; rw [hi.1]; omega
  | ⟨1, _⟩ => show win1_3.index t 1 * 2048 + 1 * k.val = k.val; rw [hi.2]; omega

/-- The values of the point's batch. -/
theorem values_read (t : Fin cfg1.N) (r : Fin 256) (k : Fin 2048) (p : Fin 512) (hp : p.val = t.val / 16 * 256 + r.val) :
    (iblk1 V c 4 t : Vec Ideal S256x2048 .bf16) (ix2 r k) = (V c main_v1_1 : Vec Ideal S512x2048 .bf16) (ix2 p k) := by
  have hi := idx1_4 t
  unfold iblk1
  rw [View.read_apply]
  show V c main_v1_1 _ = V c main_v1_1 _
  congr 1
  funext a
  apply Fin.ext
  match a with
  | ⟨0, _⟩ => show win1_4.index t 0 * 256 + 1 * r.val = p.val; rw [hi.1]; omega
  | ⟨1, _⟩ => show win1_4.index t 1 * 2048 + 1 * k.val = k.val; rw [hi.2]; omega

/-- The output weights. -/
theorem wo_read (t : Fin cfg1.N) (r : Fin 2048) (k : Fin 2048) (p : Fin 2048) (hp : p.val = r.val) :
    (iblk1 V c 5 t : Vec Ideal S2048x2048 .bf16) (ix2 r k) = (V c main_v4 : Vec Ideal S2048x2048 .bf16) (ix2 p k) := by
  have hi := idx1_5 t
  unfold iblk1
  rw [View.read_apply]
  show V c main_v4 _ = V c main_v4 _
  congr 1
  funext a
  apply Fin.ext
  match a with
  | ⟨0, _⟩ => show win1_5.index t 0 * 2048 + 1 * r.val = p.val; rw [hi.1]; omega
  | ⟨1, _⟩ => show win1_5.index t 1 * 2048 + 1 * k.val = k.val; rw [hi.2]; omega

theorem slice0_apply (x : Vec Ideal S256x2048 .bf16) (m : Fin 256) (e : Fin 512) (q : Fin 2048) (hq : q.val = 0 + e.val) :
    (View.ld x r1_3 : Vec Ideal S256x512 .bf16) (ix2 m e) = x (ix2 m q) := by
  show x _ = x _
  congr 1
  funext a
  apply Fin.ext
  match a with
  | ⟨0, _⟩ => show 0 + 1 * m.val = m.val; omega
  | ⟨1, _⟩ => show 0 + 1 * e.val = q.val; omega

theorem slice1_apply (x : Vec Ideal S256x2048 .bf16) (m : Fin 256) (e : Fin 512) (q : Fin 2048) (hq : q.val = 512 + e.val) :
    (View.ld x r1_4 : Vec Ideal S256x512 .bf16) (ix2 m e) = x (ix2 m q) := by
  show x _ = x _
  congr 1
  funext a
  apply Fin.ext
  match a with
  | ⟨0, _⟩ => show 0 + 1 * m.val = m.val; omega
  | ⟨1, _⟩ => show 512 + 1 * e.val = q.val; omega

theorem slice2_apply (x : Vec Ideal S256x2048 .bf16) (m : Fin 256) (e : Fin 512) (q : Fin 2048) (hq : q.val = 1024 + e.val) :
    (View.ld x r1_5 : Vec Ideal S256x512 .bf16) (ix2 m e) = x (ix2 m q) := by
  show x _ = x _
  congr 1
  funext a
  apply Fin.ext
  match a with
  | ⟨0, _⟩ => show 0 + 1 * m.val = m.val; omega
  | ⟨1, _⟩ => show 1024 + 1 * e.val = q.val; omega

theorem slice3_apply (x : Vec Ideal S256x2048 .bf16) (m : Fin 256) (e : Fin 512) (q : Fin 2048) (hq : q.val = 1536 + e.val) :
    (View.ld x r1_6 : Vec Ideal S256x512 .bf16) (ix2 m e) = x (ix2 m q) := by
  show x _ = x _
  congr 1
  funext a
  apply Fin.ext
  match a with
  | ⟨0, _⟩ => show 0 + 1 * m.val = m.val; omega
  | ⟨1, _⟩ => show 1536 + 1 * e.val = q.val; omega

/-- A head's attention from pointwise equal queries, keys and values. -/
theorem heads_of (q : Fin 2048 → EReal) (k v : Fin 256 → Fin 2048 → EReal) (f : Fin 2048) (n : ℕ) (hn : f.val / 512 = n) (d : Fin 512) (hd : f.val % 512 = d.val)
    (q' : Fin 512 → EReal) (k' v' : Fin 256 → Fin 512 → EReal)
    (hq : ∀ (e : Fin 512) (j : Fin 2048), j.val = n * 512 + e.val → q' e = q j)
    (hk : ∀ (m : Fin 256) (e : Fin 512) (j : Fin 2048), j.val = n * 512 + e.val → k' m e = k m j)
    (hv : ∀ (m : Fin 256) (e : Fin 512) (j : Fin 2048), j.val = n * 512 + e.val → v' m e = v m j) :
    Rows.attend q' k' v' d = Rows.heads q k v f := by
  subst hn
  unfold Rows.heads
  have ed : (⟨f.val % 512, by omega⟩ : Fin 512) = d := Fin.ext hd
  have eq' : q' = fun e : Fin 512 => q ⟨f.val / 512 * 512 + e.val, by omega⟩ := funext fun e => hq e _ rfl
  have ek : k' = fun m (e : Fin 512) => k m ⟨f.val / 512 * 512 + e.val, by omega⟩ := funext fun m => funext fun e => hk m e _ rfl
  have ev : v' = fun m (e : Fin 512) => v m ⟨f.val / 512 * 512 + e.val, by omega⟩ := funext fun m => funext fun e => hv m e _ rfl
  rw [eq', ek, ev, ed]

/-- The joined heads at a column. -/
theorem joined_heads (x0 : Vec Ideal S256x2048 .f32) (x1 : Vec Ideal S1x2048 .f32) (x2 : Vec Ideal S2048x2048 .bf16) (x3 x4 : Vec Ideal S256x2048 .bf16)
    (r : Fin 256) (f : Fin 2048) :
    joined (k1_pay3 (F := Ideal) x0 x1 x2 (View.ld x3 r1_3) (View.ld x4 r1_3)) (k1_pay4 (k1_pay2 x0 x1 x2) (View.ld x3 r1_4) (View.ld x4 r1_4))
      (k1_pay5 (k1_pay2 x0 x1 x2) (View.ld x3 r1_5) (View.ld x4 r1_5)) (head3 (k1_pay6 (k1_pay2 x0 x1 x2)) (View.ld x3 r1_6) (View.ld x4 r1_6)) (ix2 r f)
    = Rows.heads (Rows.project (fun j => x0 (ix2 r j)) (fun j => x1 (ix2 0 j)) fun k d => x2 (ix2 k d)) (fun m e => x3 (ix2 m e)) (fun m e => x4 (ix2 m e)) f := by
  have hf := f.isLt
  have hq : ∀ j : Fin 2048, k1_pay2 (F := Ideal) x0 x1 x2 (ix2 r j)
      = Rows.project (fun j => x0 (ix2 r j)) (fun j => x1 (ix2 0 j)) (fun k d => x2 (ix2 k d)) j := fun j => queries_apply x0 x1 x2 r j
  have hj := joined_apply (k1_pay3 (F := Ideal) x0 x1 x2 (View.ld x3 r1_3) (View.ld x4 r1_3)) (k1_pay4 (k1_pay2 x0 x1 x2) (View.ld x3 r1_4) (View.ld x4 r1_4))
      (k1_pay5 (k1_pay2 x0 x1 x2) (View.ld x3 r1_5) (View.ld x4 r1_5)) (head3 (k1_pay6 (k1_pay2 x0 x1 x2)) (View.ld x3 r1_6) (View.ld x4 r1_6)) r f
      ⟨f.val % 512, by omega⟩ (f.val / 512) (by show f.val = f.val / 512 * 512 + f.val % 512; omega)
  have hc : f.val / 512 = 0 ∨ f.val / 512 = 1 ∨ f.val / 512 = 2 ∨ f.val / 512 = 3 := by omega
  rcases hc with h | h | h | h
  · rw [hj.1 h, head0_apply]
    refine heads_of _ _ _ f 0 h _ rfl _ _ _ (fun e j hj => ?_) (fun m e j hj => slice0_apply x3 m e j (by omega)) (fun m e j hj => slice0_apply x4 m e j (by omega))
    rw [← hq j]
    exact congrArg (fun z => k1_pay2 (F := Ideal) x0 x1 x2 (ix2 r z)) (Fin.ext (by show e.val = j.val; omega))
  · rw [hj.2.1 h, head1_apply]
    refine heads_of _ _ _ f 1 h _ rfl _ _ _ (fun e j hj => ?_) (fun m e j hj => slice1_apply x3 m e j (by omega)) (fun m e j hj => slice1_apply x4 m e j (by omega))
    rw [← hq j]
    exact congrArg (fun z => k1_pay2 (F := Ideal) x0 x1 x2 (ix2 r z)) (Fin.ext (by show 512 + e.val = j.val; omega))
  · rw [hj.2.2.1 h, head2_apply]
    refine heads_of _ _ _ f 2 h _ rfl _ _ _ (fun e j hj => ?_) (fun m e j hj => slice2_apply x3 m e j (by omega)) (fun m e j hj => slice2_apply x4 m e j (by omega))
    rw [← hq j]
    exact congrArg (fun z => k1_pay2 (F := Ideal) x0 x1 x2 (ix2 r z)) (Fin.ext (by show 1024 + e.val = j.val; omega))
  · rw [hj.2.2.2 h, head3_apply]
    refine heads_of _ _ _ f 3 h _ rfl _ _ _ (fun e j hj => ?_) (fun m e j hj => slice3_apply x3 m e j (by omega)) (fun m e j hj => slice3_apply x4 m e j (by omega))
    rw [queries3_apply, ← hq j]
    exact congrArg (fun z => k1_pay2 (F := Ideal) x0 x1 x2 (ix2 r z)) (Fin.ext (by show 1536 + e.val = j.val; omega))

/-- What the region computes of row `p` at column `q`. -/
def crossed1 (p : Fin 8192) (q : Fin 2048) : EReal :=
  Rows.crossed (fun j => (V c main_arg0 : Vec Ideal S8192x2048 .f32) (ix2 p j)) (fun j => (V c main_v2 : Vec Ideal S1x2048 .f32) (ix2 0 j))
    (fun k d => (V c main_v3 : Vec Ideal S2048x2048 .bf16) (ix2 k d))
    (fun (m : Fin 256) e => (V c main_v1_0 : Vec Ideal S512x2048 .bf16) (ix2 ⟨p.val / 4096 * 256 + m.val, by omega⟩ e))
    (fun (m : Fin 256) e => (V c main_v1_1 : Vec Ideal S512x2048 .bf16) (ix2 ⟨p.val / 4096 * 256 + m.val, by omega⟩ e))
    (fun k d => (V c main_v4 : Vec Ideal S2048x2048 .bf16) (ix2 k d)) q

theorem crossed_block (t : Fin cfg1.N) (r : Fin 256) (d : Fin 2048) (p : Fin 8192) (q : Fin 2048) (hp : p.val = t.val * 256 + r.val) (hq : q.val = d.val) :
    out1_6 (F := Ideal) (iblk1 V c 0 t) (iblk1 V c 1 t) (iblk1 V c 2 t) (iblk1 V c 3 t) (iblk1 V c 4 t) (iblk1 V c 5 t) (ix2 r d) = crossed1 V c p q := by
  obtain rfl : q = d := Fin.ext hq
  have z2 : (![0, 0] : Fin 2 → ℕ) = fun _ => 0 := by funext a; match a with | ⟨0, _⟩ => rfl | ⟨1, _⟩ => rfl
  have ht := lt_N1 t
  have hb : t.val / 16 = p.val / 4096 := by omega
  unfold out1_6 k1_pay7
  rw [View.canon_unit_zero z2, out_eq, View.ld_unit_zero z2, View.ld_unit_zero z2, View.ld_unit_zero z2, View.ld_unit_zero z2, projected_apply]
  unfold crossed1 Rows.crossed
  rw [rows_read V c t r q p hp]
  congr 1
  refine Finset.sum_congr rfl fun f _ => ?_
  rw [joined_heads, wo_read V c t f q f rfl]
  have e0 : (fun j => (iblk1 V c 0 t : Vec Ideal S256x2048 .f32) (ix2 r j)) = fun j => (V c main_arg0 : Vec Ideal S8192x2048 .f32) (ix2 p j) :=
    funext fun j => rows_read V c t r j p hp
  have e1 : (fun j => (iblk1 V c 1 t : Vec Ideal S1x2048 .f32) (ix2 0 j)) = fun j => (V c main_v2 : Vec Ideal S1x2048 .f32) (ix2 0 j) :=
    funext fun j => gain1_read V c t 0 j 0 rfl
  have e2 : (fun k d => (iblk1 V c 2 t : Vec Ideal S2048x2048 .bf16) (ix2 k d)) = fun k d => (V c main_v3 : Vec Ideal S2048x2048 .bf16) (ix2 k d) :=
    funext fun k => funext fun d => wq_read V c t k d k rfl
  have e3 : (fun m e => (iblk1 V c 3 t : Vec Ideal S256x2048 .bf16) (ix2 m e))
      = fun (m : Fin 256) e => (V c main_v1_0 : Vec Ideal S512x2048 .bf16) (ix2 ⟨p.val / 4096 * 256 + m.val, by omega⟩ e) :=
    funext fun m => funext fun e => keys_read V c t m e _ (by show p.val / 4096 * 256 + m.val = _; omega)
  have e4 : (fun m e => (iblk1 V c 4 t : Vec Ideal S256x2048 .bf16) (ix2 m e))
      = fun (m : Fin 256) e => (V c main_v1_1 : Vec Ideal S512x2048 .bf16) (ix2 ⟨p.val / 4096 * 256 + m.val, by omega⟩ e) :=
    funext fun m => funext fun e => values_read V c t m e _ (by show p.val / 4096 * 256 + m.val = _; omega)
  rw [e0, e1, e2, e3, e4]

theorem cover1_6' (i : S8192x2048.Idx) : ∃ t : Fin cfg1.N, (cfg1.win 6).flush t = true ∧ i ∈ ((cfg1.win 6).blk t).view.set := by
  have h0 : (i 0).val < 8192 := (i 0).isLt
  have h1 : (i 1).val < 2048 := (i 1).isLt
  obtain ⟨t, ht⟩ : ∃ t : Fin cfg1.N, t.val = (i 0).val / 256 := ⟨⟨_, lt_of_lt_of_eq (by omega) (show 32 = cfg1.N from N_1.symm)⟩, rfl⟩
  have hi := idx1_6 t
  refine ⟨t, flush1_6 t, ?_⟩
  show i ∈ ((View.whole main_v5).slice (win1_6.rect t)).set
  rw [View.set_slice_whole, Rect.mem_set_unit]
  intro a
  match a with
  | ⟨0, _⟩ => show win1_6.index t 0 * 256 ≤ (i 0).val ∧ (i 0).val < win1_6.index t 0 * 256 + 256; rw [hi.1]; omega
  | ⟨1, _⟩ => show win1_6.index t 1 * 2048 ≤ (i 1).val ∧ (i 1).val < win1_6.index t 1 * 2048 + 2048; rw [hi.2]; omega

/-- The array the region leaves. -/
def crossedArr : Vec Ideal S8192x2048 .f32 := fun i => crossed1 V c (i 0) (i 1)

theorem crossed_array : (dat1 (F := Ideal) V c).arrAt 6 cfg1.N = crossedArr V c := by
  refine Dat.arrAt_eq_of_cover (dat1 (F := Ideal) V c) 6 (crossedArr V c) (fun t _ => ?_) (fun i => cover1_6' i)
  have hi := idx1_6 t
  show (cfg1.win 6).cut (grid1.coords t) ((dat1 (F := Ideal) V c).after 6 t) = _
  rw [after1_6]
  funext j
  rw [View.read_apply]
  have ej : (j : S256x2048.Idx) = ix2 (j 0) (j 1) := eq_ix2 (j : S256x2048.Idx)
  show out1_6 (F := Ideal) (iblk1 V c 0 t) (iblk1 V c 1 t) (iblk1 V c 2 t) (iblk1 V c 3 t) (iblk1 V c 4 t) (iblk1 V c 5 t) j = crossedArr V c _
  rw [ej]
  refine crossed_block V c t (j 0) (j 1) _ _ ?_ ?_
  · show win1_6.index t 0 * 256 + 1 * (j 0).val = _
    rw [hi.1]; omega
  · show win1_6.index t 1 * 2048 + 1 * (j 1).val = _
    rw [hi.2]; omega

end Cert.MemoryIdeal.Value

end
-- ==== Proof.Memory.Entry.lean ====
/- What the two regions find in their arrays: the arguments, and the first region's keys and values. -/
module

public import proofs.«01_k».proof.Proof.Memory.Keys
public import proofs.«01_k».proof.Proof.Memory.Cross

@[expose] public section

set_option maxRecDepth 16384

noncomputable section

namespace Cert.MemoryIdeal.Value

open Cert.MemoryIdeal Cert.MemoryIdeal.Gen Idealize.ShloMosaic Idealize.ShloMosaic.TcCoe Idealize.SL.Sem

variable (m : (ℓ : Loc nD τ sig) → Buf (Elt Ideal) ℓ) (ρ : Dev nD → PrngReg) (c : Dev nD)

theorem V1_arg (a : Ref sig .tc) (h : a ∈ argRefs) : V1 m ρ c a = m ((c : Thread nD τ).loc a) := W1_args m ρ c a h
theorem V3_arg (a : Ref sig .tc) (h : a ∈ argRefs) : V3 m ρ c a = m ((c : Thread nD τ).loc a) := W3_args m ρ c a h

theorem V1_gain (k : Fin 2048) : (V1 m ρ c main_v0 : Vec Ideal S1x2048 .f32) (ix2 0 k)
    = (m ((c : Thread nD τ).loc main_arg3) : Vec Ideal S2048 .f32) (ix1 k) := by
  have e : W1 m ρ c (Proc.devRef .tc main_v0)
      = shapeCast S1x2048 (m ((c : Thread nD τ).loc main_arg3) : Vec Ideal S2048 .f32) shapeCasts_S2048_S1x2048 := by
    after_results_simp <;> rfl
  show (W1 m ρ c (Proc.devRef .tc main_v0) : Vec Ideal S1x2048 .f32) (ix2 0 k) = _
  rw [e]
  pointwise

theorem V3_gain (k : Fin 2048) : (V3 m ρ c main_v2 : Vec Ideal S1x2048 .f32) (ix2 0 k)
    = (m ((c : Thread nD τ).loc main_arg2) : Vec Ideal S2048 .f32) (ix1 k) := by
  have e : W3 m ρ c (Proc.devRef .tc main_v2)
      = shapeCast S1x2048 (W2 m ρ c (Proc.devRef .tc main_arg2) : Vec Ideal S2048 .f32) shapeCasts_S2048_S1x2048 := by
    after_results_simp <;> rfl
  show (W3 m ρ c (Proc.devRef .tc main_v2) : Vec Ideal S1x2048 .f32) (ix2 0 k) = _
  rw [e, W2_args m ρ c main_arg2 (by decide)]
  pointwise

theorem V3_wq (i : S2048x2048.Idx) : (V3 m ρ c main_v3 : Vec Ideal S2048x2048 .bf16) i
    = (m ((c : Thread nD τ).loc main_arg4) : Vec Ideal S2048x2048 .f32) i := by
  have e : W3 m ρ c (Proc.devRef .tc main_v3)
      = (truncf .bf16 (W2 m ρ c (Proc.devRef .tc main_arg4) : FVec Ideal S2048x2048 .f32) bitsLt_bf16_f32 : FVec Ideal S2048x2048 .bf16) := by
    after_results_simp <;> rfl
  show (W3 m ρ c (Proc.devRef .tc main_v3) : Vec Ideal S2048x2048 .bf16) i = _
  rw [e, W2_args m ρ c main_arg4 (by decide)]
  rfl

theorem V3_wo (i : S2048x2048.Idx) : (V3 m ρ c main_v4 : Vec Ideal S2048x2048 .bf16) i
    = (m ((c : Thread nD τ).loc main_arg7) : Vec Ideal S2048x2048 .f32) i := by
  have e : W3 m ρ c (Proc.devRef .tc main_v4)
      = (truncf .bf16 (W2 m ρ c (Proc.devRef .tc main_arg7) : FVec Ideal S2048x2048 .f32) bitsLt_bf16_f32 : FVec Ideal S2048x2048 .bf16) := by
    after_results_simp <;> rfl
  show (W3 m ρ c (Proc.devRef .tc main_v4) : Vec Ideal S2048x2048 .bf16) i = _
  rw [e, W2_args m ρ c main_arg7 (by decide)]
  rfl

/-- A memory token's projection by a weight matrix, from the launch memory. -/
def token (w : Vec Ideal S2048x2048 .f32) (p : Fin 512) (q : Fin 2048) : EReal :=
  Rows.project (fun j => (m ((c : Thread nD τ).loc main_arg1) : Vec Ideal S512x2048 .f32) (ix2 p j))
    (fun j => (m ((c : Thread nD τ).loc main_arg3) : Vec Ideal S2048 .f32) (ix1 j)) (fun k d => w (ix2 k d)) q

theorem projected0_eq (w : Vec Ideal S2048x2048 .f32) (p : Fin 512) (q : Fin 2048) : projected0 (V1 m ρ) c w p q = token m c w p q := by
  unfold projected0 token
  rw [V1_arg m ρ c main_arg1 (by decide)]
  congr 1
  exact funext fun j => V1_gain m ρ c j

theorem V3_keys (p : Fin 512) (q : Fin 2048) : (V3 m ρ c main_v1_0 : Vec Ideal S512x2048 .bf16) (ix2 p q)
    = token m c (m ((c : Thread nD τ).loc main_arg5)) p q := by
  have e : W3 m ρ c (Proc.devRef .tc main_v1_0) = keysArr (V1 m ρ) c :=
    (W3_of m ρ c main_v1_0 (by decide)).trans ((W2_arr m ρ c 4).trans (keys_array (V1 m ρ) c))
  show (W3 m ρ c (Proc.devRef .tc main_v1_0) : Vec Ideal S512x2048 .bf16) (ix2 p q) = _
  rw [e]
  show projected0 (V1 m ρ) c (V1 m ρ c main_arg5) p q = _
  rw [projected0_eq, V1_arg m ρ c main_arg5 (by decide)]

theorem V3_values (p : Fin 512) (q : Fin 2048) : (V3 m ρ c main_v1_1 : Vec Ideal S512x2048 .bf16) (ix2 p q)
    = token m c (m ((c : Thread nD τ).loc main_arg6)) p q := by
  have e : W3 m ρ c (Proc.devRef .tc main_v1_1) = valuesArr (V1 m ρ) c :=
    (W3_of m ρ c main_v1_1 (by decide)).trans ((W2_arr m ρ c 5).trans (values_array (V1 m ρ) c))
  show (W3 m ρ c (Proc.devRef .tc main_v1_1) : Vec Ideal S512x2048 .bf16) (ix2 p q) = _
  rw [e]
  show projected0 (V1 m ρ) c (V1 m ρ c main_arg6) p q = _
  rw [projected0_eq, V1_arg m ρ c main_arg6 (by decide)]

/-- The result of the launch memory's arguments, row by row. -/
theorem crossed1_eq (p : Fin 8192) (q : Fin 2048) : crossed1 (V3 m ρ) c p q
    = Rows.crossed (fun j => (m ((c : Thread nD τ).loc main_arg0) : Vec Ideal S8192x2048 .f32) (ix2 p j))
        (fun j => (m ((c : Thread nD τ).loc main_arg2) : Vec Ideal S2048 .f32) (ix1 j))
        (fun k d => (m ((c : Thread nD τ).loc main_arg4) : Vec Ideal S2048x2048 .f32) (ix2 k d))
        (fun (e : Fin 256) => token m c (m ((c : Thread nD τ).loc main_arg5)) ⟨p.val / 4096 * 256 + e.val, by omega⟩)
        (fun (e : Fin 256) => token m c (m ((c : Thread nD τ).loc main_arg6)) ⟨p.val / 4096 * 256 + e.val, by omega⟩)
        (fun k d => (m ((c : Thread nD τ).loc main_arg7) : Vec Ideal S2048x2048 .f32) (ix2 k d)) q := by
  unfold crossed1
  rw [V3_arg m ρ c main_arg0 (by decide),
    (funext fun j => V3_gain m ρ c j : (fun j => (V3 m ρ c main_v2 : Vec Ideal S1x2048 .f32) (ix2 0 j)) = _),
    (funext fun k => funext fun d => V3_wq m ρ c (ix2 k d) : (fun k d => (V3 m ρ c main_v3 : Vec Ideal S2048x2048 .bf16) (ix2 k d)) = _),
    (funext fun k => funext fun d => V3_wo m ρ c (ix2 k d) : (fun k d => (V3 m ρ c main_v4 : Vec Ideal S2048x2048 .bf16) (ix2 k d)) = _),
    (funext fun e => funext fun d => V3_keys m ρ c ⟨p.val / 4096 * 256 + e.val, by omega⟩ d :
      (fun (e : Fin 256) d => (V3 m ρ c main_v1_0 : Vec Ideal S512x2048 .bf16) (ix2 ⟨p.val / 4096 * 256 + e.val, by omega⟩ d)) = _),
    (funext fun e => funext fun d => V3_values m ρ c ⟨p.val / 4096 * 256 + e.val, by omega⟩ d :
      (fun (e : Fin 256) d => (V3 m ρ c main_v1_1 : Vec Ideal S512x2048 .bf16) (ix2 ⟨p.val / 4096 * 256 + e.val, by omega⟩ d)) = _)]

end Cert.MemoryIdeal.Value

end
-- ==== Proof.Memory.Ref.lean ====
/- What the reference of the memory's cross-attention computes at an index. -/
module

public import proofs.«01_k».proof.Proof.Gen.MemoryRefIdeal.Read
public import proofs.«01_k».proof.Proof.Rows
public import Idealize.ShloMosaic.Lib.KernelVsHost

@[expose] public section

set_option maxRecDepth 16384

noncomputable section

namespace Cert.MemoryRefIdeal.Value

open Cert.MemoryRefIdeal Cert.MemoryRefIdeal.Gen Idealize.ShloMosaic Idealize.ShloMosaic.TcCoe Idealize.SL.Sem
open Cert.MemoryRefIdeal.Read

theorem ninf_eq : Ideal.ofBits .f32 0xFF800000#32 = ⊥ := by simp [Ideal.ofBits, Ideal.ieee]

theorem at1 {a : ℕ} {f : (⟨1, ![a]⟩ : Shape).Idx → EReal} (i : (⟨1, ![a]⟩ : Shape).Idx) (p : Fin a) (hp : (i 0).val = p.val) : f i = f (ix1 p) := by
  congr 1
  funext x
  match x with
  | ⟨0, _⟩ => exact Fin.ext hp

theorem at2 {a b : ℕ} {f : (⟨2, ![a, b]⟩ : Shape).Idx → EReal} (i : (⟨2, ![a, b]⟩ : Shape).Idx) (p : Fin a) (q : Fin b)
    (hp : (i 0).val = p.val) (hq : (i 1).val = q.val) : f i = f (ix2 p q) := by
  congr 1
  funext x
  match x with
  | ⟨0, _⟩ => exact Fin.ext hp
  | ⟨1, _⟩ => exact Fin.ext hq

variable (x0 : Vec Ideal S8192x2048 .f32) (x1 : Vec Ideal S512x2048 .f32) (x2 x3 : Vec Ideal S2048 .f32) (x4 x5 x6 x7 : Vec Ideal S2048x2048 .f32)

/-- The normalized rows. -/
theorem rows_at (i : S2x4096x2048.Idx) (p : Fin 8192) (q : Fin 2048) (hp : p.val = (i 0).val * 4096 + (i 1).val) (hq : (i 2).val = q.val) :
    val_main_v13 (F := Ideal) x0 x2 i = Rows.rms (fun j => x0 (ix2 p j)) (fun j => x2 (ix1 j)) q := by
  have h0 : (i 0).val < 2 := (i 0).isLt
  have h1 : (i 1).val < 4096 := (i 1).isLt
  have h2 : (i 2).val < 2048 := (i 2).isLt
  have hx : ∀ (j : S2x4096x2048.Idx) (e : Fin 2048), (j 0).val = (i 0).val → (j 1).val = (i 1).val → (j 2).val = e.val →
      val_main_v0 (F := Ideal) x0 j = x0 (ix2 p e) := by
    intro j e j0 j1 j2
    rw [val_main_v0_apply]
    refine at2 _ _ _ ?_ ?_
    · show (((j 0).val * 4096 + (j 1).val) * 2048 + (j 2).val) / 2048 = _
      omega
    · show (((j 0).val * 4096 + (j 1).val) * 2048 + (j 2).val) % 2048 = _
      omega
  rw [val_main_v13_apply, val_main_v10_apply, val_main_v9_apply, val_main_v8_apply, val_main_v7_apply, val_main_v5_apply, val_main_v3_apply,
    val_main_v2_apply, val_main_v4_apply, val_main_v6_apply, val_main_cst_apply, val_main_cst_0_apply, val_main_cst_1_apply, val_main_v12_apply, val_main_v11_apply,
    hx i q rfl rfl hq]
  show x0 (ix2 p q) * Ideal.rsqrt (Ideal.div (Ideal.ofBits .f32 0x00000000#32 + ∑ k : Fin 2048, _) _ + _) * x2 _ = _
  unfold Rows.rms
  rw [Ideal.ofBits_zero_f32, zero_add, at1 (f := x2) _ q hq]
  congr 5
  refine Finset.sum_congr rfl fun k _ => ?_
  rw [val_main_v1_apply]
  exact congrArg₂ (· * ·) (hx _ k rfl rfl rfl) (hx _ k rfl rfl rfl)

/-- The normalized memory tokens. -/
theorem tokens_at (i : S2x256x2048.Idx) (p : Fin 512) (q : Fin 2048) (hp : p.val = (i 0).val * 256 + (i 1).val) (hq : (i 2).val = q.val) :
    val_main_v27 (F := Ideal) x1 x3 i = Rows.rms (fun j => x1 (ix2 p j)) (fun j => x3 (ix1 j)) q := by
  have h0 : (i 0).val < 2 := (i 0).isLt
  have h1 : (i 1).val < 256 := (i 1).isLt
  have h2 : (i 2).val < 2048 := (i 2).isLt
  have hx : ∀ (j : S2x256x2048.Idx) (e : Fin 2048), (j 0).val = (i 0).val → (j 1).val = (i 1).val → (j 2).val = e.val →
      val_main_v14 (F := Ideal) x1 j = x1 (ix2 p e) := by
    intro j e j0 j1 j2
    rw [val_main_v14_apply]
    refine at2 _ _ _ ?_ ?_
    · show (((j 0).val * 256 + (j 1).val) * 2048 + (j 2).val) / 2048 = _
      omega
    · show (((j 0).val * 256 + (j 1).val) * 2048 + (j 2).val) % 2048 = _
      omega
  rw [val_main_v27_apply, val_main_v24_apply, val_main_v23_apply, val_main_v22_apply, val_main_v21_apply, val_main_v19_apply, val_main_v17_apply,
    val_main_v16_apply, val_main_v18_apply, val_main_v20_apply, val_main_cst_2_apply, val_main_cst_3_apply, val_main_cst_4_apply, val_main_v26_apply, val_main_v25_apply,
    hx i q rfl rfl hq]
  show x1 (ix2 p q) * Ideal.rsqrt (Ideal.div (Ideal.ofBits .f32 0x00000000#32 + ∑ k : Fin 2048, _) _ + _) * x3 _ = _
  unfold Rows.rms
  rw [Ideal.ofBits_zero_f32, zero_add, at1 (f := x3) _ q hq]
  congr 5
  refine Finset.sum_congr rfl fun k _ => ?_
  rw [val_main_v15_apply]
  exact congrArg₂ (· * ·) (hx _ k rfl rfl rfl) (hx _ k rfl rfl rfl)

/-- The query heads. -/
theorem queries_at (i : S2x4096x4x512.Idx) (p : Fin 8192) (q : Fin 2048) (hp : p.val = (i 0).val * 4096 + (i 1).val) (hq : q.val = (i 2).val * 512 + (i 3).val) :
    val_main_v29 (F := Ideal) x0 x2 x4 i = Rows.project (fun j => x0 (ix2 p j)) (fun j => x2 (ix1 j)) (fun k d => x4 (ix2 k d)) q := by
  have h0 : (i 0).val < 2 := (i 0).isLt
  have h1 : (i 1).val < 4096 := (i 1).isLt
  have h2 : (i 2).val < 4 := (i 2).isLt
  have h3 : (i 3).val < 512 := (i 3).isLt
  rw [val_main_v29_apply, val_main_v28_apply]
  unfold Rows.project
  refine Finset.sum_congr rfl fun k _ => ?_
  rw [rows_at x0 x2 _ p k ?_ rfl, at2 (f := x4) _ k q rfl ?_]
  · show ((((i 0).val * 4096 + (i 1).val) * 4 + (i 2).val) * 512 + (i 3).val) % 2048 = _
    omega
  · show p.val = ((((i 0).val * 4096 + (i 1).val) * 4 + (i 2).val) * 512 + (i 3).val) / 8388608 * 4096
      + ((((i 0).val * 4096 + (i 1).val) * 4 + (i 2).val) * 512 + (i 3).val) / 2048 % 4096
    omega

/-- The key heads. -/
theorem keys_at (i : S2x256x4x512.Idx) (p : Fin 512) (q : Fin 2048) (hp : p.val = (i 0).val * 256 + (i 1).val) (hq : q.val = (i 2).val * 512 + (i 3).val) :
    val_main_v31 (F := Ideal) x1 x3 x5 i = Rows.project (fun j => x1 (ix2 p j)) (fun j => x3 (ix1 j)) (fun k d => x5 (ix2 k d)) q := by
  have h0 : (i 0).val < 2 := (i 0).isLt
  have h1 : (i 1).val < 256 := (i 1).isLt
  have h2 : (i 2).val < 4 := (i 2).isLt
  have h3 : (i 3).val < 512 := (i 3).isLt
  rw [val_main_v31_apply, val_main_v30_apply]
  unfold Rows.project
  refine Finset.sum_congr rfl fun k _ => ?_
  rw [tokens_at x1 x3 _ p k ?_ rfl, at2 (f := x5) _ k q rfl ?_]
  · show ((((i 0).val * 256 + (i 1).val) * 4 + (i 2).val) * 512 + (i 3).val) % 2048 = _
    omega
  · show p.val = ((((i 0).val * 256 + (i 1).val) * 4 + (i 2).val) * 512 + (i 3).val) / 524288 * 256
      + ((((i 0).val * 256 + (i 1).val) * 4 + (i 2).val) * 512 + (i 3).val) / 2048 % 256
    omega

/-- The value heads. -/
theorem values_at (i : S2x256x4x512.Idx) (p : Fin 512) (q : Fin 2048) (hp : p.val = (i 0).val * 256 + (i 1).val) (hq : q.val = (i 2).val * 512 + (i 3).val) :
    val_main_v33 (F := Ideal) x1 x3 x6 i = Rows.project (fun j => x1 (ix2 p j)) (fun j => x3 (ix1 j)) (fun k d => x6 (ix2 k d)) q := by
  have h0 : (i 0).val < 2 := (i 0).isLt
  have h1 : (i 1).val < 256 := (i 1).isLt
  have h2 : (i 2).val < 4 := (i 2).isLt
  have h3 : (i 3).val < 512 := (i 3).isLt
  rw [val_main_v33_apply, val_main_v32_apply]
  unfold Rows.project
  refine Finset.sum_congr rfl fun k _ => ?_
  rw [tokens_at x1 x3 _ p k ?_ rfl, at2 (f := x6) _ k q rfl ?_]
  · show ((((i 0).val * 256 + (i 1).val) * 4 + (i 2).val) * 512 + (i 3).val) % 2048 = _
    omega
  · show p.val = ((((i 0).val * 256 + (i 1).val) * 4 + (i 2).val) * 512 + (i 3).val) / 524288 * 256
      + ((((i 0).val * 256 + (i 1).val) * 4 + (i 2).val) * 512 + (i 3).val) / 2048 % 256
    omega

/-- Row `p`'s queries, and batch `b`'s keys and values. -/
def queries (p : Fin 8192) : Fin 2048 → EReal := Rows.project (fun j => x0 (ix2 p j)) (fun j => x2 (ix1 j)) (fun k d => x4 (ix2 k d))
def tokens (w : Vec Ideal S2048x2048 .f32) (b : Fin 2) (m : Fin 256) : Fin 2048 → EReal :=
  Rows.project (fun j => x1 (ix2 ⟨b.val * 256 + m.val, by omega⟩ j)) (fun j => x3 (ix1 j)) (fun k d => w (ix2 k d))

/-- Head `n`'s queries, keys and values. -/
def part (n : Fin 4) (f : Fin 2048 → EReal) (e : Fin 512) : EReal := f ⟨n.val * 512 + e.val, by omega⟩

/-- The scaled scores of row `s` of batch `b`, head `n`. -/
def score (b : Fin 2) (n : Fin 4) (p : Fin 8192) : Fin 256 → EReal :=
  Rows.scores (part n (queries x0 x2 x4 p)) (fun m => part n (tokens x1 x3 x5 b m))

theorem scores_at (i : S2x4x4096x256.Idx) (b : Fin 2) (n : Fin 4) (p : Fin 8192) (m : Fin 256) (hb : (i 0).val = b.val) (hn : (i 1).val = n.val)
    (hp : p.val = b.val * 4096 + (i 2).val) (hm : (i 3).val = m.val) :
    val_main_v36 (F := Ideal) x0 x1 x2 x3 x4 x5 i = score x0 x1 x2 x3 x4 x5 b n p m := by
  rw [val_main_v36_apply, val_main_v34_apply, val_main_v35_apply, val_main_cst_5_apply]
  show (∑ k : Fin 512, _) * Ideal.ofBits .f32 0x3D3504F3#32 = _
  unfold score Rows.scores
  congr 1
  refine Finset.sum_congr rfl fun e _ => ?_
  rw [queries_at x0 x2 x4 _ p ⟨n.val * 512 + e.val, by omega⟩ (by show p.val = (i 0).val * 4096 + (i 2).val; omega) (by show n.val * 512 + e.val = (i 1).val * 512 + e.val; omega),
    keys_at x1 x3 x5 _ ⟨b.val * 256 + m.val, by omega⟩ ⟨n.val * 512 + e.val, by omega⟩ (by show b.val * 256 + m.val = (i 0).val * 256 + (i 3).val; omega)
      (by show n.val * 512 + e.val = (i 1).val * 512 + e.val; omega)]
  rfl

theorem max_at (i : S2x4x4096.Idx) (b : Fin 2) (n : Fin 4) (p : Fin 8192) (hb : (i 0).val = b.val) (hn : (i 1).val = n.val)
    (hp : p.val = b.val * 4096 + (i 2).val) :
    val_main_v39 (F := Ideal) x0 x1 x2 x3 x4 x5 i = Finset.univ.fold max ⊥ (score x0 x1 x2 x3 x4 x5 b n p) := by
  rw [val_main_v39_apply, val_main_v38_apply, val_main_cst_7_apply]
  show max (Ideal.ofBits .f32 0xFF800000#32) _ = _
  rw [ninf_eq, max_eq_right bot_le]
  unfold val_main_v37
  have hr : S2x4x4096x256.Reduces [3] S2x4x4096 := by decide
  show Host.reduce FloatOps.maximumf _ (constant S_ .f32 0xFF800000#32) _ _ i = _
  rw [hostReduce_maximumf_eq_multiReduction _ _ _ _ hr (by decide) (by decide), Ideal.multiReduction_maximumf_single]
  show Finset.fold max (Ideal.ofBits .f32 0xFF800000#32) _ _ = _
  rw [ninf_eq]
  refine congrArg (fun f => Finset.fold max (⊥ : EReal) f (Finset.univ : Finset (Fin 256))) (funext fun k => ?_)
  show val_main_v36 (F := Ideal) x0 x1 x2 x3 x4 x5 (hr.lift i k) = _
  exact scores_at x0 x1 x2 x3 x4 x5 _ b n p k hb hn hp rfl

theorem exp_at (i : S2x4x4096x256.Idx) (b : Fin 2) (n : Fin 4) (p : Fin 8192) (m : Fin 256) (hb : (i 0).val = b.val) (hn : (i 1).val = n.val)
    (hp : p.val = b.val * 4096 + (i 2).val) (hm : (i 3).val = m.val) :
    val_main_v43 (F := Ideal) x0 x1 x2 x3 x4 x5 i
      = Ideal.exp (score x0 x1 x2 x3 x4 x5 b n p m - Finset.univ.fold max ⊥ (score x0 x1 x2 x3 x4 x5 b n p)) := by
  rw [val_main_v43_apply, val_main_v42_apply, scores_at x0 x1 x2 x3 x4 x5 i b n p m hb hn hp hm, val_main_v41_apply, val_main_v40_apply,
    max_at x0 x1 x2 x3 x4 x5 _ b n p hb hn hp]
  rfl

/-- The softmax weights. -/
theorem weights_at (i : S2x4x4096x256.Idx) (b : Fin 2) (n : Fin 4) (p : Fin 8192) (m : Fin 256) (hb : (i 0).val = b.val) (hn : (i 1).val = n.val)
    (hp : p.val = b.val * 4096 + (i 2).val) (hm : (i 3).val = m.val) :
    val_main_v47 (F := Ideal) x0 x1 x2 x3 x4 x5 i = Rows.softmax (score x0 x1 x2 x3 x4 x5 b n p) m := by
  rw [val_main_v47_apply, exp_at x0 x1 x2 x3 x4 x5 i b n p m hb hn hp hm, val_main_v46_apply, val_main_v45_apply, val_main_v44_apply, val_main_cst_8_apply]
  show Ideal.div _ (Ideal.ofBits .f32 0x00000000#32 + ∑ k : Fin 256, _) = _
  rw [Ideal.ofBits_zero_f32, zero_add]
  unfold Rows.softmax
  congr 1
  refine Finset.sum_congr rfl fun k _ => ?_
  exact exp_at x0 x1 x2 x3 x4 x5 _ b n p k hb hn hp rfl

/-- The attended values, head by head. -/
theorem attended_at (i : S2x4096x2048.Idx) (b : Fin 2) (p : Fin 8192) (f : Fin 2048) (hb : (i 0).val = b.val)
    (hp : p.val = b.val * 4096 + (i 1).val) (hf : (i 2).val = f.val) :
    val_main_v50 (F := Ideal) x0 x1 x2 x3 x4 x5 x6 i
      = Rows.heads (queries x0 x2 x4 p) (tokens x1 x3 x5 b) (tokens x1 x3 x6 b) f := by
  have h0 : (i 0).val < 2 := (i 0).isLt
  have h1 : (i 1).val < 4096 := (i 1).isLt
  have h2 : (i 2).val < 2048 := (i 2).isLt
  rw [val_main_v50_apply, val_main_v49_apply, val_main_v48_apply]
  unfold Rows.heads Rows.attend
  refine Finset.sum_congr rfl fun m _ => ?_
  have r0 : (((i 0).val * 4096 + (i 1).val) * 2048 + (i 2).val) / 8388608 = b.val := by omega
  have r1 : (((i 0).val * 4096 + (i 1).val) * 2048 + (i 2).val) / 2048 % 4096 = (i 1).val := by omega
  have r2 : (((i 0).val * 4096 + (i 1).val) * 2048 + (i 2).val) / 512 % 4 = f.val / 512 := by omega
  have r3 : (((i 0).val * 4096 + (i 1).val) * 2048 + (i 2).val) % 512 = f.val % 512 := by omega
  rw [weights_at x0 x1 x2 x3 x4 x5 _ b ⟨f.val / 512, by omega⟩ p m r0 r2
      (by show p.val = b.val * 4096 + (((i 0).val * 4096 + (i 1).val) * 2048 + (i 2).val) / 2048 % 4096; omega) rfl,
    values_at x1 x3 x6 _ ⟨b.val * 256 + m.val, by omega⟩ ⟨f.val / 512 * 512 + f.val % 512, by omega⟩
      (by show b.val * 256 + m.val = (((i 0).val * 4096 + (i 1).val) * 2048 + (i 2).val) / 8388608 * 256 + m.val; omega)
      (by show f.val / 512 * 512 + f.val % 512 = (((i 0).val * 4096 + (i 1).val) * 2048 + (i 2).val) / 512 % 4 * 512
            + (((i 0).val * 4096 + (i 1).val) * 2048 + (i 2).val) % 512
          omega), mul_comm]
  rfl

/-- The result: the row plus its projected attention. -/
theorem result_at (i : S8192x2048.Idx) (b : Fin 2) (p : Fin 8192) (q : Fin 2048) (hp : (i 0).val = p.val) (hq : (i 1).val = q.val) (hb : p.val / 4096 = b.val) :
    val_main_v53 (F := Ideal) x0 x1 x2 x3 x4 x5 x6 x7 i
      = Rows.crossed (fun j => x0 (ix2 p j)) (fun j => x2 (ix1 j)) (fun k d => x4 (ix2 k d)) (tokens x1 x3 x5 b) (tokens x1 x3 x6 b) (fun k d => x7 (ix2 k d)) q := by
  have h0 : (i 0).val < 8192 := (i 0).isLt
  have h1 : (i 1).val < 2048 := (i 1).isLt
  rw [val_main_v53_apply, val_main_v52_apply, val_main_v51_apply, at2 (f := x0) i p q hp hq]
  show x0 (ix2 p q) + ∑ k : Fin 2048, _ = _
  unfold Rows.crossed
  congr 1
  refine Finset.sum_congr rfl fun f _ => ?_
  rw [attended_at x0 x1 x2 x3 x4 x5 x6 _ b p f (by show ((i 0).val * 2048 + (i 1).val) / 8388608 = b.val; omega)
    (by show p.val = b.val * 4096 + ((i 0).val * 2048 + (i 1).val) / 2048 % 4096; omega) rfl,
    at2 (f := x7) _ f q rfl (by show ((i 0).val * 2048 + (i 1).val) % 2048 = q.val; omega)]
  rfl

end Cert.MemoryRefIdeal.Value

end
-- ==== Proof.Memory.Equation.lean ====
/- The memory's cross-attention ends with its reference's result. -/
module

public import proofs.«01_k».proof.Defs
public import proofs.«01_k».proof.Proof.Memory.Run
public import proofs.«01_k».proof.Proof.Memory.Entry
public import proofs.«01_k».proof.Proof.Memory.Ref

@[expose] public section

set_option maxRecDepth 16384

noncomputable section

namespace Cert.MemoryIdeal.Value

open Cert.MemoryIdeal Cert.MemoryIdeal.Gen Idealize.ShloMosaic Idealize.ShloMosaic.TcCoe Idealize.SL.Sem

variable (m : (ℓ : Loc nD τ sig) → Buf (Elt Ideal) ℓ) (ρ : Dev nD → PrngReg) (c : Dev nD)

/-- The reference's result of the launch memory's arguments. -/
abbrev refResult : Vec Ideal S8192x2048 .f32 :=
  Cert.MemoryRefIdeal.Read.val_main_v53 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The array the second region leaves is the reference's result. -/
theorem array_eq : (dat1 (F := Ideal) (V3 m ρ) c).arrAt 6 cfg1.N = refResult m c := by
  rw [crossed_array]
  funext i
  show crossed1 (V3 m ρ) c (i 0) (i 1) = refResult m c i
  have h0 : (i 0).val < 8192 := (i 0).isLt
  refine (crossed1_eq m ρ c (i 0) (i 1)).trans ?_
  exact (Cert.MemoryRefIdeal.Value.result_at _ _ _ _ _ _ _ _ i ⟨(i 0).val / 4096, by omega⟩ (i 0) (i 1) rfl rfl rfl).symm

/-- From memories agreeing on the arguments the kernels and the reference end with equal results. -/
theorem algebraic : Cert.algebraic_MemoryIdeal_MemoryRefIdeal := by
  intro m ρ m' ρ' _ hagree
  refine ⟨fun c => refResult m c, ?_, ?_⟩
  · exact (θ_run Cert.MemoryIdeal.defs _ _).mono
      (fun _ h c => ⟨(h c).1.trans (array_eq m ρ c), (h c).2⟩) (run_blocks m ρ)
  · refine (θ_run Cert.MemoryRefIdeal.defs _ _).mono (fun _ h c => ⟨(h c).1.trans ?_, (h c).2⟩)
      (Cert.MemoryRefIdeal.Value.run (F := Ideal) m' ρ')
    rw [Cert.MemoryRefIdeal.Read.val_main_v53_eq, (hagree c).1, (hagree c).2.1, (hagree c).2.2.1, (hagree c).2.2.2.1, (hagree c).2.2.2.2.1,
      (hagree c).2.2.2.2.2.1, (hagree c).2.2.2.2.2.2.1, (hagree c).2.2.2.2.2.2.2]

end Cert.MemoryIdeal.Value

end
-- ==== Proof.InProjIdeal.Kit.lean ====
/- What the runs of the input projection's body share: the host lines around its region, the windows' blocks, the steps at
   which each window is stored into, and the buffers the body is called with. -/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.InProjIdeal.Body

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- What core `c` holds when the region is entered: the memory after the host lines before it. -/
abbrev V0 (c : Dev nD) : Valuation τ sig (Elt F) := StableHlo.after (List.flatten [hostOps0, hostOps0_1, hostOps0_2, hostOps0_3, hostOps0_4]) (fun b => m (c, b))
/-- The same, at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the host lines, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The line after the region touches only arrays of the program. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- If the region runs and leaves its arrays as the proof data say, the arguments end as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The body's branch conditions -/

/-- The body's first branch is taken at column step 0, -/
abbrev cond0_0 (i : grid0.Coords) : Prop := k0_cond1 i = 1#1
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- and its second at the steps after it. -/
abbrev cond0_1 (i : grid0.Coords) : Prop := k0_cond2 i = 1#1
theorem hcond0_1 : ∀ t : Fin cfg0.N, cond0_1 (grid0.coords t) ↔ 1 ≤ t.val % 4 :=
  (by decide +kernel : ∀ t : Fin grid0.N, cond0_1 (grid0.coords t) ↔ 1 ≤ t.val % 4)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Whether nothing has been stored into the pooling block since it was last written back, before position `n`. -/
def freshTab0_5 : ℕ → Bool
  | 0 => true
  | n + 1 => (0x8888888888888888 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
theorem liveAt0_5_A : ∀ t : Fin cfg0.N, cond0_0 (grid0.coords t) → ¬cond0_1 (grid0.coords t) → cfg0.idle 5 (grid0.coords t) = false := by decide +kernel
/-- The steps after 0 store nothing into the pooling block, -/
theorem idleAt0_5_B : ∀ t : Fin cfg0.N, ¬cond0_0 (grid0.coords t) → cond0_1 (grid0.coords t) → cfg0.idle 5 (grid0.coords t) = true := by decide +kernel
/-- At the steps after 0 the pooling block holds what a step before stored. -/
theorem notFresh0_5_B : ∀ t : Fin cfg0.N, ¬cond0_0 (grid0.coords t) → cond0_1 (grid0.coords t) → cfg0.fresh 5 t.val = false := by
  intro t; rw [fresh0_5_eq t]; revert t; decide +kernel
/-- step 0 stores nothing into the attention columns, -/
theorem idleAt0_6_A : ∀ t : Fin cfg0.N, cond0_0 (grid0.coords t) → ¬cond0_1 (grid0.coords t) → cfg0.idle 6 (grid0.coords t) = true := by decide +kernel
/-- which are not written back there. -/
theorem noFlush0_6_A : ∀ t : Fin cfg0.N, cond0_0 (grid0.coords t) → ¬cond0_1 (grid0.coords t) → (cfg0.win 6).flush t = false := by decide +kernel
theorem liveAt0_6_B : ∀ t : Fin cfg0.N, ¬cond0_0 (grid0.coords t) → cond0_1 (grid0.coords t) → cfg0.idle 6 (grid0.coords t) = false := by decide +kernel
/-- The same for the forget logits. -/
def freshTab0_7 : ℕ → Bool
  | 0 => true
  | n + 1 => (0x8888888888888888 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
theorem liveAt0_7_A : ∀ t : Fin cfg0.N, cond0_0 (grid0.coords t) → ¬cond0_1 (grid0.coords t) → cfg0.idle 7 (grid0.coords t) = false := by decide +kernel
/-- nor into the forget logits; -/
theorem idleAt0_7_B : ∀ t : Fin cfg0.N, ¬cond0_0 (grid0.coords t) → cond0_1 (grid0.coords t) → cfg0.idle 7 (grid0.coords t) = true := by decide +kernel
/-- At the steps after 0 the forget logits hold what a step before stored. -/
theorem notFresh0_7_B : ∀ t : Fin cfg0.N, ¬cond0_0 (grid0.coords t) → cond0_1 (grid0.coords t) → cfg0.fresh 7 t.val = false := by
  intro t; rw [fresh0_7_eq t]; revert t; decide +kernel

/-! ## The kernel body on any staging memrefs: a subtype the run finds -/

abbrev VO0_5 : View sig .tc .vmem S512x1024 .f32 := (Memref.whole cc0_stg5_0 : Memref sig .tc .vmem S512x1024 .f32).view
abbrev VO0_6 : View sig .tc .vmem S512x1024 .bf16 := (Memref.whole cc0_stg6_0 : Memref sig .tc .vmem S512x1024 .bf16).view
abbrev VO0_7 : View sig .tc .vmem S512x128 .f32 := (Memref.whole cc0_stg7_0 : Memref sig .tc .vmem S512x128 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
abbrev scM0_0 : Memref sig .tc .vmem S512x2048 .bf16 := Memref.whole cc0_scratch0
abbrev VS0_0 : View sig .tc .vmem S512x2048 .bf16 := scM0_0.view

/-- The region's own buffers: the scratch, at something. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InProjIdeal.Body

end
-- ==== Proof.InProjIdeal.RunA.lean ====
/- Step 0 of the input projection: normalize the rows, and store the scratch, the forget logits and the pooling columns. -/
module

public import proofs.«01_k».proof.Proof.InProjIdeal.Kit

@[expose] public section

set_option maxRecDepth 16384

noncomputable section

namespace Cert.InProjIdeal.Body

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Step 0 of the body, run: what it stores into the pooling block, the forget logits and the scratch; the attention
    columns keep what they held. -/
noncomputable def kernelRun0_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : cond0_0 i) (hc1 : ¬cond0_1 i)
    (x0 : Vec F S512x2048 .f32) (x1 : Vec F S1x2048 .f32) (x2 : Vec F S2048x1024 .bf16) (x3 : Vec F S2048x128 .bf16) (x4 : Vec F S1x128 .f32) :
    Σ' (L5 : List (View.Piece (Elt F) S512x1024 .f32)), Σ' (L6 : List (View.Piece (Elt F) S512x1024 .bf16)), Σ' (L7 : List (View.Piece (Elt F) S512x128 .f32)), { LS0 : List (View.Piece (Elt F) S512x2048 .bf16) //
      ∀ (xi6 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, [], ?_, ?_, fun xi6 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    iexists _; iexact HS0

end Cert.InProjIdeal.Body

end
-- ==== Proof.InProjIdeal.RunB.lean ====
/- A later step of the input projection: the attention columns from the normalized rows in the scratch. -/
module

public import proofs.«01_k».proof.Proof.InProjIdeal.RunA

@[expose] public section

set_option maxRecDepth 16384

noncomputable section

namespace Cert.InProjIdeal.Body

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A later step of the body, run: what it stores into the attention columns; the pooling block, the forget logits and the
    scratch keep what they held. -/
noncomputable def kernelRun0_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : ¬cond0_0 i) (hc1 : cond0_1 i)
    (x0 : Vec F S512x2048 .f32) (x1 : Vec F S1x2048 .f32) (x2 : Vec F S2048x1024 .bf16) (x3 : Vec F S2048x128 .bf16) (x4 : Vec F S1x128 .f32) (xs0 : Vec F S512x2048 .bf16) :
    { L6 : List (View.Piece (Elt F) S512x1024 .bf16) //
      ∀ (xo5 : Vec F S512x1024 .f32) (xo7 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ (∃ d, owns (c : Thread nD τ) arg8 fullShare d) ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ (∃ f, arg8.view.loc (c : Thread nD τ) ↦[arg8.view.set]{fullShare} arg8.view.writes (Elt F) f L6) ∗ owns (c : Thread nD τ) arg9 fullShare xo7 ∗ owns (c : Thread nD τ) arg10 fullShare xs0) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, fun xo5 xo7 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS0

end Cert.InProjIdeal.Body

end
-- ==== Proof.InProjIdeal.Frame.lean ====
/- What the input projection leaves in its output blocks point by point, and its frame. -/
module

public import proofs.«01_k».proof.Proof.InProjIdeal.RunB
public import Idealize.ShloMosaic.Lib.Claim

@[expose] public section

set_option maxRecDepth 16384

noncomputable section

namespace Cert.InProjIdeal.Body

open Cert.InProjIdeal Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Step 0 stores the pooling block whole, -/
theorem cover0_A_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : cond0_0 i) (hc1 : ¬cond0_1 i)
    (x0 : Vec F S512x2048 .f32) (x1 : Vec F S1x2048 .f32) (x2 : Vec F S2048x1024 .bf16) (x3 : Vec F S2048x128 .bf16) (x4 : Vec F S1x128 .f32) (y : S512x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).1 S512x1024.size (by sl_kernel_rfl) y

/-- which then holds this. -/
def out0_A_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : cond0_0 i) (hc1 : ¬cond0_1 i)
    (x0 : Vec F S512x2048 .f32) (x1 : Vec F S1x2048 .f32) (x2 : Vec F S2048x1024 .bf16) (x3 : Vec F S2048x128 .bf16) (x4 : Vec F S1x128 .f32) : Vec F S512x1024 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- Step 0 leaves the attention columns at anything. -/
def out0_A_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : cond0_0 i) (hc1 : ¬cond0_1 i)
    (x0 : Vec F S512x2048 .f32) (x1 : Vec F S1x2048 .f32) (x2 : Vec F S2048x1024 .bf16) (x3 : Vec F S2048x128 .bf16) (x4 : Vec F S1x128 .f32) : Vec F S512x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)

/-- Step 0 stores the forget logits whole, -/
theorem cover0_A_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : cond0_0 i) (hc1 : ¬cond0_1 i)
    (x0 : Vec F S512x2048 .f32) (x1 : Vec F S1x2048 .f32) (x2 : Vec F S2048x1024 .bf16) (x3 : Vec F S2048x128 .bf16) (x4 : Vec F S1x128 .f32) (y : S512x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S512x128.size (by sl_kernel_rfl) y

/-- which then hold this. -/
def out0_A_7 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : cond0_0 i) (hc1 : ¬cond0_1 i)
    (x0 : Vec F S512x2048 .f32) (x1 : Vec F S1x2048 .f32) (x2 : Vec F S2048x1024 .bf16) (x3 : Vec F S2048x128 .bf16) (x4 : Vec F S1x128 .f32) : Vec F S512x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4).2.2.1)

/-- Step 0 stores the scratch whole, -/
theorem scover0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : cond0_0 i) (hc1 : ¬cond0_1 i)
    (x0 : Vec F S512x2048 .f32) (x1 : Vec F S1x2048 .f32) (x2 : Vec F S2048x1024 .bf16) (x3 : Vec F S2048x128 .bf16) (x4 : Vec F S1x128 .f32) (y : S512x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S512x2048.size (by sl_kernel_rfl) y

/-- which then holds this. -/
def sout0_A_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : cond0_0 i) (hc1 : ¬cond0_1 i)
    (x0 : Vec F S512x2048 .f32) (x1 : Vec F S1x2048 .f32) (x2 : Vec F S2048x1024 .bf16) (x3 : Vec F S2048x128 .bf16) (x4 : Vec F S1x128 .f32) : Vec F S512x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.2.1)

/-- A later step stores the attention columns whole, -/
theorem cover0_B_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : ¬cond0_0 i) (hc1 : cond0_1 i)
    (x0 : Vec F S512x2048 .f32) (x1 : Vec F S1x2048 .f32) (x2 : Vec F S2048x1024 .bf16) (x3 : Vec F S2048x128 .bf16) (x4 : Vec F S1x128 .f32) (xs0 : Vec F S512x2048 .bf16) (y : S512x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).1 S512x1024.size (by sl_kernel_rfl) y

/-- which then hold this. -/
def out0_B_6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x128 .f32) (harg9 : arg9.IsWhole) (arg10 : Memref sig .tc .vmem S512x2048 .bf16) (harg10 : arg10.IsWhole) (hc0 : ¬cond0_0 i) (hc1 : cond0_1 i)
    (x0 : Vec F S512x2048 .f32) (x1 : Vec F S1x2048 .f32) (x2 : Vec F S2048x1024 .bf16) (x3 : Vec F S2048x128 .bf16) (x4 : Vec F S1x128 .f32) (xs0 : Vec F S512x2048 .bf16) : Vec F S512x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs0).1)

/-! ## What the outputs hold after each point -/

/-- What the three output blocks and the scratch hold after position `n`: step 0 stores the pooling block, the logits and
    the scratch; a later step the attention columns, the others staying as the position before left them. -/
def outsAt0 (c : Dev nD) : (n : ℕ) → n < cfg0.N → Vec F S512x1024 .f32 × Vec F S512x1024 .bf16 × Vec F S512x128 .f32 × Vec F S512x2048 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : 1 ≤ (n + 1) % 4 then
        False.elim (by have hN : n + 1 < 64 := lt_of_lt_of_eq hn (show cfg0.N = 64 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : 1 ≤ (n + 1) % 4 then
        ((outsAt0 c n (Nat.lt_of_succ_lt hn)).1, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, (outsAt0 c n (Nat.lt_of_succ_lt hn)).2.2.1, (outsAt0 c n (Nat.lt_of_succ_lt hn)).2.2.2)
      else
        False.elim (by have hN : n + 1 < 64 := lt_of_lt_of_eq hn (show cfg0.N = 64 from N_0); omega)

/-- At a step 0. -/
theorem outsAt0_A (c : Dev nD) (t : Fin cfg0.N) (h0 : t.val % 4 = 0) (h1 : ¬1 ≤ t.val % 4) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a later step. -/
theorem outsAt0_B (c : Dev nD) (t : Fin cfg0.N) (h0 : ¬t.val % 4 = 0) (h1 : 1 ≤ t.val % 4) :
    outsAt0 m c t.val t.isLt = ((outsAt0 m c (t.val - 1) (Nat.lt_of_le_of_lt (Nat.sub_le _ _) t.isLt)).1, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2, (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The scratch before position `n`: anything at first, then what the position before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The region's proof data: the arrays as found, each block after each point, and the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The pooling block carries over the steps that store nothing into it, -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 64 := lt_of_lt_of_eq t.isLt (show cfg0.N = 64 from N_0)
  rw [after0_5, after0_5]
  by_cases h0 : t.val % 4 = 0
  · by_cases h1 : 1 ≤ t.val % 4
    · exfalso; omega
    · rw [liveAt0_5_A t ((hcond0_0 t).mpr h0) (fun h => h1 ((hcond0_1 t).mp h))] at hi
      exact absurd hi Bool.false_ne_true
  · by_cases h1 : 1 ≤ t.val % 4
    · rw [outsAt0_B m c t h0 h1]
    · exfalso; omega

/-- and so do the forget logits. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 64 := lt_of_lt_of_eq t.isLt (show cfg0.N = 64 from N_0)
  rw [after0_7, after0_7]
  by_cases h0 : t.val % 4 = 0
  · by_cases h1 : 1 ≤ t.val % 4
    · exfalso; omega
    · rw [liveAt0_7_A t ((hcond0_0 t).mpr h0) (fun h => h1 ((hcond0_1 t).mp h))] at hi
      exact absurd hi Bool.false_ne_true
  · by_cases h1 : 1 ≤ t.val % 4
    · rw [outsAt0_B m c t h0 h1]
    · exfalso; omega
/-- At a later step the pooling block is found as the position before left it, -/
theorem before0_5_B (c : Dev nD) (t : Fin cfg0.N) (h0 : ¬t.val % 4 = 0) (h1 : 1 ≤ t.val % 4) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d,
    if_neg (by rw [notFresh0_5_B t (fun h => h0 ((hcond0_0 t).mp h)) ((hcond0_1 t).mpr h1)]; exact Bool.false_ne_true)]
  dsimp only [dats]
/-- and the forget logits too. -/
theorem before0_7_B (c : Dev nD) (t : Fin cfg0.N) (h0 : ¬t.val % 4 = 0) (h1 : 1 ≤ t.val % 4) (d) :
    (dats m 0 c).before 7 t d = (outsAt0 m c (t.val - 1) (Nat.lt_of_le_of_lt (Nat.sub_le _ _) t.isLt)).2.2.1 := by
  rw [Dat.before_out_traj _ 7 rfl (fun _ _ => rfl) (hcarry0_7 m c) t.val t rfl d,
    if_neg (by rw [notFresh0_7_B t (fun h => h0 ((hcond0_0 t).mp h)) ((hcond0_1 t).mpr h1)]; exact Bool.false_ne_true)]
  dsimp only [dats]

/-- Handing the pooling block on as found is what a later step owes, whether or not it is written back there; -/
theorem leaves0_5_B (c : Dev nD) (t : Fin cfg0.N) (h0 : ¬t.val % 4 = 0) (h1 : 1 ≤ t.val % 4) :
    owns (c : Thread nD τ) (ms0_5 t) fullShare ((outsAt0 m c (t.val - 1) (Nat.lt_of_le_of_lt (Nat.sub_le _ _) t.isLt)).1) ⊢ (dats m 0 c).leavesExact 5 t := by
  have hi := idleAt0_5_B t (fun h => h0 ((hcond0_0 t).mp h)) ((hcond0_1 t).mpr h1)
  cases hf : (cfg0.win 5).flush t
  · rw [Dat.leavesExact_idle (dats m 0 c) 5 t hi hf]
    simp only [before0_5_B m c t h0 h1]
    iintro H
    iexists ((outsAt0 m c (t.val - 1) (Nat.lt_of_le_of_lt (Nat.sub_le _ _) t.isLt)).1)
    iexact H
  · rw [show (dats m 0 c).leavesExact 5 t = owns (c : Thread nD τ) (ms0_5 t) fullShare ((dats m 0 c).after 5 t) from by
      unfold Dat.leavesExact; rw [hi, hf], after0_5, outsAt0_B m c t h0 h1]

/-- the same for the forget logits. -/
theorem leaves0_7_B (c : Dev nD) (t : Fin cfg0.N) (h0 : ¬t.val % 4 = 0) (h1 : 1 ≤ t.val % 4) :
    owns (c : Thread nD τ) (ms0_7 t) fullShare ((outsAt0 m c (t.val - 1) (Nat.lt_of_le_of_lt (Nat.sub_le _ _) t.isLt)).2.2.1) ⊢ (dats m 0 c).leavesExact 7 t := by
  have hi := idleAt0_7_B t (fun h => h0 ((hcond0_0 t).mp h)) ((hcond0_1 t).mpr h1)
  cases hf : (cfg0.win 7).flush t
  · rw [Dat.leavesExact_idle (dats m 0 c) 7 t hi hf]
    simp only [before0_7_B m c t h0 h1]
    iintro H
    iexists ((outsAt0 m c (t.val - 1) (Nat.lt_of_le_of_lt (Nat.sub_le _ _) t.isLt)).2.2.1)
    iexact H
  · rw [show (dats m 0 c).leavesExact 7 t = owns (c : Thread nD τ) (ms0_7 t) fullShare ((dats m 0 c).after 7 t) from by
      unfold Dat.leavesExact; rw [hi, hf], after0_7, outsAt0_B m c t h0 h1]

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · by_cases h1 : 1 ≤ t.val % 4
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h))], after0_7]
      by_cases hz : t.val = 0
      · rw [PhiS_castSucc m c t, PhiS_zero m c _ _ hz, PhiA0_eq]
        rw [outsAt0_A m c t h0 h1]
        unfold out0_A_5 out0_A_7 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexists _; iexact H7
        isplitl [HS0]; · iexact HS0
        iintro ⟨H0, H1, H2, H3, H4, ⟨%e5, H5⟩, H6, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _)
        isplitl [H6]; · iexists _; iexact H6
        unfold owns; iexists _; isplitr
        swap; · iexact H7
        ipureintro; exact View.read_writes_of_cover _ _ _ _ _ (cover0_A_7 c _ _ _ _ _ _ _ _ _ _ _ _ _ _ _ _ _ _ _ _ _ _ _ _ _ _)
      · rw [PhiS_castSucc m c t, PhiS_pos m c _ _ hz]
        rw [outsAt0_A m c t h0 h1]
        unfold out0_A_5 out0_A_7 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexists _; iexact H7
        isplitl [HS0]; · iexists _; iexact HS0
        iintro ⟨H0, H1, H2, H3, H4, ⟨%e5, H5⟩, H6, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _)
        isplitl [H6]; · iexists _; iexact H6
        unfold owns; iexists _; isplitr
        swap; · iexact H7
        ipureintro; exact View.read_writes_of_cover _ _ _ _ _ (cover0_A_7 c _ _ _ _ _ _ _ _ _ _ _ _ _ _ _ _ _ _ _ _ _ _ _ _ _ _)
  · by_cases h1 : 1 ≤ t.val % 4
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        simp only [before0_5_B m c t h0 h1, before0_7_B m c t h0 h1]
        unfold out0_B_6; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iapply (leaves0_5_B m c t h0 h1); iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _)
        iapply (leaves0_7_B m c t h0 h1); iexact H7
    · exfalso; omega

theorem defs₀_row (t : Fin cfg0.N) :
    defs₀ (F := F) .tc cfg0.body (cfg0.bodyArgs t (cfg0.slots t)) = bodyAt0 t := by
  unfold defs₀; rw [Defs.onTc_tc]

/-- So the body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
set_option maxHeartbeats 800000 in
/-- The program runs, its arrays end as the proof data say, and every semaphore ends at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The program terminates with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.InProjIdeal.Body

end
-- ==== Proof.PeerOutIdeal.Loop.lean ====
/- The loop of the expert output's first column step: trip k scatters row k's weights into a 128 by 128 table. -/
module

public import proofs.«01_k».proof.Proof.Gen.PeerOutIdeal.Launch
public import proofs.«01_k».proof.Proof.Gen.PeerOutIdeal.Skeleton
public import proofs.«01_k».proof.Proof.Gen.PeerOutIdeal.Loops
public import proofs.«01_k».proof.Proof.Gen.PeerOutIdeal.Points
public import proofs.«01_k».proof.Proof.Gen.PeerOutIdeal.Frame
public import Idealize.ShloMosaic.Lib.Tactic

@[expose] public section

set_option maxRecDepth 16384

noncomputable section

namespace Cert.PeerOutIdeal.Body

open Cert.PeerOutIdeal Cert.PeerOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Trip `k`'s table in the buffer of tables: its row `i` is the buffer's row `k + 264 i`. -/
def tripRect (i : grid0.Coords) (h : k0_cond1 i = 1#1) (k : Fin k0_t1_loop.trips) : Rect S33792x128 :=
  ⟨(⟨k0_off2 k, S128x128.size, ![264, 1], (k0_off2_inb i k h)⟩ : LoadRect S33792x128), spos_264_1⟩

/-- What trip `k` stores there, the two index rows and the weights row being read off what their buffers hold. -/
def tripTable (i : grid0.Coords) (h : k0_cond1 i = 1#1) (X5 X6 : Vec F S256x128 .i32) (X10 : Vec F S256x128 .f32)
    (k : Fin k0_t1_loop.trips) : FVec F S128x128 .f32 :=
  k0_pay3 (fun y => X5 ((Rect.unit (s := S256x128) (k0_off1 k) S1x128.size (k0_off1_inb i k h)).toLoadRect.idx y))
    (fun y => X6 ((Rect.unit (s := S256x128) (k0_off1 k) S1x128.size (k0_off1_inb i k h)).toLoadRect.idx y))
    (fun y => X10 ((Rect.unit (s := S256x128) (k0_off1 k) S1x128.size (k0_off1_inb i k h)).toLoadRect.idx y))

/-- The tables stored before trip `n`, the newest first. -/
def tables (i : grid0.Coords) (h : k0_cond1 i = 1#1) (X5 X6 : Vec F S256x128 .i32) (X10 : Vec F S256x128 .f32) :
    ℕ → List (View.Piece (Elt F) S33792x128 .f32)
  | 0 => []
  | n + 1 => if hn : n < k0_t1_loop.trips then
      ⟨tripRect i h ⟨n, hn⟩, tripTable i h X5 X6 X10 ⟨n, hn⟩⟩ :: tables i h X5 X6 X10 n
    else tables i h X5 X6 X10 n

theorem tables_succ (i : grid0.Coords) (h : k0_cond1 i = 1#1) (X5 X6 : Vec F S256x128 .i32) (X10 : Vec F S256x128 .f32)
    (k : Fin k0_t1_loop.trips) : tables i h X5 X6 X10 (k.val + 1)
      = ⟨tripRect i h k, tripTable i h X5 X6 X10 k⟩ :: tables i h X5 X6 X10 k.val := by
  rw [tables, dif_pos k.isLt]

section Inv

variable (c : Dev nD) (i : grid0.Coords) (arg2 : Memref sig .tc .vmem S256x2048 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .i32) (harg5 : arg5.IsWhole) (arg6 : Memref sig .tc .vmem S256x128 .i32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S256x2048 .f32) (harg9 : arg9.IsWhole) (arg10 : Memref sig .tc .vmem S256x128 .f32) (harg10 : arg10.IsWhole) (arg11 : Memref sig .tc .vmem S33792x128 .f32) (harg11 : arg11.IsWhole) (arg12 : Memref sig .tc .vmem S256x2048 .f32) (harg12 : arg12.IsWhole) (h : k0_cond1 i = 1#1)

/-- Before trip `n`: the indices and the weights as they were, and the tables of the trips before in their buffer. -/
abbrev loopHeld (X5 : arg5.view.ty.Contents (Elt F)) (X6 : arg6.view.ty.Contents (Elt F)) (X10 : arg10.view.ty.Contents (Elt F))
    (G : arg11.view.ty.Contents (Elt F)) (n : ℕ) : sProp 𝕄 :=
  iprop((arg5.view.loc (c : Thread nD τ) ↦[arg5.view.set]{fullShare} X5) ∗ (arg6.view.loc (c : Thread nD τ) ↦[arg6.view.set]{fullShare} X6)
    ∗ (arg10.view.loc (c : Thread nD τ) ↦[arg10.view.set]{fullShare} X10)
    ∗ (∃ f, (arg11.view.loc (c : Thread nD τ) ↦[arg11.view.set]{fullShare} f)
        ∗ ⌜f = arg11.view.writes (Elt F) G (tables i h (arg5.view.read (Elt F) X5) (arg6.view.read (Elt F) X6) (arg10.view.read (Elt F) X10) n)⌝))

/-- One trip. -/
theorem trip (X5 : arg5.view.ty.Contents (Elt F)) (X6 : arg6.view.ty.Contents (Elt F)) (X10 : arg10.view.ty.Contents (Elt F))
    (G : arg11.view.ty.Contents (Elt F)) (k : Fin k0_t1_loop.trips) (acc : Unit) :
    loopHeld c i arg5 arg6 arg10 arg11 h X5 X6 X10 G k.val
      ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg11 harg11 arg12 harg12 h k acc)
          (fun _ => loopHeld c i arg5 arg6 arg10 arg11 h X5 X6 X10 G (k.val + 1)) := by
  unfold k0_t1_body
  iintro ⟨H5, H6, H10, ⟨%f, H11, %hf⟩⟩
  subst hf
  sl_exec
  sl_step
  isplitl [H5]; · iexact H5
  isplitl [H6]; · iexact H6
  isplitl [H10]; · iexact H10
  iexists _; isplitl [H11]; · iexact H11
  ipureintro
  rw [tables_succ, View.writes_cons]
  rfl

end Inv

/-- The loop's invariant and its trip. -/
@[instance_reducible, sl_loop] def loopInv (c : Dev nD) (i : grid0.Coords) (arg2 : Memref sig .tc .vmem S256x2048 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .i32) (harg5 : arg5.IsWhole) (arg6 : Memref sig .tc .vmem S256x128 .i32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S256x2048 .f32) (harg9 : arg9.IsWhole) (arg10 : Memref sig .tc .vmem S256x128 .f32) (harg10 : arg10.IsWhole) (arg11 : Memref sig .tc .vmem S33792x128 .f32) (harg11 : arg11.IsWhole) (arg12 : Memref sig .tc .vmem S256x2048 .f32) (harg12 : arg12.IsWhole) (h : k0_cond1 i = 1#1)
    (X5 : arg5.view.ty.Contents (Elt F)) (X6 : arg6.view.ty.Contents (Elt F)) (X10 : arg10.view.ty.Contents (Elt F))
    (G : arg11.view.ty.Contents (Elt F)) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 h where
  inv n _ := loopHeld c i arg5 arg6 arg10 arg11 h X5 X6 X10 G n
  step k acc := trip c i arg2 harg2 arg3 harg3 arg4 harg4 arg5 harg5 arg6 harg6 arg7 harg7 arg8 harg8 arg9 harg9 arg10 harg10 arg11 harg11 arg12 harg12 h X5 X6 X10 G k acc

end Cert.PeerOutIdeal.Body

end
-- ==== Proof.PeerOutIdeal.Held.lean ====
/- What the buffer of tables holds after the loop, and what the loads of its stripes read. -/
module

public import proofs.«01_k».proof.Proof.PeerOutIdeal.Loop
public import Idealize.ShloMosaic.Lib.Pointwise
public import Idealize.ShloMosaic.Lib.WordCmp

@[expose] public section

set_option maxRecDepth 16384

noncomputable section

namespace Cert.PeerOutIdeal.Body

open Cert.PeerOutIdeal Cert.PeerOutIdeal.Gen

open Idealize.ShloMosaic Idealize.ShloMosaic.TcCoe Idealize.ShloMosaic.Tactic
open Idealize.ShloMosaic.Pointwise

variable {F : FTy → Type} [FloatOps F]

/-- Row `t`'s table: the weights of row `t`, each at the row of its first index and the column of its second. -/
def table (ei ej : Vec F S256x128 .i32) (w : Vec F S256x128 .f32) (t : Fin 256) : FVec F S128x128 .f32 :=
  k0_pay3 (fun y => ei (ix2 t (y 1))) (fun y => ej (ix2 t (y 1))) (fun y => w (ix2 t (y 1)))

/-- The rows `e` of all the tables, one under the other. -/
def tile (ei ej : Vec F S256x128 .i32) (w : Vec F S256x128 .f32) (e : ℕ) : Vec F S256x128 .f32 :=
  fun y => table ei ej w (y 0) (ix2 ⟨e % 128, Nat.mod_lt _ (by decide)⟩ (y 1))

/-- The buffer of tables holds the tiles `T`, tile `e` from row `264 e` on. -/
def Held (g : Vec F S33792x128 .f32) (T : ℕ → Vec F S256x128 .f32) : Prop :=
  ∀ (e : Fin 128) (t : Fin 256) (j : Fin 128),
    g (ix2 ⟨e.val * 264 + t.val, by have := e.isLt; have := t.isLt; omega⟩ j) = T e.val (ix2 t j)

theorem trips_eq : k0_t1_loop.trips = 256 := by decide +kernel

theorem off1_val : ∀ k : Fin k0_t1_loop.trips, k0_off1 k 0 = k.val := by decide +kernel

theorem off2_val (k : Fin k0_t1_loop.trips) : k0_off2 k 0 = k.val := off1_val k

theorem off3_val : ∀ (i : Fin 16) (r : Fin 8),
    (Scalar.indexCast (Scalar.muli (Scalar.addi (Scalar.muli (BitVec.ofNat 32 i.val) 8#32) (BitVec.ofNat 32 r.val)) 264#32)).toNat
      = (8 * i.val + r.val) * 264 := by decide +kernel

/-- The load of stripe `r` of column step `i 1` reads the tile of its number. -/
theorem held_ld {g : Vec F S33792x128 .f32} {T : ℕ → Vec F S256x128 .f32} (h : Held g T) (i : grid0.Coords) (r : Fin 8) :
    View.ld g (Rect.unit (s := S33792x128) (k0_off3 i (BitVec.ofNat 32 r.val)) S256x128.size (k0_off3_inb i r)) = T (8 * (i 1).val + r.val) := by
  funext y
  have hi : (i 1).val < 16 := (i 1).isLt
  have hr := r.isLt
  refine Eq.trans (congrArg g ?_) ((h ⟨8 * (i 1).val + r.val, by omega⟩ (y 0) (y 1)).trans ?_)
  · funext a
    apply Fin.ext
    match a with
    | 0 =>
      show k0_off3 i (BitVec.ofNat 32 r.val) 0 + 1 * (y 0).val = (8 * (i 1).val + r.val) * 264 + (y 0).val
      rw [show k0_off3 i (BitVec.ofNat 32 r.val) 0 = (8 * (i 1).val + r.val) * 264 from off3_val ⟨(i 1).val, hi⟩ r]
      omega
    | 1 =>
      show 0 + 1 * (y 1).val = (y 1).val
      omega
  · exact congrArg _ (eq_ix2 y).symm

section Tables

variable (i : grid0.Coords) (h : k0_cond1 i = 1#1) (X5 X6 : Vec F S256x128 .i32) (X10 : Vec F S256x128 .f32)

theorem tripTable_eq (k : Fin k0_t1_loop.trips) :
    tripTable i h X5 X6 X10 k = table X5 X6 X10 ⟨k.val, lt_of_lt_of_eq k.isLt trips_eq⟩ := by
  have e : ∀ y : S1x128.Idx, ((Rect.unit (s := S256x128) (k0_off1 k) S1x128.size (k0_off1_inb i k h)).toLoadRect.idx y)
      = ix2 ⟨k.val, lt_of_lt_of_eq k.isLt trips_eq⟩ (y 1) := by
    intro y
    funext a
    apply Fin.ext
    match a with
    | 0 =>
      show k0_off1 k 0 + 1 * (y 0).val = k.val
      have hy : (y 0).val < 1 := (y 0).isLt
      rw [off1_val]; omega
    | 1 =>
      show 0 + 1 * (y 1).val = (y 1).val
      omega
  unfold tripTable table
  simp only [e]
  rfl

/-- Entry `(e, j)` of trip `k`'s table lies in row `264 e + k` of the buffer. -/
theorem tripRect_emb (k : Fin k0_t1_loop.trips) (e j : Fin 128) :
    (tripRect i h k).emb (ix2 e j) = ix2 ⟨e.val * 264 + k.val, by
      have := e.isLt; have hk : k.val < 256 := lt_of_lt_of_eq k.isLt trips_eq; omega⟩ j := by
  funext a
  apply Fin.ext
  match a with
  | 0 =>
    show k0_off2 k 0 + 264 * e.val = e.val * 264 + k.val
    rw [off2_val]; omega
  | 1 =>
    show 0 + 1 * j.val = j.val
    omega

/-- After `n` trips the first `n` rows' tables are in the buffer. -/
theorem tables_read {S : Space} (v : View sig .tc S S33792x128 .f32) (G : v.ty.Contents (Elt F)) (n : ℕ) :
    ∀ (t : Fin 256) (_ : t.val < n) (_ : n ≤ 256) (e j : Fin 128),
      v.read (Elt F) (v.writes (Elt F) G (tables i h X5 X6 X10 n)) (ix2 ⟨e.val * 264 + t.val, by
        have := e.isLt; have := t.isLt; omega⟩ j) = table X5 X6 X10 t (ix2 e j) := by
  induction n with
  | zero => intro t ht; exact absurd ht (Nat.not_lt_zero _)
  | succ n ih =>
    intro t ht hn e j
    have hk : n < k0_t1_loop.trips := by rw [trips_eq]; omega
    rw [tables_succ i h X5 X6 X10 ⟨n, hk⟩]
    by_cases htn : t.val = n
    · subst htn
      rw [← tripRect_emb i h ⟨t.val, hk⟩ e j]
      exact (View.read_writes_cons_emb v G (tripRect i h ⟨t.val, hk⟩) (tripTable i h X5 X6 X10 ⟨t.val, hk⟩) _ (ix2 e j)).trans
        (congrFun (tripTable_eq i h X5 X6 X10 ⟨t.val, hk⟩) (ix2 e j))
    · rw [View.writes_cons, View.read_slice_write_of_not_mem]
      · exact ih t (by omega) (by omega) e j
      · intro hm
        obtain ⟨y, -, hy⟩ := Finset.mem_map.mp hm
        have h0 := congrArg (fun z : S33792x128.Idx => (z 0).val) hy
        have h1 : k0_off2 ⟨n, hk⟩ 0 + 264 * (y 0).val = e.val * 264 + t.val := h0
        rw [off2_val] at h1
        have := t.isLt
        have h2 : n + 264 * (y 0).val = e.val * 264 + t.val := h1
        omega

/-- After all the trips the buffer holds the tiles. -/
theorem tables_held {S : Space} (v : View sig .tc S S33792x128 .f32) (G : v.ty.Contents (Elt F)) :
    Held (v.read (Elt F) (v.writes (Elt F) G (tables i h X5 X6 X10 k0_t1_loop.trips))) (tile X5 X6 X10) := by
  intro e t j
  rw [trips_eq, tables_read i h X5 X6 X10 v G 256 t t.isLt (le_refl _) e j]
  unfold tile
  exact congrArg (fun q => table X5 X6 X10 t (ix2 q j)) (Fin.ext (Nat.mod_eq_of_lt e.isLt).symm)

end Tables

end Cert.PeerOutIdeal.Body

end
-- ==== Proof.PeerOutIdeal.Runs.lean ====
/- The body of the expert output, run in each of its three cases. -/
module

public import proofs.«01_k».proof.Proof.PeerOutIdeal.Held
public import Idealize.ShloMosaic.Lib.Pipeline.FrameBody

@[expose] public section

set_option maxRecDepth 16384

noncomputable section

namespace Cert.PeerOutIdeal.Body

open Cert.PeerOutIdeal Cert.PeerOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole load. -/
theorem hz2 : (![0, 0] : Fin 2 → ℕ) = fun _ => 0 := by funext a; fin_cases a <;> rfl

/-- A column step's sum: what was there, and the step's eight tiles against the step's block of values. -/
def accStep (T : ℕ → Vec F S256x128 .f32) (v : Vec F S1024x2048 .bf16) (jb : ℕ) (acc : Vec F S256x2048 .f32) : Vec F S256x2048 .f32 :=
  k0_pay8 (k0_pay4 (T (8 * jb + 0))) (k0_pay5 (T (8 * jb + 1))) (k0_pay6 (T (8 * jb + 2))) (k0_pay7 (T (8 * jb + 3)))
    (T (8 * jb + 4)) (T (8 * jb + 5)) (T (8 * jb + 6)) (T (8 * jb + 7)) acc v

/-- A whole store, read back. -/
theorem read_store {s : Shape} {e : EltTy} {sp : Space} (v : View sig .tc sp s e) (f : v.ty.Contents (Elt F)) {off : Fin s.rank → ℕ}
    (ho : off = fun _ => 0) (inb : ∀ a, off a + s.size a ≤ s.size a) (x : s.Idx → Elt F e) (L : List (View.Piece (Elt F) s e)) :
    v.read (Elt F) (v.writes (Elt F) f (⟨Rect.unit off s.size inb, x⟩ :: L)) = x := by
  subst ho
  funext y
  have h := View.read_writes_cons_emb v f (Rect.unit (fun _ => 0) s.size inb) x L y
  have e : (Rect.unit (fun _ => 0) s.size inb).emb y = y := by
    funext a; apply Fin.ext
    show 0 + 1 * (y a).val = (y a).val
    omega
  rwa [e] at h

section Loads
variable {g : Vec F S33792x128 .f32} {T : ℕ → Vec F S256x128 .f32} (h : Held g T) (i : grid0.Coords)
include h
theorem held_ld0 : View.ld g (Rect.unit (s := S33792x128) (k0_off3 i 0#32) S256x128.size (k0_off3_inb i 0)) = T (8 * (i 1).val + 0) :=
  held_ld h i 0
theorem held_ld1 : View.ld g (Rect.unit (s := S33792x128) (k0_off3 i 1#32) S256x128.size (k0_off3_inb i 1)) = T (8 * (i 1).val + 1) :=
  held_ld h i 1
theorem held_ld2 : View.ld g (Rect.unit (s := S33792x128) (k0_off3 i 2#32) S256x128.size (k0_off3_inb i 2)) = T (8 * (i 1).val + 2) :=
  held_ld h i 2
theorem held_ld3 : View.ld g (Rect.unit (s := S33792x128) (k0_off3 i 3#32) S256x128.size (k0_off3_inb i 3)) = T (8 * (i 1).val + 3) :=
  held_ld h i 3
theorem held_ld4 : View.ld g (Rect.unit (s := S33792x128) (k0_off3 i 4#32) S256x128.size (k0_off3_inb i 4)) = T (8 * (i 1).val + 4) :=
  held_ld h i 4
theorem held_ld5 : View.ld g (Rect.unit (s := S33792x128) (k0_off3 i 5#32) S256x128.size (k0_off3_inb i 5)) = T (8 * (i 1).val + 5) :=
  held_ld h i 5
theorem held_ld6 : View.ld g (Rect.unit (s := S33792x128) (k0_off3 i 6#32) S256x128.size (k0_off3_inb i 6)) = T (8 * (i 1).val + 6) :=
  held_ld h i 6
theorem held_ld7 : View.ld g (Rect.unit (s := S33792x128) (k0_off3 i 7#32) S256x128.size (k0_off3_inb i 7)) = T (8 * (i 1).val + 7) :=
  held_ld h i 7
end Loads

/-- After the loop, from indices and weights known by value, the buffer holds the tiles. -/
theorem held_after (i : grid0.Coords) (h : k0_cond1 i = 1#1) {S : Space} (v : View sig .tc S S33792x128 .f32) (G : v.ty.Contents (Elt F))
    {X5 X6 x5 x6 : Vec F S256x128 .i32} {X10 x10 : Vec F S256x128 .f32} (h5 : X5 = x5) (h6 : X6 = x6) (h10 : X10 = x10) :
    Held (v.read (Elt F) (v.writes (Elt F) G (tables i h X5 X6 X10 k0_t1_loop.trips))) (tile x5 x6 x10) := by
  subst h5 h6 h10
  exact tables_held i h _ _ _ v G

/-- What the body stores as the sum, from the loads of a buffer that holds the tiles. -/
theorem accStep_of {S : Space} {v : View sig .tc S S33792x128 .f32} {f : v.ty.Contents (Elt F)} {T : ℕ → Vec F S256x128 .f32}
    (hg : Held (v.read (Elt F) f) T) (i : grid0.Coords) {y acc : Vec F S256x2048 .f32} {z b : Vec F S1024x2048 .bf16} (hy : y = acc) (hz : z = b) :
    k0_pay8 (k0_pay4 (v.readAt (Elt F) (Rect.unit (s := S33792x128) (k0_off3 i 0#32) S256x128.size (k0_off3_inb i 0)).toLoadRect f)) (k0_pay5 (v.readAt (Elt F) (Rect.unit (s := S33792x128) (k0_off3 i 1#32) S256x128.size (k0_off3_inb i 1)).toLoadRect f))
      (k0_pay6 (v.readAt (Elt F) (Rect.unit (s := S33792x128) (k0_off3 i 2#32) S256x128.size (k0_off3_inb i 2)).toLoadRect f)) (k0_pay7 (v.readAt (Elt F) (Rect.unit (s := S33792x128) (k0_off3 i 3#32) S256x128.size (k0_off3_inb i 3)).toLoadRect f))
      (v.readAt (Elt F) (Rect.unit (s := S33792x128) (k0_off3 i 4#32) S256x128.size (k0_off3_inb i 4)).toLoadRect f)
      (v.readAt (Elt F) (Rect.unit (s := S33792x128) (k0_off3 i 5#32) S256x128.size (k0_off3_inb i 5)).toLoadRect f)
      (v.readAt (Elt F) (Rect.unit (s := S33792x128) (k0_off3 i 6#32) S256x128.size (k0_off3_inb i 6)).toLoadRect f)
      (v.readAt (Elt F) (Rect.unit (s := S33792x128) (k0_off3 i 7#32) S256x128.size (k0_off3_inb i 7)).toLoadRect f) y z
      = accStep T b (i 1).val acc := by
  subst hy hz
  simp only [View.readAt_eq_ld]
  rw [held_ld0 hg i, held_ld1 hg i, held_ld2 hg i, held_ld3 hg i, held_ld4 hg i, held_ld5 hg i, held_ld6 hg i, held_ld7 hg i]
  rfl

set_option maxHeartbeats 2000000 in
/-- A column step between the first and the last. -/
theorem run_B (c : Dev nD) (i : grid0.Coords) (arg2 : Memref sig .tc .vmem S256x2048 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .i32) (harg5 : arg5.IsWhole) (arg6 : Memref sig .tc .vmem S256x128 .i32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S256x2048 .f32) (harg9 : arg9.IsWhole) (arg10 : Memref sig .tc .vmem S256x128 .f32) (harg10 : arg10.IsWhole) (arg11 : Memref sig .tc .vmem S33792x128 .f32) (harg11 : arg11.IsWhole) (arg12 : Memref sig .tc .vmem S256x2048 .f32) (harg12 : arg12.IsWhole) (hc0 : ¬k0_cond1 i = 1#1) (hc1 : ¬k0_cond2 i = 1#1)
    (x0 : Vec F S256x2048 .f32) (x1 : Vec F S256x128 .f32) (x2 : Vec F S256x128 .f32) (x3 : Vec F S256x128 .i32) (x4 : Vec F S256x128 .i32) (x5 : Vec F S1024x2048 .bf16) (x6 : Vec F S1x2048 .f32) (xo : Vec F S256x2048 .f32) (T : ℕ → Vec F S256x128 .f32) (acc : Vec F S256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ d, owns (c : Thread nD τ) arg10 fullShare d) ∗ (∃ g, owns (c : Thread nD τ) arg11 fullShare g ∗ ⌜Held g T⌝) ∗ owns (c : Thread nD τ) arg12 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ d, owns (c : Thread nD τ) arg10 fullShare d) ∗ (∃ g, owns (c : Thread nD τ) arg11 fullShare g ∗ ⌜Held g T⌝) ∗ owns (c : Thread nD τ) arg12 fullShare (accStep T x5 (i 1).val acc)) -∗ K ⟨⟩))
      ⊢ wp frame (wpE (defs₀ (F := F)) Variants.none c none) Set.univ (cc0_peer_out i arg2 harg2 arg3 harg3 arg4 harg4 arg5 harg5 arg6 harg6 arg7 harg7 arg8 harg8 arg9 harg9 arg10 harg10 arg11 harg11 arg12 harg12) K := by
  simp only [cc0_peer_out_eq_skeleton]; unfold cc0_peer_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%g, ⟨%f9, %hf9, H9⟩, %hg⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; subst hf9
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; iexists _; isplitr
    swap; · iexact H8
    ipureintro; rfl
  isplitl [H9]
  · iexists _; isplitl [H9]
    · iexists _; isplitr
      swap; · iexact H9
      ipureintro; rfl
    ipureintro
    exact hg
  iexists _; isplitr
  swap; · iexact H10
  ipureintro
  refine (read_store arg12.view _ hz2 _ _ _).trans ?_
  sl_unfold_words
  exact accStep_of hg i ((View.ld_unit_zero (S := S256x2048) hz2 _ _).trans (harg12.read_unread _))
    ((View.ld_unit_zero (S := S1024x2048) hz2 _ _).trans (harg7.read_unread _))

set_option maxHeartbeats 2000000 in
/-- The last column step. -/
theorem run_C (c : Dev nD) (i : grid0.Coords) (arg2 : Memref sig .tc .vmem S256x2048 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .i32) (harg5 : arg5.IsWhole) (arg6 : Memref sig .tc .vmem S256x128 .i32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S256x2048 .f32) (harg9 : arg9.IsWhole) (arg10 : Memref sig .tc .vmem S256x128 .f32) (harg10 : arg10.IsWhole) (arg11 : Memref sig .tc .vmem S33792x128 .f32) (harg11 : arg11.IsWhole) (arg12 : Memref sig .tc .vmem S256x2048 .f32) (harg12 : arg12.IsWhole) (hc0 : ¬k0_cond1 i = 1#1) (hc1 : k0_cond2 i = 1#1)
    (x0 : Vec F S256x2048 .f32) (x1 : Vec F S256x128 .f32) (x2 : Vec F S256x128 .f32) (x3 : Vec F S256x128 .i32) (x4 : Vec F S256x128 .i32) (x5 : Vec F S1024x2048 .bf16) (x6 : Vec F S1x2048 .f32) (T : ℕ → Vec F S256x128 .f32) (acc : Vec F S256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ g, owns (c : Thread nD τ) arg11 fullShare g ∗ ⌜Held g T⌝) ∗ owns (c : Thread nD τ) arg12 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay9 x0 (accStep T x5 (i 1).val acc) x6) ∗ (∃ d, owns (c : Thread nD τ) arg10 fullShare d) ∗ (∃ g, owns (c : Thread nD τ) arg11 fullShare g ∗ ⌜Held g T⌝) ∗ owns (c : Thread nD τ) arg12 fullShare (accStep T x5 (i 1).val acc)) -∗ K ⟨⟩))
      ⊢ wp frame (wpE (defs₀ (F := F)) Variants.none c none) Set.univ (cc0_peer_out i arg2 harg2 arg3 harg3 arg4 harg4 arg5 harg5 arg6 harg6 arg7 harg7 arg8 harg8 arg9 harg9 arg10 harg10 arg11 harg11 arg12 harg12) K := by
  simp only [cc0_peer_out_eq_skeleton]; unfold cc0_peer_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%g, ⟨%f9, %hf9, H9⟩, %hg⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hf10; subst hf9
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    refine (read_store arg9.view _ hz2 _ _ _).trans ?_
    refine congr (congr (congrArg k0_pay9 ((View.ld_unit_zero (S := S256x2048) hz2 _ _).trans (harg2.read_unread _))) ?_)
      ((View.ld_unit_zero (S := S1x2048) hz2 _ _).trans (harg8.read_unread _))
    refine (View.ld_unit_zero (S := S256x2048) hz2 _ _).trans ?_
    refine (read_store arg12.view _ hz2 _ _ _).trans ?_
    sl_unfold_words
    exact accStep_of hg i ((View.ld_unit_zero (S := S256x2048) hz2 _ _).trans (harg12.read_unread _))
      ((View.ld_unit_zero (S := S1024x2048) hz2 _ _).trans (harg7.read_unread _))
  isplitl [H8]
  · iexists _; iexists _; isplitr
    swap; · iexact H8
    ipureintro; rfl
  isplitl [H9]
  · iexists _; isplitl [H9]
    · iexists _; isplitr
      swap; · iexact H9
      ipureintro; rfl
    ipureintro
    exact hg
  iexists _; isplitr
  swap; · iexact H10
  ipureintro
  refine (read_store arg12.view _ hz2 _ _ _).trans ?_
  sl_unfold_words
  exact accStep_of hg i ((View.ld_unit_zero (S := S256x2048) hz2 _ _).trans (harg12.read_unread _))
    ((View.ld_unit_zero (S := S1024x2048) hz2 _ _).trans (harg7.read_unread _))

set_option maxHeartbeats 2000000 in
/-- The first column step. -/
theorem run_A (c : Dev nD) (i : grid0.Coords) (arg2 : Memref sig .tc .vmem S256x2048 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .i32) (harg5 : arg5.IsWhole) (arg6 : Memref sig .tc .vmem S256x128 .i32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S256x2048 .f32) (harg9 : arg9.IsWhole) (arg10 : Memref sig .tc .vmem S256x128 .f32) (harg10 : arg10.IsWhole) (arg11 : Memref sig .tc .vmem S33792x128 .f32) (harg11 : arg11.IsWhole) (arg12 : Memref sig .tc .vmem S256x2048 .f32) (harg12 : arg12.IsWhole) (hc0 : k0_cond1 i = 1#1) (hc1 : ¬k0_cond2 i = 1#1)
    (x0 : Vec F S256x2048 .f32) (x1 : Vec F S256x128 .f32) (x2 : Vec F S256x128 .f32) (x3 : Vec F S256x128 .i32) (x4 : Vec F S256x128 .i32) (x5 : Vec F S1024x2048 .bf16) (x6 : Vec F S1x2048 .f32) (xo : Vec F S256x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo ∗ (∃ d, owns (c : Thread nD τ) arg10 fullShare d) ∗ (∃ g, owns (c : Thread nD τ) arg11 fullShare g ∗ ⌜Held g (tile x3 x4 (k0_pay1 x2 x1))⌝) ∗ owns (c : Thread nD τ) arg12 fullShare (accStep (tile x3 x4 (k0_pay1 x2 x1)) x5 (i 1).val k0_pay2)) -∗ K ⟨⟩))
      ⊢ wp frame (wpE (defs₀ (F := F)) Variants.none c none) Set.univ (cc0_peer_out i arg2 harg2 arg3 harg3 arg4 harg4 arg5 harg5 arg6 harg6 arg7 harg7 arg8 harg8 arg9 harg9 arg10 harg10 arg11 harg11 arg12 harg12) K := by
  simp only [cc0_peer_out_eq_skeleton]; unfold cc0_peer_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; iexists _; isplitr
    swap; · iexact H8
    ipureintro; rfl
  isplitl [H9]
  · iexists _; isplitl [H9]
    · iexists _; isplitr
      swap; · iexact H9
      ipureintro; rfl
    ipureintro
    sl_unfold_words
    exact held_after i hc0 arg11.view _ (harg5.read_unread _) (harg6.read_unread _) ((read_store arg10.view _ hz2 _ _ _).trans
      (congr (congrArg k0_pay1 ((View.ld_unit_zero (S := S256x128) hz2 _ _).trans (harg4.read_unread _)))
        ((View.ld_unit_zero (S := S256x128) hz2 _ _).trans (harg3.read_unread _))))

  iexists _; isplitr
  swap; · iexact H10
  ipureintro
  refine (read_store arg12.view _ hz2 _ _ _).trans ?_
  sl_unfold_words
  exact accStep_of (held_after i hc0 arg11.view _ (harg5.read_unread _) (harg6.read_unread _) ((read_store arg10.view _ hz2 _ _ _).trans
    (congr (congrArg k0_pay1 ((View.ld_unit_zero (S := S256x128) hz2 _ _).trans (harg4.read_unread _)))
      ((View.ld_unit_zero (S := S256x128) hz2 _ _).trans (harg3.read_unread _))))) i ((View.ld_unit_zero (S := S256x2048) hz2 _ _).trans (read_store arg12.view _ hz2 _ _ _))
    ((View.ld_unit_zero (S := S1024x2048) hz2 _ _).trans (harg7.read_unread _))

end Cert.PeerOutIdeal.Body

end
-- ==== Proof.PeerOutIdeal.Frame.lean ====
/- What the expert output leaves in its buffers point by point, and its frame. -/
module

public import proofs.«01_k».proof.Proof.PeerOutIdeal.Runs
public import proofs.«01_k».proof.Proof.Gen.PeerOutIdeal.Frame
public import Idealize.ShloMosaic.Lib.Pipeline.TableIdle
public import Idealize.ShloMosaic.Lib.Claim

@[expose] public section

set_option maxRecDepth 16384

noncomputable section

namespace Cert.PeerOutIdeal.Body

open Cert.PeerOutIdeal Cert.PeerOutIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions and the output's steps -/

/-- The body's first branch is taken at column step 0, -/
theorem hcond0 : ∀ t : Fin cfg0.N, k0_cond1 (grid0.coords t) = 1#1 ↔ t.val % 16 = 0 :=
  (by decide +kernel : ∀ t : Fin grid0.N, k0_cond1 (grid0.coords t) = 1#1 ↔ t.val % 16 = 0)

/-- and its second at the last. -/
theorem hcond1 : ∀ t : Fin cfg0.N, k0_cond2 (grid0.coords t) = 1#1 ↔ t.val % 16 = 15 :=
  (by decide +kernel : ∀ t : Fin grid0.N, k0_cond2 (grid0.coords t) = 1#1 ↔ t.val % 16 = 15)

/-- The output block is stored into at the last column step alone. -/
theorem liveAt7 : ∀ t : Fin cfg0.N, k0_cond2 (grid0.coords t) = 1#1 → cfg0.idle 7 (grid0.coords t) = false := by decide +kernel
theorem idleAt7 : ∀ t : Fin cfg0.N, ¬k0_cond2 (grid0.coords t) = 1#1 → cfg0.idle 7 (grid0.coords t) = true := by decide +kernel
theorem noFlush7 : ∀ t : Fin cfg0.N, ¬k0_cond2 (grid0.coords t) = 1#1 → (cfg0.win 7).flush t = false := by decide +kernel

/-! ## The buffers the body is called with -/

abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x2048 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x2048 .f32 := win0_7.stage (cfg0.slots t 7)
abbrev hs7 (t : Fin cfg0.N) : (ms7 t).IsWhole := hstage0_7 ((cfg0.slots t 7).cast nbuf0_7)
abbrev sc0 : Memref sig .tc .vmem S256x128 .f32 := Memref.whole cc0_scratch0
abbrev sc1 : Memref sig .tc .vmem S33792x128 .f32 := Memref.whole cc0_scratch1
abbrev sc2 : Memref sig .tc .vmem S256x2048 .f32 := Memref.whole cc0_scratch2

/-- The region's own buffers, at something. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-! ## What the tables and the sum are after each position -/

/-- The tiles of the tokens of position `t`. -/
def tilesAt (c : Dev nD) (t : Fin cfg0.N) : ℕ → Vec F S256x128 .f32 :=
  tile (iblk m c 3 t) (iblk m c 4 t) (k0_pay1 (iblk m c 2 t) (iblk m c 1 t))

/-- The sum after position `t` over the sum `acc` before it. -/
def sumAt (c : Dev nD) (t : Fin cfg0.N) (T : ℕ → Vec F S256x128 .f32) (acc : Vec F S256x2048 .f32) : Vec F S256x2048 .f32 :=
  accStep T (iblk m c 5 t) (grid0.coords t 1).val acc

/-- The tiles and the sum after position `n`: made anew at column step 0, carried and added to after it. -/
def stateAt (c : Dev nD) : (n : ℕ) → n < cfg0.N → (ℕ → Vec F S256x128 .f32) × Vec F S256x2048 .f32
  | 0, h => (tilesAt m c ⟨0, h⟩, sumAt m c ⟨0, h⟩ (tilesAt m c ⟨0, h⟩) k0_pay2)
  | n + 1, h => if (n + 1) % 16 = 0 then (tilesAt m c ⟨n + 1, h⟩, sumAt m c ⟨n + 1, h⟩ (tilesAt m c ⟨n + 1, h⟩) k0_pay2)
      else ((stateAt c n (Nat.lt_of_succ_lt h)).1, sumAt m c ⟨n + 1, h⟩ (stateAt c n (Nat.lt_of_succ_lt h)).1 (stateAt c n (Nat.lt_of_succ_lt h)).2)

theorem stateAt_first (c : Dev nD) (t : Fin cfg0.N) (h : t.val % 16 = 0) :
    stateAt m c t.val t.isLt = (tilesAt m c t, sumAt m c t (tilesAt m c t) k0_pay2) := by
  obtain ⟨n, hn⟩ := t
  cases n with
  | zero => rfl
  | succ n => exact if_pos h

theorem stateAt_next (c : Dev nD) (t : Fin cfg0.N) (h : ¬t.val % 16 = 0) :
    stateAt m c t.val t.isLt = ((stateAt m c (t.val - 1) (by omega)).1,
      sumAt m c t (stateAt m c (t.val - 1) (by omega)).1 (stateAt m c (t.val - 1) (by omega)).2) := by
  obtain ⟨n, hn⟩ := t
  cases n with
  | zero => exact absurd rfl h
  | succ n => exact if_neg h

/-- The region's own buffers before position `n`: anything at first, then the tiles and the sum of the position before. -/
def PhiS (c : Dev nD) : (n : ℕ) → n ≤ cfg0.N → sProp 𝕄
  | 0, _ => Pipeline.ΦA spec0 c
  | n + 1, hn => iprop(iprop((∃ d, owns (c : Thread nD τ) sc0 fullShare d)
      ∗ (∃ g, owns (c : Thread nD τ) sc1 fullShare g ∗ ⌜Held g (stateAt m c n hn).1⌝)
      ∗ owns (c : Thread nD τ) sc2 fullShare (stateAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) sc0 fullShare d)
      ∗ (∃ g, owns (c : Thread nD τ) sc1 fullShare g ∗ ⌜Held g (stateAt m c n hn).1⌝)
      ∗ owns (c : Thread nD τ) sc2 fullShare (stateAt m c n hn).2) ∗ (∃ r, prngReg c r)) := rfl

theorem PhiS_pos (c : Dev nD) (n : ℕ) (h : n ≤ cfg0.N) (hz : n ≠ 0) :
    PhiS m c n h = iprop(iprop((∃ d, owns (c : Thread nD τ) sc0 fullShare d)
      ∗ (∃ g, owns (c : Thread nD τ) sc1 fullShare g ∗ ⌜Held g (stateAt m c (n - 1) (by omega)).1⌝)
      ∗ owns (c : Thread nD τ) sc2 fullShare (stateAt m c (n - 1) (by omega)).2) ∗ (∃ r, prngReg c r)) := by
  cases n with
  | zero => exact absurd rfl hz
  | succ n => rfl

/-- Whatever the position, the buffers hold something. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA_eq]
    iintro ⟨⟨HS0, ⟨%g, HS1, -⟩, HS2⟩, Hg⟩
    isplitl [HS0 HS1 HS2]
    · isplitl [HS0]; · iexact HS0
      isplitl [HS1]; · iexists _; iexact HS1
      iexists _; iexact HS2
    iexact Hg

/-! ## The pipeline's proof data -/

/-- The region's proof data: the arrays as found, each block after each point, and the region's own buffers between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay9 (iblk m c 0 t) (stateAt m c t.val t.isLt).2 (iblk m c 6 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) :
    (dats m 0 c).after 7 t = k0_pay9 (iblk m c 0 t) (stateAt m c t.val t.isLt).2 (iblk m c 6 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [show cfg0.idle 0 (grid0.coords t) = false from rfl], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [show cfg0.idle 1 (grid0.coords t) = false from rfl], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [show cfg0.idle 2 (grid0.coords t) = false from rfl], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [show cfg0.idle 3 (grid0.coords t) = false from rfl], after3]
theorem leaves4 (c : Dev nD) (t : Fin cfg0.N) : (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [show cfg0.idle 4 (grid0.coords t) = false from rfl], after4]
theorem leaves5 (c : Dev nD) (t : Fin cfg0.N) : (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [show cfg0.idle 5 (grid0.coords t) = false from rfl], after5]
theorem leaves6 (c : Dev nD) (t : Fin cfg0.N) : (dats m 0 c).leavesExact 6 t = owns (c : Thread nD τ) (ms6 t) fullShare (iblk m c 6 t) := by
  rw [show (dats m 0 c).leavesExact 6 t = owns (c : Thread nD τ) (ms6 t) fullShare ((dats m 0 c).after 6 t) from by
    unfold Dat.leavesExact; rw [show cfg0.idle 6 (grid0.coords t) = false from rfl], after6]

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = PhiS m c (t.val + 1) t.isLt from rfl, PhiS_succ]
  rw [PhiS_castSucc m c t]
  by_cases h0 : t.val % 16 = 0
  · have h1 : ¬t.val % 16 = 15 := by omega
    rw [Dat.leavesExact_idle (dats m 0 c) 7 t (idleAt7 t (fun h => h1 ((hcond1 t).mp h))) (noFlush7 t (fun h => h1 ((hcond1 t).mp h)))]
    refine (sep_mono_left (PhiS_any m c _ _)).trans ?_
    rw [PhiA_eq, stateAt_first m c t h0]
    unfold tilesAt sumAt; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid0.coords t) _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 16 = 15
    · rw [show (dats m 0 c).leavesExact 7 t = owns (c : Thread nD τ) (ms7 t) fullShare ((dats m 0 c).after 7 t) from by
        unfold Dat.leavesExact; rw [liveAt7 t ((hcond1 t).mpr h1)], after7]
      rw [PhiS_pos m c _ _ (fun hz => h0 (by rw [hz])), stateAt_next m c t h0]
      unfold sumAt; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_C c (grid0.coords t) _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dats m 0 c) 7 t (idleAt7 t (fun h => h1 ((hcond1 t).mp h))) (noFlush7 t (fun h => h1 ((hcond1 t).mp h)))]
      rw [PhiS_pos m c _ _ (fun hz => h0 (by rw [hz])), stateAt_next m c t h0]
      unfold sumAt; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_B c (grid0.coords t) _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem defs₀_row (t : Fin cfg0.N) :
    defs₀ (F := F) .tc cfg0.body (cfg0.bodyArgs t (cfg0.slots t)) = bodyAt0 t := by
  unfold defs₀; rw [Defs.onTc_tc]

/-- So the body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run and the frame -/

set_option backward.isDefEq.respectTransparency.types false in
set_option maxHeartbeats 800000 in
/-- The program runs, its arrays end as the proof data say, and every semaphore ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The program terminates with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.PeerOutIdeal.Body

end
-- ==== Proof.Frames.lean ====
/- The input projection and the experts' output, as compiled and as idealized, are the same programs under two
names: no operation was rewritten. What the idealized ones leave, proved for every reading of the floats, holds of the
compiled ones. -/
module

public import proofs.«01_k».proof.Defs
public import proofs.«01_k».proof.Proof.Gen.InProj
public import proofs.«01_k».proof.Proof.Gen.PeerOut
public import proofs.«01_k».proof.Proof.InProjIdeal.Frame
public import proofs.«01_k».proof.Proof.PeerOutIdeal.Frame

@[expose] public section

set_option maxRecDepth 16384

namespace Cert.Frames

open Idealize.ShloMosaic Idealize.SL.Sem

attribute [local instance] Cert.InProj.Gen.facts Cert.InProjIdeal.Gen.facts Cert.PeerOut.Gen.facts Cert.PeerOutIdeal.Gen.facts

/-- The input projection's kernel is one under both names. -/
theorem inProj_kernel : Cert.InProj.defs₀ (F := Bits) = Cert.InProjIdeal.defs₀ (F := Bits) :=
  congrArg Defs.onTc (funext fun ℓ => funext fun a => by
    match ℓ, a with
    | 0, (t, s) => rfl)

/-- So is its body table. -/
theorem inProj_defs : Cert.InProj.defs (F := Bits) = Cert.InProjIdeal.defs (F := Bits) :=
  congrArg (Pipeline.defs (Cert.InProj.pcfgs (F := Bits))) inProj_kernel

/-- The compiled input projection terminates with its arguments unchanged and every semaphore at zero. -/
theorem inProj : Cert.quiescent_InProj := fun m ρ _ => by
  rw [inProj_defs]
  exact Cert.InProjIdeal.Body.frame (F := Bits) m ρ

/-- The experts' output kernel is one under both names. -/
theorem peerOut_kernel : Cert.PeerOut.defs₀ (F := Bits) = Cert.PeerOutIdeal.defs₀ (F := Bits) :=
  congrArg Defs.onTc (funext fun ℓ => funext fun a => by
    match ℓ, a with
    | 0, (t, s) => rfl)

/-- So is its body table. -/
theorem peerOut_defs : Cert.PeerOut.defs (F := Bits) = Cert.PeerOutIdeal.defs (F := Bits) :=
  congrArg (Pipeline.defs (Cert.PeerOut.pcfgs (F := Bits))) peerOut_kernel

/-- The compiled experts' output terminates with its arguments unchanged and every semaphore at zero. -/
theorem peerOut : Cert.quiescent_PeerOut := fun m ρ _ => by
  rw [peerOut_defs]
  exact Cert.PeerOutIdeal.Body.frame (F := Bits) m ρ

end Cert.Frames

end
-- ==== Proof.InProjIdeal.Cases.lean ====
/- What one grid point of the input projection leaves in its output blocks and its scratch, as the payloads of its body. -/
module

public import proofs.«01_k».proof.Proof.InProjIdeal.Frame
public import Idealize.ShloMosaic.Lib.Pipeline.Value

@[expose] public section

set_option maxRecDepth 16384

noncomputable section

namespace Cert.InProjIdeal.Body

open Cert.InProjIdeal Cert.InProjIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

section Pieces

variable (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S2048x128 .bf16) (harg5 : arg5.IsWhole)
  (arg6 : Memref sig .tc .vmem S1x128 .f32) (harg6 : arg6.IsWhole)
  (arg7 : Memref sig .tc .vmem S512x1024 .f32) (harg7 : arg7.IsWhole)
  (arg8 : Memref sig .tc .vmem S512x1024 .bf16) (harg8 : arg8.IsWhole)
  (arg9 : Memref sig .tc .vmem S512x128 .f32) (harg9 : arg9.IsWhole)
  (arg10 : Memref sig .tc .vmem S512x2048 .bf16) (harg10 : arg10.IsWhole)
  (x0 : Vec F S512x2048 .f32) (x1 : Vec F S1x2048 .f32) (x2 : Vec F S2048x1024 .bf16) (x3 : Vec F S2048x128 .bf16) (x4 : Vec F S1x128 .f32)
  (xs0 : Vec F S512x2048 .bf16)

/-- Step 0: the pooling block. -/
theorem out0_A_5_val (hc0 : cond0_0 i) (hc1 : ¬cond0_1 i) :
    out0_A_5 c i arg2 harg2 arg3 harg3 arg4 harg4 arg5 harg5 arg6 harg6 arg7 harg7 arg8 harg8 arg9 harg9 arg10 harg10 hc0 hc1 x0 x1 x2 x3 x4 = k0_pay4 x0 x1 x2 := by
  unfold out0_A_5
  rw [View.read_writes_eq_canon _ _ _ (cover0_A_5 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_unit_zero (S := S512x1024) hz2, View.canon_cons_unit_zero (S := S512x1024) hz2, View.readAt_eq_ld, harg2.read_unread,
    harg3.read_unread, harg4.read_unread, harg5.read_unread, harg6.read_unread, harg7.read_unread, harg8.read_unread, harg9.read_unread,
    harg10.read_unread, View.ld_unit_zero (S := S512x2048) hz2, View.ld_unit_zero (S := S1x2048) hz2,
    View.ld_unit_zero (S := S2048x1024) hz2, View.ld_unit_zero (S := S2048x128) hz2, View.ld_unit_zero (S := S1x128) hz2]

/-- Step 0: the forget logits. -/
theorem out0_A_7_val (hc0 : cond0_0 i) (hc1 : ¬cond0_1 i) :
    out0_A_7 c i arg2 harg2 arg3 harg3 arg4 harg4 arg5 harg5 arg6 harg6 arg7 harg7 arg8 harg8 arg9 harg9 arg10 harg10 hc0 hc1 x0 x1 x2 x3 x4 = k0_pay3 x0 x1 x3 x4 := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_unit_zero (S := S512x128) hz2, View.canon_cons_unit_zero (S := S512x128) hz2, View.readAt_eq_ld, harg2.read_unread,
    harg3.read_unread, harg4.read_unread, harg5.read_unread, harg6.read_unread, harg7.read_unread, harg8.read_unread, harg9.read_unread,
    harg10.read_unread, View.ld_unit_zero (S := S512x2048) hz2, View.ld_unit_zero (S := S1x2048) hz2,
    View.ld_unit_zero (S := S2048x1024) hz2, View.ld_unit_zero (S := S2048x128) hz2, View.ld_unit_zero (S := S1x128) hz2]

/-- Step 0: the normalized rows. -/
theorem sout0_A_0_val (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_unit_zero (S := S512x2048) hz2, View.canon_cons_unit_zero (S := S512x2048) hz2, View.readAt_eq_ld, harg2.read_unread,
    harg3.read_unread, harg4.read_unread, harg5.read_unread, harg6.read_unread, harg7.read_unread, harg8.read_unread, harg9.read_unread,
    harg10.read_unread, View.ld_unit_zero (S := S512x2048) hz2, View.ld_unit_zero (S := S1x2048) hz2,
    View.ld_unit_zero (S := S2048x1024) hz2, View.ld_unit_zero (S := S2048x128) hz2, View.ld_unit_zero (S := S1x128) hz2]

/-- A later step: the attention columns, of the normalized rows kept. -/
theorem out0_B_6_val (hc0 : ¬cond0_0 i) (hc1 : cond0_1 i) :
    out0_B_6 c i arg2 harg2 arg3 harg3 arg4 harg4 arg5 harg5 arg6 harg6 arg7 harg7 arg8 harg8 arg9 harg9 arg10 harg10 hc0 hc1 x0 x1 x2 x3 x4 xs0 = k0_pay5 xs0 x2 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 xs0)]
  unfold kernelRun0_B
  dsimp only
  sl_unfold_words
  simp only [View.canon_unit_zero (S := S512x1024) hz2, View.canon_cons_unit_zero (S := S512x1024) hz2, View.readAt_eq_ld, harg2.read_unread,
    harg3.read_unread, harg4.read_unread, harg5.read_unread, harg6.read_unread, harg7.read_unread, harg8.read_unread, harg9.read_unread,
    harg10.read_unread, View.ld_unit_zero (S := S512x2048) hz2, View.ld_unit_zero (S := S1x2048) hz2,
    View.ld_unit_zero (S := S2048x1024) hz2, View.ld_unit_zero (S := S2048x128) hz2, View.ld_unit_zero (S := S1x128) hz2]

end Pieces

end Cert.InProjIdeal.Body

end
-- ==== Proof.InProjIdeal.Payload.lean ====
/- The body of the input projection read at an index, over the extended reals. -/
module

public import proofs.«01_k».proof.Proof.Gen.InProjIdeal.Skeleton
public import proofs.«01_k».proof.Proof.Rows
public import Idealize.ShloMosaic.Lib.Pointwise
public import Idealize.ShloMosaic.Lib.Pipeline.Value

@[expose] public section

set_option maxRecDepth 16384

noncomputable section

namespace Cert.InProjIdeal.Body

open Cert.InProjIdeal Cert.InProjIdeal.Gen Idealize.ShloMosaic Idealize.ShloMosaic.TcCoe Idealize.SL.Sem

/-- The normalized rows. -/
theorem rows_apply (x : Vec Ideal S512x2048 .f32) (g : Vec Ideal S1x2048 .f32) (r : Fin 512) (k : Fin 2048) :
    k0_pay1 (F := Ideal) x g (ix2 r k) = Rows.rms (fun j => x (ix2 r j)) (fun j => g (ix2 0 j)) k := by
  unfold Rows.rms
  pointwise [k0_pay1]

/-- The normalized rows as they are kept. -/
theorem kept_apply (x : Vec Ideal S512x2048 .f32) (g : Vec Ideal S1x2048 .f32) (r : Fin 512) (k : Fin 2048) :
    k0_pay2 (F := Ideal) x g (ix2 r k) = Rows.rms (fun j => x (ix2 r j)) (fun j => g (ix2 0 j)) k := by
  rw [← rows_apply]
  pointwise [k0_pay2]

/-- The pooling block: the normalized rows times the first columns of the weights. -/
theorem pool_apply (x : Vec Ideal S512x2048 .f32) (g : Vec Ideal S1x2048 .f32) (w : Vec Ideal S2048x1024 .bf16) (r : Fin 512) (d : Fin 1024) :
    k0_pay4 (F := Ideal) x g w (ix2 r d) = Rows.project (fun j => x (ix2 r j)) (fun j => g (ix2 0 j)) (fun k d => w (ix2 k d)) d := by
  unfold Rows.project
  simp only [← rows_apply]
  pointwise [k0_pay4]

/-- The forget logits: the normalized rows times their weights, plus the bias. -/
theorem forget_apply (x : Vec Ideal S512x2048 .f32) (g : Vec Ideal S1x2048 .f32) (w : Vec Ideal S2048x128 .bf16) (b : Vec Ideal S1x128 .f32)
    (r : Fin 512) (d : Fin 128) : k0_pay3 (F := Ideal) x g w b (ix2 r d)
      = Rows.project (fun j => x (ix2 r j)) (fun j => g (ix2 0 j)) (fun k d => w (ix2 k d)) d + b (ix2 0 d) := by
  unfold Rows.project
  simp only [← rows_apply]
  pointwise [k0_pay3]

/-- The attention columns: the kept rows times a block of the weights. -/
theorem columns_apply (a : Vec Ideal S512x2048 .bf16) (w : Vec Ideal S2048x1024 .bf16) (r : Fin 512) (d : Fin 1024) :
    k0_pay5 (F := Ideal) a w (ix2 r d) = ∑ k : Fin 2048, a (ix2 r k) * w (ix2 k d) := by
  pointwise [k0_pay5]

end Cert.InProjIdeal.Body

end
-- ==== Proof.InProjIdeal.Blocks.lean ====
/- What the input projection's windows read and what its blocks hold after each grid point. -/
module

public import proofs.«01_k».proof.Proof.InProjIdeal.Cases
public import proofs.«01_k».proof.Proof.InProjIdeal.Payload

@[expose] public section

set_option maxRecDepth 16384

noncomputable section

namespace Cert.InProjIdeal.Body

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx0_0 : ∀ t : Fin grid0.N, win0_0.index t 0 = t.val / 4 ∧ win0_0.index t 1 = 0 := by decide +kernel
theorem idx0_1 : ∀ t : Fin grid0.N, win0_1.index t 0 = 0 ∧ win0_1.index t 1 = 0 := by decide +kernel
theorem idx0_2 : ∀ t : Fin grid0.N, win0_2.index t 0 = 0 ∧ win0_2.index t 1 = t.val % 4 := by decide +kernel
theorem idx0_3 : ∀ t : Fin grid0.N, win0_3.index t 0 = 0 ∧ win0_3.index t 1 = 0 := by decide +kernel
theorem idx0_4 : ∀ t : Fin grid0.N, win0_4.index t 0 = 0 ∧ win0_4.index t 1 = 0 := by decide +kernel

theorem lt_N0 (t : Fin cfg0.N) : t.val < 64 := lt_of_lt_of_eq t.isLt (show cfg0.N = 64 from N_0)

/-- The rows a point reads. -/
theorem rows_read (t : Fin cfg0.N) (r : Fin 512) (k : Fin 2048) (p : Fin 8192) (hp : p.val = t.val / 4 * 512 + r.val) :
    (iblk m c 0 t : Vec Ideal S512x2048 .f32) (ix2 r k) = (V m c main_arg0 : Vec Ideal S8192x2048 .f32) (ix2 p k) := by
  have hi := idx0_0 t
  unfold iblk
  rw [View.read_apply]
  show V m c main_arg0 _ = V m c main_arg0 _
  congr 1
  funext a
  apply Fin.ext
  match a with
  | ⟨0, _⟩ => show win0_0.index t 0 * 512 + 1 * r.val = p.val ; rw [hi.1]; omega
  | ⟨1, _⟩ => show win0_0.index t 1 * 2048 + 1 * k.val = k.val ; rw [hi.2]; omega

/-- The gain row. -/
theorem gain_read (t : Fin cfg0.N) (k : Fin 2048) :
    (iblk m c 1 t : Vec Ideal S1x2048 .f32) (ix2 0 k) = (V m c main_v7 : Vec Ideal S1x2048 .f32) (ix2 0 k) := by
  have hi := idx0_1 t
  unfold iblk
  rw [View.read_apply]
  show V m c main_v7 _ = V m c main_v7 _
  congr 1
  funext a
  apply Fin.ext
  match a with
  | ⟨0, _⟩ => show win0_1.index t 0 * 1 + 1 * 0 = 0 ; rw [hi.1]
  | ⟨1, _⟩ => show win0_1.index t 1 * 2048 + 1 * k.val = k.val ; rw [hi.2]; omega

/-- The columns of the weights a point reads. -/
theorem weights_read (t : Fin cfg0.N) (k : Fin 2048) (d : Fin 1024) (q : Fin 4096) (hq : q.val = t.val % 4 * 1024 + d.val) :
    (iblk m c 2 t : Vec Ideal S2048x1024 .bf16) (ix2 k d) = (V m c main_v1 : Vec Ideal S2048x4096 .bf16) (ix2 k q) := by
  have hi := idx0_2 t
  unfold iblk
  rw [View.read_apply]
  show V m c main_v1 _ = V m c main_v1 _
  congr 1
  funext a
  apply Fin.ext
  match a with
  | ⟨0, _⟩ => show win0_2.index t 0 * 2048 + 1 * k.val = k.val ; rw [hi.1]; omega
  | ⟨1, _⟩ => show win0_2.index t 1 * 1024 + 1 * d.val = q.val ; rw [hi.2]; omega

/-- The weights of the forget logits. -/
theorem forget_read (t : Fin cfg0.N) (k : Fin 2048) (d : Fin 128) :
    (iblk m c 3 t : Vec Ideal S2048x128 .bf16) (ix2 k d) = (V m c main_v4 : Vec Ideal S2048x128 .bf16) (ix2 k d) := by
  have hi := idx0_3 t
  unfold iblk
  rw [View.read_apply]
  show V m c main_v4 _ = V m c main_v4 _
  congr 1
  funext a
  apply Fin.ext
  match a with
  | ⟨0, _⟩ => show win0_3.index t 0 * 2048 + 1 * k.val = k.val ; rw [hi.1]; omega
  | ⟨1, _⟩ => show win0_3.index t 1 * 128 + 1 * d.val = d.val ; rw [hi.2]; omega

/-- The bias row. -/
theorem bias_read (t : Fin cfg0.N) (d : Fin 128) :
    (iblk m c 4 t : Vec Ideal S1x128 .f32) (ix2 0 d) = (V m c main_v6 : Vec Ideal S1x128 .f32) (ix2 0 d) := by
  have hi := idx0_4 t
  unfold iblk
  rw [View.read_apply]
  show V m c main_v6 _ = V m c main_v6 _
  congr 1
  funext a
  apply Fin.ext
  match a with
  | ⟨0, _⟩ => show win0_4.index t 0 * 1 + 1 * 0 = 0 ; rw [hi.1]
  | ⟨1, _⟩ => show win0_4.index t 1 * 128 + 1 * d.val = d.val ; rw [hi.2]; omega

/-- Row `p` of the input. -/
abbrev row (p : Fin 8192) (j : Fin 2048) : EReal := (V m c main_arg0 : Vec Ideal S8192x2048 .f32) (ix2 p j)
/-- The gain. -/
abbrev gain (j : Fin 2048) : EReal := (V m c main_v7 : Vec Ideal S1x2048 .f32) (ix2 0 j)
/-- The pooling columns of the weights. -/
abbrev poolW (k : Fin 2048) (d : Fin 1024) : EReal := (V m c main_v1 : Vec Ideal S2048x4096 .bf16) (ix2 k ⟨d.val, by omega⟩)
/-- The attention columns of the weights. -/
abbrev attnW (k : Fin 2048) (d : Fin 3072) : EReal := (V m c main_v1 : Vec Ideal S2048x4096 .bf16) (ix2 k ⟨1024 + d.val, by omega⟩)
/-- The weights of the forget logits. -/
abbrev forgetW (k : Fin 2048) (d : Fin 128) : EReal := (V m c main_v4 : Vec Ideal S2048x128 .bf16) (ix2 k d)
/-- The bias of the forget logits. -/
abbrev bias (d : Fin 128) : EReal := (V m c main_v6 : Vec Ideal S1x128 .f32) (ix2 0 d)

/-- A later step keeps the pooling block, the logits and the scratch. -/
theorem kept (t : Fin cfg0.N) (h0 : ¬t.val % 4 = 0) :
    (outsAt0 m c t.val t.isLt).1 = (outsAt0 m c (t.val - 1) (Nat.lt_of_le_of_lt (Nat.sub_le _ _) t.isLt)).1
    ∧ (outsAt0 m c t.val t.isLt).2.2.1 = (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_B m c t h0 (by omega)]
  exact ⟨rfl, rfl, rfl⟩

/-- After every point the pooling block, the logits and the scratch hold their rows' values: step 0 stores them and the
    steps after it keep them. -/
theorem held : ∀ (n : ℕ) (hn : n < cfg0.N) (r : Fin 512) (p : Fin 8192), p.val = n / 4 * 512 + r.val →
    (∀ d : Fin 1024, (outsAt0 m c n hn).1 (ix2 r d) = Rows.project (row m c p) (gain m c) (poolW m c) d)
    ∧ (∀ d : Fin 128, (outsAt0 m c n hn).2.2.1 (ix2 r d) = Rows.project (row m c p) (gain m c) (forgetW m c) d + bias m c d)
    ∧ (∀ k : Fin 2048, (outsAt0 m c n hn).2.2.2 (ix2 r k) = Rows.rms (row m c p) (gain m c) k) := by
  have step0 : ∀ (t : Fin cfg0.N) (h0 : t.val % 4 = 0) (r : Fin 512) (p : Fin 8192), p.val = t.val / 4 * 512 + r.val →
    (∀ d : Fin 1024, (outsAt0 m c t.val t.isLt).1 (ix2 r d) = Rows.project (row m c p) (gain m c) (poolW m c) d)
    ∧ (∀ d : Fin 128, (outsAt0 m c t.val t.isLt).2.2.1 (ix2 r d) = Rows.project (row m c p) (gain m c) (forgetW m c) d + bias m c d)
    ∧ (∀ k : Fin 2048, (outsAt0 m c t.val t.isLt).2.2.2 (ix2 r k) = Rows.rms (row m c p) (gain m c) k) := by
    intro t h0 r p hp
    have ex : (fun j => (iblk m c 0 t : Vec Ideal S512x2048 .f32) (ix2 r j)) = row m c p := funext fun j => rows_read m c t r j p hp
    have eg : (fun j => (iblk m c 1 t : Vec Ideal S1x2048 .f32) (ix2 0 j)) = gain m c := funext fun j => gain_read m c t j
    rw [outsAt0_A m c t h0 (by omega)]
    dsimp only
    rw [out0_A_5_val, out0_A_7_val, sout0_A_0_val]
    refine ⟨fun d => ?_, fun d => ?_, fun k => ?_⟩
    · rw [pool_apply, ex, eg]
      unfold Rows.project
      refine Finset.sum_congr rfl fun k _ => ?_
      exact congrArg _ (weights_read m c t k d ⟨d.val, by omega⟩ (by rw [h0]; simp))
    · rw [forget_apply, ex, eg, bias_read]
      unfold Rows.project
      congr 1
      refine Finset.sum_congr rfl fun k _ => ?_
      exact congrArg _ (forget_read m c t k d)
    · rw [kept_apply, ex, eg]
  intro n
  induction n with
  | zero => exact fun hn => step0 ⟨0, hn⟩ rfl
  | succ n ih =>
    intro hn r p hp
    by_cases h0 : (n + 1) % 4 = 0
    · exact step0 ⟨n + 1, hn⟩ h0 r p hp
    · have hn' : n < cfg0.N := Nat.lt_of_succ_lt hn
      have e : (outsAt0 m c (n + 1) hn).1 = (outsAt0 m c n hn').1 ∧ (outsAt0 m c (n + 1) hn).2.2.1 = (outsAt0 m c n hn').2.2.1
          ∧ (outsAt0 m c (n + 1) hn).2.2.2 = (outsAt0 m c n hn').2.2.2 := kept m c ⟨n + 1, hn⟩ h0
      rw [e.1, e.2.1, e.2.2]
      exact ih hn' r p (by rw [hp]; congr 2; omega)

/-- A later step's attention columns. -/
theorem columns (t : Fin cfg0.N) (h1 : 1 ≤ t.val % 4) (r : Fin 512) (d : Fin 1024) (p : Fin 8192) (q : Fin 3072)
    (hp : p.val = t.val / 4 * 512 + r.val) (hq : q.val = (t.val % 4 - 1) * 1024 + d.val) :
    (outsAt0 m c t.val t.isLt).2.1 (ix2 r d) = Rows.project (row m c p) (gain m c) (attnW m c) q := by
  rw [outsAt0_B m c t (by omega) h1]
  dsimp only
  rw [out0_B_6_val, columns_apply]
  unfold Rows.project
  refine Finset.sum_congr rfl fun k _ => ?_
  rw [(held m c (t.val - 1) _ r p (by rw [hp]; congr 2; omega)).2.2 k, weights_read m c t k d ⟨1024 + q.val, by omega⟩ (by show 1024 + q.val = _; omega)]

end Cert.InProjIdeal.Body

end
-- ==== Proof.InProjIdeal.Arrays.lean ====
/- What the input projection's three arrays hold after its grid. -/
module

public import proofs.«01_k».proof.Proof.InProjIdeal.Blocks

@[expose] public section

set_option maxRecDepth 16384

noncomputable section

namespace Cert.InProjIdeal.Body

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx0_5 : ∀ t : Fin grid0.N, win0_5.index t 0 = t.val / 4 ∧ win0_5.index t 1 = 0 := by decide +kernel
theorem idx0_6 : ∀ t : Fin grid0.N, win0_6.index t 0 = t.val / 4 ∧ win0_6.index t 1 = t.val % 4 - 1 := by decide +kernel
theorem idx0_7 : ∀ t : Fin grid0.N, win0_7.index t 0 = t.val / 4 ∧ win0_7.index t 1 = 0 := by decide +kernel

/-- The attention columns are written back at every step but step 0. -/
theorem flush0_6 : ∀ t : Fin cfg0.N, (cfg0.win 6).flush t = true ↔ 1 ≤ t.val % 4 := by
  show ∀ t : Fin grid0.N, win0_6.flush t = true ↔ 1 ≤ t.val % 4
  decide +kernel

/-- The pooling columns the region leaves. -/
def poolArr : Vec Ideal S8192x1024 .f32 := fun i => Rows.project (row m c (i 0)) (gain m c) (poolW m c) (i 1)
/-- The attention columns the region leaves. -/
def attnArr : Vec Ideal S8192x3072 .bf16 := fun i => Rows.project (row m c (i 0)) (gain m c) (attnW m c) (i 1)
/-- The forget logits the region leaves. -/
def forgetArr : Vec Ideal S8192x128 .f32 := fun i => Rows.project (row m c (i 0)) (gain m c) (forgetW m c) (i 1) + bias m c (i 1)

theorem cover0_5' (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  obtain ⟨t, ht⟩ : ∃ t : Fin cfg0.N, t.val = (i 0).val / 512 * 4 + 3 := ⟨⟨_, lt_of_lt_of_eq (by omega) (show 64 = cfg0.N from N_0.symm)⟩, rfl⟩
  have hi := idx0_5 t
  refine ⟨t, (flush0_5 t).mpr (by omega), ?_⟩
  show i ∈ ((View.whole main_v8_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [hi.1]; omega
  | ⟨1, _⟩ => show win0_5.index t 1 * 1024 ≤ (i 1).val ∧ (i 1).val < win0_5.index t 1 * 1024 + 1024; rw [hi.2]; omega

theorem cover0_6' (i : S8192x3072.Idx) : ∃ t : Fin cfg0.N, (cfg0.win 6).flush t = true ∧ i ∈ ((cfg0.win 6).blk t).view.set := by
  have h0 : (i 0).val < 8192 := (i 0).isLt
  have h1 : (i 1).val < 3072 := (i 1).isLt
  obtain ⟨t, ht⟩ : ∃ t : Fin cfg0.N, t.val = (i 0).val / 512 * 4 + (i 1).val / 1024 + 1 := ⟨⟨_, lt_of_lt_of_eq (by omega) (show 64 = cfg0.N from N_0.symm)⟩, rfl⟩
  have hi := idx0_6 t
  refine ⟨t, (flush0_6 t).mpr (by omega), ?_⟩
  show i ∈ ((View.whole main_v8_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [hi.1]; omega
  | ⟨1, _⟩ => show win0_6.index t 1 * 1024 ≤ (i 1).val ∧ (i 1).val < win0_6.index t 1 * 1024 + 1024; rw [hi.2]; omega

theorem cover0_7' (i : S8192x128.Idx) : ∃ t : Fin cfg0.N, (cfg0.win 7).flush t = true ∧ i ∈ ((cfg0.win 7).blk t).view.set := by
  have h0 : (i 0).val < 8192 := (i 0).isLt
  have h1 : (i 1).val < 128 := (i 1).isLt
  obtain ⟨t, ht⟩ : ∃ t : Fin cfg0.N, t.val = (i 0).val / 512 * 4 + 3 := ⟨⟨_, lt_of_lt_of_eq (by omega) (show 64 = cfg0.N from N_0.symm)⟩, rfl⟩
  have hi := idx0_7 t
  refine ⟨t, (flush0_7 t).mpr (by omega), ?_⟩
  show i ∈ ((View.whole main_v8_2).slice (win0_7.rect t)).set
  rw [View.set_slice_whole, Rect.mem_set_unit]
  intro a
  match a with
  | ⟨0, _⟩ => show win0_7.index t 0 * 512 ≤ (i 0).val ∧ (i 0).val < win0_7.index t 0 * 512 + 512; rw [hi.1]; omega
  | ⟨1, _⟩ => show win0_7.index t 1 * 128 ≤ (i 1).val ∧ (i 1).val < win0_7.index t 1 * 128 + 128; rw [hi.2]; omega

theorem pool_array : (dats (F := Ideal) m 0 c).arrAt 5 cfg0.N = poolArr m c := by
  refine Dat.arrAt_eq_of_cover (dats (F := Ideal) m 0 c) 5 (poolArr m c) (fun t hf => ?_) (fun i => cover0_5' i)
  have hi := idx0_5 t
  have hf' := (flush0_5 t).mp hf
  show (cfg0.win 5).cut (grid0.coords t) ((dats (F := Ideal) m 0 c).after 5 t) = _
  rw [after0_5]
  funext j
  rw [View.read_apply]
  have ej : (j : S512x1024.Idx) = ix2 (j 0) (j 1) := eq_ix2 (j : S512x1024.Idx)
  show (outsAt0 m c t.val t.isLt).1 j = poolArr m c _
  rw [ej]
  have e0 : ∀ p q, p.val = t.val / 4 * 512 + (j 0).val → q.val = (j 1).val → (outsAt0 m c t.val t.isLt).1 (ix2 (j 0) (j 1)) = Rows.project (row m c p) (gain m c) (poolW m c) q := by
    intro p q hp hq
    obtain rfl : q = j 1 := Fin.ext hq
    exact (held m c t.val t.isLt (j 0) p hp).1 (j 1)
  refine e0 _ _ ?_ ?_
  · show win0_5.index t 0 * 512 + 1 * (j 0).val = _
    rw [hi.1]; omega
  · show win0_5.index t 1 * 1024 + 1 * (j 1).val = _
    rw [hi.2]; omega

theorem attn_array : (dats (F := Ideal) m 0 c).arrAt 6 cfg0.N = attnArr m c := by
  refine Dat.arrAt_eq_of_cover (dats (F := Ideal) m 0 c) 6 (attnArr m c) (fun t hf => ?_) (fun i => cover0_6' i)
  have hi := idx0_6 t
  have hf' := (flush0_6 t).mp hf
  show (cfg0.win 6).cut (grid0.coords t) ((dats (F := Ideal) m 0 c).after 6 t) = _
  rw [after0_6]
  funext j
  rw [View.read_apply]
  have ej : (j : S512x1024.Idx) = ix2 (j 0) (j 1) := eq_ix2 (j : S512x1024.Idx)
  show (outsAt0 m c t.val t.isLt).2.1 j = attnArr m c _
  rw [ej]
  refine columns m c t hf' (j 0) (j 1) _ _ ?_ ?_
  · show win0_6.index t 0 * 512 + 1 * (j 0).val = _
    rw [hi.1]; omega
  · show win0_6.index t 1 * 1024 + 1 * (j 1).val = _
    rw [hi.2]; omega

theorem forget_array : (dats (F := Ideal) m 0 c).arrAt 7 cfg0.N = forgetArr m c := by
  refine Dat.arrAt_eq_of_cover (dats (F := Ideal) m 0 c) 7 (forgetArr m c) (fun t hf => ?_) (fun i => cover0_7' i)
  have hi := idx0_7 t
  have hf' := (flush0_7 t).mp hf
  show (cfg0.win 7).cut (grid0.coords t) ((dats (F := Ideal) m 0 c).after 7 t) = _
  rw [after0_7]
  funext j
  rw [View.read_apply]
  have ej : (j : S512x128.Idx) = ix2 (j 0) (j 1) := eq_ix2 (j : S512x128.Idx)
  show (outsAt0 m c t.val t.isLt).2.2.1 j = forgetArr m c _
  rw [ej]
  have e0 : ∀ p q, p.val = t.val / 4 * 512 + (j 0).val → q.val = (j 1).val → (outsAt0 m c t.val t.isLt).2.2.1 (ix2 (j 0) (j 1)) = Rows.project (row m c p) (gain m c) (forgetW m c) q + bias m c q := by
    intro p q hp hq
    obtain rfl : q = j 1 := Fin.ext hq
    exact (held m c t.val t.isLt (j 0) p hp).2.1 (j 1)
  refine e0 _ _ ?_ ?_
  · show win0_7.index t 0 * 512 + 1 * (j 0).val = _
    rw [hi.1]; omega
  · show win0_7.index t 1 * 128 + 1 * (j 1).val = _
    rw [hi.2]; omega

end Cert.InProjIdeal.Body

end
-- ==== Proof.InProjIdeal.Entry.lean ====
/- What the input projection's region finds in its arrays, from the launch memory. -/
module

public import proofs.«01_k».proof.Proof.InProjIdeal.Arrays

@[expose] public section

set_option maxRecDepth 16384

noncomputable section

namespace Cert.InProjIdeal.Body

open Cert.InProjIdeal Cert.InProjIdeal.Gen Idealize.ShloMosaic Idealize.ShloMosaic.TcCoe Idealize.SL.Sem

variable (m : (ℓ : Loc nD τ sig) → Buf (Elt Ideal) ℓ) (c : Dev nD)

/-- The gain row. -/
theorem V_gain (k : Fin 2048) : gain m c k = (m ((c : Thread nD τ).loc main_arg1) : Vec Ideal S2048 .f32) (ix1 k) := by
  have e : V m c main_v7 = shapeCast S1x2048 (m ((c : Thread nD τ).loc main_arg1) : Vec Ideal S2048 .f32) shapeCasts_S2048_S1x2048 := by
    simp only [V, V0, hostOps0, hostOps0_1, hostOps0_2, hostOps0_3, hostOps0_4, List.flatten_cons, List.flatten_nil, List.append_nil,
      List.cons_append, List.nil_append]
    after_results_simp <;> rfl
  show (V m c main_v7 : Vec Ideal S1x2048 .f32) (ix2 0 k) = _
  rw [e]
  pointwise

/-- The weights of the pooling and attention columns. -/
theorem V_weights (k : Fin 2048) (q : Fin 4096) : (V m c main_v1 : Vec Ideal S2048x4096 .bf16) (ix2 k q)
    = (m ((c : Thread nD τ).loc main_arg2) : Vec Ideal S2048x4104 .f32) (ix2 k ⟨q.val, by omega⟩) := by
  have e : V m c main_v1 = (truncf .bf16 (extractStridedSlice S2048x4096 ![0, 0]
      (m ((c : Thread nD τ).loc main_arg2) : Vec Ideal S2048x4104 .f32) slices_S2048x4104_S2048x4096_0_0 : FVec Ideal S2048x4096 .f32)
      bitsLt_bf16_f32 : FVec Ideal S2048x4096 .bf16) := by
    simp only [V, V0, hostOps0, hostOps0_1, hostOps0_2, hostOps0_3, hostOps0_4, List.flatten_cons, List.flatten_nil, List.append_nil,
      List.cons_append, List.nil_append]
    after_results_simp <;> rfl
  rw [e]
  pointwise

/-- The weights of the forget logits: the last eight columns, then padding. -/
theorem V_forget (k : Fin 2048) (d : Fin 8) : (V m c main_v4 : Vec Ideal S2048x128 .bf16) (ix2 k ⟨d.val, by omega⟩)
    = (m ((c : Thread nD τ).loc main_arg2) : Vec Ideal S2048x4104 .f32) (ix2 k ⟨4096 + d.val, by omega⟩) := by
  have e : V m c main_v4 = (truncf .bf16 (pad S2048x128 ![0, 0] ![0, 120] ![0, 0] (extractStridedSlice S2048x8 ![0, 4096]
      (m ((c : Thread nD τ).loc main_arg2) : Vec Ideal S2048x4104 .f32) slices_S2048x4104_S2048x8_0_4096 : FVec Ideal S2048x8 .f32)
      (sitofp .f32 (constantI S_ 32 0#32) : FVec Ideal S_ .f32) pads_S2048x8_S2048x128_000_01200 h_S_ : FVec Ideal S2048x128 .f32)
      bitsLt_bf16_f32 : FVec Ideal S2048x128 .bf16) := by
    simp only [V, V0, hostOps0, hostOps0_1, hostOps0_2, hostOps0_3, hostOps0_4, List.flatten_cons, List.flatten_nil, List.append_nil,
      List.cons_append, List.nil_append]
    after_results_simp <;> rfl
  rw [e]
  pointwise

/-- The bias of the forget logits: its eight entries, then padding. -/
theorem V_bias (d : Fin 8) : bias m c ⟨d.val, by omega⟩ = (m ((c : Thread nD τ).loc main_arg3) : Vec Ideal S8 .f32) (ix1 d) := by
  have e : V m c main_v6 = shapeCast S1x128 (pad S128 ![0] ![120] ![0] (m ((c : Thread nD τ).loc main_arg3) : Vec Ideal S8 .f32)
      (sitofp .f32 (constantI S_ 32 0#32) : FVec Ideal S_ .f32) pads_S8_S128_01200 h_S_ : FVec Ideal S128 .f32) shapeCasts_S128_S1x128 := by
    simp only [V, V0, hostOps0, hostOps0_1, hostOps0_2, hostOps0_3, hostOps0_4, List.flatten_cons, List.flatten_nil, List.append_nil,
      List.cons_append, List.nil_append]
    after_results_simp <;> rfl
  show (V m c main_v6 : Vec Ideal S1x128 .f32) (ix2 0 _) = _
  rw [e]
  pointwise
  exact dif_pos fun a => match a with | ⟨0, _⟩ => d.isLt

end Cert.InProjIdeal.Body

end
-- ==== Proof.InProjIdeal.Ref.lean ====
/- What the reference of the input projection computes at an index. -/
module

public import proofs.«01_k».proof.Proof.Gen.InProjRefIdeal.Read
public import proofs.«01_k».proof.Proof.Rows
public import Idealize.ShloMosaic.Lib.KernelVsHost

@[expose] public section

set_option maxRecDepth 16384

noncomputable section

namespace Cert.InProjRefIdeal.Value

open Cert.InProjRefIdeal Cert.InProjRefIdeal.Gen Idealize.ShloMosaic Idealize.ShloMosaic.TcCoe Idealize.SL.Sem
open Cert.InProjRefIdeal.Read

theorem at1 {a : ℕ} {f : (⟨1, ![a]⟩ : Shape).Idx → EReal} (i : (⟨1, ![a]⟩ : Shape).Idx) (p : Fin a) (hp : (i 0).val = p.val) : f i = f (ix1 p) := by
  congr 1
  funext x
  match x with
  | ⟨0, _⟩ => exact Fin.ext hp

theorem at2 {a b : ℕ} {f : (⟨2, ![a, b]⟩ : Shape).Idx → EReal} (i : (⟨2, ![a, b]⟩ : Shape).Idx) (p : Fin a) (q : Fin b)
    (hp : (i 0).val = p.val) (hq : (i 1).val = q.val) : f i = f (ix2 p q) := by
  congr 1
  funext x
  match x with
  | ⟨0, _⟩ => exact Fin.ext hp
  | ⟨1, _⟩ => exact Fin.ext hq

variable (x0 : Vec Ideal S8192x2048 .f32) (x1 : Vec Ideal S2048 .f32) (x2 : Vec Ideal S2048x4104 .f32) (x3 : Vec Ideal S8 .f32)

/-- The normalized rows. -/
theorem rows_at (i : S8192x2048.Idx) (p : Fin 8192) (q : Fin 2048) (hp : (i 0).val = p.val) (hq : (i 1).val = q.val) :
    val_main_v12 (F := Ideal) x0 x1 i = Rows.rms (fun j => x0 (ix2 p j)) (fun j => x1 (ix1 j)) q := by
  rw [val_main_v12_apply, val_main_v9_apply, val_main_v8_apply, val_main_v7_apply, val_main_v6_apply, val_main_v4_apply, val_main_v2_apply,
    val_main_v1_apply, val_main_v3_apply, val_main_v5_apply, val_main_cst_apply, val_main_cst_0_apply, val_main_cst_1_apply, val_main_v11_apply, val_main_v10_apply,
    at2 (f := x0) i p q hp hq]
  show x0 (ix2 p q) * Ideal.rsqrt (Ideal.div (Ideal.ofBits .f32 0x00000000#32 + ∑ k : Fin 2048, _) _ + _) * x1 _ = _
  unfold Rows.rms
  rw [Ideal.ofBits_zero_f32, zero_add, at1 (f := x1) _ q hq]
  congr 5
  refine Finset.sum_congr rfl fun k _ => ?_
  rw [val_main_v0_apply]
  exact congrArg₂ (· * ·) (at2 (f := x0) _ p k hp rfl) (at2 (f := x0) _ p k hp rfl)

/-- The projected rows. -/
theorem projected_at (i : S8192x4104.Idx) (p : Fin 8192) (q : Fin 4104) (hp : (i 0).val = p.val) (hq : (i 1).val = q.val) :
    val_main_v13 (F := Ideal) x0 x1 x2 i = Rows.project (fun j => x0 (ix2 p j)) (fun j => x1 (ix1 j)) (fun k d => x2 (ix2 k d)) q := by
  rw [val_main_v13_apply]
  unfold Rows.project
  refine Finset.sum_congr rfl fun k _ => ?_
  rw [rows_at x0 x1 _ p k hp rfl, at2 (f := x2) _ k q rfl hq]

/-- The pooling columns. -/
theorem pool_at (i : S8192x1024.Idx) (p : Fin 8192) (q : Fin 4104) (hp : (i 0).val = p.val) (hq : (i 1).val = q.val) :
    val_main_v14 (F := Ideal) x0 x1 x2 i = Rows.project (fun j => x0 (ix2 p j)) (fun j => x1 (ix1 j)) (fun k d => x2 (ix2 k d)) q := by
  rw [val_main_v14_apply]
  refine projected_at x0 x1 x2 _ p q ?_ ?_
  · exact hp
  · exact hq

/-- The attention columns. -/
theorem attn_at (i : S8192x3072.Idx) (p : Fin 8192) (q : Fin 4104) (hp : (i 0).val = p.val) (hq : 1024 + (i 1).val = q.val) :
    val_main_v16 (F := Ideal) x0 x1 x2 i = Rows.project (fun j => x0 (ix2 p j)) (fun j => x1 (ix1 j)) (fun k d => x2 (ix2 k d)) q := by
  rw [val_main_v16_apply, val_main_v15_apply]
  refine projected_at x0 x1 x2 _ p q ?_ ?_
  · exact hp
  · exact hq

/-- The forget logits. -/
theorem forget_at (i : S8192x8.Idx) (p : Fin 8192) (q : Fin 4104) (b : Fin 8) (hp : (i 0).val = p.val) (hq : 4096 + (i 1).val = q.val)
    (hb : (i 1).val = b.val) : val_main_v20 (F := Ideal) x0 x1 x2 x3 i
      = Rows.project (fun j => x0 (ix2 p j)) (fun j => x1 (ix1 j)) (fun k d => x2 (ix2 k d)) q + x3 (ix1 b) := by
  rw [val_main_v20_apply, val_main_v17_apply, val_main_v19_apply, val_main_v18_apply, at1 (f := x3) _ b hb,
    projected_at x0 x1 x2 _ p q ?_ ?_]
  · rfl
  · exact hp
  · exact hq

end Cert.InProjRefIdeal.Value

end
-- ==== Proof.InProjIdeal.Equation.lean ====
/- The input projection ends with its reference's three results. -/
module

public import proofs.«01_k».proof.Defs
public import proofs.«01_k».proof.Proof.InProjIdeal.Entry
public import proofs.«01_k».proof.Proof.InProjIdeal.Ref

@[expose] public section

set_option maxRecDepth 16384

noncomputable section

namespace Cert.InProjIdeal.Body

open Cert.InProjIdeal Cert.InProjIdeal.Gen Idealize.ShloMosaic Idealize.ShloMosaic.TcCoe Idealize.SL.Sem

variable (m : (ℓ : Loc nD τ sig) → Buf (Elt Ideal) ℓ) (ρ : Dev nD → PrngReg) (c : Dev nD)

/-- The reference's pooling columns of the launch memory's arguments. -/
abbrev refPool : Vec Ideal S8192x1024 .f32 :=
  Cert.InProjRefIdeal.Read.val_main_v14 (F := Ideal) (m ((c : Thread nD τ).loc main_arg0)) (m ((c : Thread nD τ).loc main_arg1))
    (m ((c : Thread nD τ).loc main_arg2))
/-- The reference's attention columns. -/
abbrev refAttn : Vec Ideal S8192x3072 .bf16 :=
  Cert.InProjRefIdeal.Read.val_main_v16 (F := Ideal) (m ((c : Thread nD τ).loc main_arg0)) (m ((c : Thread nD τ).loc main_arg1))
    (m ((c : Thread nD τ).loc main_arg2))
/-- The reference's forget logits. -/
abbrev refForget : Vec Ideal S8192x8 .f32 :=
  Cert.InProjRefIdeal.Read.val_main_v20 (F := Ideal) (m ((c : Thread nD τ).loc main_arg0)) (m ((c : Thread nD τ).loc main_arg1))
    (m ((c : Thread nD τ).loc main_arg2)) (m ((c : Thread nD τ).loc main_arg3))

theorem row_eq (p : Fin 8192) : row m c p = fun j => (m ((c : Thread nD τ).loc main_arg0) : Vec Ideal S8192x2048 .f32) (ix2 p j) :=
  funext fun j => congrFun (V_main_arg0 m c) (ix2 p j)

theorem gain_eq : gain m c = fun j => (m ((c : Thread nD τ).loc main_arg1) : Vec Ideal S2048 .f32) (ix1 j) := funext fun j => V_gain m c j

theorem pool_eq (p : Fin 8192) (d : Fin 1024) : Rows.project (row m c p) (gain m c) (poolW m c) d
    = Rows.project (fun j => (m ((c : Thread nD τ).loc main_arg0) : Vec Ideal S8192x2048 .f32) (ix2 p j))
      (fun j => (m ((c : Thread nD τ).loc main_arg1) : Vec Ideal S2048 .f32) (ix1 j))
      (fun k d => (m ((c : Thread nD τ).loc main_arg2) : Vec Ideal S2048x4104 .f32) (ix2 k d)) (⟨d.val, by omega⟩ : Fin 4104) := by
  rw [row_eq, gain_eq]
  unfold Rows.project
  exact Finset.sum_congr rfl fun k _ => congrArg _ (V_weights m c k ⟨d.val, by omega⟩)

theorem attn_eq (p : Fin 8192) (d : Fin 3072) : Rows.project (row m c p) (gain m c) (attnW m c) d
    = Rows.project (fun j => (m ((c : Thread nD τ).loc main_arg0) : Vec Ideal S8192x2048 .f32) (ix2 p j))
      (fun j => (m ((c : Thread nD τ).loc main_arg1) : Vec Ideal S2048 .f32) (ix1 j))
      (fun k d => (m ((c : Thread nD τ).loc main_arg2) : Vec Ideal S2048x4104 .f32) (ix2 k d)) (⟨1024 + d.val, by omega⟩ : Fin 4104) := by
  rw [row_eq, gain_eq]
  unfold Rows.project
  exact Finset.sum_congr rfl fun k _ => congrArg _ (V_weights m c k ⟨1024 + d.val, by omega⟩)

theorem forget_eq (p : Fin 8192) (d : Fin 8) :
    Rows.project (row m c p) (gain m c) (forgetW m c) ⟨d.val, by omega⟩ + bias m c ⟨d.val, by omega⟩
    = Rows.project (fun j => (m ((c : Thread nD τ).loc main_arg0) : Vec Ideal S8192x2048 .f32) (ix2 p j))
      (fun j => (m ((c : Thread nD τ).loc main_arg1) : Vec Ideal S2048 .f32) (ix1 j))
      (fun k d => (m ((c : Thread nD τ).loc main_arg2) : Vec Ideal S2048x4104 .f32) (ix2 k d)) (⟨4096 + d.val, by omega⟩ : Fin 4104)
      + (m ((c : Thread nD τ).loc main_arg3) : Vec Ideal S8 .f32) (ix1 d) := by
  rw [row_eq, gain_eq, V_bias]
  unfold Rows.project
  congr 1
  exact Finset.sum_congr rfl fun k _ => congrArg _ (V_forget m c k d)

/-- The array of pooling columns is the reference's. -/
theorem pool_array_eq : (dats (F := Ideal) m 0 c).arrAt 5 cfg0.N = refPool m c := by
  rw [pool_array]
  funext i
  refine (pool_eq m c (i 0) (i 1)).trans ?_
  exact (Cert.InProjRefIdeal.Value.pool_at _ _ _ i (i 0) _ rfl rfl).symm

/-- The array of attention columns is the reference's. -/
theorem attn_array_eq : (dats (F := Ideal) m 0 c).arrAt 6 cfg0.N = refAttn m c := by
  rw [attn_array]
  funext i
  refine (attn_eq m c (i 0) (i 1)).trans ?_
  exact (Cert.InProjRefIdeal.Value.attn_at _ _ _ i (i 0) _ rfl rfl).symm

/-- The host line after the region keeps the eight heads' columns of the logits, which are the reference's. -/
theorem forget_tail_eq : Pipeline.afterTail₀ cfgs (dats (F := Ideal) m) 0 (V0 m) [hostOps1] c main_v9 = refForget m c := by
  have e : Pipeline.afterTail₀ cfgs (dats (F := Ideal) m) 0 (V0 m) [hostOps1] c main_v9
      = extractStridedSlice S8192x8 ![0, 0] (forgetArr m c) slices_S8192x128_S8192x8_0_0 := by
    have ea : Pipeline.withArrays spec0 c (V0 m c) (fun w => (dats (F := Ideal) m 0 c).arrAt w cfg0.N) (Proc.devRef .tc main_v8_2) = forgetArr m c :=
      (Pipeline.withArrays_arr spec0 (by decide) c (V0 m c) _ 7).trans (forget_array m c)
    rw [← ea]
    unfold Pipeline.afterTail₀
    simp only [hostOps1, List.flatten_cons, List.flatten_nil, List.append_nil]
    after_results_simp <;> rfl
  rw [e]
  funext i
  have ei : (i : S8192x8.Idx) = ix2 (i 0) (i 1) := eq_ix2 (i : S8192x8.Idx)
  have el : (extractStridedSlice S8192x8 ![0, 0] (forgetArr m c) slices_S8192x128_S8192x8_0_0 : Vec Ideal S8192x8 .f32) (ix2 (i 0) (i 1))
      = forgetArr m c (ix2 (i 0) ⟨(i 1).val, lt_of_lt_of_le (i 1).isLt (by decide)⟩) := by
    pointwise
  refine ((congrArg _ ei).trans el).trans ?_
  refine (forget_eq m c (i 0) (i 1)).trans ?_
  exact (Cert.InProjRefIdeal.Value.forget_at _ _ _ _ i (i 0) _ (i 1) rfl rfl rfl).symm

/-- The run with its three results read off. -/
theorem run_results : θ_run Cert.InProjIdeal.defs (onTc (τ := τ) (main (F := Ideal))) ⟨m, fun _ => 0, ρ⟩ (fun r => ∀ c : Dev nD,
      r.2.mem ((c : Thread nD τ).loc main_v8_0) = refPool m c
      ∧ r.2.mem ((c : Thread nD τ).loc main_v8_1) = refAttn m c
      ∧ r.2.mem ((c : Thread nD τ).loc main_v9) = refForget m c) :=
  (θ_run _ _ _).mono (fun _ h c => ⟨((h c).1 5).trans (pool_array_eq m c), ((h c).1 6).trans (attn_array_eq m c),
    ((h c).2 main_v9 (Pipeline.mem_restRefs_of main_v9 (by decide) (by decide))).trans (forget_tail_eq m c)⟩) (run_main m ρ)

/-- From memories agreeing on the arguments the kernel and the reference end with equal results. -/
theorem algebraic : Cert.algebraic_InProjIdeal_InProjRefIdeal := by
  intro m ρ m' ρ' _ hagree
  refine ⟨fun c => refPool m c, fun c => refAttn m c, fun c => refForget m c, ?_, ?_⟩
  · exact (θ_run Cert.InProjIdeal.defs _ _).mono
      (fun _ h c => ⟨(h.1 c).1, (h.1 c).2.1, (h.1 c).2.2, h.2 c⟩) (θ_run_and (run_results m ρ) (unchanged m ρ))
  · refine (θ_run Cert.InProjRefIdeal.defs _ _).mono (fun _ h c => ⟨(h c).1.trans ?_, (h c).2.1.trans ?_, (h c).2.2.1.trans ?_, (h c).2.2.2⟩)
      (Cert.InProjRefIdeal.Value.run (F := Ideal) m' ρ')
    · rw [Cert.InProjRefIdeal.Read.val_main_v14_eq, (hagree c).1, (hagree c).2.1, (hagree c).2.2.1]
    · rw [Cert.InProjRefIdeal.Read.val_main_v16_eq, (hagree c).1, (hagree c).2.1, (hagree c).2.2.1]
    · rw [Cert.InProjRefIdeal.Read.val_main_v20_eq, (hagree c).1, (hagree c).2.1, (hagree c).2.2.1, (hagree c).2.2.2]

end Cert.InProjIdeal.Body

end
-- ==== Proof.MixOut.Cases.lean ====
/- What the mixing body's pieces write at a grid point, as its payloads of the blocks it loads. -/
module

public import proofs.«01_k».proof.Proof.Gen.MixOutIdeal.Frame
public import Idealize.ShloMosaic.Lib.Pipeline.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.MixOutIdeal.Body

open Cert.MixOutIdeal Cert.MixOutIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

variable (c : Dev nD) (i : grid0.Coords)
  (arg1 : Memref sig .tc .vmem S256x1024 .f32) (harg1 : arg1.IsWhole)
  (arg2 : Memref sig .tc .vmem S16x1024 .f32) (harg2 : arg2.IsWhole)
  (arg3 : Memref sig .tc .vmem S256x1024 .bf16) (harg3 : arg3.IsWhole)
  (arg4 : Memref sig .tc .vmem S256x2048 .f32) (harg4 : arg4.IsWhole)
  (arg5 : Memref sig .tc .vmem S4x256x256 .bf16) (harg5 : arg5.IsWhole)
  (arg6 : Memref sig .tc .vmem S1x1024 .f32) (harg6 : arg6.IsWhole)
  (arg7 : Memref sig .tc .vmem S2048x2048 .bf16) (harg7 : arg7.IsWhole)
  (arg8 : Memref sig .tc .vmem S256x2048 .f32) (harg8 : arg8.IsWhole)
  (arg9 : Memref sig .tc .vmem S272x1024 .f32) (harg9 : arg9.IsWhole)
  (x0 : Vec F S256x1024 .f32) (x1 : Vec F S16x1024 .f32) (x2 : Vec F S256x1024 .bf16) (x3 : Vec F S256x2048 .f32)
  (x4 : Vec F S4x256x256 .bf16) (x5 : Vec F S1x1024 .f32) (x6 : Vec F S2048x2048 .bf16)

/-- The extended tile: sixteen rows before the tile, then the tile. -/
def ext : Vec F S272x1024 .f32 := fun y =>
  if h : (y 0).val < 16 then k0_pay3 i x1 (ix2 ⟨(y 0).val, h⟩ (y 1))
  else k0_pay2 x0 (ix2 ⟨(y 0).val - 16, by have : (y 0).val < 272 := (y 0).isLt; omega⟩ (y 1))

/-- A block of the extended tile from row `a` and column `b`. -/
def shift (a b : ℕ) (ha : a ≤ 16 := by decide) (hb : b ≤ 768 := by decide) : Vec F S256x256 .f32 := fun j =>
  ext i x0 x1 (ix2 ⟨a + (j 0).val, by have : (j 0).val < 256 := (j 0).isLt; omega⟩ ⟨b + (j 1).val, by have : (j 1).val < 256 := (j 1).isLt; omega⟩)

/-- The two stored pieces of the extended tile. -/
abbrev pieces : List (View.Piece (Elt F) S272x1024 .f32) :=
  [⟨Rect.unit ![0, 0] ![16, 1024] inb_S272x1024_S16x1024_0_0, k0_pay3 i x1⟩,
   ⟨Rect.unit ![16, 0] ![256, 1024] inb_S272x1024_S256x1024_16_0, k0_pay2 x0⟩]

theorem pieces_cover (y : S272x1024.Idx) : ∃ p ∈ pieces i x0 x1, y ∈ p.1.set := by
  have h0 : (y 0).val < 272 := (y 0).isLt
  have h1 : (y 1).val < 1024 := (y 1).isLt
  by_cases h : (y 0).val < 16
  · refine ⟨_, List.mem_cons_self, ?_⟩
    show y ∈ (Rect.unit ![0, 0] ![16, 1024] inb_S272x1024_S16x1024_0_0 : Rect S272x1024).set
    rw [Rect.mem_set_unit]
    intro a
    match a with
    | ⟨0, _⟩ => show 0 ≤ (y 0).val ∧ (y 0).val < 0 + 16; omega
    | ⟨1, _⟩ => show 0 ≤ (y 1).val ∧ (y 1).val < 0 + 1024; omega
  · refine ⟨_, List.mem_cons_of_mem _ List.mem_cons_self, ?_⟩
    show y ∈ (Rect.unit ![16, 0] ![256, 1024] inb_S272x1024_S256x1024_16_0 : Rect S272x1024).set
    rw [Rect.mem_set_unit]
    intro a
    match a with
    | ⟨0, _⟩ => show 16 ≤ (y 0).val ∧ (y 0).val < 16 + 256; omega
    | ⟨1, _⟩ => show 0 ≤ (y 1).val ∧ (y 1).val < 0 + 1024; omega

theorem pieces_canon : View.canon (pieces i x0 x1) = ext i x0 x1 := by
  funext y
  refine View.canon_eq_of_allAt _ y _ (pieces_cover i x0 x1 y) ?_
  refine View.allAt_cons_unit _ _ _ _ _ (fun x hx => ?_) (View.allAt_cons_unit _ _ _ _ _ (fun x hx => ?_) (View.allAt_nil _ _))
  · have e0 : (y 0).val = 0 + (x 0).val := hx 0
    have e1 : (y 1).val = 0 + (x 1).val := hx 1
    have hb : (x 0).val < 16 := (x 0).isLt
    unfold ext
    rw [dif_pos (by omega)]
    refine congrArg _ (funext fun a => Fin.ext ?_)
    match a with
    | ⟨0, _⟩ => show (x 0).val = (y 0).val; omega
    | ⟨1, _⟩ => show (x 1).val = (y 1).val; omega
  · have e0 : (y 0).val = 16 + (x 0).val := hx 0
    have e1 : (y 1).val = 0 + (x 1).val := hx 1
    unfold ext
    rw [dif_neg (by omega)]
    refine congrArg _ (funext fun a => Fin.ext ?_)
    match a with
    | ⟨0, _⟩ => show (x 0).val = (y 0).val - 16; omega
    | ⟨1, _⟩ => show (x 1).val = (y 1).val; omega

/-- A load of the extended tile after the two stores. -/
theorem load_ext {sig' : RefSig} {κ : Kind} {sp : Space} (v : View sig' κ sp S272x1024 .f32) (a b : ℕ)
    (inb : ∀ d, (![a, b] : Fin 2 → ℕ) d + (![256, 256] : Fin 2 → ℕ) d ≤ S272x1024.size d) (ha : a ≤ 16) (hb : b ≤ 768) :
    v.readCov (pieces i x0 x1) (Rect.unit ![a, b] ![256, 256] inb).toLoadRect = shift i x0 x1 a b ha hb := by
  rw [View.readCov_eq_canon_ld _ _ _ (pieces_cover i x0 x1), pieces_canon]
  funext j
  refine View.ld_unit_apply_of _ _ _ _ j _ fun d => ?_
  match d with
  | ⟨0, _⟩ => rfl
  | ⟨1, _⟩ => rfl

/-- The first group's product. -/
def prod0 : FVec F S256x256 .f32 := k0_pay7 (k0_pay5 i x0 (shift i x0 x1 15 0)) (k0_pay6 x0) (View.ld x4 (Rect.unit ![0, 0, 0] ![1, 256, 256] inb_S4x256x256_S1x256x256_0_0_0))
/-- The second group's product. -/
def prod1 : FVec F S256x256 .f32 := k0_pay8 x0 (k0_pay4 i) (shift i x0 x1 15 256) (shift i x0 x1 14 256) (shift i x0 x1 13 256) (View.ld x4 (Rect.unit ![1, 0, 0] ![1, 256, 256] inb_S4x256x256_S1x256x256_1_0_0))
/-- The third group's product. -/
def prod2 : FVec F S256x256 .f32 := k0_pay10 x0 (k0_pay4 i) (k0_pay9 x0 (shift i x0 x1 15 512) (shift i x0 x1 14 512) (shift i x0 x1 13 512) (shift i x0 x1 12 512)) (shift i x0 x1 11 512) (shift i x0 x1 10 512) (shift i x0 x1 9 512) (View.ld x4 (Rect.unit ![2, 0, 0] ![1, 256, 256] inb_S4x256x256_S1x256x256_2_0_0))
/-- The four groups side by side, scaled. -/
def pooled : FVec F S256x1024 .bf16 := k0_pay12 x0 (k0_pay4 i) (prod0 i x0 x1 x4) (prod1 i x0 x1 x4) (prod2 i x0 x1 x4) (k0_pay11 x0 (shift i x0 x1 15 768) (shift i x0 x1 14 768) (shift i x0 x1 13 768) (shift i x0 x1 12 768) (shift i x0 x1 11 768) (shift i x0 x1 10 768) (shift i x0 x1 9 768)) (shift i x0 x1 8 768) (shift i x0 x1 7 768) (shift i x0 x1 6 768) (shift i x0 x1 5 768) (shift i x0 x1 4 768) (shift i x0 x1 3 768) (shift i x0 x1 2 768) (shift i x0 x1 1 768) (View.ld x4 (Rect.unit ![3, 0, 0] ![1, 256, 256] inb_S4x256x256_S1x256x256_3_0_0)) x5

theorem out_val :
    out0_A_7 c i arg1 harg1 arg2 harg2 arg3 harg3 arg4 harg4 arg5 harg5 arg6 harg6 arg7 harg7 arg8 harg8 arg9 harg9 x0 x1 x2 x3 x4 x5 x6
      = k0_pay1 (pooled i x0 x1 x4 x5) x2 x3 x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  simp only [View.canon_unit_zero (S := S256x2048) hz2, View.canon_cons_unit_zero (S := S256x2048) hz2, View.readAt_eq_ld, harg1.read_unread, harg2.read_unread,
    harg3.read_unread, harg4.read_unread, harg5.read_unread, harg6.read_unread, harg7.read_unread, harg8.read_unread, harg9.read_unread,
    View.ld_unit_zero (S := S256x1024) hz2, View.ld_unit_zero (S := S16x1024) hz2, View.ld_unit_zero (S := S256x2048) hz2,
    View.ld_unit_zero (S := S1x1024) hz2, View.ld_unit_zero (S := S2048x2048) hz2]
  unfold pooled prod0 prod1 prod2
  rw [load_ext i x0 x1 _ 15 0 _ (by decide) (by decide), load_ext i x0 x1 _ 15 256 _ (by decide) (by decide), load_ext i x0 x1 _ 14 256 _ (by decide) (by decide), load_ext i x0 x1 _ 13 256 _ (by decide) (by decide), load_ext i x0 x1 _ 15 512 _ (by decide) (by decide), load_ext i x0 x1 _ 14 512 _ (by decide) (by decide), load_ext i x0 x1 _ 13 512 _ (by decide) (by decide), load_ext i x0 x1 _ 12 512 _ (by decide) (by decide), load_ext i x0 x1 _ 11 512 _ (by decide) (by decide), load_ext i x0 x1 _ 10 512 _ (by decide) (by decide), load_ext i x0 x1 _ 9 512 _ (by decide) (by decide), load_ext i x0 x1 _ 15 768 _ (by decide) (by decide), load_ext i x0 x1 _ 14 768 _ (by decide) (by decide), load_ext i x0 x1 _ 13 768 _ (by decide) (by decide), load_ext i x0 x1 _ 12 768 _ (by decide) (by decide), load_ext i x0 x1 _ 11 768 _ (by decide) (by decide), load_ext i x0 x1 _ 10 768 _ (by decide) (by decide), load_ext i x0 x1 _ 9 768 _ (by decide) (by decide), load_ext i x0 x1 _ 8 768 _ (by decide) (by decide), load_ext i x0 x1 _ 7 768 _ (by decide) (by decide), load_ext i x0 x1 _ 6 768 _ (by decide) (by decide), load_ext i x0 x1 _ 5 768 _ (by decide) (by decide), load_ext i x0 x1 _ 4 768 _ (by decide) (by decide), load_ext i x0 x1 _ 3 768 _ (by decide) (by decide), load_ext i x0 x1 _ 2 768 _ (by decide) (by decide), load_ext i x0 x1 _ 1 768 _ (by decide) (by decide)]

end Cert.MixOutIdeal.Body

end
-- ==== Proof.MixOut.Window.lean ====
/- Sums over the last `w` entries of a sequence: as a window and as a difference of two running sums. -/
module

public import Idealize.ShloMosaic.PureOps.Ideal
public import Idealize.ShloMosaic.PureOps.Ideal.Laws
public import Idealize.ShloMosaic.Lib.Pointwise

@[expose] public section

set_option maxRecDepth 16384

noncomputable section

namespace Cert.Window

open Idealize.ShloMosaic

/-- The sum of the first `n` entries. -/
def run (f : ℕ → EReal) (n : ℕ) : EReal := ∑ j ∈ Finset.range n, f j

/-- The sum of entry `s` and the `w - 1` before it, entries before the start counting as zero. -/
def win (f : ℕ → EReal) (w s : ℕ) : EReal := ∑ k ∈ Finset.range w, if k ≤ s then f (s - k) else 0

theorem run_coe (y : ℕ → ℝ) (n : ℕ) : run (fun j => (y j : EReal)) n = ((∑ j ∈ Finset.range n, y j : ℝ) : EReal) := by
  induction n with
  | zero => simp [run]
  | succ n ih => rw [run, Finset.sum_range_succ, Finset.sum_range_succ, EReal.coe_add, ← ih]; rfl

theorem win_succ (f : ℕ → EReal) (w s : ℕ) : win f (w + 1) s = win f w s + if w ≤ s then f (s - w) else 0 :=
  Finset.sum_range_succ _ _

/-- The running sum up to `s` is the one `w` entries earlier and the window between them. -/
theorem run_split (f : ℕ → EReal) (w s : ℕ) : run f (s + 1) = run f (s + 1 - w) + win f w s := by
  induction w with
  | zero => simp [win]
  | succ w ih =>
    rw [win_succ, ih]
    by_cases h : w ≤ s
    · rw [if_pos h, show s + 1 - w = (s - w) + 1 by omega, show s + 1 - (w + 1) = s - w by omega]
      unfold run
      rw [Finset.sum_range_succ, add_assoc, add_comm (f (s - w))]
    · rw [if_neg h, add_zero, show s + 1 - w = s + 1 - (w + 1) by omega]

/-- Over reals the difference of two running sums is the window between them. -/
theorem run_sub (f : ℕ → EReal) (hf : ∀ j, f j = ((f j).toReal : EReal)) (w s : ℕ) : run f (s + 1) - run f (s + 1 - w) = win f w s := by
  have hr : run f (s + 1 - w) = ((∑ j ∈ Finset.range (s + 1 - w), (f j).toReal : ℝ) : EReal) := by
    rw [← run_coe]; exact congrArg (fun g => run g _) (funext hf)
  rw [run_split f w s, hr, add_comm]
  exact EReal.add_sub_cancel_right

/-- A window of the whole length, padded in front, sums the entries up to `s`. -/
theorem sum_padded (f : ℕ → EReal) (n s : ℕ) (hs : s ≤ n) :
    ∑ w ∈ Finset.range (n + 1), (if n ≤ s + w then f (s + w - n) else 0) = run f (s + 1) := by
  obtain ⟨e, rfl⟩ : ∃ e, n = e + s := ⟨n - s, by omega⟩
  rw [show e + s + 1 = e + (s + 1) by omega, Finset.sum_range_add, Finset.sum_eq_zero, zero_add]
  · refine Finset.sum_congr rfl fun j _ => ?_
    rw [if_pos (by omega), show s + (e + j) - (e + s) = j by omega]
  · intro j hj
    rw [if_neg (by have := Finset.mem_range.mp hj; omega)]

theorem padded_fin (f : ℕ → EReal) (n s : ℕ) (hs : s ≤ n) :
    ∑ w : Fin (n + 1), (if n ≤ s + w.val then f (s + w.val - n) else 0) = run f (s + 1) :=
  (Fin.sum_univ_eq_sum_range (fun w => if n ≤ s + w then f (s + w - n) else 0) (n + 1)).trans (sum_padded f n s hs)

theorem foldl_sum {ι : Type} (g : ι → EReal) (l : List ι) (z : EReal) : l.foldl (fun r n => r + g n) z = z + (l.map g).sum := by
  induction l generalizing z with
  | nil => simp
  | cons a l ih => rw [List.foldl_cons, ih, List.map_cons, List.sum_cons, add_assoc]

/-- A fold over a window's positions in order is the sum over its indices. -/
theorem fold_window {W : Shape} (g : Fin W.numel → EReal) (G : W.Idx → EReal) (hg : ∀ n, g n = G (W.rowMajor.symm n)) :
    (List.finRange W.numel).foldl (fun r n => r + g n) 0 = ∑ i, G i := by
  rw [foldl_sum g, zero_add, ← Fin.sum_univ_def g, funext hg]
  exact Equiv.sum_comp W.rowMajor.symm G

/-- The indices of a window one row wide. -/
def windowEquiv (n : ℕ) : Fin n ≃ (⟨3, ![1, n, 1]⟩ : Shape).Idx where
  toFun k := ix3 (0 : Fin 1) k (0 : Fin 1)
  invFun i := i 1
  left_inv _ := rfl
  right_inv i := by
    funext a
    match a with
    | ⟨0, _⟩ => exact Fin.ext (by have : (i 0).val < 1 := (i 0).isLt; show 0 = (i 0).val; omega)
    | ⟨1, _⟩ => rfl
    | ⟨2, _⟩ => exact Fin.ext (by have : (i 2).val < 1 := (i 2).isLt; show 0 = (i 2).val; omega)

/-- The cumulative sum over the middle axis. -/
theorem cumsum_apply {A C n : ℕ} (x : Vec Ideal ⟨3, ![A, n + 1, C]⟩ .f32) (z : Vec Ideal ⟨0, ![]⟩ .f32)
    (h : (⟨3, ![A, n + 1, C]⟩ : Shape).ReduceWindows ![1, n + 1, 1] ![1, 1, 1] ![0, n, 0] ![0, 0, 0] ⟨3, ![A, n + 1, C]⟩)
    (hu : 0 < (⟨0, ![]⟩ : Shape).numel) (hz : ∀ i, z i = (0 : EReal)) (f : ℕ → EReal) (b : Fin A) (s : Fin (n + 1)) (d : Fin C)
    (hf : ∀ j : Fin (n + 1), x (ix3 b j d) = f j.val) :
    Host.reduceWindowAdd (F := Ideal) (φ := .f32) ![1, n + 1, 1] ![1, 1, 1] ![0, n, 0] ![0, 0, 0] x z h hu (ix3 b s d) = run f (s.val + 1) := by
  have hs := s.isLt
  refine Eq.trans ?_ (padded_fin f n s.val (by omega))
  unfold Host.reduceWindowAdd
  rw [Ideal.hostReduceWindowAdd_def, hz]
  unfold Ideal.hostReduceWindowAdd Host.reduceWindow
  dsimp only
  refine (fold_window (W := ⟨3, ![1, n + 1, 1]⟩) _ (fun i => if n ≤ s.val + (i 1).val then f (s.val + (i 1).val - n) else 0) fun q => ?_).trans
    (Equiv.sum_comp (windowEquiv (n + 1)) _).symm
  set i : (⟨3, ![1, n + 1, 1]⟩ : Shape).Idx := (⟨3, ![1, n + 1, 1]⟩ : Shape).rowMajor.symm q
  have h0 : (i 0).val < 1 := (i 0).isLt
  have h1 : (i 1).val < n + 1 := (i 1).isLt
  have h2 : (i 2).val < 1 := (i 2).isLt
  by_cases hle : n ≤ s.val + (i 1).val
  · rw [if_pos hle, dif_pos]
    · rw [← hf ⟨s.val + (i 1).val - n, by omega⟩]
      refine congrArg x (funext fun a => Fin.ext ?_)
      match a with
      | ⟨0, _⟩ => show b.val * 1 + (i 0).val - 0 = b.val; omega
      | ⟨1, _⟩ => show s.val * 1 + (i 1).val - n = s.val + (i 1).val - n; omega
      | ⟨2, _⟩ => show d.val * 1 + (i 2).val - 0 = d.val; omega
    · intro a
      have hb := b.isLt
      have hd := d.isLt
      match a with
      | ⟨0, _⟩ => show 0 ≤ b.val * 1 + (i 0).val ∧ b.val * 1 + (i 0).val - 0 < A; omega
      | ⟨1, _⟩ => show n ≤ s.val * 1 + (i 1).val ∧ s.val * 1 + (i 1).val - n < n + 1; omega
      | ⟨2, _⟩ => show 0 ≤ d.val * 1 + (i 2).val ∧ d.val * 1 + (i 2).val - 0 < C; omega
  · rw [if_neg hle, dif_neg]
    intro hin
    have h1 : n ≤ s.val * 1 + (i 1).val := (hin 1).1
    omega

/-- Rows padded in front by `k` zero rows: row `t` holds what row `t - k` held, zero before. -/
theorem pad_rows {n m k : ℕ} (x : Vec Ideal ⟨3, ![2, n, 256]⟩ .f32) (z : Vec Ideal ⟨0, ![]⟩ .f32)
    (h : (⟨3, ![2, n, 256]⟩ : Shape).Pads ![0, k, 0] ![0, 0, 0] ![0, 0, 0] ⟨3, ![2, m, 256]⟩) (hu : 0 < (⟨0, ![]⟩ : Shape).numel)
    (hz : ∀ i, z i = (0 : EReal)) (b : Fin 2) (t : Fin m) (d : Fin 256) (g : ℕ → EReal)
    (hin : ∀ j : Fin n, x (ix3 b j d) = g j.val) (ht : t.val - k < n) :
    pad ⟨3, ![2, m, 256]⟩ ![0, k, 0] ![0, 0, 0] ![0, 0, 0] x z h hu (ix3 b t d) = if k ≤ t.val then g (t.val - k) else 0 := by
  unfold pad
  by_cases hk : k ≤ t.val
  · rw [if_pos hk, dif_pos]
    · rw [← hin ⟨t.val - k, ht⟩]
      refine congrArg x (funext fun a => Fin.ext ?_)
      match a with
      | ⟨0, _⟩ => show (b.val - 0) / (0 + 1) = b.val; omega
      | ⟨1, _⟩ => show (t.val - k) / (0 + 1) = t.val - k; omega
      | ⟨2, _⟩ => show (d.val - 0) / (0 + 1) = d.val; omega
    · intro a
      have hb := b.isLt
      have hd := d.isLt
      match a with
      | ⟨0, _⟩ => show 0 ≤ b.val ∧ (b.val - 0) % (0 + 1) = 0 ∧ (b.val - 0) / (0 + 1) < 2; omega
      | ⟨1, _⟩ => show k ≤ t.val ∧ (t.val - k) % (0 + 1) = 0 ∧ (t.val - k) / (0 + 1) < n; omega
      | ⟨2, _⟩ => show 0 ≤ d.val ∧ (d.val - 0) % (0 + 1) = 0 ∧ (d.val - 0) / (0 + 1) < 256; omega
  · rw [if_neg hk, dif_neg]
    · exact hz _
    · intro hin'
      have h1 : k ≤ t.val := (hin' 1).1
      exact hk h1

/-- How many entries a window of width `w` ending at `s` has, as a float of the integers. -/
def cnt (w : BitVec 32) (s : ℕ) : EReal := FloatOps.sitofp (F := Ideal) .f32 (IntOp.minsi (IntOp.addi (BitVec.ofNat 32 s) 1#32) w)

/-- A sequence's mean over the window of width `w` ending at `s`, less the entry at `s`. -/
def mix (g : ℕ → EReal) (w s : ℕ) : EReal := Ideal.div (win g w s) (cnt (BitVec.ofNat 32 w) s) - g s

/-- The window's width of each channel group. -/
def width (g : Fin 4) : ℕ := 2 ^ (g.val + 1)

/-- Channel `q` of sequence `b` of two sequences of 4096 rows. -/
def seqOf (x : Vec Ideal ⟨2, ![8192, 1024]⟩ .f32) (b : ℕ) (q : Fin 1024) : ℕ → EReal := fun j =>
  if h : b * 4096 + j < 8192 then x (ix2 ⟨b * 4096 + j, h⟩ q) else 0

/-- Row `p` of the pooled columns: each group of 256 channels less its windowed means, through its matrix, scaled. -/
def mixed (x : Vec Ideal ⟨2, ![8192, 1024]⟩ .f32) (w : Vec Ideal ⟨3, ![4, 256, 256]⟩ .f32) (scale : Vec Ideal ⟨1, ![1024]⟩ .f32)
    (p : Fin 8192) (q : Fin 1024) : EReal :=
  (∑ k : Fin 256, mix (seqOf x (p.val / 4096) ⟨256 * (q.val / 256) + k.val, by omega⟩) (width ⟨q.val / 256, by omega⟩) (p.val % 4096)
    * w (ix3 (⟨q.val / 256, by omega⟩ : Fin 4) k (⟨q.val % 256, by omega⟩ : Fin 256))) * scale (ix1 q)

/-- Row `p` of the pooled columns and then the attention's. -/
def joined (x : Vec Ideal ⟨2, ![8192, 1024]⟩ .f32) (y : Vec Ideal ⟨2, ![8192, 1024]⟩ .bf16) (w : Vec Ideal ⟨3, ![4, 256, 256]⟩ .f32)
    (scale : Vec Ideal ⟨1, ![1024]⟩ .f32) (p : Fin 8192) (q : Fin 2048) : EReal :=
  if h : q.val < 1024 then mixed x w scale p ⟨q.val, h⟩ else y (ix2 p (⟨q.val - 1024, by omega⟩ : Fin 1024))

/-- The residual rows plus the joined rows times the output weights. -/
def result (x : Vec Ideal ⟨2, ![8192, 1024]⟩ .f32) (y : Vec Ideal ⟨2, ![8192, 1024]⟩ .bf16) (res : Vec Ideal ⟨2, ![8192, 2048]⟩ .f32)
    (w : Vec Ideal ⟨3, ![4, 256, 256]⟩ .f32) (scale : Vec Ideal ⟨1, ![1024]⟩ .f32) (o : Vec Ideal ⟨2, ![2048, 2048]⟩ .f32)
    (p : Fin 8192) (d : Fin 2048) : EReal :=
  res (ix2 p d) + ∑ q : Fin 2048, joined x y w scale p q * o (ix2 q d)

end Cert.Window

end
-- ==== Proof.MixOut.Payload.lean ====
/- The mixing body's payloads at an index, on the real numbers with infinities. -/
module

public import proofs.«01_k».proof.Proof.MixOut.Cases
public import proofs.«01_k».proof.Proof.MixOut.Window
public import Idealize.ShloMosaic.Lib.Pointwise
public import Idealize.ShloMosaic.Lib.KernelVsHost

@[expose] public section

set_option maxRecDepth 16384

noncomputable section

namespace Cert.MixOutIdeal.Body

open Cert.MixOutIdeal Cert.MixOutIdeal.Gen Idealize.ShloMosaic Idealize.ShloMosaic.TcCoe Idealize.SL.Sem
open Cert.Window (mix width)

variable (i : grid0.Coords)
  (x0 : Vec Ideal S256x1024 .f32) (x1 : Vec Ideal S16x1024 .f32) (x2 : Vec Ideal S256x1024 .bf16) (x3 : Vec Ideal S256x2048 .f32)
  (x4 : Vec Ideal S4x256x256 .bf16) (x5 : Vec Ideal S1x1024 .f32) (x6 : Vec Ideal S2048x2048 .bf16)

/-- Which tile of its sequence a grid coordinate is. -/
abbrev tileWord (b : BitVec 32) : BitVec 32 :=
  let v1 : BitVec 32 := Scalar.select (Scalar.cmpi .eq 16#32 0#32) 1#32 16#32
  let v2 : BitVec 32 := Scalar.remsi b v1
  Scalar.select (Scalar.andi (Scalar.xori (Scalar.cmpi .slt v2 0#32) (Scalar.cmpi .slt v1 0#32)) (Scalar.cmpi .ne v2 0#32)) (Scalar.addi v2 v1) v2

theorem tileWord_eq : ∀ t : Fin 32, tileWord (BitVec.ofNat 32 t.val) = BitVec.ofNat 32 (t.val % 16) := by decide +kernel

theorem muli_256 : ∀ n : Fin 16, Scalar.muli (BitVec.ofNat 32 n.val) 256#32 = BitVec.ofNat 32 (n.val * 256) := by decide +kernel

theorem is_first : ∀ n : Fin 16, Scalar.cmpi .eq (BitVec.ofNat 32 n.val) 0#32 = if n.val = 0 then 1#1 else 0#1 := by decide +kernel

variable (n : ℕ) (f : Fin 1024 → ℕ → EReal) (hn : (i 0).val % 16 = n)
  (h0 : ∀ (r : Fin 256) (q : Fin 1024), x0 (ix2 r q) = f q (n * 256 + r.val))
  (h1 : n ≠ 0 → ∀ (r : Fin 16) (q : Fin 1024), x1 (ix2 r q) = f q (n * 256 + r.val - 16))

include hn in
/-- The positions of a tile's rows in its sequence. -/
theorem pos_word (r : Fin 256) : k0_pay4 i (ix2 r 0) = BitVec.ofNat 32 (n * 256 + r.val) := by
  have ht : (i 0).val < 32 := (i 0).isLt
  have e : k0_pay4 i (ix2 r 0) = IntOp.addi (Scalar.muli (tileWord (BitVec.ofNat 32 (i 0).val)) 256#32) (BitVec.ofNat 32 r.val) := by
    pointwise [k0_pay4]
  rw [e, tileWord_eq ⟨(i 0).val, ht⟩]
  show IntOp.addi (Scalar.muli (BitVec.ofNat 32 ((i 0).val % 16)) 256#32) (BitVec.ofNat 32 r.val) = _
  rw [hn, muli_256 ⟨n, by omega⟩]
  exact (BitVec.ofNat_add _ _).symm

include hn in
/-- The rows before the tile: none before the sequence's start. -/
theorem before_eq (r : Fin 16) (q : Fin 1024) : k0_pay3 i x1 (ix2 r q) = if n = 0 then 0 else x1 (ix2 r q) := by
  have ht : (i 0).val < 32 := (i 0).isLt
  have e : k0_pay3 i x1 (ix2 r q) = Scalar.select (Scalar.cmpi .eq (tileWord (BitVec.ofNat 32 (i 0).val)) 0#32) (0 : EReal) (x1 (ix2 r q)) := by
    pointwise [k0_pay3]
  rw [e, tileWord_eq ⟨(i 0).val, ht⟩]
  show Scalar.select (Scalar.cmpi .eq (BitVec.ofNat 32 ((i 0).val % 16)) 0#32) _ _ = _
  rw [hn, is_first ⟨n, by omega⟩]
  by_cases hz : n = 0
  · rw [if_pos hz, if_pos hz]; rfl
  · rw [if_neg hz, if_neg hz]; rfl

include hn h0 h1 in
/-- A block of the extended tile `k` rows earlier: the sequence `k` positions earlier, zero before its start. -/
theorem shift_eq (r d : Fin 256) (k b : ℕ) (hk : 1 ≤ k ∧ k ≤ 16) (ha : 16 - k ≤ 16) (hb : b ≤ 768) :
    shift i x0 x1 (16 - k) b ha hb (ix2 r d)
      = if k ≤ n * 256 + r.val then f ⟨b + d.val, by omega⟩ (n * 256 + r.val - k) else 0 := by
  have hr := r.isLt
  unfold shift ext
  dsimp only
  by_cases hlt : 16 - k + r.val < 16
  · rw [dif_pos (by exact hlt)]
    refine (before_eq i x1 n hn ⟨16 - k + r.val, hlt⟩ ⟨b + d.val, by omega⟩).trans ?_
    by_cases hz : n = 0
    · rw [if_pos hz, if_neg (by omega)]
    · rw [if_neg hz, if_pos (by omega), h1 hz]
      exact congrArg _ (by show n * 256 + (16 - k + r.val) - 16 = _; omega)
  · rw [dif_neg (by exact hlt), if_pos (by omega)]
    have e : ∀ (p : Fin 256) (q : Fin 1024), k0_pay2 x0 (ix2 p q) = x0 (ix2 p q) := fun p q => by pointwise [k0_pay2]
    refine (e ⟨16 - k + r.val - 16, by omega⟩ ⟨b + d.val, by omega⟩).trans ?_
    rw [h0]
    exact congrArg _ (by show n * 256 + (16 - k + r.val - 16) = _; omega)

theorem win_lit2 (g : ℕ → EReal) (s : ℕ) : Window.win g 2 s
    = g s + (if 1 ≤ s then g (s - 1) else 0) := by
  simp [Window.win, Finset.sum_range_succ]

theorem win_lit4 (g : ℕ → EReal) (s : ℕ) : Window.win g 4 s
    = ((g s + (if 1 ≤ s then g (s - 1) else 0)) + (if 2 ≤ s then g (s - 2) else 0)) + (if 3 ≤ s then g (s - 3) else 0) := by
  simp [Window.win, Finset.sum_range_succ]

theorem win_lit8 (g : ℕ → EReal) (s : ℕ) : Window.win g 8 s
    = ((((((g s + (if 1 ≤ s then g (s - 1) else 0)) + (if 2 ≤ s then g (s - 2) else 0)) + (if 3 ≤ s then g (s - 3) else 0)) + (if 4 ≤ s then g (s - 4) else 0)) + (if 5 ≤ s then g (s - 5) else 0)) + (if 6 ≤ s then g (s - 6) else 0)) + (if 7 ≤ s then g (s - 7) else 0) := by
  simp [Window.win, Finset.sum_range_succ]

theorem win_lit16 (g : ℕ → EReal) (s : ℕ) : Window.win g 16 s
    = ((((((((((((((g s + (if 1 ≤ s then g (s - 1) else 0)) + (if 2 ≤ s then g (s - 2) else 0)) + (if 3 ≤ s then g (s - 3) else 0)) + (if 4 ≤ s then g (s - 4) else 0)) + (if 5 ≤ s then g (s - 5) else 0)) + (if 6 ≤ s then g (s - 6) else 0)) + (if 7 ≤ s then g (s - 7) else 0)) + (if 8 ≤ s then g (s - 8) else 0)) + (if 9 ≤ s then g (s - 9) else 0)) + (if 10 ≤ s then g (s - 10) else 0)) + (if 11 ≤ s then g (s - 11) else 0)) + (if 12 ≤ s then g (s - 12) else 0)) + (if 13 ≤ s then g (s - 13) else 0)) + (if 14 ≤ s then g (s - 14) else 0)) + (if 15 ≤ s then g (s - 15) else 0) := by
  simp [Window.win, Finset.sum_range_succ]

/-- The fourth group's difference. -/
def diff3 : FVec Ideal S256x256 .f32 :=
  subf (divf (addf (addf (addf (addf (addf (addf (addf (addf (addf (addf (addf (addf (addf (addf (addf (extractStridedSlice S256x256 ![0, 768] x0 slices_S256x1024_o0_768_S256x256) (shift i x0 x1 15 768)) (shift i x0 x1 14 768)) (shift i x0 x1 13 768)) (shift i x0 x1 12 768)) (shift i x0 x1 11 768)) (shift i x0 x1 10 768)) (shift i x0 x1 9 768)) (shift i x0 x1 8 768)) (shift i x0 x1 7 768)) (shift i x0 x1 6 768)) (shift i x0 x1 5 768)) (shift i x0 x1 4 768)) (shift i x0 x1 3 768)) (shift i x0 x1 2 768)) (shift i x0 x1 1 768))
    (broadcastTo S256x256 (sitofp .f32 (minsi (addi (k0_pay4 i) (broadcast S256x1 1#32)) (broadcast S256x1 16#32)) : FVec Ideal S256x1 .f32) broadcasts_S256x1_S256x256))
    (extractStridedSlice S256x256 ![0, 768] x0 slices_S256x1024_o0_768_S256x256)

/-- The fourth group's product. -/
def prod3 : FVec Ideal S256x256 .f32 :=
  matmul (φ₁ := .bf16) (φ₂ := .bf16) dot_S256x256_S256x256_S256x256_1_0_0_1_n_n none (truncf .bf16 (diff3 i x0 x1) bitsLt_bf16_f32)
    (shapeCast S256x256 (View.ld x4 (Rect.unit ![3, 0, 0] ![1, 256, 256] inb_S4x256x256_S1x256x256_3_0_0) : Vec Ideal S1x256x256 .bf16) shapeCasts_S1x256x256_S256x256)
    (constant S256x256 .f32 0x00000000#32)

section
include hn h0 h1

/-- Group 0: the difference of the window's mean and the entry, times the group's matrix. -/
theorem prod0_apply (r d : Fin 256) : prod0 i x0 x1 x4 (ix2 r d)
    = ∑ k : Fin 256, mix (fun j => f ⟨0 + k.val, by omega⟩ j) 2 (n * 256 + r.val) * x4 (ix3 0 k d) := by
  unfold prod0
  pointwise [k0_pay7, k0_pay5, k0_pay6]
  refine Finset.sum_congr rfl fun k _ => congrArg (· * _) ?_
  simp only [shift_eq i x0 x1 n f hn h0 h1 r k 1 0 (by decide), pos_word i n hn r, h0]
  simp only [mix, Window.cnt, win_lit2, Nat.zero_add]

/-- Group 1: the difference of the window's mean and the entry, times the group's matrix. -/
theorem prod1_apply (r d : Fin 256) : prod1 i x0 x1 x4 (ix2 r d)
    = ∑ k : Fin 256, mix (fun j => f ⟨256 + k.val, by omega⟩ j) 4 (n * 256 + r.val) * x4 (ix3 1 k d) := by
  unfold prod1
  pointwise [k0_pay8]
  refine Finset.sum_congr rfl fun k _ => congrArg (· * _) ?_
  simp only [shift_eq i x0 x1 n f hn h0 h1 r k 1 256 (by decide), shift_eq i x0 x1 n f hn h0 h1 r k 2 256 (by decide), shift_eq i x0 x1 n f hn h0 h1 r k 3 256 (by decide), pos_word i n hn r, h0]
  simp only [mix, Window.cnt, win_lit4, Nat.zero_add]

/-- Group 2: the difference of the window's mean and the entry, times the group's matrix. -/
theorem prod2_apply (r d : Fin 256) : prod2 i x0 x1 x4 (ix2 r d)
    = ∑ k : Fin 256, mix (fun j => f ⟨512 + k.val, by omega⟩ j) 8 (n * 256 + r.val) * x4 (ix3 2 k d) := by
  unfold prod2
  pointwise [k0_pay10, k0_pay9]
  refine Finset.sum_congr rfl fun k _ => congrArg (· * _) ?_
  simp only [shift_eq i x0 x1 n f hn h0 h1 r k 1 512 (by decide), shift_eq i x0 x1 n f hn h0 h1 r k 2 512 (by decide), shift_eq i x0 x1 n f hn h0 h1 r k 3 512 (by decide), shift_eq i x0 x1 n f hn h0 h1 r k 4 512 (by decide), shift_eq i x0 x1 n f hn h0 h1 r k 5 512 (by decide), shift_eq i x0 x1 n f hn h0 h1 r k 6 512 (by decide), shift_eq i x0 x1 n f hn h0 h1 r k 7 512 (by decide), pos_word i n hn r, h0]
  simp only [mix, Window.cnt, win_lit8, Nat.zero_add]

/-- Group 3 likewise. -/
theorem prod3_apply (r d : Fin 256) : prod3 i x0 x1 x4 (ix2 r d)
    = ∑ k : Fin 256, mix (fun j => f ⟨768 + k.val, by omega⟩ j) 16 (n * 256 + r.val) * x4 (ix3 3 k d) := by
  unfold prod3 diff3
  pointwise [k0_pay11]
  refine Finset.sum_congr rfl fun k _ => congrArg (· * _) ?_
  simp only [shift_eq i x0 x1 n f hn h0 h1 r k 1 768 (by decide), shift_eq i x0 x1 n f hn h0 h1 r k 2 768 (by decide), shift_eq i x0 x1 n f hn h0 h1 r k 3 768 (by decide), shift_eq i x0 x1 n f hn h0 h1 r k 4 768 (by decide), shift_eq i x0 x1 n f hn h0 h1 r k 5 768 (by decide), shift_eq i x0 x1 n f hn h0 h1 r k 6 768 (by decide), shift_eq i x0 x1 n f hn h0 h1 r k 7 768 (by decide), shift_eq i x0 x1 n f hn h0 h1 r k 8 768 (by decide), shift_eq i x0 x1 n f hn h0 h1 r k 9 768 (by decide), shift_eq i x0 x1 n f hn h0 h1 r k 10 768 (by decide), shift_eq i x0 x1 n f hn h0 h1 r k 11 768 (by decide), shift_eq i x0 x1 n f hn h0 h1 r k 12 768 (by decide), shift_eq i x0 x1 n f hn h0 h1 r k 13 768 (by decide), shift_eq i x0 x1 n f hn h0 h1 r k 14 768 (by decide), shift_eq i x0 x1 n f hn h0 h1 r k 15 768 (by decide), pos_word i n hn r, h0]
  simp only [mix, Window.cnt, win_lit16]

/-- The four products side by side. -/
def side : FVec Ideal S256x1024 .f32 :=
  concatenate S256x1024 1 [⟨S256x256, prod0 i x0 x1 x4⟩, ⟨S256x256, prod1 i x0 x1 x4⟩, ⟨S256x256, prod2 i x0 x1 x4⟩, ⟨S256x256, prod3 i x0 x1 x4⟩]
    concatenates_S256x256_S256x256_S256x256_S256x256_S256x1024_d1

theorem side_apply (r : Fin 256) (g : Fin 4) (d : Fin 256) (q : Fin 1024) (hq : q.val = 256 * g.val + d.val) : side i x0 x1 x4 (ix2 r q)
    = ∑ k : Fin 256, mix (f ⟨256 * g.val + k.val, by omega⟩) (width g) (n * 256 + r.val) * x4 (ix3 g k d) := by
  unfold side
  obtain hg | hg | hg | hg : g.val = 0 ∨ g.val = 1 ∨ g.val = 2 ∨ g.val = 3 := by omega
  · obtain rfl : g = 0 := Fin.ext hg
    refine (concatenate_apply_piece (1 : Fin S256x1024.rank) _ _ _ 0 (by simp) S256x256 (prod0 i x0 x1 x4) rfl rfl 0 (by rfl) (ix2 r d) ?_ (by simp [ix2]; omega)).trans ?_
    · intro b hb
      match b with
      | ⟨0, _⟩ => rfl
      | ⟨1, _⟩ => exact absurd rfl hb
    · exact (prod0_apply i x0 x1 x4 n f hn h0 h1 r d).trans (Finset.sum_congr rfl fun k _ => congrArg (fun p => mix (f p) 2 _ * _) (Fin.ext (by show 0 + k.val = 256 * 0 + k.val; omega)))
  · obtain rfl : g = 1 := Fin.ext hg
    refine (concatenate_apply_piece (1 : Fin S256x1024.rank) _ _ _ 1 (by simp) S256x256 (prod1 i x0 x1 x4) rfl rfl 256 (by rfl) (ix2 r d) ?_ (by simp [ix2]; omega)).trans ?_
    · intro b hb
      match b with
      | ⟨0, _⟩ => rfl
      | ⟨1, _⟩ => exact absurd rfl hb
    · exact (prod1_apply i x0 x1 x4 n f hn h0 h1 r d).trans (Finset.sum_congr rfl fun k _ => congrArg (fun p => mix (f p) 4 _ * _) (Fin.ext (by show 256 + k.val = 256 * 1 + k.val; omega)))
  · obtain rfl : g = 2 := Fin.ext hg
    refine (concatenate_apply_piece (1 : Fin S256x1024.rank) _ _ _ 2 (by simp) S256x256 (prod2 i x0 x1 x4) rfl rfl 512 (by rfl) (ix2 r d) ?_ (by simp [ix2]; omega)).trans ?_
    · intro b hb
      match b with
      | ⟨0, _⟩ => rfl
      | ⟨1, _⟩ => exact absurd rfl hb
    · exact (prod2_apply i x0 x1 x4 n f hn h0 h1 r d).trans (Finset.sum_congr rfl fun k _ => congrArg (fun p => mix (f p) 8 _ * _) (Fin.ext (by show 512 + k.val = 256 * 2 + k.val; omega)))
  · obtain rfl : g = 3 := Fin.ext hg
    refine (concatenate_apply_piece (1 : Fin S256x1024.rank) _ _ _ 3 (by simp) S256x256 (prod3 i x0 x1 x4) rfl rfl 768 (by rfl) (ix2 r d) ?_ (by simp [ix2]; omega)).trans ?_
    · intro b hb
      match b with
      | ⟨0, _⟩ => rfl
      | ⟨1, _⟩ => exact absurd rfl hb
    · exact (prod3_apply i x0 x1 x4 n f hn h0 h1 r d).trans (Finset.sum_congr rfl fun k _ => congrArg (fun p => mix (f p) 16 _ * _) (Fin.ext (by show 768 + k.val = 256 * 3 + k.val; omega)))

end

theorem pooled_eq : pooled i x0 x1 x4 x5
    = truncf .bf16 (mulf (side i x0 x1 x4) (broadcastTo S256x1024 (shapeCast S1x1024 x5 shapeCasts_S1x1024_S1x1024 : FVec Ideal S1x1024 .f32) broadcasts_S1x1024_S256x1024)) bitsLt_bf16_f32 := rfl

theorem pooled_apply (r : Fin 256) (q : Fin 1024) : pooled i x0 x1 x4 x5 (ix2 r q) = side i x0 x1 x4 (ix2 r q) * x5 (ix2 0 q) := by
  rw [pooled_eq]
  pointwise

/-- The pooled and the attention columns side by side. -/
def both (u v : FVec Ideal S256x1024 .bf16) : FVec Ideal S256x2048 .bf16 :=
  concatenate S256x2048 1 [⟨S256x1024, u⟩, ⟨S256x1024, v⟩] concatenates_S256x1024_S256x1024_S256x2048_d1

theorem both_left (u v : FVec Ideal S256x1024 .bf16) (r : Fin 256) (q : Fin 2048) (h : q.val < 1024) : both u v (ix2 r q) = u (ix2 r ⟨q.val, h⟩) := by
  unfold both
  refine concatenate_apply_piece (1 : Fin S256x2048.rank) _ _ _ 0 (by simp) S256x1024 u rfl rfl 0 (by rfl) (ix2 r ⟨q.val, h⟩) ?_ (by simp [ix2])
  intro b hb
  match b with
  | ⟨0, _⟩ => rfl
  | ⟨1, _⟩ => exact absurd rfl hb

theorem both_right (u v : FVec Ideal S256x1024 .bf16) (r : Fin 256) (q : Fin 2048) (h : 1024 ≤ q.val) :
    both u v (ix2 r q) = v (ix2 r ⟨q.val - 1024, (Nat.sub_lt_iff_lt_add' h).2 q.isLt⟩) := by
  unfold both
  refine concatenate_apply_piece (1 : Fin S256x2048.rank) _ _ _ 1 (by simp) S256x1024 v rfl rfl 1024 (by rfl) (ix2 r ⟨q.val - 1024, by omega⟩) ?_ (by simp [ix2]; omega)
  intro b hb
  match b with
  | ⟨0, _⟩ => rfl
  | ⟨1, _⟩ => exact absurd rfl hb

theorem out_apply (u : FVec Ideal S256x1024 .bf16) (r : Fin 256) (p : Fin 2048) :
    k0_pay1 u x2 x3 x6 (ix2 r p) = x3 (ix2 r p) + ∑ q : Fin 2048, both u x2 (ix2 r q) * x6 (ix2 q p) := by
  have e : k0_pay1 u x2 x3 x6 = addf x3 (matmul (φ₁ := .bf16) (φ₂ := .bf16) dot_S256x2048_S2048x2048_S256x2048_1_0_0_1_n_n none (both u x2)
      (shapeCast S2048x2048 x6 shapeCasts_S2048x2048_S2048x2048) (constant S256x2048 .f32 0x00000000#32)) := rfl
  rw [e]
  pointwise

end Cert.MixOutIdeal.Body

end
-- ==== Proof.MixOut.Blocks.lean ====
/- What the mixing call's windows read, from the launch memory, and what its blocks and its array hold. -/
module

public import proofs.«01_k».proof.Proof.MixOut.Payload
public import proofs.«01_k».proof.Proof.Gen.MixOutIdeal.Value

@[expose] public section

set_option maxRecDepth 16384

noncomputable section

namespace Cert.MixOutIdeal.Body

open Cert.MixOutIdeal Cert.MixOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx0_0 : ∀ t : Fin grid0.N, win0_0.index t 0 = t.val ∧ win0_0.index t 1 = 0 := by decide +kernel
theorem idx0_1 : ∀ t : Fin grid0.N, win0_1.index t 0 = 16 * t.val - 1 ∧ win0_1.index t 1 = 0 := by decide +kernel
theorem idx0_2 : ∀ t : Fin grid0.N, win0_2.index t 0 = t.val ∧ win0_2.index t 1 = 0 := by decide +kernel
theorem idx0_3 : ∀ t : Fin grid0.N, win0_3.index t 0 = t.val ∧ win0_3.index t 1 = 0 := by decide +kernel
theorem idx0_4 : ∀ t : Fin grid0.N, win0_4.index t 0 = 0 ∧ win0_4.index t 1 = 0 ∧ win0_4.index t 2 = 0 := by decide +kernel
theorem idx0_5 : ∀ t : Fin grid0.N, win0_5.index t 0 = 0 ∧ win0_5.index t 1 = 0 := by decide +kernel
theorem idx0_6 : ∀ t : Fin grid0.N, win0_6.index t 0 = 0 ∧ win0_6.index t 1 = 0 := by decide +kernel
theorem idx0_7 : ∀ t : Fin grid0.N, win0_7.index t 0 = t.val ∧ win0_7.index t 1 = 0 := by decide +kernel
theorem coord : ∀ t : Fin grid0.N, (grid0.coords t 0).val = t.val := by decide +kernel

theorem lt_N0 (t : Fin cfg0.N) : t.val < 32 := lt_of_lt_of_eq t.isLt (show cfg0.N = 32 from N_0)

theorem pool_read (t : Fin cfg0.N) (r : Fin 256) (q : Fin 1024) (p : Fin 8192) (hp : p.val = t.val * 256 + r.val) :
    (iblk m c 0 t : Vec Ideal S256x1024 .f32) (ix2 r q) = (m ((c : Thread nD τ).loc main_arg0) : Vec Ideal S8192x1024 .f32) (ix2 p q) := by
  have hi := idx0_0 t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = p.val; rw [hi.1]; omega
  | ⟨1, _⟩ => show win0_0.index t 1 * 1024 + 1 * q.val = q.val; rw [hi.2]; omega

theorem fox_read (t : Fin cfg0.N) (r : Fin 256) (q : Fin 1024) (p : Fin 8192) (hp : p.val = t.val * 256 + r.val) :
    (iblk m c 2 t : Vec Ideal S256x1024 .bf16) (ix2 r q) = (m ((c : Thread nD τ).loc main_arg1) : Vec Ideal S8192x1024 .bf16) (ix2 p q) := by
  have hi := idx0_2 t
  unfold iblk
  rw [View.read_apply]
  show V m c main_arg1 _ = m (c.tc.loc main_arg1) _
  rw [V_main_arg1]
  congr 1
  funext a
  apply Fin.ext
  match a with
  | ⟨0, _⟩ => show win0_2.index t 0 * 256 + 1 * r.val = p.val; rw [hi.1]; omega
  | ⟨1, _⟩ => show win0_2.index t 1 * 1024 + 1 * q.val = q.val; rw [hi.2]; omega

theorem res_read (t : Fin cfg0.N) (r : Fin 256) (q : Fin 2048) (p : Fin 8192) (hp : p.val = t.val * 256 + r.val) :
    (iblk m c 3 t : Vec Ideal S256x2048 .f32) (ix2 r q) = (m ((c : Thread nD τ).loc main_arg2) : Vec Ideal S8192x2048 .f32) (ix2 p q) := by
  have hi := idx0_3 t
  unfold iblk
  rw [View.read_apply]
  show V m c main_arg2 _ = m (c.tc.loc main_arg2) _
  rw [V_main_arg2]
  congr 1
  funext a
  apply Fin.ext
  match a with
  | ⟨0, _⟩ => show win0_3.index t 0 * 256 + 1 * r.val = p.val; rw [hi.1]; omega
  | ⟨1, _⟩ => show win0_3.index t 1 * 2048 + 1 * q.val = q.val; rw [hi.2]; omega

/-- The sixteen rows before the tile. -/
theorem halo_read (t : Fin cfg0.N) (ht : 1 ≤ t.val) (r : Fin 16) (q : Fin 1024) (p : Fin 8192) (hp : p.val = t.val * 256 + r.val - 16) :
    (iblk m c 1 t : Vec Ideal S16x1024 .f32) (ix2 r q) = (m ((c : Thread nD τ).loc main_arg0) : Vec Ideal S8192x1024 .f32) (ix2 p q) := by
  have hi := idx0_1 t
  unfold iblk
  rw [View.read_apply]
  show V m c main_arg0 _ = m (c.tc.loc main_arg0) _
  rw [V_main_arg0]
  congr 1
  funext a
  apply Fin.ext
  match a with
  | ⟨0, _⟩ => show win0_1.index t 0 * 16 + 1 * r.val = p.val; rw [hi.1]; omega
  | ⟨1, _⟩ => show win0_1.index t 1 * 1024 + 1 * q.val = q.val; rw [hi.2]; omega

theorem V_pw (g : Fin 4) (k d : Fin 256) : (V m c main_v0 : Vec Ideal S4x256x256 .bf16) (ix3 g k d)
    = (m ((c : Thread nD τ).loc main_arg3) : Vec Ideal S4x256x256 .f32) (ix3 g k d) := by
  have e : V m c main_v0 = (truncf .bf16 (m ((c : Thread nD τ).loc main_arg3) : FVec Ideal S4x256x256 .f32) bitsLt_bf16_f32 : FVec Ideal S4x256x256 .bf16) := by
    unfold V
    after_results_simp <;> rfl
  rw [e]
  pointwise

theorem V_scale (q : Fin 1024) : (V m c main_v1 : Vec Ideal S1x1024 .f32) (ix2 0 q)
    = (m ((c : Thread nD τ).loc main_arg4) : Vec Ideal S1024 .f32) (ix1 q) := by
  have e : V m c main_v1 = shapeCast S1x1024 (m ((c : Thread nD τ).loc main_arg4) : Vec Ideal S1024 .f32) shapeCasts_S1024_S1x1024 := by
    unfold V
    after_results_simp <;> rfl
  rw [e]
  pointwise

theorem V_out (q d : Fin 2048) : (V m c main_v2 : Vec Ideal S2048x2048 .bf16) (ix2 q d)
    = (m ((c : Thread nD τ).loc main_arg5) : Vec Ideal S2048x2048 .f32) (ix2 q d) := by
  have e : V m c main_v2 = (truncf .bf16 (m ((c : Thread nD τ).loc main_arg5) : FVec Ideal S2048x2048 .f32) bitsLt_bf16_f32 : FVec Ideal S2048x2048 .bf16) := by
    unfold V
    after_results_simp <;> rfl
  rw [e]
  pointwise

theorem pw_read (t : Fin cfg0.N) (g : Fin 4) (k d : Fin 256) :
    (iblk m c 4 t : Vec Ideal S4x256x256 .bf16) (ix3 g k d) = (m ((c : Thread nD τ).loc main_arg3) : Vec Ideal S4x256x256 .f32) (ix3 g k d) := by
  have hi := idx0_4 t
  rw [← V_pw m c g k d]
  unfold iblk
  rw [View.read_apply]
  show V m c main_v0 _ = V m c main_v0 _
  congr 1
  funext a
  apply Fin.ext
  match a with
  | ⟨0, _⟩ => show win0_4.index t 0 * 4 + 1 * g.val = g.val; rw [hi.1]; omega
  | ⟨1, _⟩ => show win0_4.index t 1 * 256 + 1 * k.val = k.val; rw [hi.2.1]; omega
  | ⟨2, _⟩ => show win0_4.index t 2 * 256 + 1 * d.val = d.val; rw [hi.2.2]; omega

theorem scale_read (t : Fin cfg0.N) (q : Fin 1024) :
    (iblk m c 5 t : Vec Ideal S1x1024 .f32) (ix2 0 q) = (m ((c : Thread nD τ).loc main_arg4) : Vec Ideal S1024 .f32) (ix1 q) := by
  have hi := idx0_5 t
  rw [← V_scale m c q]
  unfold iblk
  rw [View.read_apply]
  show V m c main_v1 _ = V m c main_v1 _
  congr 1
  funext a
  apply Fin.ext
  match a with
  | ⟨0, _⟩ => show win0_5.index t 0 * 1 + 1 * 0 = 0; rw [hi.1]
  | ⟨1, _⟩ => show win0_5.index t 1 * 1024 + 1 * q.val = q.val; rw [hi.2]; omega

theorem out_read (t : Fin cfg0.N) (q d : Fin 2048) :
    (iblk m c 6 t : Vec Ideal S2048x2048 .bf16) (ix2 q d) = (m ((c : Thread nD τ).loc main_arg5) : Vec Ideal S2048x2048 .f32) (ix2 q d) := by
  have hi := idx0_6 t
  rw [← V_out m c q d]
  unfold iblk
  rw [View.read_apply]
  show V m c main_v2 _ = V m c main_v2 _
  congr 1
  funext a
  apply Fin.ext
  match a with
  | ⟨0, _⟩ => show win0_6.index t 0 * 2048 + 1 * q.val = q.val; rw [hi.1]; omega
  | ⟨1, _⟩ => show win0_6.index t 1 * 2048 + 1 * d.val = d.val; rw [hi.2]; omega

/-- The entry the call leaves at row `p` and column `d`. -/
abbrev entry (p : Fin 8192) (d : Fin 2048) : EReal :=
  Window.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) p d

/-- The pooled columns of a tile. -/
theorem pooled_rows (t : Fin cfg0.N) (r : Fin 256) (p : Fin 8192) (hp : p.val = t.val * 256 + r.val) (q : Fin 1024) :
    pooled (grid0.coords t) (iblk m c 0 t) (iblk m c 1 t) (iblk m c 4 t) (iblk m c 5 t) (ix2 r q)
      = Window.mixed (m ((c : Thread nD τ).loc main_arg0)) (m ((c : Thread nD τ).loc main_arg3)) (m ((c : Thread nD τ).loc main_arg4)) p q := by
  have hN := lt_N0 t
  have hr := r.isLt
  have hq := q.isLt
  have hn : (grid0.coords t 0).val % 16 = t.val % 16 := congrArg (· % 16) (coord t)
  rw [pooled_apply, scale_read,
    side_apply (grid0.coords t) _ _ _ (t.val % 16) (Window.seqOf (m ((c : Thread nD τ).loc main_arg0)) (t.val / 16)) hn ?_ ?_ r
      ⟨q.val / 256, by omega⟩ ⟨q.val % 256, by omega⟩ q (by show q.val = 256 * (q.val / 256) + q.val % 256; omega)]
  · unfold Window.mixed
    have e1 : p.val / 4096 = t.val / 16 := by omega
    have e2 : p.val % 4096 = t.val % 16 * 256 + r.val := by omega
    rw [e1, e2]
    refine congrArg (· * _) (Finset.sum_congr rfl fun k _ => ?_)
    exact congrArg _ (pw_read m c t _ k _)
  · intro r' q'
    have hlt : t.val / 16 * 4096 + (t.val % 16 * 256 + r'.val) < 8192 := by omega
    unfold Window.seqOf
    rw [dif_pos hlt]
    exact pool_read m c t r' q' _ (by show t.val / 16 * 4096 + (t.val % 16 * 256 + r'.val) = _; omega)
  · intro h0 r' q'
    have hlt : t.val / 16 * 4096 + (t.val % 16 * 256 + r'.val - 16) < 8192 := by omega
    unfold Window.seqOf
    rw [dif_pos hlt]
    exact halo_read m c t (by omega) r' q' _ (by show t.val / 16 * 4096 + (t.val % 16 * 256 + r'.val - 16) = _; omega)

/-- What a point leaves in its block. -/
theorem block (t : Fin cfg0.N) (r : Fin 256) (d : Fin 2048) (p : Fin 8192) (hp : p.val = t.val * 256 + r.val) :
    outsAt0 m c t (ix2 r d) = entry m c p d := by
  unfold outsAt0
  rw [out_val, out_apply, res_read m c t r d p hp]
  unfold entry Window.result
  refine congrArg _ (Finset.sum_congr rfl fun q _ => ?_)
  rw [out_read]
  refine congrArg (· * _) ?_
  unfold Window.joined
  by_cases h : q.val < 1024
  · rw [dif_pos h, both_left _ _ r q h]
    exact pooled_rows m c t r p hp _
  · rw [dif_neg h, both_right _ _ r q (by omega)]
    exact fox_read m c t r _ p hp

/-- The array the call leaves. -/
def outArr : Vec Ideal S8192x2048 .f32 := fun i => entry m c (i 0) (i 1)

theorem cover0_7' (i : S8192x2048.Idx) : ∃ t : Fin cfg0.N, (cfg0.win 7).flush t = true ∧ i ∈ ((cfg0.win 7).blk t).view.set := by
  have h0 : (i 0).val < 8192 := (i 0).isLt
  have h1 : (i 1).val < 2048 := (i 1).isLt
  obtain ⟨t, ht⟩ : ∃ t : Fin cfg0.N, t.val = (i 0).val / 256 := ⟨⟨_, lt_of_lt_of_eq (by omega) (show 32 = cfg0.N from N_0.symm)⟩, rfl⟩
  have hi := idx0_7 t
  refine ⟨t, flush0_7 t, ?_⟩
  show i ∈ ((View.whole main_v3).slice (win0_7.rect t)).set
  rw [View.set_slice_whole, Rect.mem_set_unit]
  intro a
  match a with
  | ⟨0, _⟩ => show win0_7.index t 0 * 256 ≤ (i 0).val ∧ (i 0).val < win0_7.index t 0 * 256 + 256; rw [hi.1]; omega
  | ⟨1, _⟩ => show win0_7.index t 1 * 2048 ≤ (i 1).val ∧ (i 1).val < win0_7.index t 1 * 2048 + 2048; rw [hi.2]; omega

theorem out_array : (dats (F := Ideal) m 0 c).arrAt 7 cfg0.N = outArr m c := by
  refine Dat.arrAt_eq_of_cover (dats (F := Ideal) m 0 c) 7 (outArr m c) (fun t hf => ?_) (fun i => cover0_7' i)
  have hi := idx0_7 t
  show (cfg0.win 7).cut (grid0.coords t) ((dats (F := Ideal) m 0 c).after 7 t) = _
  rw [after0_7]
  funext j
  rw [View.read_apply]
  have ej : (j : S256x2048.Idx) = ix2 (j 0) (j 1) := eq_ix2 (j : S256x2048.Idx)
  show outsAt0 m c t j = outArr m c _
  rw [ej]
  have e0 : ∀ p q, p.val = t.val * 256 + (j 0).val → q.val = (j 1).val → outsAt0 m c t (ix2 (j 0) (j 1)) = entry m c p q := by
    intro p q hp hq
    obtain rfl : q = j 1 := Fin.ext hq
    exact block m c t (j 0) (j 1) p hp
  refine e0 _ _ ?_ ?_
  · show win0_7.index t 0 * 256 + 1 * (j 0).val = _
    rw [hi.1]; omega
  · show win0_7.index t 1 * 2048 + 1 * (j 1).val = _
    rw [hi.2]; omega

end Cert.MixOutIdeal.Body

end
-- ==== Proof.MixOut.Ref.lean ====
/- What the mixing call's reference computes, entry by entry. -/
module

public import proofs.«01_k».proof.Proof.MixOut.Window
public import proofs.«01_k».proof.Proof.Gen.MixOutRefIdeal.Read

@[expose] public section

set_option maxRecDepth 16384

noncomputable section

namespace Cert.MixOutRefIdeal.Read

open Cert.MixOutRefIdeal Cert.MixOutRefIdeal.Gen Idealize.ShloMosaic Idealize.SL.Sem

/-- The pooling columns are real numbers. -/
def RealPool (x0 : Vec Ideal S8192x1024 .f32) : Prop := ∀ p q, x0 (ix2 p q) = ((x0 (ix2 p q)).toReal : EReal)

variable (x0 : Vec Ideal S8192x1024 .f32)

theorem seq_real (hx : RealPool x0) (b : ℕ) (q : Fin 1024) (j : ℕ) :
    Window.seqOf x0 b q j = ((Window.seqOf x0 b q j).toReal : EReal) := by
  unfold Window.seqOf
  by_cases h : b * 4096 + j < 8192
  · rw [dif_pos h]; exact hx _ _
  · rw [dif_neg h]; simp

theorem zero_word : FloatOps.ofBits (F := Ideal) .f32 0x00000000#32 = (0 : EReal) := Ideal.ofBits_zero_f32

theorem zero_int : FloatOps.sitofp (F := Ideal) .f32 (0#32) = (0 : EReal) := by
  show (((0#32 : BitVec 32).toInt : ℝ) : EReal) = 0
  simp

theorem v0_at (b : Fin 2) (s : Fin 4096) (g : Fin 4) (d : Fin 256) :
    val_main_v0 (F := Ideal) x0 (ix4 b s g d) = Window.seqOf x0 b.val (⟨256 * g.val + d.val, by omega⟩ : Fin 1024) s.val := by
  have hlt : b.val * 4096 + s.val < 8192 := by omega
  rw [val_main_v0_apply]
  unfold Window.seqOf
  rw [dif_pos hlt]
  congr 1
  funext a
  apply Fin.ext
  match a with
  | ⟨0, _⟩ => show (((b.val * 4096 + s.val) * 4 + g.val) * 256 + d.val) / 1024 = b.val * 4096 + s.val; omega
  | ⟨1, _⟩ => show (((b.val * 4096 + s.val) * 4 + g.val) * 256 + d.val) % 1024 = 256 * g.val + d.val; omega

/-- Group 0: its channels. -/
theorem v2_at (b : Fin 2) (s : Fin 4096) (d : Fin 256) :
    val_main_v2 (F := Ideal) x0 (ix3 b s d) = Window.seqOf x0 b.val (⟨256 * 0 + d.val, by omega⟩ : Fin 1024) s.val := by
  have e : idx_main_v1 (idx_main_v2 (ix3 b s d)) = ix4 b s (0 : Fin 4) d := by
    funext a
    apply Fin.ext
    match a with
    | ⟨0, _⟩ => show ((b.val * 4096 + s.val) * 256 + d.val) / 1048576 = b.val; omega
    | ⟨1, _⟩ => show ((b.val * 4096 + s.val) * 256 + d.val) / 256 % 4096 = s.val; omega
    | ⟨2, _⟩ => rfl
    | ⟨3, _⟩ => show ((b.val * 4096 + s.val) * 256 + d.val) % 256 = d.val; omega
  rw [val_main_v2_apply, val_main_v1_apply, e]
  exact v0_at x0 b s 0 d

theorem v19_eq : val_main_v19 (F := Ideal) x0 = val_main_v2 (F := Ideal) x0 := rfl

/-- Its running sums, one later. -/
theorem v4_at (b : Fin 2) (t : Fin 4097) (d : Fin 256) :
    val_main_v4 (F := Ideal) x0 (ix3 b t d) = Window.run (Window.seqOf x0 b.val (⟨256 * 0 + d.val, by omega⟩ : Fin 1024)) t.val := by
  unfold val_main_v4
  refine (Window.pad_rows (n := 4096) (m := 4097) (k := 1) (val_main_v3 (F := Ideal) x0) (val_main_call1_v0 (F := Ideal)) _ _
    (fun i => (val_main_call1_v0_apply i).trans zero_int) b t d
    (fun j => Window.run (Window.seqOf x0 b.val (⟨256 * 0 + d.val, by omega⟩ : Fin 1024)) (j + 1)) ?_ (by omega)).trans ?_
  · intro j
    unfold val_main_v3
    refine Window.cumsum_apply (n := 4095) (val_main_v2 (F := Ideal) x0) (val_main_call0_call0_v0 (F := Ideal)) _ _
      (fun i => (val_main_call0_call0_v0_apply i).trans zero_word) _ b j d (fun s => v2_at x0 b s d)
  · by_cases h : 1 ≤ t.val
    · rw [if_pos h]
      show Window.run _ (t.val - 1 + 1) = _
      rw [Nat.sub_add_cancel h]
    · rw [if_neg h, show t.val = 0 by omega]
      rfl

/-- Its window sums, over the real numbers. -/
theorem v15_at (hx : RealPool x0) (b : Fin 2) (s : Fin 4096) (d : Fin 256) :
    val_main_v15 (F := Ideal) x0 (ix3 b s d) = Window.win (Window.seqOf x0 b.val (⟨256 * 0 + d.val, by omega⟩ : Fin 1024)) 2 s.val := by
  have e5 : val_main_v5 (F := Ideal) x0 (ix3 b s d) = Window.run (Window.seqOf x0 b.val (⟨256 * 0 + d.val, by omega⟩ : Fin 1024)) (s.val + 1) := by
    rw [val_main_v5_apply, show idx_main_v5 (ix3 b s d) = ix3 b (⟨s.val + 1, by omega⟩ : Fin 4097) d from by
      funext a
      apply Fin.ext
      match a with
      | ⟨0, _⟩ => rfl
      | ⟨1, _⟩ => show 1 + s.val = s.val + 1; omega
      | ⟨2, _⟩ => rfl]
    exact v4_at x0 b _ d
  have e7 : val_main_v7 (F := Ideal) x0 (ix3 b s d) = Window.run (Window.seqOf x0 b.val (⟨256 * 0 + d.val, by omega⟩ : Fin 1024)) (s.val + 1 - 2) := by
    rw [val_main_v7_apply, show idx_main_v7 (ix3 b s d) = ix3 b (⟨s.val, by omega⟩ : Fin 4098) d from by
      funext a
      match a with
      | ⟨0, _⟩ => rfl
      | ⟨1, _⟩ => rfl
      | ⟨2, _⟩ => rfl]
    unfold val_main_v6
    refine (Window.pad_rows (n := 4097) (m := 4098) (k := 1) (val_main_v4 (F := Ideal) x0) (val_main_call2_v0 (F := Ideal)) _ _
      (fun i => (val_main_call2_v0_apply i).trans zero_int) b (⟨s.val, by omega⟩ : Fin 4098) d
      (fun j => Window.run (Window.seqOf x0 b.val (⟨256 * 0 + d.val, by omega⟩ : Fin 1024)) j) (fun j => v4_at x0 b j d)
      (by show s.val - 1 < 4097; omega)).trans ?_
    show (if 1 ≤ s.val then Window.run _ (s.val - 1) else 0) = _
    by_cases h : 1 ≤ s.val
    · rw [if_pos h, show s.val + 1 - 2 = s.val - 1 by omega]
    · rw [if_neg h, show s.val + 1 - 2 = 0 by omega]
      rfl
  show val_main_v5 (F := Ideal) x0 (ix3 b s d) - val_main_v7 (F := Ideal) x0 (ix3 b s d) = _
  rw [e5, e7]
  exact Window.run_sub _ (seq_real x0 hx _ _) 2 s.val

/-- Its windowed means, less the channels themselves. -/
theorem v20_at (hx : RealPool x0) (b : Fin 2) (s : Fin 4096) (d : Fin 256) :
    val_main_v20 (F := Ideal) x0 (ix3 b s d) = Window.mix (Window.seqOf x0 b.val (⟨256 * 0 + d.val, by omega⟩ : Fin 1024)) 2 s.val := by
  have e16 : val_main_v16 (F := Ideal) (ix3 b s d) = Window.cnt (BitVec.ofNat 32 2) s.val := by
    rw [val_main_v16_apply, val_main_v14_apply, val_main_v13_apply, val_main_v12_apply, val_main_v10_apply, val_main_v8_apply,
      val_main_v9_apply, val_main_v11_apply]
    rfl
  rw [val_main_v20_apply, val_main_v17_apply, v15_at x0 hx, e16, v19_eq, v2_at]
  rfl

/-- Group 1: its channels. -/
theorem v22_at (b : Fin 2) (s : Fin 4096) (d : Fin 256) :
    val_main_v22 (F := Ideal) x0 (ix3 b s d) = Window.seqOf x0 b.val (⟨256 * 1 + d.val, by omega⟩ : Fin 1024) s.val := by
  have e : idx_main_v21 (idx_main_v22 (ix3 b s d)) = ix4 b s (1 : Fin 4) d := by
    funext a
    apply Fin.ext
    match a with
    | ⟨0, _⟩ => show ((b.val * 4096 + s.val) * 256 + d.val) / 1048576 = b.val; omega
    | ⟨1, _⟩ => show ((b.val * 4096 + s.val) * 256 + d.val) / 256 % 4096 = s.val; omega
    | ⟨2, _⟩ => rfl
    | ⟨3, _⟩ => show ((b.val * 4096 + s.val) * 256 + d.val) % 256 = d.val; omega
  rw [val_main_v22_apply, val_main_v21_apply, e]
  exact v0_at x0 b s 1 d

theorem v39_eq : val_main_v39 (F := Ideal) x0 = val_main_v22 (F := Ideal) x0 := rfl

/-- Its running sums, one later. -/
theorem v24_at (b : Fin 2) (t : Fin 4097) (d : Fin 256) :
    val_main_v24 (F := Ideal) x0 (ix3 b t d) = Window.run (Window.seqOf x0 b.val (⟨256 * 1 + d.val, by omega⟩ : Fin 1024)) t.val := by
  unfold val_main_v24
  refine (Window.pad_rows (n := 4096) (m := 4097) (k := 1) (val_main_v23 (F := Ideal) x0) (val_main_call4_v0 (F := Ideal)) _ _
    (fun i => (val_main_call4_v0_apply i).trans zero_int) b t d
    (fun j => Window.run (Window.seqOf x0 b.val (⟨256 * 1 + d.val, by omega⟩ : Fin 1024)) (j + 1)) ?_ (by omega)).trans ?_
  · intro j
    unfold val_main_v23
    refine Window.cumsum_apply (n := 4095) (val_main_v22 (F := Ideal) x0) (val_main_call3_call0_v0 (F := Ideal)) _ _
      (fun i => (val_main_call3_call0_v0_apply i).trans zero_word) _ b j d (fun s => v22_at x0 b s d)
  · by_cases h : 1 ≤ t.val
    · rw [if_pos h]
      show Window.run _ (t.val - 1 + 1) = _
      rw [Nat.sub_add_cancel h]
    · rw [if_neg h, show t.val = 0 by omega]
      rfl

/-- Its window sums, over the real numbers. -/
theorem v35_at (hx : RealPool x0) (b : Fin 2) (s : Fin 4096) (d : Fin 256) :
    val_main_v35 (F := Ideal) x0 (ix3 b s d) = Window.win (Window.seqOf x0 b.val (⟨256 * 1 + d.val, by omega⟩ : Fin 1024)) 4 s.val := by
  have e5 : val_main_v25 (F := Ideal) x0 (ix3 b s d) = Window.run (Window.seqOf x0 b.val (⟨256 * 1 + d.val, by omega⟩ : Fin 1024)) (s.val + 1) := by
    rw [val_main_v25_apply, show idx_main_v25 (ix3 b s d) = ix3 b (⟨s.val + 1, by omega⟩ : Fin 4097) d from by
      funext a
      apply Fin.ext
      match a with
      | ⟨0, _⟩ => rfl
      | ⟨1, _⟩ => show 1 + s.val = s.val + 1; omega
      | ⟨2, _⟩ => rfl]
    exact v24_at x0 b _ d
  have e7 : val_main_v27 (F := Ideal) x0 (ix3 b s d) = Window.run (Window.seqOf x0 b.val (⟨256 * 1 + d.val, by omega⟩ : Fin 1024)) (s.val + 1 - 4) := by
    rw [val_main_v27_apply, show idx_main_v27 (ix3 b s d) = ix3 b (⟨s.val, by omega⟩ : Fin 4100) d from by
      funext a
      match a with
      | ⟨0, _⟩ => rfl
      | ⟨1, _⟩ => rfl
      | ⟨2, _⟩ => rfl]
    unfold val_main_v26
    refine (Window.pad_rows (n := 4097) (m := 4100) (k := 3) (val_main_v24 (F := Ideal) x0) (val_main_call5_v0 (F := Ideal)) _ _
      (fun i => (val_main_call5_v0_apply i).trans zero_int) b (⟨s.val, by omega⟩ : Fin 4100) d
      (fun j => Window.run (Window.seqOf x0 b.val (⟨256 * 1 + d.val, by omega⟩ : Fin 1024)) j) (fun j => v24_at x0 b j d)
      (by show s.val - 3 < 4097; omega)).trans ?_
    show (if 3 ≤ s.val then Window.run _ (s.val - 3) else 0) = _
    by_cases h : 3 ≤ s.val
    · rw [if_pos h, show s.val + 1 - 4 = s.val - 3 by omega]
    · rw [if_neg h, show s.val + 1 - 4 = 0 by omega]
      rfl
  show val_main_v25 (F := Ideal) x0 (ix3 b s d) - val_main_v27 (F := Ideal) x0 (ix3 b s d) = _
  rw [e5, e7]
  exact Window.run_sub _ (seq_real x0 hx _ _) 4 s.val

/-- Its windowed means, less the channels themselves. -/
theorem v40_at (hx : RealPool x0) (b : Fin 2) (s : Fin 4096) (d : Fin 256) :
    val_main_v40 (F := Ideal) x0 (ix3 b s d) = Window.mix (Window.seqOf x0 b.val (⟨256 * 1 + d.val, by omega⟩ : Fin 1024)) 4 s.val := by
  have e16 : val_main_v36 (F := Ideal) (ix3 b s d) = Window.cnt (BitVec.ofNat 32 4) s.val := by
    rw [val_main_v36_apply, val_main_v34_apply, val_main_v33_apply, val_main_v32_apply, val_main_v30_apply, val_main_v28_apply,
      val_main_v29_apply, val_main_v31_apply]
    rfl
  rw [val_main_v40_apply, val_main_v37_apply, v35_at x0 hx, e16, v39_eq, v22_at]
  rfl

/-- Group 2: its channels. -/
theorem v42_at (b : Fin 2) (s : Fin 4096) (d : Fin 256) :
    val_main_v42 (F := Ideal) x0 (ix3 b s d) = Window.seqOf x0 b.val (⟨256 * 2 + d.val, by omega⟩ : Fin 1024) s.val := by
  have e : idx_main_v41 (idx_main_v42 (ix3 b s d)) = ix4 b s (2 : Fin 4) d := by
    funext a
    apply Fin.ext
    match a with
    | ⟨0, _⟩ => show ((b.val * 4096 + s.val) * 256 + d.val) / 1048576 = b.val; omega
    | ⟨1, _⟩ => show ((b.val * 4096 + s.val) * 256 + d.val) / 256 % 4096 = s.val; omega
    | ⟨2, _⟩ => rfl
    | ⟨3, _⟩ => show ((b.val * 4096 + s.val) * 256 + d.val) % 256 = d.val; omega
  rw [val_main_v42_apply, val_main_v41_apply, e]
  exact v0_at x0 b s 2 d

theorem v59_eq : val_main_v59 (F := Ideal) x0 = val_main_v42 (F := Ideal) x0 := rfl

/-- Its running sums, one later. -/
theorem v44_at (b : Fin 2) (t : Fin 4097) (d : Fin 256) :
    val_main_v44 (F := Ideal) x0 (ix3 b t d) = Window.run (Window.seqOf x0 b.val (⟨256 * 2 + d.val, by omega⟩ : Fin 1024)) t.val := by
  unfold val_main_v44
  refine (Window.pad_rows (n := 4096) (m := 4097) (k := 1) (val_main_v43 (F := Ideal) x0) (val_main_call7_v0 (F := Ideal)) _ _
    (fun i => (val_main_call7_v0_apply i).trans zero_int) b t d
    (fun j => Window.run (Window.seqOf x0 b.val (⟨256 * 2 + d.val, by omega⟩ : Fin 1024)) (j + 1)) ?_ (by omega)).trans ?_
  · intro j
    unfold val_main_v43
    refine Window.cumsum_apply (n := 4095) (val_main_v42 (F := Ideal) x0) (val_main_call6_call0_v0 (F := Ideal)) _ _
      (fun i => (val_main_call6_call0_v0_apply i).trans zero_word) _ b j d (fun s => v42_at x0 b s d)
  · by_cases h : 1 ≤ t.val
    · rw [if_pos h]
      show Window.run _ (t.val - 1 + 1) = _
      rw [Nat.sub_add_cancel h]
    · rw [if_neg h, show t.val = 0 by omega]
      rfl

/-- Its window sums, over the real numbers. -/
theorem v55_at (hx : RealPool x0) (b : Fin 2) (s : Fin 4096) (d : Fin 256) :
    val_main_v55 (F := Ideal) x0 (ix3 b s d) = Window.win (Window.seqOf x0 b.val (⟨256 * 2 + d.val, by omega⟩ : Fin 1024)) 8 s.val := by
  have e5 : val_main_v45 (F := Ideal) x0 (ix3 b s d) = Window.run (Window.seqOf x0 b.val (⟨256 * 2 + d.val, by omega⟩ : Fin 1024)) (s.val + 1) := by
    rw [val_main_v45_apply, show idx_main_v45 (ix3 b s d) = ix3 b (⟨s.val + 1, by omega⟩ : Fin 4097) d from by
      funext a
      apply Fin.ext
      match a with
      | ⟨0, _⟩ => rfl
      | ⟨1, _⟩ => show 1 + s.val = s.val + 1; omega
      | ⟨2, _⟩ => rfl]
    exact v44_at x0 b _ d
  have e7 : val_main_v47 (F := Ideal) x0 (ix3 b s d) = Window.run (Window.seqOf x0 b.val (⟨256 * 2 + d.val, by omega⟩ : Fin 1024)) (s.val + 1 - 8) := by
    rw [val_main_v47_apply, show idx_main_v47 (ix3 b s d) = ix3 b (⟨s.val, by omega⟩ : Fin 4104) d from by
      funext a
      match a with
      | ⟨0, _⟩ => rfl
      | ⟨1, _⟩ => rfl
      | ⟨2, _⟩ => rfl]
    unfold val_main_v46
    refine (Window.pad_rows (n := 4097) (m := 4104) (k := 7) (val_main_v44 (F := Ideal) x0) (val_main_call8_v0 (F := Ideal)) _ _
      (fun i => (val_main_call8_v0_apply i).trans zero_int) b (⟨s.val, by omega⟩ : Fin 4104) d
      (fun j => Window.run (Window.seqOf x0 b.val (⟨256 * 2 + d.val, by omega⟩ : Fin 1024)) j) (fun j => v44_at x0 b j d)
      (by show s.val - 7 < 4097; omega)).trans ?_
    show (if 7 ≤ s.val then Window.run _ (s.val - 7) else 0) = _
    by_cases h : 7 ≤ s.val
    · rw [if_pos h, show s.val + 1 - 8 = s.val - 7 by omega]
    · rw [if_neg h, show s.val + 1 - 8 = 0 by omega]
      rfl
  show val_main_v45 (F := Ideal) x0 (ix3 b s d) - val_main_v47 (F := Ideal) x0 (ix3 b s d) = _
  rw [e5, e7]
  exact Window.run_sub _ (seq_real x0 hx _ _) 8 s.val

/-- Its windowed means, less the channels themselves. -/
theorem v60_at (hx : RealPool x0) (b : Fin 2) (s : Fin 4096) (d : Fin 256) :
    val_main_v60 (F := Ideal) x0 (ix3 b s d) = Window.mix (Window.seqOf x0 b.val (⟨256 * 2 + d.val, by omega⟩ : Fin 1024)) 8 s.val := by
  have e16 : val_main_v56 (F := Ideal) (ix3 b s d) = Window.cnt (BitVec.ofNat 32 8) s.val := by
    rw [val_main_v56_apply, val_main_v54_apply, val_main_v53_apply, val_main_v52_apply, val_main_v50_apply, val_main_v48_apply,
      val_main_v49_apply, val_main_v51_apply]
    rfl
  rw [val_main_v60_apply, val_main_v57_apply, v55_at x0 hx, e16, v59_eq, v42_at]
  rfl

/-- Group 3: its channels. -/
theorem v62_at (b : Fin 2) (s : Fin 4096) (d : Fin 256) :
    val_main_v62 (F := Ideal) x0 (ix3 b s d) = Window.seqOf x0 b.val (⟨256 * 3 + d.val, by omega⟩ : Fin 1024) s.val := by
  have e : idx_main_v61 (idx_main_v62 (ix3 b s d)) = ix4 b s (3 : Fin 4) d := by
    funext a
    apply Fin.ext
    match a with
    | ⟨0, _⟩ => show ((b.val * 4096 + s.val) * 256 + d.val) / 1048576 = b.val; omega
    | ⟨1, _⟩ => show ((b.val * 4096 + s.val) * 256 + d.val) / 256 % 4096 = s.val; omega
    | ⟨2, _⟩ => rfl
    | ⟨3, _⟩ => show ((b.val * 4096 + s.val) * 256 + d.val) % 256 = d.val; omega
  rw [val_main_v62_apply, val_main_v61_apply, e]
  exact v0_at x0 b s 3 d

theorem v79_eq : val_main_v79 (F := Ideal) x0 = val_main_v62 (F := Ideal) x0 := rfl

/-- Its running sums, one later. -/
theorem v64_at (b : Fin 2) (t : Fin 4097) (d : Fin 256) :
    val_main_v64 (F := Ideal) x0 (ix3 b t d) = Window.run (Window.seqOf x0 b.val (⟨256 * 3 + d.val, by omega⟩ : Fin 1024)) t.val := by
  unfold val_main_v64
  refine (Window.pad_rows (n := 4096) (m := 4097) (k := 1) (val_main_v63 (F := Ideal) x0) (val_main_call10_v0 (F := Ideal)) _ _
    (fun i => (val_main_call10_v0_apply i).trans zero_int) b t d
    (fun j => Window.run (Window.seqOf x0 b.val (⟨256 * 3 + d.val, by omega⟩ : Fin 1024)) (j + 1)) ?_ (by omega)).trans ?_
  · intro j
    unfold val_main_v63
    refine Window.cumsum_apply (n := 4095) (val_main_v62 (F := Ideal) x0) (val_main_call9_call0_v0 (F := Ideal)) _ _
      (fun i => (val_main_call9_call0_v0_apply i).trans zero_word) _ b j d (fun s => v62_at x0 b s d)
  · by_cases h : 1 ≤ t.val
    · rw [if_pos h]
      show Window.run _ (t.val - 1 + 1) = _
      rw [Nat.sub_add_cancel h]
    · rw [if_neg h, show t.val = 0 by omega]
      rfl

/-- Its window sums, over the real numbers. -/
theorem v75_at (hx : RealPool x0) (b : Fin 2) (s : Fin 4096) (d : Fin 256) :
    val_main_v75 (F := Ideal) x0 (ix3 b s d) = Window.win (Window.seqOf x0 b.val (⟨256 * 3 + d.val, by omega⟩ : Fin 1024)) 16 s.val := by
  have e5 : val_main_v65 (F := Ideal) x0 (ix3 b s d) = Window.run (Window.seqOf x0 b.val (⟨256 * 3 + d.val, by omega⟩ : Fin 1024)) (s.val + 1) := by
    rw [val_main_v65_apply, show idx_main_v65 (ix3 b s d) = ix3 b (⟨s.val + 1, by omega⟩ : Fin 4097) d from by
      funext a
      apply Fin.ext
      match a with
      | ⟨0, _⟩ => rfl
      | ⟨1, _⟩ => show 1 + s.val = s.val + 1; omega
      | ⟨2, _⟩ => rfl]
    exact v64_at x0 b _ d
  have e7 : val_main_v67 (F := Ideal) x0 (ix3 b s d) = Window.run (Window.seqOf x0 b.val (⟨256 * 3 + d.val, by omega⟩ : Fin 1024)) (s.val + 1 - 16) := by
    rw [val_main_v67_apply, show idx_main_v67 (ix3 b s d) = ix3 b (⟨s.val, by omega⟩ : Fin 4112) d from by
      funext a
      match a with
      | ⟨0, _⟩ => rfl
      | ⟨1, _⟩ => rfl
      | ⟨2, _⟩ => rfl]
    unfold val_main_v66
    refine (Window.pad_rows (n := 4097) (m := 4112) (k := 15) (val_main_v64 (F := Ideal) x0) (val_main_call11_v0 (F := Ideal)) _ _
      (fun i => (val_main_call11_v0_apply i).trans zero_int) b (⟨s.val, by omega⟩ : Fin 4112) d
      (fun j => Window.run (Window.seqOf x0 b.val (⟨256 * 3 + d.val, by omega⟩ : Fin 1024)) j) (fun j => v64_at x0 b j d)
      (by show s.val - 15 < 4097; omega)).trans ?_
    show (if 15 ≤ s.val then Window.run _ (s.val - 15) else 0) = _
    by_cases h : 15 ≤ s.val
    · rw [if_pos h, show s.val + 1 - 16 = s.val - 15 by omega]
    · rw [if_neg h, show s.val + 1 - 16 = 0 by omega]
      rfl
  show val_main_v65 (F := Ideal) x0 (ix3 b s d) - val_main_v67 (F := Ideal) x0 (ix3 b s d) = _
  rw [e5, e7]
  exact Window.run_sub _ (seq_real x0 hx _ _) 16 s.val

/-- Its windowed means, less the channels themselves. -/
theorem v80_at (hx : RealPool x0) (b : Fin 2) (s : Fin 4096) (d : Fin 256) :
    val_main_v80 (F := Ideal) x0 (ix3 b s d) = Window.mix (Window.seqOf x0 b.val (⟨256 * 3 + d.val, by omega⟩ : Fin 1024)) 16 s.val := by
  have e16 : val_main_v76 (F := Ideal) (ix3 b s d) = Window.cnt (BitVec.ofNat 32 16) s.val := by
    rw [val_main_v76_apply, val_main_v74_apply, val_main_v73_apply, val_main_v72_apply, val_main_v70_apply, val_main_v68_apply,
      val_main_v69_apply, val_main_v71_apply]
    rfl
  rw [val_main_v80_apply, val_main_v77_apply, v75_at x0 hx, e16, v79_eq, v62_at]
  rfl

/-- The four groups side by side. -/
theorem v85_at (hx : RealPool x0) (b : Fin 2) (s : Fin 4096) (g : Fin 4) (d : Fin 256) :
    val_main_v85 (F := Ideal) x0 (ix4 b s g d)
      = Window.mix (Window.seqOf x0 b.val (⟨256 * g.val + d.val, by omega⟩ : Fin 1024)) (Window.width g) s.val := by
  unfold val_main_v85
  match g with
  | ⟨0, _⟩ =>
    refine (concatenate_apply_piece (2 : Fin S2x4096x4x256.rank) _ _ _ 0 (by simp) S2x4096x1x256 (val_main_v81 (F := Ideal) x0) rfl rfl 0 (by rfl)
      (ix4 b s (0 : Fin 1) d) ?_ (by simp [ix4])).trans ?_
    · intro a ha
      match a with
      | ⟨0, _⟩ => rfl
      | ⟨1, _⟩ => rfl
      | ⟨2, _⟩ => exact absurd rfl ha
      | ⟨3, _⟩ => rfl
    · rw [val_main_v81_apply, show idx_main_v81 (ix4 b s (0 : Fin 1) d) = ix3 b s d from by
        funext a
        match a with
        | ⟨0, _⟩ => rfl
        | ⟨1, _⟩ => rfl
        | ⟨2, _⟩ => rfl]
      exact v20_at x0 hx b s d
  | ⟨1, _⟩ =>
    refine (concatenate_apply_piece (2 : Fin S2x4096x4x256.rank) _ _ _ 1 (by simp) S2x4096x1x256 (val_main_v82 (F := Ideal) x0) rfl rfl 1 (by rfl)
      (ix4 b s (0 : Fin 1) d) ?_ (by simp [ix4])).trans ?_
    · intro a ha
      match a with
      | ⟨0, _⟩ => rfl
      | ⟨1, _⟩ => rfl
      | ⟨2, _⟩ => exact absurd rfl ha
      | ⟨3, _⟩ => rfl
    · rw [val_main_v82_apply, show idx_main_v82 (ix4 b s (0 : Fin 1) d) = ix3 b s d from by
        funext a
        match a with
        | ⟨0, _⟩ => rfl
        | ⟨1, _⟩ => rfl
        | ⟨2, _⟩ => rfl]
      exact v40_at x0 hx b s d
  | ⟨2, _⟩ =>
    refine (concatenate_apply_piece (2 : Fin S2x4096x4x256.rank) _ _ _ 2 (by simp) S2x4096x1x256 (val_main_v83 (F := Ideal) x0) rfl rfl 2 (by rfl)
      (ix4 b s (0 : Fin 1) d) ?_ (by simp [ix4])).trans ?_
    · intro a ha
      match a with
      | ⟨0, _⟩ => rfl
      | ⟨1, _⟩ => rfl
      | ⟨2, _⟩ => exact absurd rfl ha
      | ⟨3, _⟩ => rfl
    · rw [val_main_v83_apply, show idx_main_v83 (ix4 b s (0 : Fin 1) d) = ix3 b s d from by
        funext a
        match a with
        | ⟨0, _⟩ => rfl
        | ⟨1, _⟩ => rfl
        | ⟨2, _⟩ => rfl]
      exact v60_at x0 hx b s d
  | ⟨3, _⟩ =>
    refine (concatenate_apply_piece (2 : Fin S2x4096x4x256.rank) _ _ _ 3 (by simp) S2x4096x1x256 (val_main_v84 (F := Ideal) x0) rfl rfl 3 (by rfl)
      (ix4 b s (0 : Fin 1) d) ?_ (by simp [ix4])).trans ?_
    · intro a ha
      match a with
      | ⟨0, _⟩ => rfl
      | ⟨1, _⟩ => rfl
      | ⟨2, _⟩ => exact absurd rfl ha
      | ⟨3, _⟩ => rfl
    · rw [val_main_v84_apply, show idx_main_v84 (ix4 b s (0 : Fin 1) d) = ix3 b s d from by
        funext a
        match a with
        | ⟨0, _⟩ => rfl
        | ⟨1, _⟩ => rfl
        | ⟨2, _⟩ => rfl]
      exact v80_at x0 hx b s d

variable (x1 : Vec Ideal S8192x1024 .bf16) (x2 : Vec Ideal S8192x2048 .f32) (x3 : Vec Ideal S4x256x256 .f32)
  (x4 : Vec Ideal S1024 .f32) (x5 : Vec Ideal S2048x2048 .f32)

/-- The pooled columns. -/
theorem v91_at (hx : RealPool x0) (b : Fin 2) (s : Fin 4096) (q : Fin 1024) (p : Fin 8192) (hp : p.val = b.val * 4096 + s.val) :
    val_main_v91 (F := Ideal) x0 x3 x4 (ix3 b s q) = Window.mixed x0 x3 x4 p q := by
  have hb := b.isLt
  have hs := s.isLt
  have hq := q.isLt
  have e4 : val_main_v90 (F := Ideal) x4 (ix3 b s q) = x4 (ix1 q) := by
    rw [val_main_v90_apply, val_main_v89_apply]
    congr 1
    funext a
    match a with
    | ⟨0, _⟩ => rfl
  have e88 : idx_main_v87 (idx_main_v88 (ix3 b s q))
      = ix4 (⟨q.val / 256, by omega⟩ : Fin 4) (⟨q.val % 256, by omega⟩ : Fin 256) b s := by
    funext a
    apply Fin.ext
    match a with
    | ⟨0, _⟩ => show ((b.val * 4096 + s.val) * 1024 + q.val) / 256 % 4 = q.val / 256; omega
    | ⟨1, _⟩ => show ((b.val * 4096 + s.val) * 1024 + q.val) % 256 = q.val % 256; omega
    | ⟨2, _⟩ => show ((b.val * 4096 + s.val) * 1024 + q.val) / 4194304 = b.val; omega
    | ⟨3, _⟩ => show ((b.val * 4096 + s.val) * 1024 + q.val) / 1024 % 4096 = s.val; omega
  show val_main_v88 (F := Ideal) x0 x3 (ix3 b s q) * val_main_v90 (F := Ideal) x4 (ix3 b s q) = _
  rw [e4, val_main_v88_apply, val_main_v87_apply, e88, val_main_v86_apply]
  unfold Window.mixed
  rw [show p.val / 4096 = b.val by omega, show p.val % 4096 = s.val by omega]
  refine congrArg (· * _) (Finset.sum_congr rfl fun k _ => ?_)
  rw [show ridx_main_v86 (ix4 (⟨q.val / 256, by omega⟩ : Fin 4) (⟨q.val % 256, by omega⟩ : Fin 256) b s) k
      = ix4 b s (⟨q.val / 256, by omega⟩ : Fin 4) k from by
    funext a
    match a with
    | ⟨0, _⟩ => rfl
    | ⟨1, _⟩ => rfl
    | ⟨2, _⟩ => rfl
    | ⟨3, _⟩ => rfl, v85_at x0 hx, mul_comm]
  congr 2
  funext a
  match a with
  | ⟨0, _⟩ => rfl
  | ⟨1, _⟩ => rfl
  | ⟨2, _⟩ => rfl

/-- The pooled columns and then the attention's. -/
theorem v95_at (hx : RealPool x0) (b : Fin 2) (s : Fin 4096) (q : Fin 2048) (p : Fin 8192) (hp : p.val = b.val * 4096 + s.val) :
    val_main_v95 (F := Ideal) x0 x1 x3 x4 (ix3 b s q) = Window.joined x0 x1 x3 x4 p q := by
  unfold val_main_v95 Window.joined
  by_cases h : q.val < 1024
  · rw [dif_pos h, ← v91_at x0 x3 x4 hx b s ⟨q.val, h⟩ p hp]
    refine concatenate_apply_piece (2 : Fin S2x4096x2048.rank) _ _ _ 0 (by simp) S2x4096x1024 (val_main_v91 (F := Ideal) x0 x3 x4) rfl rfl 0 (by rfl)
      (ix3 b s ⟨q.val, h⟩) ?_ (by simp [ix3])
    intro a ha
    match a with
    | ⟨0, _⟩ => rfl
    | ⟨1, _⟩ => rfl
    | ⟨2, _⟩ => exact absurd rfl ha
  · rw [dif_neg h]
    have hq := q.isLt
    refine (concatenate_apply_piece (2 : Fin S2x4096x2048.rank) _ _ _ 1 (by simp) S2x4096x1024 (val_main_v94 (F := Ideal) x1) rfl rfl 1024 (by rfl)
      (ix3 b s ⟨q.val - 1024, by omega⟩) ?_ (by simp [ix3]; omega)).trans ?_
    · intro a ha
      match a with
      | ⟨0, _⟩ => rfl
      | ⟨1, _⟩ => rfl
      | ⟨2, _⟩ => exact absurd rfl ha
    · rw [val_main_v94_apply]
      show x1 _ = x1 _
      congr 1
      funext a
      apply Fin.ext
      match a with
      | ⟨0, _⟩ => show ((b.val * 4096 + s.val) * 1024 + (q.val - 1024)) / 1024 = p.val; omega
      | ⟨1, _⟩ => show ((b.val * 4096 + s.val) * 1024 + (q.val - 1024)) % 1024 = q.val - 1024; omega

/-- The reference's result, entry by entry, of real pooling columns. -/
theorem result_at (hx : RealPool x0) (p : Fin 8192) (d : Fin 2048) :
    val_main_v98 (F := Ideal) x0 x1 x2 x3 x4 x5 (ix2 p d) = Window.result x0 x1 x2 x3 x4 x5 p d := by
  have hp := p.isLt
  have hd := d.isLt
  have e : idx_main_v98 (ix2 p d) = ix3 (⟨p.val / 4096, by omega⟩ : Fin 2) (⟨p.val % 4096, by omega⟩ : Fin 4096) d := by
    funext a
    apply Fin.ext
    match a with
    | ⟨0, _⟩ => show (p.val * 2048 + d.val) / 8388608 = p.val / 4096; omega
    | ⟨1, _⟩ => show (p.val * 2048 + d.val) / 2048 % 4096 = p.val % 4096; omega
    | ⟨2, _⟩ => show (p.val * 2048 + d.val) % 2048 = d.val; omega
  rw [val_main_v98_apply, e]
  show val_main_v92 (F := Ideal) x2 _ + val_main_v96 (F := Ideal) x0 x1 x3 x4 x5 _ = _
  rw [val_main_v92_apply, val_main_v96_apply]
  unfold Window.result
  refine congrArg₂ (· + ·) ?_ (Finset.sum_congr rfl fun q _ => congrArg₂ (· * ·) ?_ ?_)
  · congr 1
    funext a
    apply Fin.ext
    match a with
    | ⟨0, _⟩ => show (((p.val / 4096) * 4096 + p.val % 4096) * 2048 + d.val) / 2048 = p.val; omega
    | ⟨1, _⟩ => show (((p.val / 4096) * 4096 + p.val % 4096) * 2048 + d.val) % 2048 = d.val; omega
  · rw [show lidx_main_v96 (ix3 (⟨p.val / 4096, by omega⟩ : Fin 2) (⟨p.val % 4096, by omega⟩ : Fin 4096) d) q
        = ix3 (⟨p.val / 4096, by omega⟩ : Fin 2) (⟨p.val % 4096, by omega⟩ : Fin 4096) q from by
      funext a
      match a with
      | ⟨0, _⟩ => rfl
      | ⟨1, _⟩ => rfl
      | ⟨2, _⟩ => rfl]
    exact v95_at x0 x1 x3 x4 hx _ _ q p (by show p.val = p.val / 4096 * 4096 + p.val % 4096; omega)
  · congr 1
    funext a
    match a with
    | ⟨0, _⟩ => rfl
    | ⟨1, _⟩ => rfl

end Cert.MixOutRefIdeal.Read

end
-- ==== Proof.MixOut.Equation.lean ====
/- The mixing call's result array is its reference's, entry by entry, where the pooling columns are finite. -/
module

public import proofs.«01_k».proof.Defs
public import proofs.«01_k».proof.Proof.Finite
public import proofs.«01_k».proof.Proof.MixOut.Blocks
public import proofs.«01_k».proof.Proof.MixOut.Ref
public import proofs.«01_k».proof.Proof.Gen.Pre_finite_pool

@[expose] public section

set_option maxRecDepth 16384

noncomputable section

namespace Cert.MixOutIdeal.Body

open Cert.MixOutIdeal Cert.MixOutIdeal.Gen Idealize.ShloMosaic Idealize.ShloMosaic.TcCoe Idealize.SL.Sem

variable (m : (ℓ : Loc nD τ sig) → Buf (Elt Ideal) ℓ) (c : Dev nD)

/-- The reference's result of the launch memory's arguments. -/
abbrev refResult : Vec Ideal S8192x2048 .f32 :=
  Cert.MixOutRefIdeal.Read.val_main_v98 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- Finite pooling columns are real numbers. -/
theorem real_pool (h : Cert.Pre_MixOutIdeal_finite_pool m) :
    Cert.MixOutRefIdeal.Read.RealPool (m ((c : Thread nD τ).loc main_arg0)) := by
  intro p q
  have h1 := congrFun (h c) (Shape.Idx.first Cert.Pre_finite_pool.Gen.h_S_)
  exact Cert.Finite.of_cmp _ (Host.reduce_andi_all _ _ _ _ _ h1 (ix2 p q))

/-- The array the kernel leaves is the reference's. -/
theorem array_eq (h : Cert.Pre_MixOutIdeal_finite_pool m) : (dats (F := Ideal) m 0 c).arrAt 7 cfg0.N = refResult m c := by
  rw [out_array]
  funext i
  have ei : i = ix2 (i 0) (i 1) := eq_ix2 i
  rw [ei]
  exact (Cert.MixOutRefIdeal.Read.result_at _ _ _ _ _ _ (real_pool m c h) (i 0) (i 1)).symm

/-- From memories agreeing on arguments with finite pooling columns the kernel and the reference end with equal results. -/
theorem algebraic : Cert.algebraic_MixOutIdeal_MixOutRefIdeal_pre_finite_pool := by
  intro m ρ m' ρ' hpre hagree
  refine ⟨fun c => refResult m c, ?_, ?_⟩
  · exact (θ_run Cert.MixOutIdeal.defs _ _).mono
      (fun _ h c => ⟨(h c).1.trans (array_eq m c hpre), (h c).2⟩) (Cert.MixOutIdeal.Value.run_blocks m ρ)
  · refine (θ_run Cert.MixOutRefIdeal.defs _ _).mono (fun _ h c => ⟨(h c).1.trans ?_, (h c).2⟩)
      (Cert.MixOutRefIdeal.Value.run (F := Ideal) m' ρ')
    rw [Cert.MixOutRefIdeal.Read.val_main_v98_eq, (hagree c).1, (hagree c).2.1, (hagree c).2.2.1, (hagree c).2.2.2.1,
      (hagree c).2.2.2.2.1, (hagree c).2.2.2.2.2]

end Cert.MixOutIdeal.Body

end
-- ==== Proof.Experts.lean ====
/- Expert weights spread over a table of row and column indices, and read back against the experts' values. -/
module

public import Idealize.ShloMosaic.Lib.Pointwise
public import Idealize.ShloMosaic.Lib.WordCmp

@[expose] public section

noncomputable section

namespace Cert.Experts

open Idealize.ShloMosaic

/-- A gate times the GELU of an activation. -/
def weight (a g : EReal) : EReal :=
  g * (Ideal.ofBits .f32 0x3F000000#32 * a * (Ideal.ofBits .f32 0x3F800000#32 + Ideal.erf (a * Ideal.ofBits .f32 0x3F3504F3#32)))

theorem half_real : Ideal.ofBits .f32 0x3F000000#32 = ((Ideal.ofBits .f32 0x3F000000#32).toReal : EReal) := by
  have e : Ideal.ofBits .f32 0x3F000000#32 = ((8388608 * (2 ^ 24)⁻¹ : ℝ) : EReal) := by
    simp [Ideal.ofBits, Ideal.ieee]
  rw [e, EReal.toReal_coe]

theorem root_real : Ideal.ofBits .f32 0x3F3504F3#32 = ((Ideal.ofBits .f32 0x3F3504F3#32).toReal : EReal) := by
  have e : Ideal.ofBits .f32 0x3F3504F3#32 = ((11863283 * (2 ^ 24)⁻¹ : ℝ) : EReal) := by
    simp [Ideal.ofBits, Ideal.ieee]
  rw [e, EReal.toReal_coe]

/-- A real gate times the GELU of a real activation is a real. -/
theorem weight_real (a g : EReal) (ha : a = (a.toReal : EReal)) (hg : g = (g.toReal : EReal)) : weight a g = ((weight a g).toReal : EReal) := by
  obtain ⟨x, rfl⟩ : ∃ x : ℝ, a = x := ⟨_, ha⟩
  obtain ⟨y, rfl⟩ : ∃ y : ℝ, g = y := ⟨_, hg⟩
  obtain ⟨z, hz⟩ : ∃ z : ℝ, weight x y = z := by
    unfold weight
    rw [half_real, root_real, Ideal.ofBits_one_f32, ← EReal.coe_mul, ← EReal.coe_mul]
    generalize (Ideal.ofBits .f32 0x3F3504F3#32).toReal = c
    generalize (Ideal.ofBits .f32 0x3F000000#32).toReal = h
    rw [Ideal.erf_coe, ← EReal.coe_one, ← EReal.coe_add, ← EReal.coe_mul, ← EReal.coe_mul]
    exact ⟨_, rfl⟩
  rw [hz, EReal.toReal_coe]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The table entry at row `e` and column `j`: the weights whose two indices are `e` and `j`. -/
def cell (I J : Fin 128 → ℕ) (w : Fin 128 → EReal) (e j : ℕ) : EReal :=
  ∑ k, (if e = I k then w k else 0) * (if j = J k then 1 else 0)

/-- Column step `s` of the table against the values. -/
def step (I J : Fin 128 → ℕ) (w : Fin 128 → EReal) (v : ℕ → EReal) (s : ℕ) : EReal :=
  ∑ q : Fin 1024, cell I J w (8 * s + q.val / 128) (q.val % 128) * v (1024 * s + q.val)

theorem real_steps (I J : Fin 128 → ℕ) (hI : ∀ k, I k < 128) (hJ : ∀ k, J k < 128) (w : Fin 128 → ℝ) (v : ℕ → ℝ) :
    ∑ s ∈ Finset.range 16, ∑ q : Fin 1024,
      (∑ k, (if 8 * s + q.val / 128 = I k then w k else 0) * (if q.val % 128 = J k then 1 else 0)) * v (1024 * s + q.val)
      = ∑ k, w k * v (128 * I k + J k) := by
  simp only [Finset.sum_mul]
  have e1 : ∀ s ∈ Finset.range 16, (∑ q : Fin 1024, ∑ k : Fin 128,
      (if 8 * s + q.val / 128 = I k then w k else 0) * (if q.val % 128 = J k then 1 else 0) * v (1024 * s + q.val))
      = ∑ k : Fin 128, ∑ q : Fin 1024,
      (if 8 * s + q.val / 128 = I k then w k else 0) * (if q.val % 128 = J k then 1 else 0) * v (1024 * s + q.val) :=
    fun s _ => Finset.sum_comm
  rw [Finset.sum_congr rfl e1, Finset.sum_comm]
  refine Finset.sum_congr rfl fun k _ => ?_
  have hi := hI k
  have hj := hJ k
  rw [Finset.sum_eq_single (I k / 8)]
  · rw [Finset.sum_eq_single (⟨I k % 8 * 128 + J k, by omega⟩ : Fin 1024)]
    · rw [if_pos (show 8 * (I k / 8) + (I k % 8 * 128 + J k) / 128 = I k by omega),
        if_pos (show (I k % 8 * 128 + J k) % 128 = J k by omega),
        show 1024 * (I k / 8) + (I k % 8 * 128 + J k) = 128 * I k + J k by omega, mul_one]
    · intro q _ hq
      by_cases h1 : 8 * (I k / 8) + q.val / 128 = I k
      · by_cases h2 : q.val % 128 = J k
        · exact absurd (Fin.ext (show q.val = I k % 8 * 128 + J k by omega)) hq
        · rw [if_neg h2, mul_zero, zero_mul]
      · rw [if_neg h1, zero_mul, zero_mul]
    · intro h; exact absurd (Finset.mem_univ _) h
  · intro s hs hne
    refine Finset.sum_eq_zero fun q _ => ?_
    have := q.isLt
    rw [if_neg (show ¬8 * s + q.val / 128 = I k by omega), zero_mul, zero_mul]
  · intro h
    exact absurd (Finset.mem_range.mpr (show I k / 8 < 16 by omega)) h

theorem cell_real (I J : Fin 128 → ℕ) (w : Fin 128 → ℝ) (e j : ℕ) : cell I J (fun k => (w k : EReal)) e j
    = ((∑ k, (if e = I k then w k else 0) * (if j = J k then 1 else 0) : ℝ) : EReal) := by
  unfold cell
  rw [coe_sum]
  refine Finset.sum_congr rfl fun k _ => ?_
  by_cases h1 : e = I k
  · by_cases h2 : j = J k
    · rw [if_pos h1, if_pos h2, if_pos h1, if_pos h2, mul_one, mul_one]
    · rw [if_neg h2, if_neg h2, mul_zero, mul_zero, EReal.coe_zero]
  · rw [if_neg h1, if_neg h1, zero_mul, zero_mul, EReal.coe_zero]

theorem step_real (I J : Fin 128 → ℕ) (w : Fin 128 → ℝ) (v : ℕ → ℝ) (s : ℕ) : step I J (fun k => (w k : EReal)) (fun n => (v n : EReal)) s
    = ((∑ q : Fin 1024, (∑ k, (if 8 * s + q.val / 128 = I k then w k else 0) * (if q.val % 128 = J k then 1 else 0)) * v (1024 * s + q.val) : ℝ) : EReal) := by
  unfold step
  rw [coe_sum]
  refine Finset.sum_congr rfl fun q _ => ?_
  rw [cell_real, EReal.coe_mul]

/-- The sixteen column steps sum each weight times the value of the expert its two indices name. -/
theorem steps (I J : Fin 128 → ℕ) (hI : ∀ k, I k < 128) (hJ : ∀ k, J k < 128) (w : Fin 128 → EReal) (v : ℕ → EReal)
    (hw : ∀ k, w k = ((w k).toReal : EReal)) (hv : ∀ n, v n = ((v n).toReal : EReal)) :
    ∑ s ∈ Finset.range 16, step I J w v s = ∑ k, w k * v (128 * I k + J k) := by
  have ew : w = fun k => (((w k).toReal : ℝ) : EReal) := funext hw
  have ev : v = fun n => (((v n).toReal : ℝ) : EReal) := funext hv
  obtain ⟨wr, ew⟩ : ∃ wr : Fin 128 → ℝ, w = fun k => (wr k : EReal) := ⟨_, ew⟩
  obtain ⟨vr, ev⟩ : ∃ vr : ℕ → ℝ, v = fun n => (vr n : EReal) := ⟨_, ev⟩
  rw [ew, ev, Finset.sum_congr rfl fun s _ => step_real I J wr vr s, ← coe_sum, real_steps I J hI hJ, coe_sum]
  exact Finset.sum_congr rfl fun k _ => EReal.coe_mul _ _

/-- A word between 0 and 127. -/
theorem word_lt (x : BitVec 32) (h0 : IntOp.cmpi .sge x 0#32 = 1#1) (h1 : IntOp.cmpi .slt x 128#32 = 1#1) : x.toNat < 128 := by
  rw [WordCmp.cmpi_sge_eq] at h0
  rw [WordCmp.cmpi_slt_eq] at h1
  have e0 : (0 : ℤ) ≤ x.toInt := by
    by_contra hn
    rw [show (0#32 : BitVec 32).toInt = 0 from rfl, decide_eq_false hn] at h0
    exact absurd h0 (by decide)
  have e1 : x.toInt < 128 := by
    by_contra hn
    rw [show (128#32 : BitVec 32).toInt = 128 from rfl, decide_eq_false hn] at h1
    exact absurd h1 (by decide)
  rw [BitVec.toInt_eq_toNat_cond] at e0 e1
  split at e0 <;> omega

end Cert.Experts

end
-- ==== Proof.PeerOutIdeal.Payload.lean ====
/- What the expert output computes of one block, entry by entry, over the extended reals. -/
module

public import proofs.«01_k».proof.Proof.PeerOutIdeal.Runs
public import proofs.«01_k».proof.Proof.Rows
public import proofs.«01_k».proof.Proof.Experts

@[expose] public section

set_option maxRecDepth 16384

noncomputable section

namespace Cert.PeerOutIdeal.Body

open Cert.PeerOutIdeal Cert.PeerOutIdeal.Gen Idealize.ShloMosaic Idealize.ShloMosaic.TcCoe Idealize.SL.Sem
open Idealize.ShloMosaic.Pointwise

theorem pay1_apply (a g : Vec Ideal S256x128 .f32) (r : Fin 256) (k : Fin 128) :
    k0_pay1 (F := Ideal) a g (ix2 r k) = Experts.weight (a (ix2 r k)) (g (ix2 r k)) := by
  unfold Experts.weight
  pointwise [k0_pay1]
  rfl

theorem pay2_apply (r : Fin 256) (d : Fin 2048) : k0_pay2 (F := Ideal) (ix2 r d) = 0 := by
  rw [← Ideal.ofBits_zero_f32]
  pointwise [k0_pay2]

theorem one_eq : Ideal.ofBits .f32 0x3F800000#32 = 1 := Ideal.ofBits_one_f32

theorem pay3_apply (i j : Vec Ideal S1x128 .i32) (w : Vec Ideal S1x128 .f32) (e f : Fin 128) :
    k0_pay3 (F := Ideal) i j w (ix2 e f)
      = ∑ k : Fin 128, Scalar.select (IntOp.cmpi .eq (BitVec.ofNat 32 e.val) (i (ix2 0 k))) (w (ix2 0 k)) (Ideal.ofBits .f32 0x00000000#32)
          * Scalar.select (IntOp.cmpi .eq (BitVec.ofNat 32 f.val) (j (ix2 0 k))) (Ideal.ofBits .f32 0x3F800000#32) (Ideal.ofBits .f32 0x00000000#32) := by
  pointwise [k0_pay3]

theorem sel_eq (e : ℕ) (he : e < 128) (x : BitVec 32) (a b : EReal) :
    Scalar.select (IntOp.cmpi .eq (BitVec.ofNat 32 e) x) a b = if e = x.toNat then a else b := by
  rw [WordCmp.cmpi_eq_eq_toNat, BitVec.toNat_ofNat, Nat.mod_eq_of_lt (by omega)]
  by_cases h : e = x.toNat
  · rw [if_pos h, decide_eq_true h]; rfl
  · rw [if_neg h, decide_eq_false h]; rfl

/-- An entry of a tile. -/
theorem tile_apply (ei ej : Vec Ideal S256x128 .i32) (w : Vec Ideal S256x128 .f32) (e : ℕ) (he : e < 128) (r : Fin 256) (f : Fin 128) :
    tile ei ej w e (ix2 r f) = Experts.cell (fun k => (ei (ix2 r k)).toNat) (fun k => (ej (ix2 r k)).toNat) (fun k => w (ix2 r k)) e f.val := by
  show k0_pay3 (F := Ideal) _ _ _ (ix2 ⟨e % 128, _⟩ f) = _
  rw [pay3_apply]
  unfold Experts.cell
  refine Finset.sum_congr rfl fun k _ => ?_
  rw [sel_eq _ (Nat.mod_lt _ (by decide)), sel_eq _ f.isLt, Nat.mod_eq_of_lt he, one_eq, Ideal.ofBits_zero_f32]
  rfl

/-- The eight tiles side by side. -/
def joined (a0 a1 a2 a3 a4 a5 a6 a7 : Vec Ideal S256x128 .bf16) : Vec Ideal S256x1024 .bf16 :=
  concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩]
    concatenates_S256x128_S256x128_S256x128_S256x128_S256x128_S256x128_S256x128_S256x128_S256x1024_d1

/-- Column `q` of the eight tiles side by side is column `q % 128` of tile `q / 128`. -/
theorem joined_apply (T : ℕ → Vec Ideal S256x128 .bf16) (r : Fin 256) (q : Fin 1024) :
    joined (T 0) (T 1) (T 2) (T 3) (T 4) (T 5) (T 6) (T 7) (ix2 r q) = T (q.val / 128) (ix2 r ⟨q.val % 128, by omega⟩) := by
  obtain ⟨n, f, hn⟩ : ∃ (n : Fin 8) (f : Fin 128), q.val = n.val * 128 + f.val := ⟨⟨q.val / 128, by omega⟩, ⟨q.val % 128, by omega⟩, by show q.val = q.val / 128 * 128 + q.val % 128; omega⟩
  have hd : q.val / 128 = n.val := by omega
  have hm : (⟨q.val % 128, by omega⟩ : Fin 128) = f := Fin.ext (by show q.val % 128 = f.val; omega)
  rw [hd, hm]
  unfold joined
  fin_cases n
  · refine concatenate_apply_piece (1 : Fin S256x1024.rank) _ _ _ 0 (by simp) S256x128 (T 0) rfl rfl 0 (by rfl) (ix2 r f) ?_ (by simp [ix2] at hn ⊢; omega)
    intro b hb
    match b with
    | ⟨0, _⟩ => rfl
    | ⟨1, _⟩ => exact absurd rfl hb
  · refine concatenate_apply_piece (1 : Fin S256x1024.rank) _ _ _ 1 (by simp) S256x128 (T 1) rfl rfl 128 (by rfl) (ix2 r f) ?_ (by simp [ix2] at hn ⊢; omega)
    intro b hb
    match b with
    | ⟨0, _⟩ => rfl
    | ⟨1, _⟩ => exact absurd rfl hb
  · refine concatenate_apply_piece (1 : Fin S256x1024.rank) _ _ _ 2 (by simp) S256x128 (T 2) rfl rfl 256 (by rfl) (ix2 r f) ?_ (by simp [ix2] at hn ⊢; omega)
    intro b hb
    match b with
    | ⟨0, _⟩ => rfl
    | ⟨1, _⟩ => exact absurd rfl hb
  · refine concatenate_apply_piece (1 : Fin S256x1024.rank) _ _ _ 3 (by simp) S256x128 (T 3) rfl rfl 384 (by rfl) (ix2 r f) ?_ (by simp [ix2] at hn ⊢; omega)
    intro b hb
    match b with
    | ⟨0, _⟩ => rfl
    | ⟨1, _⟩ => exact absurd rfl hb
  · refine concatenate_apply_piece (1 : Fin S256x1024.rank) _ _ _ 4 (by simp) S256x128 (T 4) rfl rfl 512 (by rfl) (ix2 r f) ?_ (by simp [ix2] at hn ⊢; omega)
    intro b hb
    match b with
    | ⟨0, _⟩ => rfl
    | ⟨1, _⟩ => exact absurd rfl hb
  · refine concatenate_apply_piece (1 : Fin S256x1024.rank) _ _ _ 5 (by simp) S256x128 (T 5) rfl rfl 640 (by rfl) (ix2 r f) ?_ (by simp [ix2] at hn ⊢; omega)
    intro b hb
    match b with
    | ⟨0, _⟩ => rfl
    | ⟨1, _⟩ => exact absurd rfl hb
  · refine concatenate_apply_piece (1 : Fin S256x1024.rank) _ _ _ 6 (by simp) S256x128 (T 6) rfl rfl 768 (by rfl) (ix2 r f) ?_ (by simp [ix2] at hn ⊢; omega)
    intro b hb
    match b with
    | ⟨0, _⟩ => rfl
    | ⟨1, _⟩ => exact absurd rfl hb
  · refine concatenate_apply_piece (1 : Fin S256x1024.rank) _ _ _ 7 (by simp) S256x128 (T 7) rfl rfl 896 (by rfl) (ix2 r f) ?_ (by simp [ix2] at hn ⊢; omega)
    intro b hb
    match b with
    | ⟨0, _⟩ => rfl
    | ⟨1, _⟩ => exact absurd rfl hb

theorem pay8_apply (a0 a1 a2 a3 : Vec Ideal S256x128 .bf16) (a4 a5 a6 a7 : Vec Ideal S256x128 .f32) (acc : Vec Ideal S256x2048 .f32)
    (v : Vec Ideal S1024x2048 .bf16) (r : Fin 256) (d : Fin 2048) :
    k0_pay8 (F := Ideal) a0 a1 a2 a3 a4 a5 a6 a7 acc v (ix2 r d)
      = acc (ix2 r d) + ∑ q : Fin 1024, joined a0 a1 a2 a3 a4 a5 a6 a7 (ix2 r q) * v (ix2 q d) := by
  unfold k0_pay8
  change shapeCast S256x2048 (addf acc (matmul dot_S256x1024_S1024x2048_S256x2048_1_0_0_1_n_n none (joined a0 a1 a2 a3 a4 a5 a6 a7)
    (shapeCast S1024x2048 (v : FVec Ideal S1024x2048 .bf16) shapeCasts_S1024x2048_S1024x2048 : FVec Ideal S1024x2048 .bf16) (constant S256x2048 .f32 0x00000000#32))) shapeCasts_S256x2048_S256x2048 (ix2 r d) = _
  generalize joined a0 a1 a2 a3 a4 a5 a6 a7 = b
  pointwise []

/-- A column step adds the step's columns of the table against its block of values. -/
theorem accStep_apply (T : ℕ → Vec Ideal S256x128 .f32) (v : Vec Ideal S1024x2048 .bf16) (s : ℕ) (hs : s < 16) (acc : Vec Ideal S256x2048 .f32)
    (r : Fin 256) (d : Fin 2048) (I J : Fin 128 → ℕ) (w : Fin 128 → EReal) (u : ℕ → EReal)
    (hT : ∀ e, e < 128 → ∀ f : Fin 128, T e (ix2 r f) = Experts.cell I J w e f.val)
    (hv : ∀ q : Fin 1024, v (ix2 q d) = u (1024 * s + q.val)) :
    accStep T v s acc (ix2 r d) = acc (ix2 r d) + Experts.step I J w u s := by
  unfold accStep Experts.step
  rw [pay8_apply]
  congr 1
  refine Finset.sum_congr rfl fun q _ => ?_
  rw [hv q]
  congr 1
  refine (joined_apply (fun n => T (8 * s + n)) r q).trans ?_
  exact hT _ (by omega) _

/-- The result block. -/
theorem pay9_apply (h acc : Vec Ideal S256x2048 .f32) (g : Vec Ideal S1x2048 .f32) (r : Fin 256) (d : Fin 2048) :
    k0_pay9 (F := Ideal) h acc g (ix2 r d) = Rows.rms (fun j => h (ix2 r j) + acc (ix2 r j)) (fun j => g (ix2 0 j)) d := by
  unfold Rows.rms
  pointwise [k0_pay9]

end Cert.PeerOutIdeal.Body

end
-- ==== Proof.PeerOutIdeal.Blocks.lean ====
/- What the expert output's windows read, from the launch memory, and what its state and its array hold. -/
module

public import proofs.«01_k».proof.Proof.PeerOutIdeal.Payload
public import proofs.«01_k».proof.Proof.PeerOutIdeal.Frame

@[expose] public section

set_option maxRecDepth 16384

noncomputable section

namespace Cert.PeerOutIdeal.Body

open Cert.PeerOutIdeal Cert.PeerOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx0_0 : ∀ t : Fin grid0.N, win0_0.index t 0 = t.val / 16 ∧ win0_0.index t 1 = 0 := by decide +kernel
theorem idx0_1 : ∀ t : Fin grid0.N, win0_1.index t 0 = t.val / 16 ∧ win0_1.index t 1 = 0 := by decide +kernel
theorem idx0_2 : ∀ t : Fin grid0.N, win0_2.index t 0 = t.val / 16 ∧ win0_2.index t 1 = 0 := by decide +kernel
theorem idx0_3 : ∀ t : Fin grid0.N, win0_3.index t 0 = t.val / 16 ∧ win0_3.index t 1 = 0 := by decide +kernel
theorem idx0_4 : ∀ t : Fin grid0.N, win0_4.index t 0 = t.val / 16 ∧ win0_4.index t 1 = 0 := by decide +kernel
theorem idx0_5 : ∀ t : Fin grid0.N, win0_5.index t 0 = t.val % 16 ∧ win0_5.index t 1 = 0 := by decide +kernel
theorem idx0_6 : ∀ t : Fin grid0.N, win0_6.index t 0 = 0 ∧ win0_6.index t 1 = 0 := by decide +kernel
theorem idx0_7 : ∀ t : Fin grid0.N, win0_7.index t 0 = t.val / 16 ∧ win0_7.index t 1 = 0 := by decide +kernel
theorem coord : ∀ t : Fin grid0.N, (grid0.coords t 1).val = t.val % 16 := by decide +kernel

theorem lt_N0 (t : Fin cfg0.N) : t.val < 512 := lt_of_lt_of_eq t.isLt (show cfg0.N = 512 from N_0)

theorem res_read (t : Fin cfg0.N) (r : Fin 256) (q : Fin 2048) (p : Fin 8192) (hp : p.val = t.val / 16 * 256 + r.val) :
    (iblk m c 0 t : Vec Ideal S256x2048 .f32) (ix2 r q) = (m ((c : Thread nD τ).loc main_arg0) : Vec Ideal S8192x2048 .f32) (ix2 p q) := by
  have hi := idx0_0 t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = p.val; rw [hi.1]; omega
  | ⟨1, _⟩ => show win0_0.index t 1 * 2048 + 1 * q.val = q.val; rw [hi.2]; omega

theorem gate_read (t : Fin cfg0.N) (r : Fin 256) (q : Fin 128) (p : Fin 8192) (hp : p.val = t.val / 16 * 256 + r.val) :
    (iblk m c 1 t : Vec Ideal S256x128 .f32) (ix2 r q) = (m ((c : Thread nD τ).loc main_arg1) : Vec Ideal S8192x128 .f32) (ix2 p q) := by
  have hi := idx0_1 t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = p.val; rw [hi.1]; omega
  | ⟨1, _⟩ => show win0_1.index t 1 * 128 + 1 * q.val = q.val; rw [hi.2]; omega

theorem act_read (t : Fin cfg0.N) (r : Fin 256) (q : Fin 128) (p : Fin 8192) (hp : p.val = t.val / 16 * 256 + r.val) :
    (iblk m c 2 t : Vec Ideal S256x128 .f32) (ix2 r q) = (m ((c : Thread nD τ).loc main_arg2) : Vec Ideal S8192x128 .f32) (ix2 p q) := by
  have hi := idx0_2 t
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * r.val = p.val; rw [hi.1]; omega
  | ⟨1, _⟩ => show win0_2.index t 1 * 128 + 1 * q.val = q.val; rw [hi.2]; omega

theorem row_read (t : Fin cfg0.N) (r : Fin 256) (q : Fin 128) (p : Fin 8192) (hp : p.val = t.val / 16 * 256 + r.val) :
    (iblk m c 3 t : Vec Ideal S256x128 .i32) (ix2 r q) = (m ((c : Thread nD τ).loc main_arg3) : Vec Ideal S8192x128 .i32) (ix2 p q) := by
  have hi := idx0_3 t
  unfold iblk
  rw [View.read_apply]
  show V m c main_arg3 _ = m (c.tc.loc main_arg3) _
  rw [V_main_arg3]
  congr 1
  funext a
  apply Fin.ext
  match a with
  | ⟨0, _⟩ => show win0_3.index t 0 * 256 + 1 * r.val = p.val; rw [hi.1]; omega
  | ⟨1, _⟩ => show win0_3.index t 1 * 128 + 1 * q.val = q.val; rw [hi.2]; omega

theorem col_read (t : Fin cfg0.N) (r : Fin 256) (q : Fin 128) (p : Fin 8192) (hp : p.val = t.val / 16 * 256 + r.val) :
    (iblk m c 4 t : Vec Ideal S256x128 .i32) (ix2 r q) = (m ((c : Thread nD τ).loc main_arg4) : Vec Ideal S8192x128 .i32) (ix2 p q) := by
  have hi := idx0_4 t
  unfold iblk
  rw [View.read_apply]
  show V m c main_arg4 _ = m (c.tc.loc main_arg4) _
  rw [V_main_arg4]
  congr 1
  funext a
  apply Fin.ext
  match a with
  | ⟨0, _⟩ => show win0_4.index t 0 * 256 + 1 * r.val = p.val; rw [hi.1]; omega
  | ⟨1, _⟩ => show win0_4.index t 1 * 128 + 1 * q.val = q.val; rw [hi.2]; omega

theorem V_values (n : Fin 16384) (d : Fin 2048) : (V m c main_v0 : Vec Ideal S16384x2048 .bf16) (ix2 n d)
    = (m ((c : Thread nD τ).loc main_arg5) : Vec Ideal S16384x2048 .f32) (ix2 n d) := by
  have e : V m c main_v0 = (truncf .bf16 (m ((c : Thread nD τ).loc main_arg5) : FVec Ideal S16384x2048 .f32) bitsLt_bf16_f32 : FVec Ideal S16384x2048 .bf16) := by
    unfold V
    after_results_simp <;> rfl
  rw [e]
  pointwise

theorem V_gain (q : Fin 2048) : (V m c main_v1 : Vec Ideal S1x2048 .f32) (ix2 0 q)
    = (m ((c : Thread nD τ).loc main_arg6) : Vec Ideal S2048 .f32) (ix1 q) := by
  have e : V m c main_v1 = shapeCast S1x2048 (m ((c : Thread nD τ).loc main_arg6) : Vec Ideal S2048 .f32) shapeCasts_S2048_S1x2048 := by
    unfold V
    after_results_simp <;> rfl
  rw [e]
  pointwise

theorem values_read (t : Fin cfg0.N) (q : Fin 1024) (d : Fin 2048) (n : Fin 16384) (hn : n.val = 1024 * (t.val % 16) + q.val) :
    (iblk m c 5 t : Vec Ideal S1024x2048 .bf16) (ix2 q d) = (m ((c : Thread nD τ).loc main_arg5) : Vec Ideal S16384x2048 .f32) (ix2 n d) := by
  have hi := idx0_5 t
  rw [← V_values m c n d]
  unfold iblk
  rw [View.read_apply]
  show V m c main_v0 _ = V m c main_v0 _
  congr 1
  funext a
  apply Fin.ext
  match a with
  | ⟨0, _⟩ => show win0_5.index t 0 * 1024 + 1 * q.val = n.val; rw [hi.1]; omega
  | ⟨1, _⟩ => show win0_5.index t 1 * 2048 + 1 * d.val = d.val; rw [hi.2]; omega

theorem gain_read (t : Fin cfg0.N) (q : Fin 2048) :
    (iblk m c 6 t : Vec Ideal S1x2048 .f32) (ix2 0 q) = (m ((c : Thread nD τ).loc main_arg6) : Vec Ideal S2048 .f32) (ix1 q) := by
  have hi := idx0_6 t
  rw [← V_gain m c q]
  unfold iblk
  rw [View.read_apply]
  show V m c main_v1 _ = V m c main_v1 _
  congr 1
  funext a
  apply Fin.ext
  match a with
  | ⟨0, _⟩ => show win0_6.index t 0 * 1 + 1 * 0 = 0; rw [hi.1]
  | ⟨1, _⟩ => show win0_6.index t 1 * 2048 + 1 * q.val = q.val; rw [hi.2]; omega

/-- Token `p`'s first indices, second indices and weights, and column `d` of the experts' values. -/
def rows (p : Fin 8192) (k : Fin 128) : ℕ := ((m ((c : Thread nD τ).loc main_arg3) : Vec Ideal S8192x128 .i32) (ix2 p k)).toNat
def cols (p : Fin 8192) (k : Fin 128) : ℕ := ((m ((c : Thread nD τ).loc main_arg4) : Vec Ideal S8192x128 .i32) (ix2 p k)).toNat
def weights (p : Fin 8192) (k : Fin 128) : EReal :=
  Experts.weight ((m ((c : Thread nD τ).loc main_arg2) : Vec Ideal S8192x128 .f32) (ix2 p k)) ((m ((c : Thread nD τ).loc main_arg1) : Vec Ideal S8192x128 .f32) (ix2 p k))
def values (d : Fin 2048) (n : ℕ) : EReal :=
  if h : n < 16384 then (m ((c : Thread nD τ).loc main_arg5) : Vec Ideal S16384x2048 .f32) (ix2 ⟨n, h⟩ d) else 0

/-- The stream. -/
def stream (p : Fin 8192) (j : Fin 2048) : EReal := (m ((c : Thread nD τ).loc main_arg0) : Vec Ideal S8192x2048 .f32) (ix2 p j)

/-- The tables made at a position are those of its tokens. -/
theorem tilesAt_apply (t : Fin cfg0.N) (r : Fin 256) (p : Fin 8192) (hp : p.val = t.val / 16 * 256 + r.val) (e : ℕ) (he : e < 128) (f : Fin 128) :
    tilesAt m c t e (ix2 r f) = Experts.cell (rows m c p) (cols m c p) (weights m c p) e f.val := by
  have ei : (fun k => ((iblk m c 3 t : Vec Ideal S256x128 .i32) (ix2 r k)).toNat) = rows m c p := funext fun k => congrArg BitVec.toNat (row_read m c t r k p hp)
  have ej : (fun k => ((iblk m c 4 t : Vec Ideal S256x128 .i32) (ix2 r k)).toNat) = cols m c p := funext fun k => congrArg BitVec.toNat (col_read m c t r k p hp)
  have ew : (fun k => k0_pay1 (F := Ideal) (iblk m c 2 t) (iblk m c 1 t) (ix2 r k)) = weights m c p := funext fun k =>
    (pay1_apply _ _ r k).trans (by rw [act_read m c t r k p hp, gate_read m c t r k p hp]; rfl)
  rw [← ei, ← ej, ← ew]
  exact tile_apply _ _ _ e he r f

/-- A position's sum is the sum before it and its column step. -/
theorem sumAt_apply (t : Fin cfg0.N) (T : ℕ → Vec Ideal S256x128 .f32) (acc : Vec Ideal S256x2048 .f32) (r : Fin 256) (p : Fin 8192) (d : Fin 2048)
    (hT : ∀ e, e < 128 → ∀ f : Fin 128, T e (ix2 r f) = Experts.cell (rows m c p) (cols m c p) (weights m c p) e f.val) :
    sumAt m c t T acc (ix2 r d) = acc (ix2 r d) + Experts.step (rows m c p) (cols m c p) (weights m c p) (values m c d) (t.val % 16) := by
  unfold sumAt
  rw [coord t]
  refine accStep_apply T _ _ (Nat.mod_lt _ (by decide)) acc r d _ _ _ _ hT fun q => ?_
  have hq : 1024 * (t.val % 16) + q.val < 16384 := by omega
  rw [values_read m c t q d ⟨_, hq⟩ rfl]
  unfold values
  rw [dif_pos hq]

/-- After every position the tables are those of its tokens, and the sum is over the column steps so far. -/
theorem held : ∀ (n : ℕ) (hn : n < cfg0.N) (r : Fin 256) (p : Fin 8192), p.val = n / 16 * 256 + r.val →
    (∀ e, e < 128 → ∀ f : Fin 128, (stateAt m c n hn).1 e (ix2 r f) = Experts.cell (rows m c p) (cols m c p) (weights m c p) e f.val)
    ∧ (∀ d : Fin 2048, (stateAt m c n hn).2 (ix2 r d)
        = ∑ s ∈ Finset.range (n % 16 + 1), Experts.step (rows m c p) (cols m c p) (weights m c p) (values m c d) s) := by
  intro n
  induction n with
  | zero =>
    intro hn r p hp
    have e := stateAt_first m c ⟨0, hn⟩ rfl
    change stateAt m c 0 hn = _ at e
    rw [e]
    have hT := fun e he f => tilesAt_apply m c ⟨0, hn⟩ r p hp e he f
    refine ⟨hT, fun d => ?_⟩
    refine (sumAt_apply m c ⟨0, hn⟩ _ _ r p d hT).trans ?_
    rw [pay2_apply, zero_add]
    simp
  | succ n ih =>
    intro hn r p hp
    by_cases h : (n + 1) % 16 = 0
    · have e := stateAt_first m c ⟨n + 1, hn⟩ h
      change stateAt m c (n + 1) hn = _ at e
      rw [e]
      have hT := fun e he f => tilesAt_apply m c ⟨n + 1, hn⟩ r p hp e he f
      refine ⟨hT, fun d => ?_⟩
      refine (sumAt_apply m c ⟨n + 1, hn⟩ _ _ r p d hT).trans ?_
      rw [pay2_apply, zero_add]
      simp [h]
    · have e := stateAt_next m c ⟨n + 1, hn⟩ h
      change stateAt m c (n + 1) hn = _ at e
      rw [e]
      obtain ⟨hT, hS⟩ := ih (Nat.lt_of_succ_lt hn) r p (by omega)
      refine ⟨hT, fun d => ?_⟩
      refine (sumAt_apply m c ⟨n + 1, hn⟩ _ _ r p d hT).trans ?_
      rw [show (n + 1) % 16 = n % 16 + 1 by omega, Finset.sum_range_succ]
      exact congrArg₂ (fun x y : EReal => x + y) (hS d) rfl

/-- The array the region leaves. -/
def outArr : Vec Ideal S8192x2048 .f32 := fun i =>
  Rows.rms (fun j => stream m c (i 0) j
      + ∑ s ∈ Finset.range 16, Experts.step (rows m c (i 0)) (cols m c (i 0)) (weights m c (i 0)) (values m c j) s)
    (fun j => (m ((c : Thread nD τ).loc main_arg6) : Vec Ideal S2048 .f32) (ix1 j)) (i 1)

theorem cover0_7' (i : S8192x2048.Idx) : ∃ t : Fin cfg0.N, (cfg0.win 7).flush t = true ∧ i ∈ ((cfg0.win 7).blk t).view.set := by
  have h0 : (i 0).val < 8192 := (i 0).isLt
  have h1 : (i 1).val < 2048 := (i 1).isLt
  obtain ⟨t, ht⟩ : ∃ t : Fin cfg0.N, t.val = (i 0).val / 256 * 16 + 15 := ⟨⟨_, lt_of_lt_of_eq (by omega) (show 512 = cfg0.N from N_0.symm)⟩, rfl⟩
  have hi := idx0_7 t
  refine ⟨t, (flush0_7 t).mpr (by omega), ?_⟩
  show i ∈ ((View.whole main_v2).slice (win0_7.rect t)).set
  rw [View.set_slice_whole, Rect.mem_set_unit]
  intro a
  match a with
  | ⟨0, _⟩ => show win0_7.index t 0 * 256 ≤ (i 0).val ∧ (i 0).val < win0_7.index t 0 * 256 + 256; rw [hi.1]; omega
  | ⟨1, _⟩ => show win0_7.index t 1 * 2048 ≤ (i 1).val ∧ (i 1).val < win0_7.index t 1 * 2048 + 2048; rw [hi.2]; omega

theorem out_array : (dats (F := Ideal) m 0 c).arrAt 7 cfg0.N = outArr m c := by
  refine Dat.arrAt_eq_of_cover (dats (F := Ideal) m 0 c) 7 (outArr m c) (fun t hf => ?_) (fun i => cover0_7' i)
  have hi := idx0_7 t
  have hf' := (flush0_7 t).mp hf
  have ht := lt_N0 t
  show (cfg0.win 7).cut (grid0.coords t) ((dats (F := Ideal) m 0 c).after 7 t) = _
  rw [after7]
  funext j
  rw [View.read_apply]
  have ej : (j : S256x2048.Idx) = ix2 (j 0) (j 1) := eq_ix2 (j : S256x2048.Idx)
  show k0_pay9 (F := Ideal) _ _ _ j = outArr m c _
  rw [ej]
  have e0 : ∀ i : S8192x2048.Idx, (i 0).val = t.val / 16 * 256 + (j 0).val → (i 1).val = (j 1).val →
      k0_pay9 (F := Ideal) (iblk m c 0 t) (stateAt m c t.val t.isLt).2 (iblk m c 6 t) (ix2 (j 0) (j 1)) = outArr m c i := by
    intro i hp hq
    have hq' : i 1 = j 1 := Fin.ext hq
    refine (pay9_apply _ _ _ (j 0) (j 1)).trans ?_
    unfold outArr
    rw [hq']
    refine congrArg₂ (fun x g => Rows.rms x g (j 1)) (funext fun k => ?_) (funext fun k => gain_read m c t k)
    have hs := (held m c t.val t.isLt (j 0) (i 0) hp).2 k
    rw [hf'] at hs
    exact congrArg₂ (fun x y : EReal => x + y) (res_read m c t (j 0) k (i 0) hp) hs
  refine e0 _ ?_ ?_
  · show win0_7.index t 0 * 256 + 1 * (j 0).val = _
    rw [hi.1]; omega
  · show win0_7.index t 1 * 2048 + 1 * (j 1).val = _
    rw [hi.2]; omega

end Cert.PeerOutIdeal.Body

end
-- ==== Proof.PeerOutIdeal.Ref.lean ====
/- The expert output's reference, entry by entry, where the indices are in range. -/
module

public import proofs.«01_k».proof.Proof.Gen.PeerOutRefIdeal.Read
public import proofs.«01_k».proof.Proof.Rows
public import proofs.«01_k».proof.Proof.Experts
public import Idealize.ShloMosaic.Lib.Pointwise
public import Idealize.ShloMosaic.Lib.ReduceAll
public import Idealize.ShloMosaic.Lib.WordCmp

@[expose] public section

set_option maxRecDepth 16384

noncomputable section

namespace Cert.PeerOutRefIdeal.Read

open Cert.PeerOutRefIdeal Cert.PeerOutRefIdeal.Gen Idealize.ShloMosaic Idealize.ShloMosaic.TcCoe Idealize.SL.Sem
open Facts₀

/-- The gather reads the row its start index names. -/
theorem take_apply (x : Vec Ideal S16384x2048 .f32) (idx : IVec S8192x128x1 32) (p : Fin 8192) (k : Fin 128) (d : Fin 2048) :
    Host.gather gather_S16384x2048_S8192x128x1_S8192x128x2048_2_0_n_n_0_2_12048 x idx (ix3 p k d)
      = x (ix2 ⟨min (idx (ix3 p k 0)).toInt.toNat 16383, by omega⟩ d) := by
  unfold Host.gather
  congr 1
  funext a
  apply Fin.ext
  match a with
  | ⟨0, _⟩ =>
    show GatherDims.start _ (ix3 p k d) idx 0 + GatherDims.batchCoord _ (ix3 p k d) 0 + GatherDims.offCoord _ (ix3 p k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x2048_S8192x128x1_S8192x128x2048_2_0_n_n_0_2_12048.startIndexMap from List.mem_singleton.mpr rfl)]
    have hsi : gather_S16384x2048_S8192x128x1_S8192x128x2048_2_0_n_n_0_2_12048.siIdx (ix3 p k d)
        ⟨List.idxOf (0 : Fin 2) gather_S16384x2048_S8192x128x1_S8192x128x2048_2_0_n_n_0_2_12048.startIndexMap,
          List.idxOf_lt_length_iff.2 (List.mem_singleton.mpr rfl)⟩ = ix3 p k 0 := by
      funext b; refine Fin.ext ?_
      match b with
      | ⟨0, _⟩ => rfl
      | ⟨1, _⟩ => rfl
      | ⟨2, _⟩ => rfl
    rw [hsi]
    rfl
  | ⟨1, _⟩ =>
    show GatherDims.start _ (ix3 p k d) idx 1 + GatherDims.batchCoord _ (ix3 p k d) 1 + GatherDims.offCoord _ (ix3 p k d) 1 = d.val
    rw [GatherDims.batchCoord_eq_zero _ _ _ List.not_mem_nil]
    unfold GatherDims.start
    rw [dif_neg (show ¬(1 : Fin 2) ∈ gather_S16384x2048_S8192x128x1_S8192x128x2048_2_0_n_n_0_2_12048.startIndexMap from by decide)]
    simp only [Nat.add_zero, Nat.zero_add]
    rfl

variable (x0 : Vec Ideal S8192x2048 .f32) (x1 x2 : Vec Ideal S8192x128 .f32) (x3 x4 : Vec Ideal S8192x128 .i32) (x5 : Vec Ideal S16384x2048 .f32)
  (x6 : Vec Ideal S2048 .f32)

/-- Both indices name a row and a column of the table. -/
def InRange : Prop := ∀ (p : Fin 8192) (k : Fin 128), (x3 (ix2 p k)).toNat < 128 ∧ (x4 (ix2 p k)).toNat < 128

/-- The flat index of an expert. -/
theorem flat_toNat (h : InRange x3 x4) (p : Fin 8192) (k : Fin 128) :
    (val_main_v9 (F := Ideal) x3 x4 (ix2 p k)).toNat = 128 * (x3 (ix2 p k)).toNat + (x4 (ix2 p k)).toNat := by
  obtain ⟨h3, h4⟩ := h p k
  rw [val_main_v9_apply, val_main_v8_apply, val_main_v7_apply, val_main_c_apply]
  show (x3 (ix2 p k) * 128#32 + x4 (ix2 p k)).toNat = _
  generalize x3 (ix2 p k) = a at *
  generalize x4 (ix2 p k) = b at *
  change (a : BitVec 32).toNat < 128 at h3
  change (b : BitVec 32).toNat < 128 at h4
  rw [BitVec.toNat_add, BitVec.toNat_mul]
  show ((a.toNat * 128) % 2 ^ 32 + b.toNat) % 2 ^ 32 = _
  omega

/-- No index is negative, so none is wrapped. -/
theorem start_eq (h : InRange x3 x4) (p : Fin 8192) (k : Fin 128) (i : S8192x128x1.Idx) (h0 : (i 0).val = p.val) (h1 : (i 1).val = k.val) :
    val_main_call0_v5 (F := Ideal) x3 x4 i = val_main_v9 (F := Ideal) x3 x4 (ix2 p k) := by
  have hf := flat_toNat x3 x4 h p k
  obtain ⟨h3, h4⟩ := h p k
  have ei : idx_main_call0_v5 i = ix2 p k := funext fun a => Fin.ext (by
    match a with
    | ⟨0, _⟩ => exact h0
    | ⟨1, _⟩ => exact h1)
  rw [val_main_call0_v5_apply, ei, val_main_call0_v4_apply, val_main_call0_v1_apply, val_main_call0_v0_apply, val_main_call0_c_apply,
    WordCmp.cmpi_slt_eq, WordCmp.toInt_eq_toNat_of_lt_half (by rw [hf]; omega), decide_eq_false (by simp)]
  rfl

/-- The mask of in-range indices is all ones. -/
theorem mask_one (h : InRange x3 x4) (p : Fin 8192) (k : Fin 128) : val_main_call0_v12 (F := Ideal) x3 x4 (ix2 p k) = 1#1 := by
  unfold val_main_call0_v12
  refine Host.reduce_andi_one _ _ _ _ _ rfl fun i => ?_
  have hs := start_eq x3 x4 h (i 0) (i 1) i rfl rfl
  have hf := flat_toNat x3 x4 h (i 0) (i 1)
  obtain ⟨h3, h4⟩ := h (i 0) (i 1)
  rw [val_main_call0_v11_apply, val_main_call0_v7_apply, val_main_call0_v10_apply, hs, val_main_call0_v6_apply, val_main_call0_c_2_apply,
    val_main_call0_v9_apply, val_main_call0_v8_apply, val_main_call0_c_1_apply, WordCmp.cmpi_sge_eq, WordCmp.cmpi_sle_eq,
    WordCmp.toInt_eq_toNat_of_lt_half (x := val_main_v9 (F := Ideal) x3 x4 _) (by rw [hf]; omega), hf,
    decide_eq_true (by show (0 : ℤ) ≤ _; omega), decide_eq_true (by show (_ : ℤ) ≤ 16383; omega)]
  rfl

/-- The row of values an expert's two indices name. -/
theorem taken (h : InRange x3 x4) (p : Fin 8192) (k : Fin 128) (d : Fin 2048) :
    val_main_v10 (F := Ideal) x3 x4 x5 (ix3 p k d)
      = x5 (ix2 ⟨128 * (x3 (ix2 p k)).toNat + (x4 (ix2 p k)).toNat, by have := h p k; omega⟩ d) := by
  have hs := start_eq x3 x4 h p k (ix3 p k 0) rfl rfl
  have hf := flat_toNat x3 x4 h p k
  have hm := mask_one x3 x4 h p k
  obtain ⟨h3, h4⟩ := h p k
  have ei : idx_main_call0_v14 (ix3 p k d) = ix2 p k := funext fun a => Fin.ext (by
    match a with
    | ⟨0, _⟩ => rfl
    | ⟨1, _⟩ => rfl)
  rw [val_main_v10_apply, val_main_call0_v14_apply, ei, hm]
  show val_main_call0_v13 (F := Ideal) x3 x4 x5 (ix3 p k d) = _
  unfold val_main_call0_v13
  rw [take_apply]
  refine congrArg (fun n => x5 (ix2 n d)) (Fin.ext ?_)
  show min (val_main_call0_v5 (F := Ideal) x3 x4 (ix3 p k 0)).toInt.toNat 16383 = _
  rw [hs, WordCmp.toInt_eq_toNat_of_lt_half (by rw [hf]; omega), hf]
  show min (128 * (x3 (ix2 p k)).toNat + (x4 (ix2 p k)).toNat) 16383 = 128 * (x3 (ix2 p k)).toNat + (x4 (ix2 p k)).toNat
  omega

/-- The weight of an expert. -/
theorem weight_at (i : S8192x128.Idx) : val_main_v11 (F := Ideal) x1 x2 i = Experts.weight (x2 i) (x1 i) := by
  rw [val_main_v11_apply, val_main_v6_apply, val_main_v5_apply, val_main_v4_apply, val_main_v3_apply, val_main_cst_0_apply, val_main_v2_apply,
    val_main_v1_apply, val_main_v0_apply, val_main_cst_apply]
  show x1 i * ((Ideal.ofBits .f32 0x3F000000#32 * x2 i) * Ideal.erfc (-(x2 i) * Ideal.ofBits .f32 0x3F3504F3#32)) = _
  rw [EReal.neg_mul, Ideal.erfc_neg]
  unfold Experts.weight
  rw [Ideal.ofBits_one_f32]

/-- The stream with the experts' sum added. -/
theorem summed_at (h : InRange x3 x4) (p : Fin 8192) (d : Fin 2048) : val_main_v13 (F := Ideal) x0 x1 x2 x3 x4 x5 (ix2 p d)
    = x0 (ix2 p d) + ∑ k : Fin 128, Experts.weight (x2 (ix2 p k)) (x1 (ix2 p k))
        * x5 (ix2 ⟨128 * (x3 (ix2 p k)).toNat + (x4 (ix2 p k)).toNat, by have := h p k; omega⟩ d) := by
  rw [val_main_v13_apply, val_main_v12_apply]
  show _ + _ = _
  congr 1
  refine Finset.sum_congr rfl fun k _ => ?_
  have el : lidx_main_v12 (ix2 p d) k = ix2 p k := funext fun a => Fin.ext (by
    match a with
    | ⟨0, _⟩ => rfl
    | ⟨1, _⟩ => rfl)
  have er : ridx_main_v12 (ix2 p d) k = ix3 p k d := funext fun a => Fin.ext (by
    match a with
    | ⟨0, _⟩ => rfl
    | ⟨1, _⟩ => rfl
    | ⟨2, _⟩ => rfl)
  rw [el, er, weight_at, taken x3 x4 x5 h p k d]

/-- The result. -/
theorem result_at (h : InRange x3 x4) (p : Fin 8192) (d : Fin 2048) : val_main_v26 (F := Ideal) x0 x1 x2 x3 x4 x5 x6 (ix2 p d)
    = Rows.rms (fun j => x0 (ix2 p j) + ∑ k : Fin 128, Experts.weight (x2 (ix2 p k)) (x1 (ix2 p k))
        * x5 (ix2 ⟨128 * (x3 (ix2 p k)).toNat + (x4 (ix2 p k)).toNat, by have := h p k; omega⟩ j)) (fun j => x6 (ix1 j)) d := by
  have e : (fun j => x0 (ix2 p j) + ∑ k : Fin 128, Experts.weight (x2 (ix2 p k)) (x1 (ix2 p k))
        * x5 (ix2 ⟨128 * (x3 (ix2 p k)).toNat + (x4 (ix2 p k)).toNat, by have := h p k; omega⟩ j))
      = fun j => val_main_v13 (F := Ideal) x0 x1 x2 x3 x4 x5 (ix2 p j) := funext fun j => (summed_at x0 x1 x2 x3 x4 x5 h p j).symm
  rw [e, val_main_v26_apply, val_main_v25_apply, val_main_v24_apply, val_main_v23_apply, val_main_v22_apply, val_main_v21_apply, val_main_v20_apply,
    val_main_v19_apply, val_main_cst_3_apply, val_main_v18_apply, val_main_v17_apply, val_main_cst_2_apply, val_main_v16_apply, val_main_v15_apply,
    val_main_cst_1_apply]
  have e2 : ∀ k, val_main_v14 (F := Ideal) x0 x1 x2 x3 x4 x5 (idx_main_v15 (idx_main_v16 (idx_main_v22 (ix2 p d))) k)
      = val_main_v13 (F := Ideal) x0 x1 x2 x3 x4 x5 (ix2 p k) * val_main_v13 (F := Ideal) x0 x1 x2 x3 x4 x5 (ix2 p k) := fun k => by
    rw [val_main_v14_apply]
    have ek : idx_main_v15 (idx_main_v16 (idx_main_v22 (ix2 p d))) k = ix2 p k := funext fun a => Fin.ext (by
      match a with
      | ⟨0, _⟩ => rfl
      | ⟨1, _⟩ => rfl)
    rw [ek]; rfl
  rw [Finset.sum_congr rfl fun k _ => e2 k]
  have e6 : idx_main_v24 (idx_main_v25 (ix2 p d)) = ix1 d := funext fun a => Fin.ext (by
    match a with
    | ⟨0, _⟩ => rfl)
  rw [e6]
  unfold Rows.rms
  generalize val_main_v13 (F := Ideal) x0 x1 x2 x3 x4 x5 = y
  rw [show (FloatOps.ofBits (F := Ideal) .f32 0x00000000#32 : EReal) = 0 from Ideal.ofBits_zero_f32, zero_add]
  rfl

end Cert.PeerOutRefIdeal.Read

end
-- ==== Proof.PeerOutIdeal.Equation.lean ====
/- The expert output's result array is its reference's, entry by entry, where the gates, activations and values are finite and the
indices in range. -/
module

public import proofs.«01_k».proof.Defs
public import proofs.«01_k».proof.Proof.Finite
public import proofs.«01_k».proof.Proof.PeerOutIdeal.Blocks
public import proofs.«01_k».proof.Proof.PeerOutIdeal.Ref
public import proofs.«01_k».proof.Proof.Gen.Pre_finite_experts

@[expose] public section

set_option maxRecDepth 16384

noncomputable section

namespace Cert.PeerOutIdeal.Body

open Cert.PeerOutIdeal Cert.PeerOutIdeal.Gen Idealize.ShloMosaic Idealize.ShloMosaic.TcCoe Idealize.SL.Sem

variable (m : (ℓ : Loc nD τ sig) → Buf (Elt Ideal) ℓ) (ρ : Dev nD → PrngReg) (c : Dev nD)

/-- The reference's result of the launch memory's arguments. -/
abbrev refResult : Vec Ideal S8192x2048 .f32 :=
  Cert.PeerOutRefIdeal.Read.val_main_v26 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What the precondition says of the arguments. -/
theorem pre_parts (h : Cert.Pre_PeerOutIdeal_finite_experts m) :
    (∀ p k, ((m ((c : Thread nD τ).loc main_arg1) : Vec Ideal S8192x128 .f32) (ix2 p k) : EReal)
      = (((m ((c : Thread nD τ).loc main_arg1) : Vec Ideal S8192x128 .f32) (ix2 p k) : EReal).toReal : EReal))
    ∧ (∀ p k, ((m ((c : Thread nD τ).loc main_arg2) : Vec Ideal S8192x128 .f32) (ix2 p k) : EReal)
      = (((m ((c : Thread nD τ).loc main_arg2) : Vec Ideal S8192x128 .f32) (ix2 p k) : EReal).toReal : EReal))
    ∧ (∀ n d, ((m ((c : Thread nD τ).loc main_arg5) : Vec Ideal S16384x2048 .f32) (ix2 n d) : EReal)
      = (((m ((c : Thread nD τ).loc main_arg5) : Vec Ideal S16384x2048 .f32) (ix2 n d) : EReal).toReal : EReal))
    ∧ Cert.PeerOutRefIdeal.Read.InRange (m ((c : Thread nD τ).loc main_arg3)) (m ((c : Thread nD τ).loc main_arg4)) := by
  have h6 := IntOp.andi_eq_one.1 (congrFun (h c) (Shape.Idx.first Cert.Pre_finite_experts.Gen.h_S_))
  have h5 := IntOp.andi_eq_one.1 h6.1
  have h4 := IntOp.andi_eq_one.1 h5.1
  have h3 := IntOp.andi_eq_one.1 h4.1
  have h2 := IntOp.andi_eq_one.1 h3.1
  have h1 := IntOp.andi_eq_one.1 h2.1
  refine ⟨fun p k => ?_, fun p k => ?_, fun n d => ?_, fun p k => ⟨?_, ?_⟩⟩
  · exact Cert.Finite.of_cmp _ (Host.reduce_andi_all _ _ _ _ _ h1.1 (ix2 p k))
  · exact Cert.Finite.of_cmp _ (Host.reduce_andi_all _ _ _ _ _ h1.2 (ix2 p k))
  · exact Cert.Finite.of_cmp _ (Host.reduce_andi_all _ _ _ _ _ h2.2 (ix2 n d))
  · exact Experts.word_lt _ (Host.reduce_andi_all _ _ _ _ _ h3.2 (ix2 p k)) (Host.reduce_andi_all _ _ _ _ _ h4.2 (ix2 p k))
  · exact Experts.word_lt _ (Host.reduce_andi_all _ _ _ _ _ h5.2 (ix2 p k)) (Host.reduce_andi_all _ _ _ _ _ h6.2 (ix2 p k))

/-- The array the kernel leaves is the reference's. -/
theorem array_eq (h : Cert.Pre_PeerOutIdeal_finite_experts m) : (dats (F := Ideal) m 0 c).arrAt 7 cfg0.N = refResult m c := by
  obtain ⟨hg, ha, hv, hr⟩ := pre_parts m c h
  rw [out_array]
  funext i
  have ei : i = ix2 (i 0) (i 1) := eq_ix2 i
  refine Eq.trans ?_ ((congrArg (refResult m c) ei).trans
    (Cert.PeerOutRefIdeal.Read.result_at _ _ _ _ _ _ _ hr (i 0) (i 1))).symm
  unfold outArr
  refine congrArg (fun x => Rows.rms x (fun j => (m ((c : Thread nD τ).loc main_arg6) : Vec Ideal S2048 .f32) (ix1 j)) (i 1)) (funext fun j => ?_)
  refine congrArg (fun y : EReal => stream m c (i 0) j + y) ?_
  rw [Experts.steps (rows m c (i 0)) (cols m c (i 0)) (fun k => (hr (i 0) k).1) (fun k => (hr (i 0) k).2) (weights m c (i 0)) (values m c j)
    (fun k => Experts.weight_real _ _ (ha (i 0) k) (hg (i 0) k)) (fun n => ?_)]
  · refine Finset.sum_congr rfl fun k _ => congrArg (fun y : EReal => weights m c (i 0) k * y) ?_
    have hk := hr (i 0) k
    unfold values
    exact dif_pos (show 128 * rows m c (i 0) k + cols m c (i 0) k < 16384 by
      have h3 : rows m c (i 0) k < 128 := hk.1
      have h4 : cols m c (i 0) k < 128 := hk.2
      omega)
  · unfold values
    split
    · exact hv _ _
    · rfl

/-- The run with its result read off. -/
theorem run_result (h : Cert.Pre_PeerOutIdeal_finite_experts m) :
    θ_run Cert.PeerOutIdeal.defs (onTc (τ := τ) (main (F := Ideal))) ⟨m, fun _ => 0, ρ⟩ (fun r => ∀ c : Dev nD,
      r.2.mem ((c : Thread nD τ).loc main_v2) = refResult m c) :=
  (θ_run _ _ _).mono (fun _ hr c => ((hr c).1 7).trans (array_eq m c h)) (run_main m ρ)

/-- From memories agreeing on such arguments the kernel and the reference end with equal results. -/
theorem algebraic : Cert.algebraic_PeerOutIdeal_PeerOutRefIdeal_pre_finite_experts := by
  intro m ρ m' ρ' hpre hagree
  refine ⟨fun c => refResult m c, ?_, ?_⟩
  · exact (θ_run Cert.PeerOutIdeal.defs _ _).mono
      (fun _ h c => ⟨h.1 c, h.2 c⟩) (θ_run_and (run_result m ρ hpre) (unchanged m ρ))
  · refine (θ_run Cert.PeerOutRefIdeal.defs _ _).mono (fun _ h c => ⟨(h c).1.trans ?_, (h c).2⟩)
      (Cert.PeerOutRefIdeal.Value.run (F := Ideal) m' ρ')
    rw [Cert.PeerOutRefIdeal.Read.val_main_v26_eq, (hagree c).1, (hagree c).2.1, (hagree c).2.2.1, (hagree c).2.2.2.1,
      (hagree c).2.2.2.2.1, (hagree c).2.2.2.2.2.1, (hagree c).2.2.2.2.2.2]

end Cert.PeerOutIdeal.Body

end
-- ==== Proof.PeerAct.Blocks.lean ====
/- What the products' call computes of one block of experts, and what its array holds where the indices are in range. -/
module

public import proofs.«01_k».proof.Proof.Gen.PeerActIdeal.Value
public import Idealize.ShloMosaic.Lib.Pointwise
public import Idealize.ShloMosaic.Lib.WordCmp

@[expose] public section

set_option maxRecDepth 16384

noncomputable section

namespace Cert.PeerActIdeal.Value

open Cert.PeerActIdeal Cert.PeerActIdeal.Gen Idealize.ShloMosaic Idealize.ShloMosaic.TcCoe Idealize.SL.Sem
open Idealize.ShloMosaic.Pipeline (Dat)

/-! ## One block of experts -/

/-- A token's product with every expert of the block. -/
theorem dense_apply (x : Vec Ideal S1024x2048 .bf16) (u : Vec Ideal S512x2048 .bf16) (r : Fin 1024) (q : Fin 512) :
    k0_pay3 (F := Ideal) x u (ix2 r q) = ∑ d : Fin 2048, (x (ix2 r d) : EReal) * (u (ix2 q d) : EReal) := by
  pointwise [k0_pay3]

/-- A column of one of the block's four tiles, picked by a word in range. -/
theorem pick (D : Vec Ideal S1024x512 .f32) (J : Vec Ideal S1024x128 .i32) (o : ℕ) (hs : S1024x512.Slices ![0, o] S1024x128) (r : Fin 1024) (k : Fin 128)
    (hJ : (J (ix2 r k)).toNat < 128) (ho : o ≤ 384) :
    dynamicGather 1 (extractStridedSlice S1024x128 ![0, o] D hs)
        (shapeCast S1024x128 (shapeCast S1024x128x1 (select (cmpi .slt J (broadcast S1024x128 0#32)) (addi J (broadcast S1024x128 128#32)) J)
          shapeCasts_S1024x128_S1024x128x1) shapeCasts_S1024x128x1_S1024x128) (ix2 r k)
      = D (ix2 r ⟨o + (J (ix2 r k)).toNat, by omega⟩) := by
  have e : shapeCast S1024x128 (shapeCast S1024x128x1 (select (cmpi .slt J (broadcast S1024x128 0#32)) (addi J (broadcast S1024x128 128#32)) J)
      shapeCasts_S1024x128_S1024x128x1) shapeCasts_S1024x128x1_S1024x128 (ix2 r k) = J (ix2 r k) := by
    rw [shapeCast_shapeCast]
    show Scalar.select (IntOp.cmpi .slt (J (ix2 r k)) 0#32) _ (J (ix2 r k)) = _
    rw [WordCmp.cmpi_slt_eq, WordCmp.toInt_eq_toNat_of_lt_half (by omega), decide_eq_false (by simp)]
    rfl
  rw [dynamicGather_apply, e]
  unfold extractStridedSlice
  congr 1
  funext a
  apply Fin.ext
  match a with
  | ⟨0, _⟩ => show 0 + r.val = r.val; omega
  | ⟨1, _⟩ => show o + (J (ix2 r k)).toNat % 128 = o + (J (ix2 r k)).toNat; rw [Nat.mod_eq_of_lt hJ]

/-- A choice by whether a word is the block's tile `o`. -/
theorem sel_tile (s : ℕ) (hs : s < 32) (o : ℕ) (ho : o < 4) (x : BitVec 32) (a b : EReal) :
    Scalar.select (IntOp.cmpi .eq x (Scalar.addi (Scalar.muli (BitVec.ofNat 32 s) 4#32) (BitVec.ofNat 32 o))) a b
      = if x.toNat = 4 * s + o then a else b := by
  have e : (Scalar.addi (Scalar.muli (BitVec.ofNat 32 s) 4#32) (BitVec.ofNat 32 o)).toNat = 4 * s + o := by
    show (BitVec.ofNat 32 s * 4#32 + BitVec.ofNat 32 o).toNat = _
    rw [BitVec.toNat_add, BitVec.toNat_mul, BitVec.toNat_ofNat, BitVec.toNat_ofNat]
    show (s % 2 ^ 32 * 4 % 2 ^ 32 + o % 2 ^ 32) % 2 ^ 32 = _
    omega
  rw [WordCmp.cmpi_eq_eq_toNat, e]
  by_cases h : x.toNat = 4 * s + o
  · rw [if_pos h, decide_eq_true h]; rfl
  · rw [if_neg h, decide_eq_false h]; rfl

/-- What a block leaves: its product where the block has the expert, what was there before where it has not. -/
theorem block_apply (i : grid0.Coords) (x : Vec Ideal S1024x2048 .bf16) (u : Vec Ideal S512x2048 .bf16) (I J : Vec Ideal S1024x128 .i32)
    (acc : Vec Ideal S1024x128 .f32) (r : Fin 1024) (k : Fin 128) (hi : (i 1).val < 32) (hJ : (J (ix2 r k)).toNat < 128) :
    k0_pay1 (F := Ideal) (BitVec.ofNat 32 (i 1).val) (k0_pay3 x u) I J (k0_pay4 i x u I J acc) (k0_pay5 x u J)
        (Scalar.addi (Scalar.muli (BitVec.ofNat 32 (i 1).val) 4#32) 1#32) (ix2 r k)
      = if (I (ix2 r k)).toNat / 4 = (i 1).val then k0_pay3 (F := Ideal) x u (ix2 r ⟨128 * ((I (ix2 r k)).toNat % 4) + (J (ix2 r k)).toNat, by omega⟩)
        else acc (ix2 r k) := by
  unfold k0_pay1 k0_pay4 k0_pay5
  generalize k0_pay3 (F := Ideal) x u = D
  dsimp only
  rw [ValueIdx.select_apply, ValueIdx.select_apply, ValueIdx.select_apply, ValueIdx.select_apply, shapeCast_self,
    pick D J 0 _ r k hJ (by omega), pick D J 128 _ r k hJ (by omega), pick D J 256 _ r k hJ (by omega), pick D J 384 _ r k hJ (by omega)]
  refine (sel_tile _ hi 3 (by omega) _ _ _).trans ?_
  refine (congrArg (fun z : EReal => if (I (ix2 r k)).toNat = 4 * (i 1).val + 3 then (D (ix2 r ⟨384 + (J (ix2 r k)).toNat, by omega⟩) : EReal) else z)
    ((sel_tile _ hi 2 (by omega) _ _ _).trans
      (congrArg (fun z : EReal => if (I (ix2 r k)).toNat = 4 * (i 1).val + 2 then (D (ix2 r ⟨256 + (J (ix2 r k)).toNat, by omega⟩) : EReal) else z)
        ((sel_tile _ hi 1 (by omega) _ _ _).trans
          (congrArg (fun z : EReal => if (I (ix2 r k)).toNat = 4 * (i 1).val + 1 then (D (ix2 r ⟨128 + (J (ix2 r k)).toNat, by omega⟩) : EReal) else z)
            (sel_tile _ hi 0 (by omega) _ _ _)))))).trans ?_
  dsimp only
  have hn : ∀ (o : ℕ) (a : ℕ) (ha : a + (J (ix2 r k)).toNat < 512), (I (ix2 r k)).toNat = 4 * (i 1).val + o → o < 4 → a = 128 * o →
      (if (I (ix2 r k)).toNat / 4 = (i 1).val then D (ix2 r ⟨128 * ((I (ix2 r k)).toNat % 4) + (J (ix2 r k)).toNat, by omega⟩) else acc (ix2 r k))
        = D (ix2 r ⟨a + (J (ix2 r k)).toNat, ha⟩) := by
    intro o a ha h ho e
    rw [if_pos (show (I (ix2 r k)).toNat / 4 = (i 1).val by omega)]
    refine congrArg (fun q => D (ix2 r q)) (Fin.ext ?_)
    show 128 * ((I (ix2 r k)).toNat % 4) + (J (ix2 r k)).toNat = a + (J (ix2 r k)).toNat
    omega
  by_cases h3 : (I (ix2 r k)).toNat = 4 * (i 1).val + 3
  · rw [if_pos h3]; exact (hn 3 384 _ h3 (by omega) rfl).symm
  rw [if_neg h3]
  by_cases h2 : (I (ix2 r k)).toNat = 4 * (i 1).val + 2
  · rw [if_pos h2]; exact (hn 2 256 _ h2 (by omega) rfl).symm
  rw [if_neg h2]
  by_cases h1 : (I (ix2 r k)).toNat = 4 * (i 1).val + 1
  · rw [if_pos h1]; exact (hn 1 128 _ h1 (by omega) rfl).symm
  rw [if_neg h1]
  by_cases h0 : (I (ix2 r k)).toNat = 4 * (i 1).val + 0
  · rw [if_pos h0]; exact (hn 0 0 _ h0 (by omega) rfl).symm
  rw [if_neg h0, if_neg (by omega)]

/-! ## What the windows read -/

variable (m : (ℓ : Loc nD τ sig) → Buf (Elt Ideal) ℓ) (c : Dev nD)

theorem idx0_0 : ∀ t : Fin grid0.N, win0_0.index t 0 = t.val / 32 ∧ win0_0.index t 1 = 0 := by decide +kernel
theorem idx0_1 : ∀ t : Fin grid0.N, win0_1.index t 0 = t.val % 32 ∧ win0_1.index t 1 = 0 := by decide +kernel
theorem idx0_2 : ∀ t : Fin grid0.N, win0_2.index t 0 = t.val / 32 ∧ win0_2.index t 1 = 0 := by decide +kernel
theorem idx0_3 : ∀ t : Fin grid0.N, win0_3.index t 0 = t.val / 32 ∧ win0_3.index t 1 = 0 := by decide +kernel
theorem coord : ∀ t : Fin grid0.N, (grid0.coords t 1).val = t.val % 32 := by decide +kernel

theorem token_read (t : Fin cfg0.N) (r : Fin 1024) (d : Fin 2048) (p : Fin 8192) (hp : p.val = t.val / 32 * 1024 + r.val) :
    (iblk m c 0 t : Vec Ideal S1024x2048 .bf16) (ix2 r d) = (m ((c : Thread nD τ).loc main_arg0) : Vec Ideal S8192x2048 .bf16) (ix2 p d) := by
  have hi := idx0_0 t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = p.val; rw [hi.1]; omega
  | ⟨1, _⟩ => show win0_0.index t 1 * 2048 + 1 * d.val = d.val; rw [hi.2]; omega

theorem V_experts (n : Fin 16384) (d : Fin 2048) : (V m c main_v0 : Vec Ideal S16384x2048 .bf16) (ix2 n d)
    = (m ((c : Thread nD τ).loc main_arg1) : Vec Ideal S16384x2048 .f32) (ix2 n d) := by
  have e : V m c main_v0 = (truncf .bf16 (m ((c : Thread nD τ).loc main_arg1) : FVec Ideal S16384x2048 .f32) bitsLt_bf16_f32 : FVec Ideal S16384x2048 .bf16) := by
    unfold V
    after_results_simp <;> rfl
  rw [e]
  pointwise

theorem expert_read (t : Fin cfg0.N) (q : Fin 512) (d : Fin 2048) (n : Fin 16384) (hn : n.val = 512 * (t.val % 32) + q.val) :
    (iblk m c 1 t : Vec Ideal S512x2048 .bf16) (ix2 q d) = (m ((c : Thread nD τ).loc main_arg1) : Vec Ideal S16384x2048 .f32) (ix2 n d) := by
  have hi := idx0_1 t
  rw [← V_experts m c n d]
  unfold iblk
  rw [View.read_apply]
  show V m c main_v0 _ = V m c main_v0 _
  congr 1
  funext a
  apply Fin.ext
  match a with
  | ⟨0, _⟩ => show win0_1.index t 0 * 512 + 1 * q.val = n.val; rw [hi.1]; omega
  | ⟨1, _⟩ => show win0_1.index t 1 * 2048 + 1 * d.val = d.val; rw [hi.2]; omega

theorem row_read (t : Fin cfg0.N) (r : Fin 1024) (k : Fin 128) (p : Fin 8192) (hp : p.val = t.val / 32 * 1024 + r.val) :
    (iblk m c 2 t : Vec Ideal S1024x128 .i32) (ix2 r k) = (m ((c : Thread nD τ).loc main_arg2) : Vec Ideal S8192x128 .i32) (ix2 p k) := by
  have hi := idx0_2 t
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * r.val = p.val; rw [hi.1]; omega
  | ⟨1, _⟩ => show win0_2.index t 1 * 128 + 1 * k.val = k.val; rw [hi.2]; omega

theorem col_read (t : Fin cfg0.N) (r : Fin 1024) (k : Fin 128) (p : Fin 8192) (hp : p.val = t.val / 32 * 1024 + r.val) :
    (iblk m c 3 t : Vec Ideal S1024x128 .i32) (ix2 r k) = (m ((c : Thread nD τ).loc main_arg3) : Vec Ideal S8192x128 .i32) (ix2 p k) := by
  have hi := idx0_3 t
  unfold iblk
  rw [View.read_apply]
  show V m c main_arg3 _ = m (c.tc.loc main_arg3) _
  rw [V_main_arg3]
  congr 1
  funext a
  apply Fin.ext
  match a with
  | ⟨0, _⟩ => show win0_3.index t 0 * 1024 + 1 * r.val = p.val; rw [hi.1]; omega
  | ⟨1, _⟩ => show win0_3.index t 1 * 128 + 1 * k.val = k.val; rw [hi.2]; omega

/-! ## The array -/

/-- The product of token `p` with expert `n`. -/
def product (x : Vec Ideal S8192x2048 .bf16) (u : Vec Ideal S16384x2048 .f32) (p : Fin 8192) (n : Fin 16384) : EReal :=
  ∑ d : Fin 2048, (x (ix2 p d) : EReal) * (u (ix2 n d) : EReal)

/-- One grid point over any contents: the product where its block has the expert. -/
theorem point_apply (t : Fin cfg0.N) (acc : Vec Ideal S1024x128 .f32) (r : Fin 1024) (k : Fin 128) (p : Fin 8192)
    (hp : p.val = t.val / 32 * 1024 + r.val) (n : Fin 16384) (I J : ℕ)
    (hI : ((m ((c : Thread nD τ).loc main_arg2) : Vec Ideal S8192x128 .i32) (ix2 p k)).toNat = I)
    (hJ : ((m ((c : Thread nD τ).loc main_arg3) : Vec Ideal S8192x128 .i32) (ix2 p k)).toNat = J)
    (hJ' : J < 128) (hn : n.val = 128 * I + J) :
    step4 m c t.val t.isLt acc (ix2 r k) = if I / 4 = t.val % 32 then product (m ((c : Thread nD τ).loc main_arg0)) (m ((c : Thread nD τ).loc main_arg1)) p n else acc (ix2 r k) := by
  have hc : (grid0.coords t 1).val = t.val % 32 := coord t
  have e2 := row_read m c t r k p hp
  have e3 := col_read m c t r k p hp
  have h2 : ((iblk m c 2 t : Vec Ideal S1024x128 .i32) (ix2 r k)).toNat = I := (congrArg BitVec.toNat e2).trans hI
  have h3 : ((iblk m c 3 t : Vec Ideal S1024x128 .i32) (ix2 r k)).toNat = J := (congrArg BitVec.toNat e3).trans hJ
  unfold step4
  refine (block_apply (grid0.coords t) (iblk m c 0 t) (iblk m c 1 t) (iblk m c 2 t) (iblk m c 3 t) acc r k (by rw [hc]; omega) (by rw [h3]; exact hJ')).trans ?_
  by_cases h : I / 4 = t.val % 32
  · rw [if_pos h, if_pos (by rw [h2, hc]; exact h), dense_apply]
    unfold product
    refine Finset.sum_congr rfl fun d _ => ?_
    rw [token_read m c t r d p hp, expert_read m c t _ d n (by
      show n.val = 512 * (t.val % 32) + (128 * (((iblk m c 2 t : Vec Ideal S1024x128 .i32) (ix2 r k)).toNat % 4)
        + ((iblk m c 3 t : Vec Ideal S1024x128 .i32) (ix2 r k)).toNat)
      rw [h2, h3]; omega)]
  · rw [if_neg h, if_neg (by rw [h2, hc]; exact h)]

theorem zero_apply (r : Fin 1024) (k : Fin 128) : k0_pay2 (F := Ideal) (ix2 r k) = 0 := by
  rw [← Ideal.ofBits_zero_f32]
  pointwise [k0_pay2]

/-- After `j + 1` blocks of token tile `q` the product is there if one of them has the expert. -/
theorem fold_apply (q : ℕ) (r : Fin 1024) (k : Fin 128) (p : Fin 8192)
    (hp : p.val = q * 1024 + r.val) (n : Fin 16384) (I J : ℕ)
    (hI : ((m ((c : Thread nD τ).loc main_arg2) : Vec Ideal S8192x128 .i32) (ix2 p k)).toNat = I)
    (hJ : ((m ((c : Thread nD τ).loc main_arg3) : Vec Ideal S8192x128 .i32) (ix2 p k)).toNat = J)
    (hJ' : J < 128) (hn : n.val = 128 * I + J) : ∀ (j : ℕ) (hj : j < 32) (h : 32 * q + j < cfg0.N),
    Pipeline.accAt (reset4 m c) (step4 m c) (32 * q) j h (ix2 r k) = if I / 4 ≤ j then product (m ((c : Thread nD τ).loc main_arg0)) (m ((c : Thread nD τ).loc main_arg1)) p n else (0 : EReal)
  | 0, _, h => by
    rw [Pipeline.accAt_zero]
    refine (point_apply m c ⟨32 * q, h⟩ (k0_pay2 (F := Ideal)) r k p (by show p.val = 32 * q / 32 * 1024 + r.val; omega) n I J hI hJ hJ' hn).trans ?_
    rw [zero_apply]
    by_cases h0 : I / 4 ≤ 0
    · rw [if_pos h0, if_pos (by show I / 4 = 32 * q % 32; omega)]
    · rw [if_neg h0, if_neg (by show ¬I / 4 = 32 * q % 32; omega)]
  | j + 1, hj, h => by
    rw [Pipeline.accAt_succ]
    refine (point_apply m c ⟨32 * q + (j + 1), h⟩ _ r k p (by show p.val = (32 * q + (j + 1)) / 32 * 1024 + r.val; omega) n I J hI hJ hJ' hn).trans ?_
    rw [fold_apply q r k p hp n I J hI hJ hJ' hn j (by omega) (Nat.lt_of_succ_lt h)]
    by_cases h1 : I / 4 = j + 1
    · rw [if_pos (show I / 4 = (32 * q + (j + 1)) % 32 by omega), if_pos (show I / 4 ≤ j + 1 by omega)]
    · rw [if_neg (show ¬I / 4 = (32 * q + (j + 1)) % 32 by omega)]
      by_cases h2 : I / 4 ≤ j
      · rw [if_pos h2, if_pos (show I / 4 ≤ j + 1 by omega)]
      · rw [if_neg h2, if_neg (show ¬I / 4 ≤ j + 1 by omega)]

/-- The array's entry: the product of the token with the chosen expert. -/
theorem array_apply (p : Fin 8192) (k : Fin 128) (n : Fin 16384) (I J : ℕ)
    (hI : ((m ((c : Thread nD τ).loc main_arg2) : Vec Ideal S8192x128 .i32) (ix2 p k)).toNat = I)
    (hJ : ((m ((c : Thread nD τ).loc main_arg3) : Vec Ideal S8192x128 .i32) (ix2 p k)).toNat = J)
    (hI' : I < 128) (hJ' : J < 128) (hn : n.val = 128 * I + J) : (G4 m c : Vec Ideal S8192x128 .f32) (ix2 p k) = product (m ((c : Thread nD τ).loc main_arg0)) (m ((c : Thread nD τ).loc main_arg1)) p n := by
  have hr : run4Of (ix2 p k) = p.val / 1024 := by
    show 1 * (p.val / 1024 - 0) + 1 * (k.val / 128 - 0) = _
    omega
  have hl : loc4Of (ix2 p k) = ix2 (⟨p.val % 1024, Nat.mod_lt _ (by decide)⟩ : Fin 1024) k := funext fun a => Fin.ext (by
    match a with
    | ⟨0, _⟩ => rfl
    | ⟨1, _⟩ => show k.val % 128 = k.val; omega)
  have hN : 32 * run4Of (ix2 p k) + 31 < cfg0.N := by
    rw [hr, show cfg0.N = 256 from N_0]; omega
  unfold G4
  rw [dif_pos hN, hl]
  refine (fold_apply m c (run4Of (ix2 p k)) _ k p (by rw [hr]; show p.val = p.val / 1024 * 1024 + p.val % 1024; omega) n I J hI hJ hJ' hn 31 (by omega) hN).trans ?_
  rw [if_pos (by omega)]

end Cert.PeerActIdeal.Value

end
-- ==== Proof.PeerAct.Ref.lean ====
/- The reference of the experts' products, entry by entry, where the indices are in range. -/
module

public import proofs.«01_k».proof.Proof.Gen.PeerActRefIdeal.Read
public import proofs.«01_k».proof.Proof.Rows
public import proofs.«01_k».proof.Proof.Experts
public import Idealize.ShloMosaic.Lib.Pointwise
public import Idealize.ShloMosaic.Lib.ReduceAll
public import Idealize.ShloMosaic.Lib.WordCmp

@[expose] public section

set_option maxRecDepth 16384

noncomputable section

namespace Cert.PeerActRefIdeal.Read

open Cert.PeerActRefIdeal Cert.PeerActRefIdeal.Gen Idealize.ShloMosaic Idealize.ShloMosaic.TcCoe Idealize.SL.Sem
open Facts₀

/-- The gather reads the row its start index names. -/
theorem take_apply (x : Vec Ideal S16384x2048 .f32) (idx : IVec S8192x128x1 32) (p : Fin 8192) (k : Fin 128) (d : Fin 2048) :
    Host.gather gather_S16384x2048_S8192x128x1_S8192x128x2048_2_0_n_n_0_2_12048 x idx (ix3 p k d)
      = x (ix2 ⟨min (idx (ix3 p k 0)).toInt.toNat 16383, by omega⟩ d) := by
  unfold Host.gather
  congr 1
  funext a
  apply Fin.ext
  match a with
  | ⟨0, _⟩ =>
    show GatherDims.start _ (ix3 p k d) idx 0 + GatherDims.batchCoord _ (ix3 p k d) 0 + GatherDims.offCoord _ (ix3 p k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x2048_S8192x128x1_S8192x128x2048_2_0_n_n_0_2_12048.startIndexMap from List.mem_singleton.mpr rfl)]
    have hsi : gather_S16384x2048_S8192x128x1_S8192x128x2048_2_0_n_n_0_2_12048.siIdx (ix3 p k d)
        ⟨List.idxOf (0 : Fin 2) gather_S16384x2048_S8192x128x1_S8192x128x2048_2_0_n_n_0_2_12048.startIndexMap,
          List.idxOf_lt_length_iff.2 (List.mem_singleton.mpr rfl)⟩ = ix3 p k 0 := by
      funext b; refine Fin.ext ?_
      match b with
      | ⟨0, _⟩ => rfl
      | ⟨1, _⟩ => rfl
      | ⟨2, _⟩ => rfl
    rw [hsi]
    rfl
  | ⟨1, _⟩ =>
    show GatherDims.start _ (ix3 p k d) idx 1 + GatherDims.batchCoord _ (ix3 p k d) 1 + GatherDims.offCoord _ (ix3 p k d) 1 = d.val
    rw [GatherDims.batchCoord_eq_zero _ _ _ List.not_mem_nil]
    unfold GatherDims.start
    rw [dif_neg (show ¬(1 : Fin 2) ∈ gather_S16384x2048_S8192x128x1_S8192x128x2048_2_0_n_n_0_2_12048.startIndexMap from by decide)]
    simp only [Nat.add_zero, Nat.zero_add]
    rfl

variable (x0 : Vec Ideal S8192x2048 .bf16) (x1 : Vec Ideal S16384x2048 .f32) (x2 x3 : Vec Ideal S8192x128 .i32)

/-- Both indices name a row and a column of the table. -/
def InRange : Prop := ∀ (p : Fin 8192) (k : Fin 128), (x2 (ix2 p k)).toNat < 128 ∧ (x3 (ix2 p k)).toNat < 128

/-- The flat index of an expert. -/
theorem flat_toNat (h : InRange x2 x3) (p : Fin 8192) (k : Fin 128) :
    (val_main_v2 (F := Ideal) x2 x3 (ix2 p k)).toNat = 128 * (x2 (ix2 p k)).toNat + (x3 (ix2 p k)).toNat := by
  obtain ⟨h3, h4⟩ := h p k
  rw [val_main_v2_apply, val_main_v1_apply, val_main_v0_apply, val_main_c_apply]
  show (x2 (ix2 p k) * 128#32 + x3 (ix2 p k)).toNat = _
  generalize x2 (ix2 p k) = a at *
  generalize x3 (ix2 p k) = b at *
  change (a : BitVec 32).toNat < 128 at h3
  change (b : BitVec 32).toNat < 128 at h4
  rw [BitVec.toNat_add, BitVec.toNat_mul]
  show ((a.toNat * 128) % 2 ^ 32 + b.toNat) % 2 ^ 32 = _
  omega

/-- No index is negative, so none is wrapped. -/
theorem start_eq (h : InRange x2 x3) (p : Fin 8192) (k : Fin 128) (i : S8192x128x1.Idx) (h0 : (i 0).val = p.val) (h1 : (i 1).val = k.val) :
    val_main_call0_v5 (F := Ideal) x2 x3 i = val_main_v2 (F := Ideal) x2 x3 (ix2 p k) := by
  have hf := flat_toNat x2 x3 h p k
  obtain ⟨h3, h4⟩ := h p k
  have ei : idx_main_call0_v5 i = ix2 p k := funext fun a => Fin.ext (by
    match a with
    | ⟨0, _⟩ => exact h0
    | ⟨1, _⟩ => exact h1)
  rw [val_main_call0_v5_apply, ei, val_main_call0_v4_apply, val_main_call0_v1_apply, val_main_call0_v0_apply, val_main_call0_c_apply,
    WordCmp.cmpi_slt_eq, WordCmp.toInt_eq_toNat_of_lt_half (by rw [hf]; omega), decide_eq_false (by simp)]
  rfl

/-- The mask of in-range indices is all ones. -/
theorem mask_one (h : InRange x2 x3) (p : Fin 8192) (k : Fin 128) : val_main_call0_v12 (F := Ideal) x2 x3 (ix2 p k) = 1#1 := by
  unfold val_main_call0_v12
  refine Host.reduce_andi_one _ _ _ _ _ rfl fun i => ?_
  have hs := start_eq x2 x3 h (i 0) (i 1) i rfl rfl
  have hf := flat_toNat x2 x3 h (i 0) (i 1)
  obtain ⟨h3, h4⟩ := h (i 0) (i 1)
  rw [val_main_call0_v11_apply, val_main_call0_v7_apply, val_main_call0_v10_apply, hs, val_main_call0_v6_apply, val_main_call0_c_2_apply,
    val_main_call0_v9_apply, val_main_call0_v8_apply, val_main_call0_c_1_apply, WordCmp.cmpi_sge_eq, WordCmp.cmpi_sle_eq,
    WordCmp.toInt_eq_toNat_of_lt_half (x := val_main_v2 (F := Ideal) x2 x3 _) (by rw [hf]; omega), hf,
    decide_eq_true (by show (0 : ℤ) ≤ _; omega), decide_eq_true (by show (_ : ℤ) ≤ 16383; omega)]
  rfl

/-- The row an expert's two indices name. -/
theorem taken (h : InRange x2 x3) (p : Fin 8192) (k : Fin 128) (d : Fin 2048) :
    val_main_v3 (F := Ideal) x1 x2 x3 (ix3 p k d)
      = x1 (ix2 ⟨128 * (x2 (ix2 p k)).toNat + (x3 (ix2 p k)).toNat, by have := h p k; omega⟩ d) := by
  have hs := start_eq x2 x3 h p k (ix3 p k 0) rfl rfl
  have hf := flat_toNat x2 x3 h p k
  have hm := mask_one x2 x3 h p k
  obtain ⟨h3, h4⟩ := h p k
  have ei : idx_main_call0_v14 (ix3 p k d) = ix2 p k := funext fun a => Fin.ext (by
    match a with
    | ⟨0, _⟩ => rfl
    | ⟨1, _⟩ => rfl)
  rw [val_main_v3_apply, val_main_call0_v14_apply, ei, hm]
  show val_main_call0_v13 (F := Ideal) x1 x2 x3 (ix3 p k d) = _
  unfold val_main_call0_v13
  rw [take_apply]
  refine congrArg (fun n => x1 (ix2 n d)) (Fin.ext ?_)
  show min (val_main_call0_v5 (F := Ideal) x2 x3 (ix3 p k 0)).toInt.toNat 16383 = _
  rw [hs, WordCmp.toInt_eq_toNat_of_lt_half (by rw [hf]; omega), hf]
  show min (128 * (x2 (ix2 p k)).toNat + (x3 (ix2 p k)).toNat) 16383 = 128 * (x2 (ix2 p k)).toNat + (x3 (ix2 p k)).toNat
  omega

/-- A product of a token with a chosen expert's row. -/
theorem result_at (h : InRange x2 x3) (p : Fin 8192) (k : Fin 128) : val_main_v5 (F := Ideal) x0 x1 x2 x3 (ix2 p k)
    = ∑ d : Fin 2048, x0 (ix2 p d) * x1 (ix2 ⟨128 * (x2 (ix2 p k)).toNat + (x3 (ix2 p k)).toNat, by have := h p k; omega⟩ d) := by
  rw [val_main_v5_apply]
  refine Finset.sum_congr rfl fun d _ => ?_
  have el : lidx_main_v5 (ix2 p k) d = ix3 p k d := funext fun a => Fin.ext (by
    match a with
    | ⟨0, _⟩ => rfl
    | ⟨1, _⟩ => rfl
    | ⟨2, _⟩ => rfl)
  have er : ridx_main_v5 (ix2 p k) d = ix2 p d := funext fun a => Fin.ext (by
    match a with
    | ⟨0, _⟩ => rfl
    | ⟨1, _⟩ => rfl)
  rw [el, er, val_main_v4_apply, taken x1 x2 x3 h p k d]
  exact EReal.mul_comm _ _

end Cert.PeerActRefIdeal.Read

end
-- ==== Proof.PeerAct.Equation.lean ====
/- The products' result array is its reference's, entry by entry, where the indices are in range. -/
module

public import proofs.«01_k».proof.Defs
public import proofs.«01_k».proof.Proof.Gen.PeerAct
public import proofs.«01_k».proof.Proof.Gen.PeerAct.Skeleton
public import proofs.«01_k».proof.Proof.Gen.PeerAct.Launch
public import proofs.«01_k».proof.Proof.Gen.PeerAct.Points
public import proofs.«01_k».proof.Proof.Gen.PeerAct.Frame
public import proofs.«01_k».proof.Proof.Gen.PeerActIdeal
public import proofs.«01_k».proof.Proof.Gen.PeerActIdeal.Skeleton
public import proofs.«01_k».proof.Proof.Gen.PeerActIdeal.Launch
public import proofs.«01_k».proof.Proof.Gen.PeerActIdeal.Points
public import proofs.«01_k».proof.Proof.Gen.PeerActIdeal.Frame
public import proofs.«01_k».proof.Proof.Gen.PeerActIdeal.Value
public import proofs.«01_k».proof.Proof.Gen.PeerActRefIdeal
public import proofs.«01_k».proof.Proof.Gen.PeerActRefIdeal.Read
public import proofs.«01_k».proof.Proof.Gen.Pre_expert_range
public import proofs.«01_k».proof.Proof.PeerAct.Blocks
public import proofs.«01_k».proof.Proof.PeerAct.Ref
public import proofs.«01_k».proof.Proof.Experts

@[expose] public section

set_option maxRecDepth 16384

noncomputable section

namespace Cert.PeerActIdeal.Value

open Cert.PeerActIdeal Cert.PeerActIdeal.Gen Idealize.ShloMosaic Idealize.ShloMosaic.TcCoe Idealize.SL.Sem

variable (m : (ℓ : Loc nD τ sig) → Buf (Elt Ideal) ℓ) (c : Dev nD)

/-- The reference's result of the launch memory's arguments. -/
abbrev refResult : Vec Ideal S8192x128 .f32 :=
  Cert.PeerActRefIdeal.Read.val_main_v5 (F := Ideal) (m ((c : Thread nD τ).loc main_arg0)) (m ((c : Thread nD τ).loc main_arg1))
    (m ((c : Thread nD τ).loc main_arg2)) (m ((c : Thread nD τ).loc main_arg3))

/-- The precondition says that the indices are in range. -/
theorem in_range (h : Cert.Pre_PeerActIdeal_expert_range m) :
    Cert.PeerActRefIdeal.Read.InRange (m ((c : Thread nD τ).loc main_arg2)) (m ((c : Thread nD τ).loc main_arg3)) := by
  have h3 := IntOp.andi_eq_one.1 (congrFun (h c) (Shape.Idx.first Cert.Pre_expert_range.Gen.h_S_))
  have h2 := IntOp.andi_eq_one.1 h3.1
  have h1 := IntOp.andi_eq_one.1 h2.1
  refine fun p k => ⟨?_, ?_⟩
  · exact Experts.word_lt _ (Host.reduce_andi_all _ _ _ _ _ h1.1 (ix2 p k)) (Host.reduce_andi_all _ _ _ _ _ h1.2 (ix2 p k))
  · exact Experts.word_lt _ (Host.reduce_andi_all _ _ _ _ _ h2.2 (ix2 p k)) (Host.reduce_andi_all _ _ _ _ _ h3.2 (ix2 p k))

/-- The array the kernel leaves is the reference's. -/
theorem array_eq (h : Cert.Pre_PeerActIdeal_expert_range m) : G4 m c = refResult m c := by
  have hr := in_range m c h
  funext i
  have ei : i = ix2 (i 0) (i 1) := eq_ix2 i
  refine (congrArg (G4 m c) ei).trans (Eq.trans ?_ ((congrArg (refResult m c) ei).trans
    (Cert.PeerActRefIdeal.Read.result_at _ _ _ _ hr (i 0) (i 1))).symm)
  exact array_apply m c (i 0) (i 1) _ _ _ rfl rfl (hr (i 0) (i 1)).1 (hr (i 0) (i 1)).2 rfl

/-- From memories agreeing on arguments with indices in range the kernel and the reference end with equal results. -/
theorem algebraic : Cert.algebraic_PeerActIdeal_PeerActRefIdeal_pre_expert_range := by
  intro m ρ m' ρ' hpre hagree
  refine ⟨fun c => refResult m c, ?_, ?_⟩
  · exact (θ_run Cert.PeerActIdeal.defs _ _).mono
      (fun _ h c => ⟨(h c).1.trans (array_eq m c hpre), (h c).2⟩) (Cert.PeerActIdeal.Value.run m ρ)
  · refine (θ_run Cert.PeerActRefIdeal.defs _ _).mono (fun _ h c => ⟨(h c).1.trans ?_, (h c).2⟩)
      (Cert.PeerActRefIdeal.Value.run (F := Ideal) m' ρ')
    rw [Cert.PeerActRefIdeal.Read.val_main_v5_eq, (hagree c).1, (hagree c).2.1, (hagree c).2.2.1, (hagree c).2.2.2]

end Cert.PeerActIdeal.Value

end
-- ==== Proof.Decay.Ref.lean ====
/- What the decays' reference computes, entry by entry: running sums of the log decays. -/
module

public import proofs.«01_k».proof.Proof.MixOut.Window
public import proofs.«01_k».proof.Proof.Gen.DecayRefIdeal.Read

@[expose] public section

set_option maxRecDepth 16384

noncomputable section

namespace Cert.DecayRefIdeal.Read

open Cert.DecayRefIdeal Cert.DecayRefIdeal.Gen Idealize.ShloMosaic Idealize.SL.Sem

/-- The log of the logistic function, as the kernel writes it. -/
def logsig (v : EReal) : EReal := min v 0 - Ideal.log1p (Ideal.exp (0 - max v (-v)))

/-- The log decays of sequence `b` and column `k`, by position. -/
def seq (x : Vec Ideal ⟨2, ![8192, 128]⟩ .f32) (b : ℕ) (k : Fin 128) (j : ℕ) : EReal :=
  if h : b * 4096 + j < 8192 then logsig (x (ix2 ⟨b * 4096 + j, h⟩ k)) else 0

theorem exp_nonneg (z : EReal) : 0 ≤ Ideal.exp z := by
  induction z with
  | bot => exact le_refl _
  | top => exact le_top
  | coe r => exact EReal.coe_nonneg.2 (Real.exp_pos r).le

/-- The log of one plus an exponential is a number or infinite, never minus infinity. -/
theorem log1p_exp_ne_bot (z : EReal) : Ideal.log1p (Ideal.exp z) ≠ ⊥ := by
  have h := exp_nonneg z
  generalize Ideal.exp z = w at h ⊢
  unfold Ideal.log1p
  induction w with
  | bot => exact absurd h (by simp)
  | top => rw [show (1 : EReal) + ⊤ = ⊤ from EReal.coe_add_top 1]; exact bot_ne_top.symm
  | coe r =>
    have hr : (0 : ℝ) ≤ r := EReal.coe_nonneg.1 h
    rw [← EReal.coe_one, ← EReal.coe_add]
    show (if 1 + r ≤ 0 then ⊥ else ((Real.log (1 + r) : ℝ) : EReal)) ≠ ⊥
    rw [if_neg (by linarith)]
    exact EReal.coe_ne_bot _

theorem neg_max_zero (v : EReal) : -max (-v) 0 = min v 0 := by
  rcases le_total v 0 with h | h
  · rw [max_eq_left (EReal.neg_nonneg.2 h), min_eq_left h, neg_neg]
  · rw [max_eq_right (EReal.neg_le_zero.2 h), min_eq_right h, neg_zero]

/-- The reference writes the same function as minus the softplus of the negated argument. -/
theorem logsig_eq (v : EReal) : -(max (-v) 0 + Ideal.log1p (Ideal.exp (-(max (-v - 0) (-(-v - 0)))))) = logsig v := by
  unfold logsig
  rw [sub_zero, neg_neg, max_comm (-v) v, zero_sub]
  have h := log1p_exp_ne_bot (-max v (-v))
  rw [EReal.neg_add (Or.inl (ne_of_gt (lt_of_lt_of_le (EReal.bot_lt_zero) (le_max_right _ _)))) (Or.inr h), neg_max_zero]

variable (x0 : Vec Ideal S8192x128 .f32)

theorem zero_word : FloatOps.ofBits (F := Ideal) .f32 0x00000000#32 = (0 : EReal) := Ideal.ofBits_zero_f32

/-- The log decay of a position. -/
theorem v1_at (b : Fin 2) (s : Fin 4096) (k : Fin 128) : val_main_v1 (F := Ideal) x0 (ix3 b s k) = seq x0 b.val k s.val := by
  have hlt : b.val * 4096 + s.val < 8192 := by omega
  have e0 : val_main_v0 (F := Ideal) x0 (ix3 b s k) = x0 (ix2 ⟨b.val * 4096 + s.val, hlt⟩ k) := by
    rw [val_main_v0_apply]
    refine congrArg x0 (funext fun a => Fin.ext ?_)
    match a with
    | ⟨0, _⟩ => show ((b.val * 4096 + s.val) * 128 + k.val) / 128 = b.val * 4096 + s.val; omega
    | ⟨1, _⟩ => show ((b.val * 4096 + s.val) * 128 + k.val) % 128 = k.val; omega
  unfold seq
  rw [dif_pos hlt, ← e0, ← logsig_eq]
  rw [val_main_v1_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_v0_apply, val_main_call0_call0_v0_apply, val_main_call0_call0_v2_apply,
    val_main_call0_call0_cst_apply, zero_word]
  generalize val_main_v0 (F := Ideal) x0 (ix3 b s k) = v
  have hc : FloatOps.cmpf (F := Ideal) (φ := .f32) .une (FloatOps.subf (FloatOps.hostNegf v) 0) (FloatOps.subf (FloatOps.hostNegf v) 0) = 0#1 := by
    show BitVec.ofBool (decide (_ ≠ _)) = _
    rw [decide_eq_false (by simp)]
    rfl
  rw [hc]
  rfl

/-- The running sums. -/
theorem v2_at (b : Fin 2) (s : Fin 4096) (k : Fin 128) :
    val_main_v2 (F := Ideal) x0 (ix3 b s k) = Window.run (seq x0 b.val k) (s.val + 1) := by
  unfold val_main_v2
  exact Window.cumsum_apply (n := 4095) (val_main_v1 (F := Ideal) x0) (val_main_call1_call0_v0 (F := Ideal)) _ _
    (fun i => (val_main_call1_call0_v0_apply i).trans zero_word) _ b s k (fun j => v1_at x0 b j k)

/-- By position. -/
theorem v3_at (p : Fin 8192) (k : Fin 128) :
    val_main_v3 (F := Ideal) x0 (ix2 p k) = Window.run (seq x0 (p.val / 4096) k) (p.val % 4096 + 1) := by
  have hp := p.isLt
  have e : idx_main_v3 (ix2 p k) = ix3 (⟨p.val / 4096, by omega⟩ : Fin 2) (⟨p.val % 4096, by omega⟩ : Fin 4096) k := funext fun a => Fin.ext (by
    match a with
    | ⟨0, _⟩ => show (p.val * 128 + k.val) / 524288 = p.val / 4096; omega
    | ⟨1, _⟩ => show (p.val * 128 + k.val) / 128 % 4096 = p.val % 4096; omega
    | ⟨2, _⟩ => show (p.val * 128 + k.val) % 128 = k.val; omega)
  rw [val_main_v3_apply, e]
  exact v2_at x0 _ _ k

/-- By column. -/
theorem v4_at (b : Fin 2) (k : Fin 128) (s : Fin 4096) :
    val_main_v4 (F := Ideal) x0 (ix3 b k s) = Window.run (seq x0 b.val k) (s.val + 1) := by
  have e : idx_main_v4 (ix3 b k s) = ix3 b s k := funext fun a => Fin.ext (by
    match a with
    | ⟨0, _⟩ => rfl
    | ⟨1, _⟩ => rfl
    | ⟨2, _⟩ => rfl)
  rw [val_main_v4_apply, e]
  exact v2_at x0 b s k

end Cert.DecayRefIdeal.Read

end
-- ==== Proof.Decay.Blocks.lean ====
/- What the decays' call computes of one block of rows, and what its arrays hold: running sums of the log decays. -/
module

public import proofs.«01_k».proof.Proof.Gen.DecayIdeal.Value
public import proofs.«01_k».proof.Proof.Decay.Ref
public import Idealize.ShloMosaic.Lib.Pointwise
public import Idealize.ShloMosaic.Lib.Tactic
public import Idealize.ShloMosaic.Lib.WordCmp

@[expose] public section

set_option maxRecDepth 16384

noncomputable section

namespace Cert.DecayIdeal.Value

open Cert.DecayIdeal Cert.DecayIdeal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one point leaves, as the body's payloads -/

section Pieces

variable {F : FTy → Type} [FloatOps F]
variable (c : Dev nD) (i : grid0.Coords) (arg2 : Memref sig .tc .vmem S256x128 .f32) (harg2 : arg2.IsWhole)
  (arg3 : Memref sig .tc .vmem S256x128 .f32) (harg3 : arg3.IsWhole) (arg4 : Memref sig .tc .vmem S1x128x256 .f32) (harg4 : arg4.IsWhole)
  (arg5 : Memref sig .tc .vmem S1x128 .f32) (harg5 : arg5.IsWhole) (x0 : Vec F S256x128 .f32) (xs0 : Vec F S1x128 .f32)

theorem out_A_1 (hc0 : cond0_0 i) : out0_A_1 c i arg2 harg2 arg3 harg3 arg4 harg4 arg5 harg5 hc0 x0 = k0_pay2 x0 (k0_pay1 (F := F)) := by
  unfold out0_A_1
  rw [View.read_writes_eq_canon _ _ _ (cover0_A_1 c i arg2 harg2 arg3 harg3 arg4 harg4 arg5 harg5 hc0 x0)]
  unfold kernelRun0_A
  dsimp only
  sl_unfold_words
  simp only [View.canon_unit_zero (S := S256x128) hz2, View.readCov_unit_zero (S := S1x128) _ hz2, View.readAt_eq_ld, harg2.read_unread,
    View.ld_unit_zero (S := S256x128) hz2]

theorem out_A_2 (hc0 : cond0_0 i) : out0_A_2 c i arg2 harg2 arg3 harg3 arg4 harg4 arg5 harg5 hc0 x0 = k0_pay4 x0 (k0_pay1 (F := F)) := by
  unfold out0_A_2
  rw [View.read_writes_eq_canon _ _ _ (cover0_A_2 c i arg2 harg2 arg3 harg3 arg4 harg4 arg5 harg5 hc0 x0)]
  unfold kernelRun0_A
  dsimp only
  sl_unfold_words
  simp only [View.canon_unit_zero (S := S1x128x256) hz3, View.readCov_unit_zero (S := S1x128) _ hz2, View.readAt_eq_ld, harg2.read_unread,
    View.ld_unit_zero (S := S256x128) hz2]

theorem sout_A (hc0 : cond0_0 i) : sout0_A_0 c i arg2 harg2 arg3 harg3 arg4 harg4 arg5 harg5 hc0 x0 = k0_pay3 x0 (k0_pay1 (F := F)) := by
  unfold sout0_A_0
  rw [View.read_writes_eq_canon _ _ _ (scover0_A_0 c i arg2 harg2 arg3 harg3 arg4 harg4 arg5 harg5 hc0 x0)]
  unfold kernelRun0_A
  dsimp only
  sl_unfold_words
  simp only [View.canon_unit_zero (S := S1x128) hz2, View.canon_cons_unit_zero (S := S1x128) hz2, View.readCov_unit_zero (S := S1x128) _ hz2,
    View.readAt_eq_ld, harg2.read_unread, View.ld_unit_zero (S := S256x128) hz2]

theorem out_B_1 (hc0 : ¬cond0_0 i) : out0_B_1 c i arg2 harg2 arg3 harg3 arg4 harg4 arg5 harg5 hc0 x0 xs0 = k0_pay2 x0 xs0 := by
  unfold out0_B_1
  rw [View.read_writes_eq_canon _ _ _ (cover0_B_1 c i arg2 harg2 arg3 harg3 arg4 harg4 arg5 harg5 hc0 x0 xs0)]
  unfold kernelRun0_B
  dsimp only
  sl_unfold_words
  simp only [View.canon_unit_zero (S := S256x128) hz2, View.readAt_eq_ld, harg2.read_unread, harg5.read_unread,
    View.ld_unit_zero (S := S256x128) hz2, View.ld_unit_zero (S := S1x128) hz2]

theorem out_B_2 (hc0 : ¬cond0_0 i) : out0_B_2 c i arg2 harg2 arg3 harg3 arg4 harg4 arg5 harg5 hc0 x0 xs0 = k0_pay4 x0 xs0 := by
  unfold out0_B_2
  rw [View.read_writes_eq_canon _ _ _ (cover0_B_2 c i arg2 harg2 arg3 harg3 arg4 harg4 arg5 harg5 hc0 x0 xs0)]
  unfold kernelRun0_B
  dsimp only
  sl_unfold_words
  simp only [View.canon_unit_zero (S := S1x128x256) hz3, View.readAt_eq_ld, harg2.read_unread, harg5.read_unread,
    View.ld_unit_zero (S := S256x128) hz2, View.ld_unit_zero (S := S1x128) hz2]

theorem sout_B (hc0 : ¬cond0_0 i) : sout0_B_0 c i arg2 harg2 arg3 harg3 arg4 harg4 arg5 harg5 hc0 x0 xs0 = k0_pay3 x0 xs0 := by
  unfold sout0_B_0
  rw [View.read_writes_eq_canon _ _ _ (scover0_B_0 c i arg2 harg2 arg3 harg3 arg4 harg4 arg5 harg5 hc0 x0 xs0)]
  unfold kernelRun0_B
  dsimp only
  sl_unfold_words
  simp only [View.canon_unit_zero (S := S1x128) hz2, View.readAt_eq_ld, harg2.read_unread, harg5.read_unread,
    View.ld_unit_zero (S := S256x128) hz2, View.ld_unit_zero (S := S1x128) hz2]

variable (m : (ℓ : Loc nD τ sig) → Buf (Elt F) ℓ)

/-- What a point's sums start from: zero at a sequence's first block, else what the point before left. -/
def before (n : ℕ) (hn : n < cfg0.N) : Vec F S1x128 .f32 :=
  if n % 16 = 0 then k0_pay1 else (outsAt0 m c (n - 1) (Nat.lt_of_le_of_lt (Nat.sub_le _ _) hn)).2.2

theorem point_eq (t : Fin cfg0.N) : outsAt0 m c t.val t.isLt
    = (k0_pay2 (iblk m c 0 t) (before c m t.val t.isLt), k0_pay4 (iblk m c 0 t) (before c m t.val t.isLt), k0_pay3 (iblk m c 0 t) (before c m t.val t.isLt)) := by
  unfold before
  by_cases h : t.val % 16 = 0
  · rw [if_pos h, outsAt0_A m c t h, out_A_1, out_A_2, sout_A]
  · rw [if_neg h, outsAt0_B m c t h, out_B_1, out_B_2, sout_B]

end Pieces

/-! ## One block of rows -/

open Cert.DecayRefIdeal.Read (logsig seq)

/-- An entry of the triangle of ones. -/
def tri (r j : Fin 256) : EReal :=
  FloatOps.sitofp (F := Ideal) .f32 ((IntOp.cmpi .sle (BitVec.ofNat 32 j.val) (BitVec.ofNat 32 r.val)).setWidth 32)

theorem block_sum (x : Vec Ideal S256x128 .f32) (y : Vec Ideal S1x128 .f32) (r : Fin 256) (k : Fin 128) :
    k0_pay2 (F := Ideal) x y (ix2 r k) = (∑ j : Fin 256, tri r j * logsig (x (ix2 j k))) + y (ix2 0 k) := by
  pointwise [k0_pay2]
  rfl

theorem tri_eq (r j : Fin 256) : tri r j = if j.val ≤ r.val then 1 else 0 := by
  have hr := r.isLt
  have hj := j.isLt
  have e : ∀ n < 256, (BitVec.ofNat 32 n).toInt = n := fun n hn => by
    rw [WordCmp.toInt_eq_toNat_of_lt_half (by rw [BitVec.toNat_ofNat]; omega), BitVec.toNat_ofNat, Nat.mod_eq_of_lt (by omega)]
  unfold tri
  rw [WordCmp.cmpi_sle_eq, e _ hj, e _ hr]
  by_cases h : j.val ≤ r.val
  · rw [if_pos h, decide_eq_true (by exact_mod_cast h)]
    show ((((BitVec.ofBool true).setWidth 32).toInt : ℝ) : EReal) = 1
    simp
  · rw [if_neg h, decide_eq_false (by exact_mod_cast h)]
    show ((((BitVec.ofBool false).setWidth 32).toInt : ℝ) : EReal) = 0
    simp

/-- A block's sums: those of its own log decays up to the row, and what it starts from. -/
theorem block_apply (x : Vec Ideal S256x128 .f32) (y : Vec Ideal S1x128 .f32) (k : Fin 128) (f : ℕ → EReal)
    (hf : ∀ j : Fin 256, logsig (x (ix2 j k)) = f j.val) (r : Fin 256) :
    k0_pay2 (F := Ideal) x y (ix2 r k) = Window.run f (r.val + 1) + y (ix2 0 k) := by
  rw [block_sum]
  refine congrArg (· + y (ix2 0 k)) ?_
  have e : ∀ j : Fin 256, tri r j * logsig (x (ix2 j k)) = (fun n : ℕ => if n ≤ r.val then f n else 0) j.val := fun j => by
    rw [tri_eq, hf]
    show (if j.val ≤ r.val then (1 : EReal) else 0) * f j.val = if j.val ≤ r.val then f j.val else 0
    by_cases h : j.val ≤ r.val
    · rw [if_pos h, if_pos h, one_mul]
    · rw [if_neg h, if_neg h, zero_mul]
  rw [Finset.sum_congr rfl fun j _ => e j, Fin.sum_univ_eq_sum_range (fun n : ℕ => if n ≤ r.val then f n else 0) 256]
  have hr := r.isLt
  clear e
  generalize r.val = q at hr ⊢
  obtain ⟨n, hn⟩ : ∃ n, 256 = q + 1 + n := ⟨255 - q, by omega⟩
  rw [hn, Finset.sum_range_add, Finset.sum_eq_zero (s := Finset.range n) (fun i _ => if_neg (by omega)), add_zero]
  exact Finset.sum_congr rfl fun i hi => if_pos (by have := Finset.mem_range.mp hi; omega)

/-- A block's last row. -/
theorem last_apply (x : Vec Ideal S256x128 .f32) (y : Vec Ideal S1x128 .f32) (k : Fin 128) :
    k0_pay3 (F := Ideal) x y (ix2 0 k) = k0_pay2 (F := Ideal) x y (ix2 255 k) := by
  pointwise [k0_pay3]

/-- A block with its columns first. -/
theorem turned_apply (x : Vec Ideal S256x128 .f32) (y : Vec Ideal S1x128 .f32) (k : Fin 128) (r : Fin 256) :
    k0_pay4 (F := Ideal) x y (ix3 0 k r) = k0_pay2 (F := Ideal) x y (ix2 r k) := by
  pointwise [k0_pay4]

theorem zero_apply (k : Fin 128) : k0_pay1 (F := Ideal) (ix2 0 k) = 0 := by
  rw [← Ideal.ofBits_zero_f32]
  pointwise [k0_pay1]

/-! ## The blocks of a sequence one after the other -/

variable (m : (ℓ : Loc nD τ sig) → Buf (Elt Ideal) ℓ) (c : Dev nD)

/-- The logits. -/
abbrev logits : Vec Ideal S8192x128 .f32 := m ((c : Thread nD τ).loc main_arg0)

theorem idx0_0 : ∀ t : Fin grid0.N, win0_0.index t 0 = t.val ∧ win0_0.index t 1 = 0 := by decide +kernel

theorem row_read (t : Fin cfg0.N) (j : Fin 256) (k : Fin 128) :
    logsig ((iblk m c 0 t : Vec Ideal S256x128 .f32) (ix2 j k)) = seq (logits m c) (t.val / 16) k (256 * (t.val % 16) + j.val) := by
  have hi := idx0_0 t
  have ht : t.val < 32 := Nat.lt_of_lt_of_eq t.isLt N_0
  have hlt : t.val / 16 * 4096 + (256 * (t.val % 16) + j.val) < 8192 := by omega
  unfold seq
  rw [dif_pos hlt]
  refine congrArg logsig ?_
  unfold iblk
  rw [View.read_apply]
  show m (c.tc.loc main_arg0) _ = m (c.tc.loc main_arg0) _
  congr 1
  funext a
  apply Fin.ext
  match a with
  | ⟨0, _⟩ => show win0_0.index t 0 * 256 + 1 * j.val = t.val / 16 * 4096 + (256 * (t.val % 16) + j.val); rw [hi.1]; omega
  | ⟨1, _⟩ => show win0_0.index t 1 * 128 + 1 * k.val = k.val; rw [hi.2]; omega

/-- A point's sums, once it starts from the sum of the blocks before it. -/
theorem sums_of (t : Fin cfg0.N) (y : Vec Ideal S1x128 .f32) (k : Fin 128)
    (hy : y (ix2 0 k) = Window.run (seq (logits m c) (t.val / 16) k) (256 * (t.val % 16))) (r : Fin 256) :
    k0_pay2 (F := Ideal) (iblk m c 0 t) y (ix2 r k) = Window.run (seq (logits m c) (t.val / 16) k) (256 * (t.val % 16) + (r.val + 1)) := by
  rw [block_apply (iblk m c 0 t) y k (fun n => seq (logits m c) (t.val / 16) k (256 * (t.val % 16) + n)) (fun j => row_read m c t j k) r, hy, add_comm]
  exact (Finset.sum_range_add (seq (logits m c) (t.val / 16) k) (256 * (t.val % 16)) (r.val + 1)).symm

theorem before_apply (k : Fin 128) : ∀ (n : ℕ) (hn : n < cfg0.N),
    before c m n hn (ix2 0 k) = Window.run (seq (logits m c) (n / 16) k) (256 * (n % 16))
  | 0, _ => zero_apply k
  | n + 1, hn => by
    unfold before
    by_cases h : (n + 1) % 16 = 0
    · rw [if_pos h, h, zero_apply]
      rfl
    · rw [if_neg h]
      have e := point_eq c m (⟨n, Nat.lt_of_succ_lt hn⟩ : Fin cfg0.N)
      refine (congrFun (congrArg (fun z => z.2.2) e) (ix2 0 k)).trans ?_
      refine (last_apply _ _ k).trans ?_
      rw [sums_of m c ⟨n, Nat.lt_of_succ_lt hn⟩ _ k (before_apply k n (Nat.lt_of_succ_lt hn)) 255]
      show Window.run (seq (logits m c) (n / 16) k) (256 * (n % 16) + (255 + 1)) = _
      rw [show (n + 1) / 16 = n / 16 by omega, show 256 * ((n + 1) % 16) = 256 * (n % 16) + (255 + 1) by omega]

/-- The first array's entry. -/
theorem rows_apply (p : Fin 8192) (k : Fin 128) :
    (G1 m c : Vec Ideal S8192x128 .f32) (ix2 p k) = Window.run (seq (logits m c) (p.val / 4096) k) (p.val % 4096 + 1) := by
  have hp := p.isLt
  have hk := k.isLt
  have hr : pt1Of (ix2 p k) = p.val / 256 := by
    show 1 * (p.val / 256 - 0) + 1 * (k.val / 128 - 0) = _
    omega
  have hl : loc1Of (ix2 p k) = ix2 (⟨p.val % 256, Nat.mod_lt _ (by decide)⟩ : Fin 256) k := funext fun a => Fin.ext (by
    match a with
    | ⟨0, _⟩ => rfl
    | ⟨1, _⟩ => show k.val % 128 = k.val; omega)
  have hN : pt1Of (ix2 p k) < cfg0.N := by
    rw [hr, show cfg0.N = 32 from N_0]; omega
  unfold G1
  rw [dif_pos hN, hl, ← outsAt0_sweep m c _ hN, point_eq c m ⟨_, hN⟩]
  refine (sums_of m c ⟨_, hN⟩ _ k (before_apply m c k _ hN) _).trans ?_
  show Window.run (seq (logits m c) (pt1Of (ix2 p k) / 16) k) (256 * (pt1Of (ix2 p k) % 16) + (p.val % 256 + 1)) = _
  rw [hr, show p.val / 256 / 16 = p.val / 4096 by omega, show 256 * (p.val / 256 % 16) + (p.val % 256 + 1) = p.val % 4096 + 1 by omega]

/-- The second array's entry. -/
theorem columns_apply (b : Fin 2) (k : Fin 128) (s : Fin 4096) :
    (G2 m c : Vec Ideal S2x128x4096 .f32) (ix3 b k s) = Window.run (seq (logits m c) b.val k) (s.val + 1) := by
  have hb := b.isLt
  have hk := k.isLt
  have hs := s.isLt
  have hr : pt2Of (ix3 b k s) = 16 * b.val + s.val / 256 := by
    show 16 * (b.val / 1 - 0) + 16 * (k.val / 128 - 0) + 1 * (s.val / 256 - 0) = _
    omega
  have hl : loc2Of (ix3 b k s) = ix3 (0 : Fin 1) k (⟨s.val % 256, Nat.mod_lt _ (by decide)⟩ : Fin 256) := funext fun a => Fin.ext (by
    match a with
    | ⟨0, _⟩ => show b.val % 1 = 0; omega
    | ⟨1, _⟩ => show k.val % 128 = k.val; omega
    | ⟨2, _⟩ => rfl)
  have hN : pt2Of (ix3 b k s) < cfg0.N := by
    rw [hr, show cfg0.N = 32 from N_0]; omega
  unfold G2
  rw [dif_pos hN, hl, ← outsAt0_sweep m c _ hN, point_eq c m ⟨_, hN⟩]
  refine (turned_apply _ _ k _).trans ?_
  refine (sums_of m c ⟨_, hN⟩ _ k (before_apply m c k _ hN) _).trans ?_
  show Window.run (seq (logits m c) (pt2Of (ix3 b k s) / 16) k) (256 * (pt2Of (ix3 b k s) % 16) + (s.val % 256 + 1)) = _
  rw [hr, show (16 * b.val + s.val / 256) / 16 = b.val by omega, show 256 * ((16 * b.val + s.val / 256) % 16) + (s.val % 256 + 1) = s.val + 1 by omega]

end Cert.DecayIdeal.Value

end
-- ==== Proof.Decay.Equation.lean ====
/- The decays' result arrays are the reference's, entry by entry. -/
module

public import proofs.«01_k».proof.Defs
public import proofs.«01_k».proof.Proof.Gen.Decay
public import proofs.«01_k».proof.Proof.Gen.Decay.Skeleton
public import proofs.«01_k».proof.Proof.Gen.Decay.Launch
public import proofs.«01_k».proof.Proof.Gen.Decay.Points
public import proofs.«01_k».proof.Proof.Gen.Decay.Frame
public import proofs.«01_k».proof.Proof.Gen.DecayIdeal
public import proofs.«01_k».proof.Proof.Gen.DecayIdeal.Skeleton
public import proofs.«01_k».proof.Proof.Gen.DecayIdeal.Launch
public import proofs.«01_k».proof.Proof.Gen.DecayIdeal.Points
public import proofs.«01_k».proof.Proof.Gen.DecayIdeal.Frame
public import proofs.«01_k».proof.Proof.Gen.DecayIdeal.Value
public import proofs.«01_k».proof.Proof.Gen.DecayRefIdeal
public import proofs.«01_k».proof.Proof.Gen.DecayRefIdeal.Read
public import proofs.«01_k».proof.Proof.Decay.Blocks

@[expose] public section

set_option maxRecDepth 16384

noncomputable section

namespace Cert.DecayIdeal.Value

open Cert.DecayIdeal Cert.DecayIdeal.Gen Idealize.ShloMosaic Idealize.ShloMosaic.TcCoe Idealize.SL.Sem

variable (m : (ℓ : Loc nD τ sig) → Buf (Elt Ideal) ℓ) (c : Dev nD)

/-- The reference's decays by position. -/
abbrev rows : Vec Ideal S8192x128 .f32 := Cert.DecayRefIdeal.Read.val_main_v3 (F := Ideal) (logits m c)

/-- The reference's decays by column. -/
abbrev columns : Vec Ideal S2x128x4096 .f32 := Cert.DecayRefIdeal.Read.val_main_v4 (F := Ideal) (logits m c)

theorem rows_eq : (G1 m c : Vec Ideal S8192x128 .f32) = rows m c := by
  funext i
  obtain ⟨p, k, rfl⟩ : ∃ (p : Fin 8192) (k : Fin 128), i = ix2 p k :=
    ⟨i 0, i 1, funext fun a => by match a with | ⟨0, _⟩ => rfl | ⟨1, _⟩ => rfl⟩
  exact (rows_apply m c p k).trans (Cert.DecayRefIdeal.Read.v3_at (logits m c) p k).symm

theorem columns_eq : (G2 m c : Vec Ideal S2x128x4096 .f32) = columns m c := by
  funext i
  obtain ⟨b, k, s, rfl⟩ : ∃ (b : Fin 2) (k : Fin 128) (s : Fin 4096), i = ix3 b k s :=
    ⟨i 0, i 1, i 2, funext fun a => by match a with | ⟨0, _⟩ => rfl | ⟨1, _⟩ => rfl | ⟨2, _⟩ => rfl⟩
  exact (columns_apply m c b k s).trans (Cert.DecayRefIdeal.Read.v4_at (logits m c) b k s).symm

/-- From memories agreeing on the logits the kernel and the reference end with equal results. -/
theorem algebraic : Cert.algebraic_DecayIdeal_DecayRefIdeal := by
  intro m ρ m' ρ' _ hagree
  refine ⟨fun c => rows m c, fun c => columns m c, ?_, ?_⟩
  · exact (θ_run Cert.DecayIdeal.defs _ _).mono
      (fun _ h c => ⟨(h c).1.trans (rows_eq m c), (h c).2.1.trans (columns_eq m c), (h c).2.2⟩) (run m ρ)
  · refine (θ_run Cert.DecayRefIdeal.defs _ _).mono (fun _ h c => ⟨(h c).1.trans ?_, (h c).2.1.trans ?_, (h c).2.2⟩)
      (Cert.DecayRefIdeal.Value.run (F := Ideal) m' ρ')
    · rw [Cert.DecayRefIdeal.Read.val_main_v3_eq, hagree c]
    · rw [Cert.DecayRefIdeal.Read.val_main_v4_eq, hagree c]

end Cert.DecayIdeal.Value

end
-- ==== Proof.lean ====
/- The certificate: for the forgetting attention, the cross-attention into memory, the input projection,
the pooling mix with the output projection, the products with the chosen experts' input rows, the expert output
with the final norm and the cumulative decays, the frames, the idealization, and the kernel's results against the reference's. -/
module

public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxIdeal.Value
public import proofs.«01_k».proof.Proof.Gen.FoxRefIdeal.Read
public import proofs.«01_k».proof.Proof.Gen.Pre_finite
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal.Read
public import proofs.«01_k».proof.Proof.Gen.MemoryRefIdeal
public import proofs.«01_k».proof.Proof.Gen.InProj
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjRefIdeal.Read
public import proofs.«01_k».proof.Proof.Gen.InProjRefIdeal
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal.Read
public import proofs.«01_k».proof.Proof.Gen.MixOutRefIdeal
public import proofs.«01_k».proof.Proof.Gen.Pre_finite_pool
public import proofs.«01_k».proof.Proof.Fox.Equation
public import proofs.«01_k».proof.Proof.Memory.Equation
public import proofs.«01_k».proof.Proof.Frames
public import proofs.«01_k».proof.Proof.InProjIdeal.Equation
public import proofs.«01_k».proof.Proof.MixOut.Equation
public import Idealize.ShloMosaic.Adequacy
public import Idealize.ShloMosaic.Init
public import proofs.«01_k».proof.Proof.Gen.PeerOut
public import proofs.«01_k».proof.Proof.Gen.PeerOutIdeal
public import proofs.«01_k».proof.Proof.Gen.PeerOutIdeal.Skeleton
public import proofs.«01_k».proof.Proof.Gen.PeerOutIdeal.Launch
public import proofs.«01_k».proof.Proof.Gen.PeerOutIdeal.Points
public import proofs.«01_k».proof.Proof.Gen.PeerOutIdeal.Loops
public import proofs.«01_k».proof.Proof.Gen.PeerOutIdeal.Frame
public import proofs.«01_k».proof.Proof.Gen.PeerOutRefIdeal
public import proofs.«01_k».proof.Proof.Gen.PeerOutRefIdeal.Read
public import proofs.«01_k».proof.Proof.Gen.Pre_finite_experts
public import proofs.«01_k».proof.Proof.PeerOutIdeal.Frame
public import proofs.«01_k».proof.Proof.PeerOutIdeal.Equation
public import proofs.«01_k».proof.Proof.PeerAct.Equation
public import proofs.«01_k».proof.Proof.Decay.Equation

@[expose] public section

noncomputable section

namespace Cert.Proof

open Idealize.ShloMosaic Idealize.SL.Sem

/-- The claim of the certificate. -/
theorem claim : Cert.Claim := ⟨Cert.Fox.Gen.facts, Cert.FoxIdeal.Gen.facts, Cert.FoxRefIdeal.Gen.facts,
  Cert.Memory.Gen.facts, Cert.MemoryIdeal.Gen.facts, Cert.MemoryRefIdeal.Gen.facts,
  Cert.InProj.Gen.facts, Cert.InProjIdeal.Gen.facts, Cert.InProjRefIdeal.Gen.facts,
  Cert.MixOut.Gen.facts, Cert.MixOutIdeal.Gen.facts, Cert.MixOutRefIdeal.Gen.facts,
  Cert.PeerOut.Gen.facts, Cert.PeerOutIdeal.Gen.facts, Cert.PeerOutRefIdeal.Gen.facts,
  Cert.PeerAct.Gen.facts, Cert.PeerActIdeal.Gen.facts, Cert.PeerActRefIdeal.Gen.facts,
  Cert.Decay.Gen.facts, Cert.DecayIdeal.Gen.facts, Cert.DecayRefIdeal.Gen.facts,
  Cert.Pre_finite.Gen.facts, Cert.Pre_finite_pool.Gen.facts, Cert.Pre_finite_experts.Gen.facts,
  Cert.Pre_expert_range.Gen.facts,
  fun m ρ _ => Cert.Fox.Gen.frame m ρ, fun m ρ _ => Cert.FoxIdeal.Gen.frame m ρ, fun m ρ _ => Cert.FoxIdeal.Gen.frame m ρ,
  fun m ρ _ => (θ_run Cert.FoxRefIdeal.defs _ _).mono
    (fun r h => ⟨fun c => (h c).2, sem_eq_zero_of_no_sems (by decide) r.2⟩) (Cert.FoxRefIdeal.Value.run (F := Ideal) m ρ),
  fun m ρ _ => (θ_run Cert.FoxRefIdeal.defs _ _).mono
    (fun r h => ⟨fun c => (h c).2, sem_eq_zero_of_no_sems (by decide) r.2⟩) (Cert.FoxRefIdeal.Value.run (F := Ideal) m ρ),
  fun m ρ _ => Cert.Memory.Gen.frame m ρ, fun m ρ _ => Cert.MemoryIdeal.Gen.frame m ρ,
  fun m ρ _ => (θ_run Cert.MemoryRefIdeal.defs _ _).mono
    (fun r h => ⟨fun c => (h c).2, sem_eq_zero_of_no_sems (by decide) r.2⟩) (Cert.MemoryRefIdeal.Value.run (F := Ideal) m ρ),
  Cert.Frames.inProj, fun m ρ _ => Cert.InProjIdeal.Body.frame m ρ,
  fun m ρ _ => (θ_run Cert.InProjRefIdeal.defs _ _).mono
    (fun r h => ⟨fun c => (h c).2.2.2, sem_eq_zero_of_no_sems (by decide) r.2⟩) (Cert.InProjRefIdeal.Value.run (F := Ideal) m ρ),
  fun m ρ _ => Cert.MixOut.Gen.frame m ρ, fun m ρ _ => Cert.MixOutIdeal.Gen.frame m ρ, fun m ρ _ => Cert.MixOutIdeal.Gen.frame m ρ,
  fun m ρ _ => (θ_run Cert.MixOutRefIdeal.defs _ _).mono
    (fun r h => ⟨fun c => (h c).2, sem_eq_zero_of_no_sems (by decide) r.2⟩) (Cert.MixOutRefIdeal.Value.run (F := Ideal) m ρ),
  fun m ρ _ => (θ_run Cert.MixOutRefIdeal.defs _ _).mono
    (fun r h => ⟨fun c => (h c).2, sem_eq_zero_of_no_sems (by decide) r.2⟩) (Cert.MixOutRefIdeal.Value.run (F := Ideal) m ρ),
  Cert.Frames.peerOut, fun m ρ _ => Cert.PeerOutIdeal.Body.frame m ρ, fun m ρ _ => Cert.PeerOutIdeal.Body.frame m ρ,
  fun m ρ _ => (θ_run Cert.PeerOutRefIdeal.defs _ _).mono
    (fun r h => ⟨fun c => (h c).2, sem_eq_zero_of_no_sems (by decide) r.2⟩) (Cert.PeerOutRefIdeal.Value.run (F := Ideal) m ρ),
  fun m ρ _ => (θ_run Cert.PeerOutRefIdeal.defs _ _).mono
    (fun r h => ⟨fun c => (h c).2, sem_eq_zero_of_no_sems (by decide) r.2⟩) (Cert.PeerOutRefIdeal.Value.run (F := Ideal) m ρ),
  fun m ρ _ => Cert.PeerAct.Gen.frame m ρ, fun m ρ _ => Cert.PeerActIdeal.Gen.frame m ρ, fun m ρ _ => Cert.PeerActIdeal.Gen.frame m ρ,
  fun m ρ _ => (θ_run Cert.PeerActRefIdeal.defs _ _).mono
    (fun r h => ⟨fun c => (h c).2, sem_eq_zero_of_no_sems (by decide) r.2⟩) (Cert.PeerActRefIdeal.Value.run (F := Ideal) m ρ),
  fun m ρ _ => (θ_run Cert.PeerActRefIdeal.defs _ _).mono
    (fun r h => ⟨fun c => (h c).2, sem_eq_zero_of_no_sems (by decide) r.2⟩) (Cert.PeerActRefIdeal.Value.run (F := Ideal) m ρ),
  fun m ρ _ => Cert.Decay.Gen.frame m ρ, fun m ρ _ => Cert.DecayIdeal.Gen.frame m ρ,
  fun m ρ _ => (θ_run Cert.DecayRefIdeal.defs _ _).mono
    (fun r h => ⟨fun c => (h c).2.2, sem_eq_zero_of_no_sems (by decide) r.2⟩) (Cert.DecayRefIdeal.Value.run (F := Ideal) m ρ),
  IdealRules.named_const.statement Cert.FoxIdeal.κ "mask" .f32 0xF149F2CA#32 ⊥ rfl, Cert.FoxIdeal.Value.algebraic,
  trivial, Cert.MemoryIdeal.Value.algebraic, trivial, Cert.InProjIdeal.Body.algebraic,
  trivial, Cert.MixOutIdeal.Body.algebraic, trivial, Cert.PeerOutIdeal.Body.algebraic,
  trivial, Cert.PeerActIdeal.Value.algebraic, trivial, Cert.DecayIdeal.Value.algebraic⟩

end Cert.Proof

end
